-- ==== Defs.lean ====
def Pre_Kernel [hPre_bins_in_range : Cert.Pre_bins_in_range.Facts] (m : (ℓ : Loc Cert.Kernel.nD Cert.Kernel.τ Cert.Kernel.sig) → Buf (Elt Bits) ℓ) : Prop :=
  ∀ c : Dev Cert.Kernel.nD,
    (Cert.Pre_bins_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_bins_in_range : Cert.Pre_bins_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_bins_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_KernelIdeal_router_finite [hPre_router_finite : Cert.Pre_router_finite.Facts] (m : (ℓ : Loc Cert.KernelIdeal.nD Cert.KernelIdeal.τ Cert.KernelIdeal.sig) → Buf (Elt Ideal) ℓ) : Prop :=
  ∀ c : Dev Cert.KernelIdeal.nD,
    (Cert.Pre_router_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_router_finite [hPre_router_finite : Cert.Pre_router_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_router_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] [hPre_bins_in_range : Cert.Pre_bins_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] [hPre_bins_in_range : Cert.Pre_bins_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_router_finite [hKernelIdeal : Cert.KernelIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_router_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_router_finite [hReferenceIdeal : Cert.ReferenceIdeal.Facts] [hPre_router_finite : Cert.Pre_router_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_router_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8))
      ∧ r.2.sem = fun _ => 0)

def preserves_Kernel_KernelIdeal : Prop :=
  True

def algebraic_KernelIdeal_ReferenceIdeal_pre_router_finite [hKernelIdeal : Cert.KernelIdeal.Facts] [hReferenceIdeal : Cert.ReferenceIdeal.Facts] [hPre_router_finite : Cert.Pre_router_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_router_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v320) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v22_0)) (v1 : (c : Dev Cert.Kernel2Ideal.nD) → Buf (Elt Ideal) ((c.tc : Thread Cert.Kernel2Ideal.nD Cert.Kernel2Ideal.τ).loc Cert.Kernel2Ideal.main_v22_1)) (v2 : (c : Dev Cert.Kernel2Ideal.nD) → Buf (Elt Ideal) ((c.tc : Thread Cert.Kernel2Ideal.nD Cert.Kernel2Ideal.τ).loc Cert.Kernel2Ideal.main_v22_2)) (v3 : (c : Dev Cert.Kernel2Ideal.nD) → Buf (Elt Ideal) ((c.tc : Thread Cert.Kernel2Ideal.nD Cert.Kernel2Ideal.τ).loc Cert.Kernel2Ideal.main_v22_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v22_0) = v0 c
          ∧ r.2.mem ((c.tc : Thread Cert.Kernel2Ideal.nD Cert.Kernel2Ideal.τ).loc Cert.Kernel2Ideal.main_v22_1) = v1 c
          ∧ r.2.mem ((c.tc : Thread Cert.Kernel2Ideal.nD Cert.Kernel2Ideal.τ).loc Cert.Kernel2Ideal.main_v22_2) = v2 c
          ∧ r.2.mem ((c.tc : Thread Cert.Kernel2Ideal.nD Cert.Kernel2Ideal.τ).loc Cert.Kernel2Ideal.main_v22_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_v22) = v1 c
          ∧ r.2.mem ((c.tc : Thread Cert.Reference2Ideal.nD Cert.Reference2Ideal.τ).loc Cert.Reference2Ideal.main_v23) = v2 c
          ∧ r.2.mem ((c.tc : Thread Cert.Reference2Ideal.nD Cert.Reference2Ideal.τ).loc Cert.Reference2Ideal.main_v24) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)) →
    ∃ (v0 : (c : Dev Cert.Kernel3Ideal.nD) → Buf (Elt Ideal) ((c.tc : Thread Cert.Kernel3Ideal.nD Cert.Kernel3Ideal.τ).loc Cert.Kernel3Ideal.main_v15_0)) (v1 : (c : Dev Cert.Kernel3Ideal.nD) → Buf (Elt Ideal) ((c.tc : Thread Cert.Kernel3Ideal.nD Cert.Kernel3Ideal.τ).loc Cert.Kernel3Ideal.main_v15_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v15_0) = v0 c
          ∧ r.2.mem ((c.tc : Thread Cert.Kernel3Ideal.nD Cert.Kernel3Ideal.τ).loc Cert.Kernel3Ideal.main_v15_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v13) = v0 c
          ∧ r.2.mem ((c.tc : Thread Cert.Reference3Ideal.nD Cert.Reference3Ideal.τ).loc Cert.Reference3Ideal.main_v27) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)) →
    ∃ (v0 : (c : Dev Cert.Kernel4Ideal.nD) → Buf (Elt Ideal) ((c.tc : Thread Cert.Kernel4Ideal.nD Cert.Kernel4Ideal.τ).loc Cert.Kernel4Ideal.main_v14_0)) (v1 : (c : Dev Cert.Kernel4Ideal.nD) → Buf (Elt Ideal) ((c.tc : Thread Cert.Kernel4Ideal.nD Cert.Kernel4Ideal.τ).loc Cert.Kernel4Ideal.main_v14_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14_0) = v0 c
          ∧ r.2.mem ((c.tc : Thread Cert.Kernel4Ideal.nD Cert.Kernel4Ideal.τ).loc Cert.Kernel4Ideal.main_v14_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_v20) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_bins_in_range : Cert.Pre_bins_in_range.Facts) (hPre_router_finite : Cert.Pre_router_finite.Facts),
    quiescent_Kernel (hKernel := hKernel) (hPre_bins_in_range := hPre_bins_in_range)
    ∧ quiescent_KernelIdeal (hKernelIdeal := hKernelIdeal) (hPre_bins_in_range := hPre_bins_in_range)
    ∧ quiescent_KernelIdeal_pre_router_finite (hKernelIdeal := hKernelIdeal) (hPre_router_finite := hPre_router_finite)
    ∧ quiescent_ReferenceIdeal (hReferenceIdeal := hReferenceIdeal)
    ∧ quiescent_ReferenceIdeal_pre_router_finite (hReferenceIdeal := hReferenceIdeal) (hPre_router_finite := hPre_router_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_router_finite (hKernelIdeal := hKernelIdeal) (hReferenceIdeal := hReferenceIdeal) (hPre_router_finite := hPre_router_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_bins_in_range.lean ====
abbrev S311296x128 : Shape := ⟨2, ![311296, 128]⟩
abbrev S152 : Shape := ⟨1, ![152]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16x1024x512 : Shape := ⟨3, ![16, 1024, 512]⟩
abbrev S16x512x1024 : Shape := ⟨3, ![16, 512, 1024]⟩
abbrev S_ : Shape := ⟨0, ![]⟩

class Facts : Prop where
  bcast_S_S152 : S_.BroadcastsInDim S152 (![] : Fin 0 → Fin S152.rank)

variable [Facts]

def fn {F : FTy → Type} [FloatOps F] (main_arg0 : FVec F S311296x128 .f32) (main_arg1 : IVec S152 32) (main_arg2 : IVec S152 32) (main_arg3 : FVec F S1024x4 .f32) (main_arg4 : FVec F S4 .f32) (main_arg5 : FVec F S1024x16 .f32) (main_arg6 : FVec F S16 .f32) (main_arg7 : FVec F S16x1024x512 .f32) (main_arg8 : FVec F S16x1024x512 .f32) (main_arg9 : FVec F S16x512x1024 .f32) : IVec S152 1 :=
  let main_c : IVec S_ 32 := constantI S_ 32 0#32
  let main_v0 : IVec S152 32 := broadcastInDim S152 ![] bcast_S_S152 main_c
  let main_v1 : IVec S152 1 := cmpi .sge main_arg1 main_v0
  let main_c_0 : IVec S_ 32 := constantI S_ 32 24#32
  let main_v2 : IVec S152 32 := broadcastInDim S152 ![] bcast_S_S152 main_c_0
  let main_v3 : IVec S152 1 := cmpi .slt main_arg1 main_v2
  let main_v4 : IVec S152 1 := andi main_v1 main_v3
  main_v4
-- ==== Pre_router_finite.lean ====
abbrev S311296x128 : Shape := ⟨2, ![311296, 128]⟩
abbrev S152 : Shape := ⟨1, ![152]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16x1024x512 : Shape := ⟨3, ![16, 1024, 512]⟩
abbrev S16x512x1024 : Shape := ⟨3, ![16, 512, 1024]⟩
abbrev S_ : Shape := ⟨0, ![]⟩

class Facts : Prop where
  bcast_S_S152 : S_.BroadcastsInDim S152 (![] : Fin 0 → Fin S152.rank)
  reducesTo_S152_S_d0 : S152.ReducesTo [0] S_
  h_S_ : 0 < S_.numel
  bcast_S_S311296x128 : S_.BroadcastsInDim S311296x128 (![] : Fin 0 → Fin S311296x128.rank)
  reducesTo_S311296x128_S_d0_1 : S311296x128.ReducesTo [0, 1] S_
  bcast_S_S1024x4 : S_.BroadcastsInDim S1024x4 (![] : Fin 0 → Fin S1024x4.rank)
  reducesTo_S1024x4_S_d0_1 : S1024x4.ReducesTo [0, 1] S_
  bcast_S_S4 : S_.BroadcastsInDim S4 (![] : Fin 0 → Fin S4.rank)
  reducesTo_S4_S_d0 : S4.ReducesTo [0] S_
  bcast_S_S1024x16 : S_.BroadcastsInDim S1024x16 (![] : Fin 0 → Fin S1024x16.rank)
  reducesTo_S1024x16_S_d0_1 : S1024x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S1024x16 .f32) (main_arg6 : FVec F S16 .f32) (main_v15 : IVec S_ 1) (main_v16 : FVec F S4 .f32) : IVec S_ 1 :=
  let main_cst_5 : FVec F S_ .f32 := constant S_ .f32 0x7F800000#32
  let main_v17 : FVec F S4 .f32 := broadcastInDim S4 ![] bcast_S_S4 main_cst_5
  let main_v18 : IVec S4 1 := cmpf .olt main_v16 main_v17
  let main_c_6 : IVec S_ 1 := constantI S_ 1 1#1
  let main_v19 : IVec S_ 1 := (fun x v => Host.reduce IntOp.andi x v reducesTo_S4_S_d0 h_S_) main_v18 main_c_6
  let main_v20 : IVec S_ 1 := andi main_v15 main_v19
  let main_v21 : FVec F S1024x16 .f32 := Host.absf main_arg5
  let main_cst_7 : FVec F S_ .f32 := constant S_ .f32 0x7F800000#32
  let main_v22 : FVec F S1024x16 .f32 := broadcastInDim S1024x16 ![] bcast_S_S1024x16 main_cst_7
  let main_v23 : IVec S1024x16 1 := cmpf .olt main_v21 main_v22
  let main_c_8 : IVec S_ 1 := constantI S_ 1 1#1
  let main_v24 : IVec S_ 1 := (fun x v => Host.reduce IntOp.andi x v reducesTo_S1024x16_S_d0_1 h_S_) main_v23 main_c_8
  let main_v25 : IVec S_ 1 := andi main_v20 main_v24
  let main_v26 : FVec F S16 .f32 := Host.absf main_arg6
  let main_cst_9 : FVec F S_ .f32 := constant S_ .f32 0x7F800000#32
  let main_v27 : FVec F S16 .f32 := broadcastInDim S16 ![] bcast_S_S16 main_cst_9
  let main_v28 : IVec S16 1 := cmpf .olt main_v26 main_v27
  let main_c_10 : IVec S_ 1 := constantI S_ 1 1#1
  let main_v29 : IVec S_ 1 := (fun x v => Host.reduce IntOp.andi x v reducesTo_S16_S_d0 h_S_) main_v28 main_c_10
  let main_v30 : IVec S_ 1 := andi main_v25 main_v29
  main_v30

def fn {F : FTy → Type} [FloatOps F] (main_arg0 : FVec F S311296x128 .f32) (main_arg1 : IVec S152 32) (main_arg2 : IVec S152 32) (main_arg3 : FVec F S1024x4 .f32) (main_arg4 : FVec F S4 .f32) (main_arg5 : FVec F S1024x16 .f32) (main_arg6 : FVec F S16 .f32) (main_arg7 : FVec F S16x1024x512 .f32) (main_arg8 : FVec F S16x1024x512 .f32) (main_arg9 : FVec F S16x512x1024 .f32) : IVec S_ 1 :=
  let main_c : IVec S_ 32 := constantI S_ 32 0#32
  let main_v0 : IVec S152 32 := broadcastInDim S152 ![] bcast_S_S152 main_c
  let main_v1 : IVec S152 1 := cmpi .sge main_arg1 main_v0
  let main_c_0 : IVec S_ 32 := constantI S_ 32 24#32
  let main_v2 : IVec S152 32 := broadcastInDim S152 ![] bcast_S_S152 main_c_0
  let main_v3 : IVec S152 1 := cmpi .slt main_arg1 main_v2
  let main_v4 : IVec S152 1 := andi main_v1 main_v3
  let main_c_1 : IVec S_ 1 := constantI S_ 1 1#1
  let main_v5 : IVec S_ 1 := (fun x v => Host.reduce IntOp.andi x v reducesTo_S152_S_d0 h_S_) main_v4 main_c_1
  let main_v6 : FVec F S311296x128 .f32 := Host.absf main_arg0
  let main_cst : FVec F S_ .f32 := constant S_ .f32 0x7F800000#32
  let main_v7 : FVec F S311296x128 .f32 := broadcastInDim S311296x128 ![] bcast_S_S311296x128 main_cst
  let main_v8 : IVec S311296x128 1 := cmpf .olt main_v6 main_v7
  let main_c_2 : IVec S_ 1 := constantI S_ 1 1#1
  let main_v9 : IVec S_ 1 := (fun x v => Host.reduce IntOp.andi x v reducesTo_S311296x128_S_d0_1 h_S_) main_v8 main_c_2
  let main_v10 : IVec S_ 1 := andi main_v5 main_v9
  let main_v11 : FVec F S1024x4 .f32 := Host.absf main_arg3
  let main_cst_3 : FVec F S_ .f32 := constant S_ .f32 0x7F800000#32
  let main_v12 : FVec F S1024x4 .f32 := broadcastInDim S1024x4 ![] bcast_S_S1024x4 main_cst_3
  let main_v13 : IVec S1024x4 1 := cmpf .olt main_v11 main_v12
  let main_c_4 : IVec S_ 1 := constantI S_ 1 1#1
  let main_v14 : IVec S_ 1 := (fun x v => Host.reduce IntOp.andi x v reducesTo_S1024x4_S_d0_1 h_S_) main_v13 main_c_4
  let main_v15 : IVec S_ 1 := andi main_v10 main_v14
  let main_v16 : FVec F S4 .f32 := Host.absf main_arg4
  fn_part1 (F := F) main_arg5 main_arg6 main_v15 main_v16
-- ==== Kernel.lean ====
abbrev S311296x128 : Shape := ⟨2, ![311296, 128]⟩
abbrev S152 : Shape := ⟨1, ![152]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16x1024x512 : Shape := ⟨3, ![16, 1024, 512]⟩
abbrev S16x512x1024 : Shape := ⟨3, ![16, 512, 1024]⟩
abbrev S6 : Shape := ⟨1, ![6]⟩
abbrev S1024x20 : Shape := ⟨2, ![1024, 20]⟩
abbrev S_ : Shape := ⟨0, ![]⟩
abbrev S1024x128 : Shape := ⟨2, ![1024, 128]⟩
abbrev S20 : Shape := ⟨1, ![20]⟩
abbrev S1x20 : Shape := ⟨2, ![1, 20]⟩
abbrev S1x128 : Shape := ⟨2, ![1, 128]⟩
abbrev S1x1024x128 : Shape := ⟨3, ![1, 1024, 128]⟩
abbrev S2x1024x128 : Shape := ⟨3, ![2, 1024, 128]⟩
abbrev S152x1 : Shape := ⟨2, ![152, 1]⟩
abbrev S2048x128 : Shape := ⟨2, ![2048, 128]⟩
abbrev S1x1024x512 : Shape := ⟨3, ![1, 1024, 512]⟩
abbrev S1 : Shape := ⟨1, ![1]⟩
abbrev S1x512x1024 : Shape := ⟨3, ![1, 512, 1024]⟩
abbrev S256x128 : Shape := ⟨2, ![256, 128]⟩
abbrev S256x1024 : Shape := ⟨2, ![256, 1024]⟩
abbrev S256 : Shape := ⟨1, ![256]⟩
abbrev S256x1 : Shape := ⟨2, ![256, 1]⟩
abbrev S1024x512 : Shape := ⟨2, ![1024, 512]⟩
abbrev S256x512 : Shape := ⟨2, ![256, 512]⟩
abbrev S512x1024 : Shape := ⟨2, ![512, 1024]⟩

abbrev nBuf : Space → Nat
  | .hbm => 96
  | .vmem => 18
  | .smem => 4
  | _ => 0

abbrev bufTy : (tb : Table) → Fin (tcTables nBuf tb) → BufTy
  | .hbm, ⟨0, _⟩ => ⟨S311296x128, .f32⟩
  | .hbm, ⟨1, _⟩ => ⟨S152, .i32⟩
  | .hbm, ⟨2, _⟩ => ⟨S1024x4, .f32⟩
  | .hbm, ⟨3, _⟩ => ⟨S4, .f32⟩
  | .hbm, ⟨4, _⟩ => ⟨S1024x16, .f32⟩
  | .hbm, ⟨5, _⟩ => ⟨S16, .f32⟩
  | .hbm, ⟨6, _⟩ => ⟨S16x1024x512, .f32⟩
  | .hbm, ⟨7, _⟩ => ⟨S16x1024x512, .f32⟩
  | .hbm, ⟨8, _⟩ => ⟨S16x512x1024, .f32⟩
  | .hbm, ⟨9, _⟩ => ⟨S6, .i32⟩
  | .hbm, ⟨10, _⟩ => ⟨S6, .i32⟩
  | .hbm, ⟨11, _⟩ => ⟨S1024x20, .f32⟩
  | .hbm, ⟨12, _⟩ => ⟨S_, .i32⟩
  | .hbm, ⟨13, _⟩ => ⟨S_, .f32⟩
  | .hbm, ⟨14, _⟩ => ⟨S1024x128, .f32⟩
  | .hbm, ⟨15, _⟩ => ⟨S20, .f32⟩
  | .hbm, ⟨16, _⟩ => ⟨S1x20, .f32⟩
  | .hbm, ⟨17, _⟩ => ⟨S_, .i32⟩
  | .hbm, ⟨18, _⟩ => ⟨S_, .f32⟩
  | .hbm, ⟨19, _⟩ => ⟨S1x128, .f32⟩
  | .hbm, ⟨20, _⟩ => ⟨S1024x128, .bf16⟩
  | .hbm, ⟨21, _⟩ => ⟨S1024x128, .f32⟩
  | .hbm, ⟨22, _⟩ => ⟨S1024x128, .f32⟩
  | .hbm, ⟨23, _⟩ => ⟨S1024x128, .bf16⟩
  | .hbm, ⟨24, _⟩ => ⟨S1x1024x128, .bf16⟩
  | .hbm, ⟨25, _⟩ => ⟨S1x1024x128, .bf16⟩
  | .hbm, ⟨26, _⟩ => ⟨S2x1024x128, .bf16⟩
  | .hbm, ⟨27, _⟩ => ⟨S_, .i32⟩
  | .hbm, ⟨28, _⟩ => ⟨S_, .i32⟩
  | .hbm, ⟨29, _⟩ => ⟨S152, .i32⟩
  | .hbm, ⟨30, _⟩ => ⟨S152, .i32⟩
  | .hbm, ⟨31, _⟩ => ⟨S152, .i32⟩
  | .hbm, ⟨32, _⟩ => ⟨S_, .i32⟩
  | .hbm, ⟨33, _⟩ => ⟨S152, .i32⟩
  | .hbm, ⟨34, _⟩ => ⟨S152, .i1⟩
  | .hbm, ⟨35, _⟩ => ⟨S152, .i32⟩
  | .hbm, ⟨36, _⟩ => ⟨S152, .i32⟩
  | .hbm, ⟨37, _⟩ => ⟨S_, .i32⟩
  | .hbm, ⟨38, _⟩ => ⟨S152, .i32⟩
  | .hbm, ⟨39, _⟩ => ⟨S152, .i1⟩
  | .hbm, ⟨40, _⟩ => ⟨S152, .i1⟩
  | .hbm, ⟨41, _⟩ => ⟨S_, .i32⟩
  | .hbm, ⟨42, _⟩ => ⟨S152, .i32⟩
  | .hbm, ⟨43, _⟩ => ⟨S152, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S152, .i32⟩
  | .hbm, ⟨51, _⟩ => ⟨S152, .i32⟩
  | .hbm, ⟨52, _⟩ => ⟨S_, .i32⟩
  | .hbm, ⟨53, _⟩ => ⟨S152, .i32⟩
  | .hbm, ⟨54, _⟩ => ⟨S152, .i1⟩
  | .hbm, ⟨55, _⟩ => ⟨S_, .i32⟩
  | .hbm, ⟨56, _⟩ => ⟨S152, .i32⟩
  | .hbm, ⟨57, _⟩ => ⟨S152, .i1⟩
  | .hbm, ⟨58, _⟩ => ⟨S_, .i32⟩
  | .hbm, ⟨59, _⟩ => ⟨S_, .i1⟩
  | .hbm, ⟨60, _⟩ => ⟨S152, .i1⟩
  | .hbm, ⟨61, _⟩ => ⟨S152, .i1⟩
  | .hbm, ⟨62, _⟩ => ⟨S152, .i1⟩
  | .hbm, ⟨63, _⟩ => ⟨S152, .i32⟩
  | .hbm, ⟨64, _⟩ => ⟨S152, .i32⟩
  | .hbm, ⟨65, _⟩ => ⟨S152, .i32⟩
  | .hbm, ⟨66, _⟩ => ⟨S_, .i32⟩
  | .hbm, ⟨67, _⟩ => ⟨S152, .i32⟩
  | .hbm, ⟨68, _⟩ => ⟨S152, .i32⟩
  | .hbm, ⟨69, _⟩ => ⟨S_, .i32⟩
  | .hbm, ⟨70, _⟩ => ⟨S152, .i32⟩
  | .hbm, ⟨71, _⟩ => ⟨S152, .i1⟩
  | .hbm, ⟨72, _⟩ => ⟨S_, .i32⟩
  | .hbm, ⟨73, _⟩ => ⟨S152, .i32⟩
  | .hbm, ⟨74, _⟩ => ⟨S152, .i32⟩
  | .hbm, ⟨75, _⟩ => ⟨S152, .i32⟩
  | .hbm, ⟨76, _⟩ => ⟨S152x1, .i32⟩
  | .hbm, ⟨77, _⟩ => ⟨S152, .i32⟩
  | .hbm, ⟨78, _⟩ => ⟨S_, .i32⟩
  | .hbm, ⟨79, _⟩ => ⟨S152, .i32⟩
  | .hbm, ⟨80, _⟩ => ⟨S152, .i32⟩
  | .hbm, ⟨81, _⟩ => ⟨S_, .i32⟩
  | .hbm, ⟨82, _⟩ => ⟨S152, .i32⟩
  | .hbm, ⟨83, _⟩ => ⟨S152, .i1⟩
  | .hbm, ⟨84, _⟩ => ⟨S_, .i32⟩
  | .hbm, ⟨85, _⟩ => ⟨S152, .i32⟩
  | .hbm, ⟨86, _⟩ => ⟨S152, .i32⟩
  | .hbm, ⟨87, _⟩ => ⟨S152, .i32⟩
  | .hbm, ⟨88, _⟩ => ⟨S152x1, .i32⟩
  | .hbm, ⟨89, _⟩ => ⟨S152, .i32⟩
  | .hbm, ⟨90, _⟩ => ⟨S1x1024x128, .bf16⟩
  | .hbm, ⟨91, _⟩ => ⟨S1024x128, .bf16⟩
  | .hbm, ⟨92, _⟩ => ⟨S16x1024x512, .bf16⟩
  | .hbm, ⟨93, _⟩ => ⟨S16x1024x512, .bf16⟩
  | .hbm, ⟨94, _⟩ => ⟨S16x512x1024, .bf16⟩
  | .hbm, ⟨95, _⟩ => ⟨S311296x128, .f32⟩
  | .local _ .vmem, ⟨0, _⟩ => ⟨S2048x128, .f32⟩
  | .local _ .vmem, ⟨1, _⟩ => ⟨S2048x128, .f32⟩
  | .local _ .vmem, ⟨2, _⟩ => ⟨S1024x128, .bf16⟩
  | .local _ .vmem, ⟨3, _⟩ => ⟨S1x128, .f32⟩
  | .local _ .vmem, ⟨4, _⟩ => ⟨S1x1024x512, .bf16⟩
  | .local _ .vmem, ⟨5, _⟩ => ⟨S1x1024x512, .bf16⟩
  | .local _ .vmem, ⟨6, _⟩ => ⟨S1x1024x512, .bf16⟩
  | .local _ .vmem, ⟨7, _⟩ => ⟨S1x1024x512, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x1024x512, .bf16⟩
  | .local _ .vmem, ⟨11, _⟩ => ⟨S1x1024x512, .bf16⟩
  | .local _ .vmem, ⟨12, _⟩ => ⟨S1x1024x512, .bf16⟩
  | .local _ .vmem, ⟨13, _⟩ => ⟨S1x1024x512, .bf16⟩
  | .local _ .vmem, ⟨14, _⟩ => ⟨S1x512x1024, .bf16⟩
  | .local _ .vmem, ⟨15, _⟩ => ⟨S1x512x1024, .bf16⟩
  | .local _ .vmem, ⟨16, _⟩ => ⟨S2048x128, .f32⟩
  | .local _ .vmem, ⟨17, _⟩ => ⟨S2048x128, .f32⟩
  | .local _ .smem, ⟨0, _⟩ => ⟨S152, .i32⟩
  | .local _ .smem, ⟨1, _⟩ => ⟨S152, .i32⟩
  | .local _ .smem, ⟨2, _⟩ => ⟨S152, .i32⟩
  | .local _ .smem, ⟨3, _⟩ => ⟨S152, .i32⟩
  | _, _ => ⟨S311296x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_c : Ref sig .tc := ⟨.hbm, 9, rfl⟩
abbrev main_c_0 : Ref sig .tc := ⟨.hbm, 10, rfl⟩
abbrev main_v0 : Ref sig .tc := ⟨.hbm, 11, rfl⟩
abbrev main_c_1 : Ref sig .tc := ⟨.hbm, 12, rfl⟩
abbrev main_call0_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c_2 : Ref sig .tc := ⟨.hbm, 17, rfl⟩
abbrev main_call1_v0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_c_3 : Ref sig .tc := ⟨.hbm, 27, rfl⟩
abbrev main_call2_v0 : Ref sig .tc := ⟨.hbm, 28, rfl⟩
abbrev main_call2_v1 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_call2_v5 : Ref sig .tc := ⟨.hbm, 33, rfl⟩
abbrev main_call2_v6 : Ref sig .tc := ⟨.hbm, 34, rfl⟩
abbrev main_call2_v7 : Ref sig .tc := ⟨.hbm, 35, rfl⟩
abbrev main_call2_v8 : Ref sig .tc := ⟨.hbm, 36, rfl⟩
abbrev main_call2_c : Ref sig .tc := ⟨.hbm, 37, rfl⟩
abbrev main_call2_v9 : Ref sig .tc := ⟨.hbm, 38, rfl⟩
abbrev main_call2_v10 : Ref sig .tc := ⟨.hbm, 39, rfl⟩
abbrev main_call2_v11 : Ref sig .tc := ⟨.hbm, 40, rfl⟩
abbrev main_call2_c_0 : Ref sig .tc := ⟨.hbm, 41, rfl⟩
abbrev main_call2_v12 : Ref sig .tc := ⟨.hbm, 42, rfl⟩
abbrev main_call2_v13 : Ref sig .tc := ⟨.hbm, 43, rfl⟩
abbrev main_c_4 : Ref sig .tc := ⟨.hbm, 44, rfl⟩
abbrev main_call3_v0 : Ref sig .tc := ⟨.hbm, 45, rfl⟩
abbrev main_call3_c : Ref sig .tc := ⟨.hbm, 46, rfl⟩
abbrev main_call3_v1 : Ref sig .tc := ⟨.hbm, 47, rfl⟩
abbrev main_call3_c_0 : Ref sig .tc := ⟨.hbm, 48, rfl⟩
abbrev main_call3_v2 : Ref sig .tc := ⟨.hbm, 49, rfl⟩
abbrev main_call3_v3 : Ref sig .tc := ⟨.hbm, 50, rfl⟩
abbrev main_call3_v4 : Ref sig .tc := ⟨.hbm, 51, rfl⟩
abbrev main_call3_c_1 : Ref sig .tc := ⟨.hbm, 52, rfl⟩
abbrev main_call3_v5 : Ref sig .tc := ⟨.hbm, 53, rfl⟩
abbrev main_call3_v6 : Ref sig .tc := ⟨.hbm, 54, rfl⟩
abbrev main_call3_c_2 : Ref sig .tc := ⟨.hbm, 55, rfl⟩
abbrev main_call3_v7 : Ref sig .tc := ⟨.hbm, 56, rfl⟩
abbrev main_call3_v8 : Ref sig .tc := ⟨.hbm, 57, rfl⟩
abbrev main_call3_c_3 : Ref sig .tc := ⟨.hbm, 58, rfl⟩
abbrev main_call3_v9 : Ref sig .tc := ⟨.hbm, 59, rfl⟩
abbrev main_call3_v10 : Ref sig .tc := ⟨.hbm, 60, rfl⟩
abbrev main_call3_v11 : Ref sig .tc := ⟨.hbm, 61, rfl⟩
abbrev main_call3_v12 : Ref sig .tc := ⟨.hbm, 62, rfl⟩
abbrev main_call3_v13 : Ref sig .tc := ⟨.hbm, 63, rfl⟩
abbrev main_call3_v14 : Ref sig .tc := ⟨.hbm, 64, rfl⟩
abbrev main_v13 : Ref sig .tc := ⟨.hbm, 65, rfl⟩
abbrev main_c_5 : Ref sig .tc := ⟨.hbm, 66, rfl⟩
abbrev main_v14 : Ref sig .tc := ⟨.hbm, 67, rfl⟩
abbrev main_v15 : Ref sig .tc := ⟨.hbm, 68, rfl⟩
abbrev main_c_6 : Ref sig .tc := ⟨.hbm, 69, rfl⟩
abbrev main_v16 : Ref sig .tc := ⟨.hbm, 70, rfl⟩
abbrev main_v17 : Ref sig .tc := ⟨.hbm, 71, rfl⟩
abbrev main_c_7 : Ref sig .tc := ⟨.hbm, 72, rfl⟩
abbrev main_v18 : Ref sig .tc := ⟨.hbm, 73, rfl⟩
abbrev main_v19 : Ref sig .tc := ⟨.hbm, 74, rfl⟩
abbrev main_v20 : Ref sig .tc := ⟨.hbm, 75, rfl⟩
abbrev main_v21 : Ref sig .tc := ⟨.hbm, 76, rfl⟩
abbrev main_v22 : Ref sig .tc := ⟨.hbm, 77, rfl⟩
abbrev main_c_8 : Ref sig .tc := ⟨.hbm, 78, rfl⟩
abbrev main_v24 : Ref sig .tc := ⟨.hbm, 79, rfl⟩
abbrev main_v25 : Ref sig .tc := ⟨.hbm, 80, rfl⟩
abbrev main_c_9 : Ref sig .tc := ⟨.hbm, 81, rfl⟩
abbrev main_v26 : Ref sig .tc := ⟨.hbm, 82, rfl⟩
abbrev main_v27 : Ref sig .tc := ⟨.hbm, 83, rfl⟩
abbrev main_c_10 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_v23 : Ref sig .tc := ⟨.smem, 0, rfl⟩
abbrev main_v33 : Ref sig .tc := ⟨.smem, 1, rfl⟩
abbrev main_v12 : Ref sig .tc := ⟨.smem, 2, rfl⟩
abbrev main_arg2 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨1, ![152], ![false]⟩

abbrev pre0 : Pipeline.Prefetch sig := ⟨4, ![main_v23.idx, main_v33.idx, main_v12.idx, main_arg2.idx], fun | 0 => main_v23.names | 1 => main_v33.names | 2 => main_v12.names | 3 => main_arg2.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v5 : Index := Scalar.indexCast arg0
  ![v5.toNat]
def k0_off3 (i : grid0.Coords) : Fin 1 → Nat :=
  let arg0 : BitVec 32 := BitVec.ofNat 32 (i 0).val
  let v27 : Index := Scalar.indexCast arg0
  ![v27.toNat]
def k0_cond1 (v1 : BitVec 32) : BitVec 1 :=
  let c0_i32 : BitVec 32 := 0#32
  let v2 : BitVec 1 := Scalar.cmpi .eq v1 c0_i32
  let v3 : BitVec 32 := Scalar.extui v2
  let c0_i32_0 : BitVec 32 := 0#32
  let v4 : BitVec 1 := Scalar.cmpi .ne v3 c0_i32_0
  v4

def k0_cond2 (v6 : BitVec 32) : BitVec 1 :=
  let c0_i32_1 : BitVec 32 := 0#32
  let v7 : BitVec 1 := Scalar.cmpi .ne v6 c0_i32_1
  let v8 : BitVec 32 := Scalar.extui v7
  let c0_i32_2 : BitVec 32 := 0#32
  let v9 : BitVec 1 := Scalar.cmpi .ne v8 c0_i32_2
  v9

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_8 (k0_off1_inb : ∀ i : grid0.Coords, ∀ a, (k0_off1 i) a + S1.size a ≤ S152.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 1 (Rect.unit (s := S152) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2048x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S311296x128 : Shape := ⟨2, ![311296, 128]⟩
abbrev S152 : Shape := ⟨1, ![152]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S16x1024x512 : Shape := ⟨3, ![16, 1024, 512]⟩
abbrev S16x512x1024 : Shape := ⟨3, ![16, 512, 1024]⟩
abbrev S6 : Shape := ⟨1, ![6]⟩
abbrev S38912x1024 : Shape := ⟨2, ![38912, 1024]⟩
abbrev S152x256 : Shape := ⟨2, ![152, 256]⟩
abbrev S38912 : Shape := ⟨1, ![38912]⟩
abbrev S_ : Shape := ⟨0, ![]⟩
abbrev S38912x1 : Shape := ⟨2, ![38912, 1]⟩
abbrev S38912x2 : Shape := ⟨2, ![38912, 2]⟩
abbrev S1x4 : Shape := ⟨2, ![1, 4]⟩
abbrev S38912x4 : Shape := ⟨2, ![38912, 4]⟩
abbrev S38912x2x1 : Shape := ⟨3, ![38912, 2, 1]⟩
abbrev S1x1x4 : Shape := ⟨3, ![1, 1, 4]⟩
abbrev S38912x2x4 : Shape := ⟨3, ![38912, 2, 4]⟩
abbrev S38912x16 : Shape := ⟨2, ![38912, 16]⟩
abbrev S1x16 : Shape := ⟨2, ![1, 16]⟩
abbrev S38912x4x4 : Shape := ⟨3, ![38912, 4, 4]⟩
abbrev S1x1x16 : Shape := ⟨3, ![1, 1, 16]⟩
abbrev S38912x2x16 : Shape := ⟨3, ![38912, 2, 16]⟩
abbrev S1x1024x512 : Shape := ⟨3, ![1, 1024, 512]⟩
abbrev S1024x512 : Shape := ⟨2, ![1024, 512]⟩
abbrev S38912x512 : Shape := ⟨2, ![38912, 512]⟩
abbrev S1x512x1024 : Shape := ⟨3, ![1, 512, 1024]⟩
abbrev S512x1024 : Shape := ⟨2, ![512, 1024]⟩

abbrev nBuf : Space → Nat
  | .hbm => 533
  | .vmem => 0
  | .smem => 0
  | _ => 0

abbrev hbmTy0_0 (i : Nat) : BufTy := match i % 128 with
  | 0 => ⟨S311296x128, .f32⟩
  | 1 => ⟨S152, .i32⟩
  | 2 => ⟨S152, .i32⟩
  | 3 => ⟨S1024x4, .f32⟩
  | 4 => ⟨S4, .f32⟩
  | 5 => ⟨S1024x16, .f32⟩
  | 6 => ⟨S16, .f32⟩
  | 7 => ⟨S16x1024x512, .f32⟩
  | 8 => ⟨S16x1024x512, .f32⟩
  | 9 => ⟨S16x512x1024, .f32⟩
  | 10 => ⟨S6, .i32⟩
  | 11 => ⟨S6, .i32⟩
  | 12 => ⟨S38912x1024, .f32⟩
  | 13 => ⟨S152x256, .i32⟩
  | 14 => ⟨S38912, .i32⟩
  | 15 => ⟨S152x256, .i32⟩
  | 16 => ⟨S38912, .i32⟩
  | 17 => ⟨S_, .i32⟩
  | 18 => ⟨S_, .i32⟩
  | 19 => ⟨S38912, .i32⟩
  | 20 => ⟨S38912, .i32⟩
  | 21 => ⟨S38912, .i32⟩
  | 22 => ⟨S_, .i32⟩
  | 23 => ⟨S38912, .i32⟩
  | 24 => ⟨S38912, .i1⟩
  | 25 => ⟨S38912, .i32⟩
  | 26 => ⟨S38912, .i32⟩
  | 27 => ⟨S_, .i32⟩
  | 28 => ⟨S38912, .i32⟩
  | 29 => ⟨S38912, .i1⟩
  | 30 => ⟨S38912, .i1⟩
  | 31 => ⟨S_, .i32⟩
  | 32 => ⟨S38912, .i32⟩
  | 33 => ⟨S38912, .i32⟩
  | 34 => ⟨S38912, .i32⟩
  | 35 => ⟨S_, .i32⟩
  | 36 => ⟨S_, .i32⟩
  | 37 => ⟨S_, .i32⟩
  | 38 => ⟨S_, .i1⟩
  | 39 => ⟨S_, .i32⟩
  | 40 => ⟨S_, .i32⟩
  | 41 => ⟨S38912, .i32⟩
  | 42 => ⟨S38912, .i32⟩
  | 43 => ⟨S_, .i32⟩
  | 44 => ⟨S38912, .i32⟩
  | 45 => ⟨S38912, .i1⟩
  | 46 => ⟨S_, .i32⟩
  | 47 => ⟨S38912, .i32⟩
  | 48 => ⟨S38912, .i1⟩
  | 49 => ⟨S_, .i32⟩
  | 50 => ⟨S_, .i1⟩
  | 51 => ⟨S38912, .i1⟩
  | 52 => ⟨S38912, .i1⟩
  | 53 => ⟨S38912, .i1⟩
  | 54 => ⟨S38912, .i32⟩
  | 55 => ⟨S38912, .i32⟩
  | 56 => ⟨S38912, .i32⟩
  | 57 => ⟨S_, .i32⟩
  | 58 => ⟨S38912, .i32⟩
  | 59 => ⟨S38912, .i1⟩
  | 60 => ⟨S_, .i32⟩
  | 61 => ⟨S38912, .i32⟩
  | 62 => ⟨S38912, .i32⟩
  | 63 => ⟨S38912, .i32⟩
  | 64 => ⟨S38912x1, .i32⟩
  | 65 => ⟨S38912, .i32⟩
  | 66 => ⟨S_, .i32⟩
  | 67 => ⟨S38912, .i32⟩
  | 68 => ⟨S38912, .i1⟩
  | 69 => ⟨S_, .i32⟩
  | 70 => ⟨S38912, .i32⟩
  | 71 => ⟨S38912, .i32⟩
  | 72 => ⟨S38912, .i32⟩
  | 73 => ⟨S38912x1, .i32⟩
  | 74 => ⟨S38912, .i32⟩
  | 75 => ⟨S38912x1, .i32⟩
  | 76 => ⟨S38912x1, .i32⟩
  | 77 => ⟨S38912x2, .i32⟩
  | 78 => ⟨S38912x1, .i32⟩
  | 79 => ⟨S1x4, .i32⟩
  | 80 => ⟨S38912x4, .i32⟩
  | 81 => ⟨S38912x4, .i32⟩
  | 82 => ⟨S38912x4, .i1⟩
  | 83 => ⟨S38912x4, .f32⟩
  | 84 => ⟨S38912x2x1, .i32⟩
  | 85 => ⟨S1x1x4, .i32⟩
  | 86 => ⟨S38912x2x4, .i32⟩
  | 87 => ⟨S38912x2x4, .i32⟩
  | 88 => ⟨S38912x2x4, .i1⟩
  | 89 => ⟨S38912x2x4, .f32⟩
  | 90 => ⟨S38912x4, .f32⟩
  | 91 => ⟨S1x4, .f32⟩
  | 92 => ⟨S38912x4, .f32⟩
  | 93 => ⟨S38912x4, .f32⟩
  | 94 => ⟨S_, .f32⟩
  | 95 => ⟨S38912, .f32⟩
  | 96 => ⟨S_, .f32⟩
  | 97 => ⟨S38912, .f32⟩
  | 98 => ⟨S38912, .f32⟩
  | 99 => ⟨S38912x1, .f32⟩
  | 100 => ⟨S38912x4, .f32⟩
  | 101 => ⟨S38912x4, .f32⟩
  | 102 => ⟨S38912x4, .f32⟩
  | 103 => ⟨S_, .f32⟩
  | 104 => ⟨S38912, .f32⟩
  | 105 => ⟨S38912x1, .f32⟩
  | 106 => ⟨S38912x4, .f32⟩
  | 107 => ⟨S38912x4, .f32⟩
  | 108 => ⟨S38912x4, .f32⟩
  | 109 => ⟨S_, .f32⟩
  | 110 => ⟨S38912, .f32⟩
  | 111 => ⟨S38912x1, .f32⟩
  | 112 => ⟨S38912x16, .f32⟩
  | 113 => ⟨S1x16, .f32⟩
  | 114 => ⟨S38912x16, .f32⟩
  | 115 => ⟨S38912x16, .f32⟩
  | 116 => ⟨S38912x4x4, .f32⟩
  | 117 => ⟨S38912x4, .f32⟩
  | 118 => ⟨S_, .f32⟩
  | 119 => ⟨S38912, .f32⟩
  | 120 => ⟨S_, .f32⟩
  | 121 => ⟨S38912, .f32⟩
  | 122 => ⟨S38912, .f32⟩
  | 123 => ⟨S38912x1, .f32⟩
  | 124 => ⟨S38912x4, .f32⟩
  | 125 => ⟨S38912x4, .f32⟩
  | 126 => ⟨S38912x4, .f32⟩
  | 127 => ⟨S_, .f32⟩
  | _ => ⟨S311296x128, .f32⟩

abbrev hbmTy0_1 (i : Nat) : BufTy := match i % 128 with
  | 0 => ⟨S38912, .f32⟩
  | 1 => ⟨S38912x1, .f32⟩
  | 2 => ⟨S38912x4, .f32⟩
  | 3 => ⟨S38912x4, .f32⟩
  | 4 => ⟨S38912x2, .f32⟩
  | 5 => ⟨S_, .f32⟩
  | 6 => ⟨S38912, .f32⟩
  | 7 => ⟨S38912x1, .f32⟩
  | 8 => ⟨S38912x2, .f32⟩
  | 9 => ⟨S38912x2, .f32⟩
  | 10 => ⟨S38912x2, .f32⟩
  | 11 => ⟨S38912x2, .f32⟩
  | 12 => ⟨S38912x1, .i32⟩
  | 13 => ⟨S_, .i32⟩
  | 14 => ⟨S38912x1, .i32⟩
  | 15 => ⟨S38912x1, .i32⟩
  | 16 => ⟨S38912x2, .i32⟩
  | 17 => ⟨S38912x2, .i32⟩
  | 18 => ⟨S38912x2x1, .i32⟩
  | 19 => ⟨S1x1x16, .i32⟩
  | 20 => ⟨S38912x2x16, .i32⟩
  | 21 => ⟨S38912x2x16, .i32⟩
  | 22 => ⟨S38912x2x16, .i1⟩
  | 23 => ⟨S38912x2x16, .f32⟩
  | 24 => ⟨S38912x16, .f32⟩
  | 25 => ⟨S_, .f32⟩
  | 26 => ⟨S38912x1024, .f32⟩
  | 27 => ⟨S1x1024x512, .f32⟩
  | 28 => ⟨S1024x512, .f32⟩
  | 29 => ⟨S38912x512, .f32⟩
  | 30 => ⟨S38912x512, .f32⟩
  | 31 => ⟨S38912x512, .f32⟩
  | 32 => ⟨S_, .f32⟩
  | 33 => ⟨S38912x512, .f32⟩
  | 34 => ⟨S38912x512, .f32⟩
  | 35 => ⟨S_, .f32⟩
  | 36 => ⟨S38912x512, .f32⟩
  | 37 => ⟨S38912x512, .f32⟩
  | 38 => ⟨S38912x512, .f32⟩
  | 39 => ⟨S1x1024x512, .f32⟩
  | 40 => ⟨S1024x512, .f32⟩
  | 41 => ⟨S38912x512, .f32⟩
  | 42 => ⟨S38912x512, .f32⟩
  | 43 => ⟨S38912x1, .f32⟩
  | 44 => ⟨S1x512x1024, .f32⟩
  | 45 => ⟨S512x1024, .f32⟩
  | 46 => ⟨S38912x1024, .f32⟩
  | 47 => ⟨S38912x1024, .f32⟩
  | 48 => ⟨S38912x1024, .f32⟩
  | 49 => ⟨S38912x1024, .f32⟩
  | 50 => ⟨S1x1024x512, .f32⟩
  | 51 => ⟨S1024x512, .f32⟩
  | 52 => ⟨S38912x512, .f32⟩
  | 53 => ⟨S38912x512, .f32⟩
  | 54 => ⟨S38912x512, .f32⟩
  | 55 => ⟨S_, .f32⟩
  | 56 => ⟨S38912x512, .f32⟩
  | 57 => ⟨S38912x512, .f32⟩
  | 58 => ⟨S_, .f32⟩
  | 59 => ⟨S38912x512, .f32⟩
  | 60 => ⟨S38912x512, .f32⟩
  | 61 => ⟨S38912x512, .f32⟩
  | 62 => ⟨S1x1024x512, .f32⟩
  | 63 => ⟨S1024x512, .f32⟩
  | 64 => ⟨S38912x512, .f32⟩
  | 65 => ⟨S38912x512, .f32⟩
  | 66 => ⟨S38912x1, .f32⟩
  | 67 => ⟨S1x512x1024, .f32⟩
  | 68 => ⟨S512x1024, .f32⟩
  | 69 => ⟨S38912x1024, .f32⟩
  | 70 => ⟨S38912x1024, .f32⟩
  | 71 => ⟨S38912x1024, .f32⟩
  | 72 => ⟨S38912x1024, .f32⟩
  | 73 => ⟨S1x1024x512, .f32⟩
  | 74 => ⟨S1024x512, .f32⟩
  | 75 => ⟨S38912x512, .f32⟩
  | 76 => ⟨S38912x512, .f32⟩
  | 77 => ⟨S38912x512, .f32⟩
  | 78 => ⟨S_, .f32⟩
  | 79 => ⟨S38912x512, .f32⟩
  | 80 => ⟨S38912x512, .f32⟩
  | 81 => ⟨S_, .f32⟩
  | 82 => ⟨S38912x512, .f32⟩
  | 83 => ⟨S38912x512, .f32⟩
  | 84 => ⟨S38912x512, .f32⟩
  | 85 => ⟨S1x1024x512, .f32⟩
  | 86 => ⟨S1024x512, .f32⟩
  | 87 => ⟨S38912x512, .f32⟩
  | 88 => ⟨S38912x512, .f32⟩
  | 89 => ⟨S38912x1, .f32⟩
  | 90 => ⟨S1x512x1024, .f32⟩
  | 91 => ⟨S512x1024, .f32⟩
  | 92 => ⟨S38912x1024, .f32⟩
  | 93 => ⟨S38912x1024, .f32⟩
  | 94 => ⟨S38912x1024, .f32⟩
  | 95 => ⟨S38912x1024, .f32⟩
  | 96 => ⟨S1x1024x512, .f32⟩
  | 97 => ⟨S1024x512, .f32⟩
  | 98 => ⟨S38912x512, .f32⟩
  | 99 => ⟨S38912x512, .f32⟩
  | 100 => ⟨S38912x512, .f32⟩
  | 101 => ⟨S_, .f32⟩
  | 102 => ⟨S38912x512, .f32⟩
  | 103 => ⟨S38912x512, .f32⟩
  | 104 => ⟨S_, .f32⟩
  | 105 => ⟨S38912x512, .f32⟩
  | 106 => ⟨S38912x512, .f32⟩
  | 107 => ⟨S38912x512, .f32⟩
  | 108 => ⟨S1x1024x512, .f32⟩
  | 109 => ⟨S1024x512, .f32⟩
  | 110 => ⟨S38912x512, .f32⟩
  | 111 => ⟨S38912x512, .f32⟩
  | 112 => ⟨S38912x1, .f32⟩
  | 113 => ⟨S1x512x1024, .f32⟩
  | 114 => ⟨S512x1024, .f32⟩
  | 115 => ⟨S38912x1024, .f32⟩
  | 116 => ⟨S38912x1024, .f32⟩
  | 117 => ⟨S38912x1024, .f32⟩
  | 118 => ⟨S38912x1024, .f32⟩
  | 119 => ⟨S1x1024x512, .f32⟩
  | 120 => ⟨S1024x512, .f32⟩
  | 121 => ⟨S38912x512, .f32⟩
  | 122 => ⟨S38912x512, .f32⟩
  | 123 => ⟨S38912x512, .f32⟩
  | 124 => ⟨S_, .f32⟩
  | 125 => ⟨S38912x512, .f32⟩
  | 126 => ⟨S38912x512, .f32⟩
  | 127 => ⟨S_, .f32⟩
  | _ => ⟨S311296x128, .f32⟩

abbrev hbmTy0_2 (i : Nat) : BufTy := match i % 128 with
  | 0 => ⟨S38912x512, .f32⟩
  | 1 => ⟨S38912x512, .f32⟩
  | 2 => ⟨S38912x512, .f32⟩
  | 3 => ⟨S1x1024x512, .f32⟩
  | 4 => ⟨S1024x512, .f32⟩
  | 5 => ⟨S38912x512, .f32⟩
  | 6 => ⟨S38912x512, .f32⟩
  | 7 => ⟨S38912x1, .f32⟩
  | 8 => ⟨S1x512x1024, .f32⟩
  | 9 => ⟨S512x1024, .f32⟩
  | 10 => ⟨S38912x1024, .f32⟩
  | 11 => ⟨S38912x1024, .f32⟩
  | 12 => ⟨S38912x1024, .f32⟩
  | 13 => ⟨S38912x1024, .f32⟩
  | 14 => ⟨S1x1024x512, .f32⟩
  | 15 => ⟨S1024x512, .f32⟩
  | 16 => ⟨S38912x512, .f32⟩
  | 17 => ⟨S38912x512, .f32⟩
  | 18 => ⟨S38912x512, .f32⟩
  | 19 => ⟨S_, .f32⟩
  | 20 => ⟨S38912x512, .f32⟩
  | 21 => ⟨S38912x512, .f32⟩
  | 22 => ⟨S_, .f32⟩
  | 23 => ⟨S38912x512, .f32⟩
  | 24 => ⟨S38912x512, .f32⟩
  | 25 => ⟨S38912x512, .f32⟩
  | 26 => ⟨S1x1024x512, .f32⟩
  | 27 => ⟨S1024x512, .f32⟩
  | 28 => ⟨S38912x512, .f32⟩
  | 29 => ⟨S38912x512, .f32⟩
  | 30 => ⟨S38912x1, .f32⟩
  | 31 => ⟨S1x512x1024, .f32⟩
  | 32 => ⟨S512x1024, .f32⟩
  | 33 => ⟨S38912x1024, .f32⟩
  | 34 => ⟨S38912x1024, .f32⟩
  | 35 => ⟨S38912x1024, .f32⟩
  | 36 => ⟨S38912x1024, .f32⟩
  | 37 => ⟨S1x1024x512, .f32⟩
  | 38 => ⟨S1024x512, .f32⟩
  | 39 => ⟨S38912x512, .f32⟩
  | 40 => ⟨S38912x512, .f32⟩
  | 41 => ⟨S38912x512, .f32⟩
  | 42 => ⟨S_, .f32⟩
  | 43 => ⟨S38912x512, .f32⟩
  | 44 => ⟨S38912x512, .f32⟩
  | 45 => ⟨S_, .f32⟩
  | 46 => ⟨S38912x512, .f32⟩
  | 47 => ⟨S38912x512, .f32⟩
  | 48 => ⟨S38912x512, .f32⟩
  | 49 => ⟨S1x1024x512, .f32⟩
  | 50 => ⟨S1024x512, .f32⟩
  | 51 => ⟨S38912x512, .f32⟩
  | 52 => ⟨S38912x512, .f32⟩
  | 53 => ⟨S38912x1, .f32⟩
  | 54 => ⟨S1x512x1024, .f32⟩
  | 55 => ⟨S512x1024, .f32⟩
  | 56 => ⟨S38912x1024, .f32⟩
  | 57 => ⟨S38912x1024, .f32⟩
  | 58 => ⟨S38912x1024, .f32⟩
  | 59 => ⟨S38912x1024, .f32⟩
  | 60 => ⟨S1x1024x512, .f32⟩
  | 61 => ⟨S1024x512, .f32⟩
  | 62 => ⟨S38912x512, .f32⟩
  | 63 => ⟨S38912x512, .f32⟩
  | 64 => ⟨S38912x512, .f32⟩
  | 65 => ⟨S_, .f32⟩
  | 66 => ⟨S38912x512, .f32⟩
  | 67 => ⟨S38912x512, .f32⟩
  | 68 => ⟨S_, .f32⟩
  | 69 => ⟨S38912x512, .f32⟩
  | 70 => ⟨S38912x512, .f32⟩
  | 71 => ⟨S38912x512, .f32⟩
  | 72 => ⟨S1x1024x512, .f32⟩
  | 73 => ⟨S1024x512, .f32⟩
  | 74 => ⟨S38912x512, .f32⟩
  | 75 => ⟨S38912x512, .f32⟩
  | 76 => ⟨S38912x1, .f32⟩
  | 77 => ⟨S1x512x1024, .f32⟩
  | 78 => ⟨S512x1024, .f32⟩
  | 79 => ⟨S38912x1024, .f32⟩
  | 80 => ⟨S38912x1024, .f32⟩
  | 81 => ⟨S38912x1024, .f32⟩
  | 82 => ⟨S38912x1024, .f32⟩
  | 83 => ⟨S1x1024x512, .f32⟩
  | 84 => ⟨S1024x512, .f32⟩
  | 85 => ⟨S38912x512, .f32⟩
  | 86 => ⟨S38912x512, .f32⟩
  | 87 => ⟨S38912x512, .f32⟩
  | 88 => ⟨S_, .f32⟩
  | 89 => ⟨S38912x512, .f32⟩
  | 90 => ⟨S38912x512, .f32⟩
  | 91 => ⟨S_, .f32⟩
  | 92 => ⟨S38912x512, .f32⟩
  | 93 => ⟨S38912x512, .f32⟩
  | 94 => ⟨S38912x512, .f32⟩
  | 95 => ⟨S1x1024x512, .f32⟩
  | 96 => ⟨S1024x512, .f32⟩
  | 97 => ⟨S38912x512, .f32⟩
  | 98 => ⟨S38912x512, .f32⟩
  | 99 => ⟨S38912x1, .f32⟩
  | 100 => ⟨S1x512x1024, .f32⟩
  | 101 => ⟨S512x1024, .f32⟩
  | 102 => ⟨S38912x1024, .f32⟩
  | 103 => ⟨S38912x1024, .f32⟩
  | 104 => ⟨S38912x1024, .f32⟩
  | 105 => ⟨S38912x1024, .f32⟩
  | 106 => ⟨S1x1024x512, .f32⟩
  | 107 => ⟨S1024x512, .f32⟩
  | 108 => ⟨S38912x512, .f32⟩
  | 109 => ⟨S38912x512, .f32⟩
  | 110 => ⟨S38912x512, .f32⟩
  | 111 => ⟨S_, .f32⟩
  | 112 => ⟨S38912x512, .f32⟩
  | 113 => ⟨S38912x512, .f32⟩
  | 114 => ⟨S_, .f32⟩
  | 115 => ⟨S38912x512, .f32⟩
  | 116 => ⟨S38912x512, .f32⟩
  | 117 => ⟨S38912x512, .f32⟩
  | 118 => ⟨S1x1024x512, .f32⟩
  | 119 => ⟨S1024x512, .f32⟩
  | 120 => ⟨S38912x512, .f32⟩
  | 121 => ⟨S38912x512, .f32⟩
  | 122 => ⟨S38912x1, .f32⟩
  | 123 => ⟨S1x512x1024, .f32⟩
  | 124 => ⟨S512x1024, .f32⟩
  | 125 => ⟨S38912x1024, .f32⟩
  | 126 => ⟨S38912x1024, .f32⟩
  | 127 => ⟨S38912x1024, .f32⟩
  | _ => ⟨S311296x128, .f32⟩

abbrev hbmTy0_3 (i : Nat) : BufTy := match i % 128 with
  | 0 => ⟨S38912x1024, .f32⟩
  | 1 => ⟨S1x1024x512, .f32⟩
  | 2 => ⟨S1024x512, .f32⟩
  | 3 => ⟨S38912x512, .f32⟩
  | 4 => ⟨S38912x512, .f32⟩
  | 5 => ⟨S38912x512, .f32⟩
  | 6 => ⟨S_, .f32⟩
  | 7 => ⟨S38912x512, .f32⟩
  | 8 => ⟨S38912x512, .f32⟩
  | 9 => ⟨S_, .f32⟩
  | 10 => ⟨S38912x512, .f32⟩
  | 11 => ⟨S38912x512, .f32⟩
  | 12 => ⟨S38912x512, .f32⟩
  | 13 => ⟨S1x1024x512, .f32⟩
  | 14 => ⟨S1024x512, .f32⟩
  | 15 => ⟨S38912x512, .f32⟩
  | 16 => ⟨S38912x512, .f32⟩
  | 17 => ⟨S38912x1, .f32⟩
  | 18 => ⟨S1x512x1024, .f32⟩
  | 19 => ⟨S512x1024, .f32⟩
  | 20 => ⟨S38912x1024, .f32⟩
  | 21 => ⟨S38912x1024, .f32⟩
  | 22 => ⟨S38912x1024, .f32⟩
  | 23 => ⟨S38912x1024, .f32⟩
  | 24 => ⟨S1x1024x512, .f32⟩
  | 25 => ⟨S1024x512, .f32⟩
  | 26 => ⟨S38912x512, .f32⟩
  | 27 => ⟨S38912x512, .f32⟩
  | 28 => ⟨S38912x512, .f32⟩
  | 29 => ⟨S_, .f32⟩
  | 30 => ⟨S38912x512, .f32⟩
  | 31 => ⟨S38912x512, .f32⟩
  | 32 => ⟨S_, .f32⟩
  | 33 => ⟨S38912x512, .f32⟩
  | 34 => ⟨S38912x512, .f32⟩
  | 35 => ⟨S38912x512, .f32⟩
  | 36 => ⟨S1x1024x512, .f32⟩
  | 37 => ⟨S1024x512, .f32⟩
  | 38 => ⟨S38912x512, .f32⟩
  | 39 => ⟨S38912x512, .f32⟩
  | 40 => ⟨S38912x1, .f32⟩
  | 41 => ⟨S1x512x1024, .f32⟩
  | 42 => ⟨S512x1024, .f32⟩
  | 43 => ⟨S38912x1024, .f32⟩
  | 44 => ⟨S38912x1024, .f32⟩
  | 45 => ⟨S38912x1024, .f32⟩
  | 46 => ⟨S38912x1024, .f32⟩
  | 47 => ⟨S1x1024x512, .f32⟩
  | 48 => ⟨S1024x512, .f32⟩
  | 49 => ⟨S38912x512, .f32⟩
  | 50 => ⟨S38912x512, .f32⟩
  | 51 => ⟨S38912x512, .f32⟩
  | 52 => ⟨S_, .f32⟩
  | 53 => ⟨S38912x512, .f32⟩
  | 54 => ⟨S38912x512, .f32⟩
  | 55 => ⟨S_, .f32⟩
  | 56 => ⟨S38912x512, .f32⟩
  | 57 => ⟨S38912x512, .f32⟩
  | 58 => ⟨S38912x512, .f32⟩
  | 59 => ⟨S1x1024x512, .f32⟩
  | 60 => ⟨S1024x512, .f32⟩
  | 61 => ⟨S38912x512, .f32⟩
  | 62 => ⟨S38912x512, .f32⟩
  | 63 => ⟨S38912x1, .f32⟩
  | 64 => ⟨S1x512x1024, .f32⟩
  | 65 => ⟨S512x1024, .f32⟩
  | 66 => ⟨S38912x1024, .f32⟩
  | 67 => ⟨S38912x1024, .f32⟩
  | 68 => ⟨S38912x1024, .f32⟩
  | 69 => ⟨S38912x1024, .f32⟩
  | 70 => ⟨S1x1024x512, .f32⟩
  | 71 => ⟨S1024x512, .f32⟩
  | 72 => ⟨S38912x512, .f32⟩
  | 73 => ⟨S38912x512, .f32⟩
  | 74 => ⟨S38912x512, .f32⟩
  | 75 => ⟨S_, .f32⟩
  | 76 => ⟨S38912x512, .f32⟩
  | 77 => ⟨S38912x512, .f32⟩
  | 78 => ⟨S_, .f32⟩
  | 79 => ⟨S38912x512, .f32⟩
  | 80 => ⟨S38912x512, .f32⟩
  | 81 => ⟨S38912x512, .f32⟩
  | 82 => ⟨S1x1024x512, .f32⟩
  | 83 => ⟨S1024x512, .f32⟩
  | 84 => ⟨S38912x512, .f32⟩
  | 85 => ⟨S38912x512, .f32⟩
  | 86 => ⟨S38912x1, .f32⟩
  | 87 => ⟨S1x512x1024, .f32⟩
  | 88 => ⟨S512x1024, .f32⟩
  | 89 => ⟨S38912x1024, .f32⟩
  | 90 => ⟨S38912x1024, .f32⟩
  | 91 => ⟨S38912x1024, .f32⟩
  | 92 => ⟨S38912x1024, .f32⟩
  | 93 => ⟨S1x1024x512, .f32⟩
  | 94 => ⟨S1024x512, .f32⟩
  | 95 => ⟨S38912x512, .f32⟩
  | 96 => ⟨S38912x512, .f32⟩
  | 97 => ⟨S38912x512, .f32⟩
  | 98 => ⟨S_, .f32⟩
  | 99 => ⟨S38912x512, .f32⟩
  | 100 => ⟨S38912x512, .f32⟩
  | 101 => ⟨S_, .f32⟩
  | 102 => ⟨S38912x512, .f32⟩
  | 103 => ⟨S38912x512, .f32⟩
  | 104 => ⟨S38912x512, .f32⟩
  | 105 => ⟨S1x1024x512, .f32⟩
  | 106 => ⟨S1024x512, .f32⟩
  | 107 => ⟨S38912x512, .f32⟩
  | 108 => ⟨S38912x512, .f32⟩
  | 109 => ⟨S38912x1, .f32⟩
  | 110 => ⟨S1x512x1024, .f32⟩
  | 111 => ⟨S512x1024, .f32⟩
  | 112 => ⟨S38912x1024, .f32⟩
  | 113 => ⟨S38912x1024, .f32⟩
  | 114 => ⟨S38912x1024, .f32⟩
  | 115 => ⟨S38912x1024, .f32⟩
  | 116 => ⟨S1x1024x512, .f32⟩
  | 117 => ⟨S1024x512, .f32⟩
  | 118 => ⟨S38912x512, .f32⟩
  | 119 => ⟨S38912x512, .f32⟩
  | 120 => ⟨S38912x512, .f32⟩
  | 121 => ⟨S_, .f32⟩
  | 122 => ⟨S38912x512, .f32⟩
  | 123 => ⟨S38912x512, .f32⟩
  | 124 => ⟨S_, .f32⟩
  | 125 => ⟨S38912x512, .f32⟩
  | 126 => ⟨S38912x512, .f32⟩
  | 127 => ⟨S38912x512, .f32⟩
  | _ => ⟨S311296x128, .f32⟩

abbrev hbmTy0_4 (i : Nat) : BufTy := match i % 128 with
  | 0 => ⟨S1x1024x512, .f32⟩
  | 1 => ⟨S1024x512, .f32⟩
  | 2 => ⟨S38912x512, .f32⟩
  | 3 => ⟨S38912x512, .f32⟩
  | 4 => ⟨S38912x1, .f32⟩
  | 5 => ⟨S1x512x1024, .f32⟩
  | 6 => ⟨S512x1024, .f32⟩
  | 7 => ⟨S38912x1024, .f32⟩
  | 8 => ⟨S38912x1024, .f32⟩
  | 9 => ⟨S38912x1024, .f32⟩
  | 10 => ⟨S38912x1024, .f32⟩
  | 11 => ⟨S_, .i32⟩
  | 12 => ⟨S38912, .i32⟩
  | 13 => ⟨S38912, .i1⟩
  | 14 => ⟨S38912x1, .i1⟩
  | 15 => ⟨S_, .f32⟩
  | 16 => ⟨S_, .f32⟩
  | 17 => ⟨S38912x1024, .i1⟩
  | 18 => ⟨S38912x1024, .f32⟩
  | 19 => ⟨S38912x1024, .f32⟩
  | 20 => ⟨S311296x128, .f32⟩
  | _ => ⟨S311296x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S311296x128, .f32⟩

abbrev bufTy : (tb : Table) → Fin (tcTables nBuf tb) → BufTy
  | .hbm, ⟨i, _⟩ => hbmTy i
  | _, _ => ⟨S311296x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_c_0 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_c : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_0 : Ref sig .tc := ⟨.hbm, 31, rfl⟩
abbrev main_call0_v12 : Ref sig .tc := ⟨.hbm, 32, rfl⟩
abbrev main_call0_v13 : Ref sig .tc := ⟨.hbm, 33, rfl⟩
abbrev main_v5 : Ref sig .tc := ⟨.hbm, 34, rfl⟩
abbrev main_c_2 : Ref sig .tc := ⟨.hbm, 35, rfl⟩
abbrev main_call1_v0 : Ref sig .tc := ⟨.hbm, 36, rfl⟩
abbrev main_call1_c : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_c_1 : Ref sig .tc := ⟨.hbm, 43, rfl⟩
abbrev main_call1_v5 : Ref sig .tc := ⟨.hbm, 44, rfl⟩
abbrev main_call1_v6 : Ref sig .tc := ⟨.hbm, 45, rfl⟩
abbrev main_call1_c_2 : Ref sig .tc := ⟨.hbm, 46, rfl⟩
abbrev main_call1_v7 : Ref sig .tc := ⟨.hbm, 47, rfl⟩
abbrev main_call1_v8 : Ref sig .tc := ⟨.hbm, 48, rfl⟩
abbrev main_call1_c_3 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_v6 : Ref sig .tc := ⟨.hbm, 56, rfl⟩
abbrev main_c_3 : Ref sig .tc := ⟨.hbm, 57, rfl⟩
abbrev main_v7 : Ref sig .tc := ⟨.hbm, 58, rfl⟩
abbrev main_v8 : Ref sig .tc := ⟨.hbm, 59, rfl⟩
abbrev main_c_4 : Ref sig .tc := ⟨.hbm, 60, rfl⟩
abbrev main_v9 : Ref sig .tc := ⟨.hbm, 61, rfl⟩
abbrev main_v10 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_c_5 : Ref sig .tc := ⟨.hbm, 66, rfl⟩
abbrev main_v14 : Ref sig .tc := ⟨.hbm, 67, rfl⟩
abbrev main_v15 : Ref sig .tc := ⟨.hbm, 68, rfl⟩
abbrev main_c_6 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_call2_v0 : Ref sig .tc := ⟨.hbm, 78, rfl⟩
abbrev main_call2_v1 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_v24 : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_v25 : Ref sig .tc := ⟨.hbm, 89, rfl⟩
abbrev main_v26 : Ref sig .tc := ⟨.hbm, 90, rfl⟩
abbrev main_v27 : Ref sig .tc := ⟨.hbm, 91, rfl⟩
abbrev main_v28 : Ref sig .tc := ⟨.hbm, 92, rfl⟩
abbrev main_v29 : Ref sig .tc := ⟨.hbm, 93, rfl⟩
abbrev main_cst : Ref sig .tc := ⟨.hbm, 94, rfl⟩
abbrev main_v30 : Ref sig .tc := ⟨.hbm, 95, rfl⟩
abbrev main_cst_7 : Ref sig .tc := ⟨.hbm, 96, rfl⟩
abbrev main_v31 : Ref sig .tc := ⟨.hbm, 97, rfl⟩
abbrev main_v32 : Ref sig .tc := ⟨.hbm, 98, rfl⟩
abbrev main_v33 : Ref sig .tc := ⟨.hbm, 99, rfl⟩
abbrev main_v34 : Ref sig .tc := ⟨.hbm, 100, rfl⟩
abbrev main_v35 : Ref sig .tc := ⟨.hbm, 101, rfl⟩
abbrev main_v36 : Ref sig .tc := ⟨.hbm, 102, rfl⟩
abbrev main_cst_8 : Ref sig .tc := ⟨.hbm, 103, rfl⟩
abbrev main_v37 : Ref sig .tc := ⟨.hbm, 104, rfl⟩
abbrev main_v38 : Ref sig .tc := ⟨.hbm, 105, rfl⟩
abbrev main_v39 : Ref sig .tc := ⟨.hbm, 106, rfl⟩
abbrev main_v40 : Ref sig .tc := ⟨.hbm, 107, rfl⟩
abbrev main_v41 : Ref sig .tc := ⟨.hbm, 108, rfl⟩
abbrev main_cst_9 : Ref sig .tc := ⟨.hbm, 109, rfl⟩
abbrev main_v42 : Ref sig .tc := ⟨.hbm, 110, rfl⟩
abbrev main_v43 : Ref sig .tc := ⟨.hbm, 111, rfl⟩
abbrev main_v44 : Ref sig .tc := ⟨.hbm, 112, rfl⟩
abbrev main_v45 : Ref sig .tc := ⟨.hbm, 113, rfl⟩
abbrev main_v46 : Ref sig .tc := ⟨.hbm, 114, rfl⟩
abbrev main_v47 : Ref sig .tc := ⟨.hbm, 115, rfl⟩
abbrev main_v48 : Ref sig .tc := ⟨.hbm, 116, rfl⟩
abbrev main_v49 : Ref sig .tc := ⟨.hbm, 117, rfl⟩
abbrev main_cst_10 : Ref sig .tc := ⟨.hbm, 118, rfl⟩
abbrev main_v50 : Ref sig .tc := ⟨.hbm, 119, rfl⟩
abbrev main_cst_11 : Ref sig .tc := ⟨.hbm, 120, rfl⟩
abbrev main_v51 : Ref sig .tc := ⟨.hbm, 121, rfl⟩
abbrev main_v52 : Ref sig .tc := ⟨.hbm, 122, rfl⟩
abbrev main_v53 : Ref sig .tc := ⟨.hbm, 123, rfl⟩
abbrev main_v54 : Ref sig .tc := ⟨.hbm, 124, rfl⟩
abbrev main_v55 : Ref sig .tc := ⟨.hbm, 125, rfl⟩
abbrev main_v56 : Ref sig .tc := ⟨.hbm, 126, rfl⟩
abbrev main_cst_12 : Ref sig .tc := ⟨.hbm, 127, rfl⟩
abbrev main_v57 : Ref sig .tc := ⟨.hbm, 128, rfl⟩
abbrev main_v58 : Ref sig .tc := ⟨.hbm, 129, rfl⟩
abbrev main_v59 : Ref sig .tc := ⟨.hbm, 130, rfl⟩
abbrev main_v60 : Ref sig .tc := ⟨.hbm, 131, rfl⟩
abbrev main_v61 : Ref sig .tc := ⟨.hbm, 132, rfl⟩
abbrev main_cst_13 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩
abbrev main_v67 : Ref sig .tc := ⟨.hbm, 139, rfl⟩
abbrev main_v68 : Ref sig .tc := ⟨.hbm, 140, rfl⟩
abbrev main_c_14 : Ref sig .tc := ⟨.hbm, 141, rfl⟩
abbrev main_v69 : Ref sig .tc := ⟨.hbm, 142, rfl⟩
abbrev main_v70 : Ref sig .tc := ⟨.hbm, 143, rfl⟩
abbrev main_v71 : Ref sig .tc := ⟨.hbm, 144, rfl⟩
abbrev main_v72 : Ref sig .tc := ⟨.hbm, 145, rfl⟩
abbrev main_call4_v0 : Ref sig .tc := ⟨.hbm, 146, rfl⟩
abbrev main_call4_v1 : Ref sig .tc := ⟨.hbm, 147, rfl⟩
abbrev main_call4_v2 : Ref sig .tc := ⟨.hbm, 148, rfl⟩
abbrev main_call4_v3 : Ref sig .tc := ⟨.hbm, 149, rfl⟩
abbrev main_call4_v4 : Ref sig .tc := ⟨.hbm, 150, rfl⟩
abbrev main_v73 : Ref sig .tc := ⟨.hbm, 151, rfl⟩
abbrev main_v74 : Ref sig .tc := ⟨.hbm, 152, rfl⟩
abbrev main_cst_15 : Ref sig .tc := ⟨.hbm, 153, rfl⟩
abbrev main_v75 : Ref sig .tc := ⟨.hbm, 154, rfl⟩
abbrev main_v76 : Ref sig .tc := ⟨.hbm, 155, rfl⟩
abbrev main_v77 : Ref sig .tc := ⟨.hbm, 156, rfl⟩
abbrev main_v78 : Ref sig .tc := ⟨.hbm, 157, rfl⟩
abbrev main_call5_v0 : Ref sig .tc := ⟨.hbm, 158, rfl⟩
abbrev main_call5_v1 : Ref sig .tc := ⟨.hbm, 159, rfl⟩
abbrev main_call5_cst : Ref sig .tc := ⟨.hbm, 160, rfl⟩
abbrev main_call5_v2 : Ref sig .tc := ⟨.hbm, 161, rfl⟩
abbrev main_call5_v3 : Ref sig .tc := ⟨.hbm, 162, rfl⟩
abbrev main_call5_cst_0 : Ref sig .tc := ⟨.hbm, 163, rfl⟩
abbrev main_call5_v4 : Ref sig .tc := ⟨.hbm, 164, rfl⟩
abbrev main_call5_v5 : Ref sig .tc := ⟨.hbm, 165, rfl⟩
abbrev main_v79 : Ref sig .tc := ⟨.hbm, 166, rfl⟩
abbrev main_v80 : Ref sig .tc := ⟨.hbm, 167, rfl⟩
abbrev main_v81 : Ref sig .tc := ⟨.hbm, 168, rfl⟩
abbrev main_v82 : Ref sig .tc := ⟨.hbm, 169, rfl⟩
abbrev main_v83 : Ref sig .tc := ⟨.hbm, 170, rfl⟩
abbrev main_v84 : Ref sig .tc := ⟨.hbm, 171, rfl⟩
abbrev main_v85 : Ref sig .tc := ⟨.hbm, 172, rfl⟩
abbrev main_v86 : Ref sig .tc := ⟨.hbm, 173, rfl⟩
abbrev main_v87 : Ref sig .tc := ⟨.hbm, 174, rfl⟩
abbrev main_v88 : Ref sig .tc := ⟨.hbm, 175, rfl⟩
abbrev main_v89 : Ref sig .tc := ⟨.hbm, 176, rfl⟩
abbrev main_v90 : Ref sig .tc := ⟨.hbm, 177, rfl⟩
abbrev main_v91 : Ref sig .tc := ⟨.hbm, 178, rfl⟩
abbrev main_v92 : Ref sig .tc := ⟨.hbm, 179, rfl⟩
abbrev main_v93 : Ref sig .tc := ⟨.hbm, 180, rfl⟩
abbrev main_call6_v0 : Ref sig .tc := ⟨.hbm, 181, rfl⟩
abbrev main_call6_v1 : Ref sig .tc := ⟨.hbm, 182, rfl⟩
abbrev main_call6_cst : Ref sig .tc := ⟨.hbm, 183, rfl⟩
abbrev main_call6_v2 : Ref sig .tc := ⟨.hbm, 184, rfl⟩
abbrev main_call6_v3 : Ref sig .tc := ⟨.hbm, 185, rfl⟩
abbrev main_call6_cst_0 : Ref sig .tc := ⟨.hbm, 186, rfl⟩
abbrev main_call6_v4 : Ref sig .tc := ⟨.hbm, 187, rfl⟩
abbrev main_call6_v5 : Ref sig .tc := ⟨.hbm, 188, rfl⟩
abbrev main_v94 : Ref sig .tc := ⟨.hbm, 189, rfl⟩
abbrev main_v95 : Ref sig .tc := ⟨.hbm, 190, rfl⟩
abbrev main_v96 : Ref sig .tc := ⟨.hbm, 191, rfl⟩
abbrev main_v97 : Ref sig .tc := ⟨.hbm, 192, rfl⟩
abbrev main_v98 : Ref sig .tc := ⟨.hbm, 193, rfl⟩
abbrev main_v99 : Ref sig .tc := ⟨.hbm, 194, rfl⟩
abbrev main_v100 : Ref sig .tc := ⟨.hbm, 195, rfl⟩
abbrev main_v101 : Ref sig .tc := ⟨.hbm, 196, rfl⟩
abbrev main_v102 : Ref sig .tc := ⟨.hbm, 197, rfl⟩
abbrev main_v103 : Ref sig .tc := ⟨.hbm, 198, rfl⟩
abbrev main_v104 : Ref sig .tc := ⟨.hbm, 199, rfl⟩
abbrev main_v105 : Ref sig .tc := ⟨.hbm, 200, rfl⟩
abbrev main_v106 : Ref sig .tc := ⟨.hbm, 201, rfl⟩
abbrev main_v107 : Ref sig .tc := ⟨.hbm, 202, rfl⟩
abbrev main_v108 : Ref sig .tc := ⟨.hbm, 203, rfl⟩
abbrev main_call7_v0 : Ref sig .tc := ⟨.hbm, 204, rfl⟩
abbrev main_call7_v1 : Ref sig .tc := ⟨.hbm, 205, rfl⟩
abbrev main_call7_cst : Ref sig .tc := ⟨.hbm, 206, rfl⟩
abbrev main_call7_v2 : Ref sig .tc := ⟨.hbm, 207, rfl⟩
abbrev main_call7_v3 : Ref sig .tc := ⟨.hbm, 208, rfl⟩
abbrev main_call7_cst_0 : Ref sig .tc := ⟨.hbm, 209, rfl⟩
abbrev main_call7_v4 : Ref sig .tc := ⟨.hbm, 210, rfl⟩
abbrev main_call7_v5 : Ref sig .tc := ⟨.hbm, 211, rfl⟩
abbrev main_v109 : Ref sig .tc := ⟨.hbm, 212, rfl⟩
abbrev main_v110 : Ref sig .tc := ⟨.hbm, 213, rfl⟩
abbrev main_v111 : Ref sig .tc := ⟨.hbm, 214, rfl⟩
abbrev main_v112 : Ref sig .tc := ⟨.hbm, 215, rfl⟩
abbrev main_v113 : Ref sig .tc := ⟨.hbm, 216, rfl⟩
abbrev main_v114 : Ref sig .tc := ⟨.hbm, 217, rfl⟩
abbrev main_v115 : Ref sig .tc := ⟨.hbm, 218, rfl⟩
abbrev main_v116 : Ref sig .tc := ⟨.hbm, 219, rfl⟩
abbrev main_v117 : Ref sig .tc := ⟨.hbm, 220, rfl⟩
abbrev main_v118 : Ref sig .tc := ⟨.hbm, 221, rfl⟩
abbrev main_v119 : Ref sig .tc := ⟨.hbm, 222, rfl⟩
abbrev main_v120 : Ref sig .tc := ⟨.hbm, 223, rfl⟩
abbrev main_v121 : Ref sig .tc := ⟨.hbm, 224, rfl⟩
abbrev main_v122 : Ref sig .tc := ⟨.hbm, 225, rfl⟩
abbrev main_v123 : Ref sig .tc := ⟨.hbm, 226, rfl⟩
abbrev main_call8_v0 : Ref sig .tc := ⟨.hbm, 227, rfl⟩
abbrev main_call8_v1 : Ref sig .tc := ⟨.hbm, 228, rfl⟩
abbrev main_call8_cst : Ref sig .tc := ⟨.hbm, 229, rfl⟩
abbrev main_call8_v2 : Ref sig .tc := ⟨.hbm, 230, rfl⟩
abbrev main_call8_v3 : Ref sig .tc := ⟨.hbm, 231, rfl⟩
abbrev main_call8_cst_0 : Ref sig .tc := ⟨.hbm, 232, rfl⟩
abbrev main_call8_v4 : Ref sig .tc := ⟨.hbm, 233, rfl⟩
abbrev main_call8_v5 : Ref sig .tc := ⟨.hbm, 234, rfl⟩
abbrev main_v124 : Ref sig .tc := ⟨.hbm, 235, rfl⟩
abbrev main_v125 : Ref sig .tc := ⟨.hbm, 236, rfl⟩
abbrev main_v126 : Ref sig .tc := ⟨.hbm, 237, rfl⟩
abbrev main_v127 : Ref sig .tc := ⟨.hbm, 238, rfl⟩
abbrev main_v128 : Ref sig .tc := ⟨.hbm, 239, rfl⟩
abbrev main_v129 : Ref sig .tc := ⟨.hbm, 240, rfl⟩
abbrev main_v130 : Ref sig .tc := ⟨.hbm, 241, rfl⟩
abbrev main_v131 : Ref sig .tc := ⟨.hbm, 242, rfl⟩
abbrev main_v132 : Ref sig .tc := ⟨.hbm, 243, rfl⟩
abbrev main_v133 : Ref sig .tc := ⟨.hbm, 244, rfl⟩
abbrev main_v134 : Ref sig .tc := ⟨.hbm, 245, rfl⟩
abbrev main_v135 : Ref sig .tc := ⟨.hbm, 246, rfl⟩
abbrev main_v136 : Ref sig .tc := ⟨.hbm, 247, rfl⟩
abbrev main_v137 : Ref sig .tc := ⟨.hbm, 248, rfl⟩
abbrev main_v138 : Ref sig .tc := ⟨.hbm, 249, rfl⟩
abbrev main_call9_v0 : Ref sig .tc := ⟨.hbm, 250, rfl⟩
abbrev main_call9_v1 : Ref sig .tc := ⟨.hbm, 251, rfl⟩
abbrev main_call9_cst : Ref sig .tc := ⟨.hbm, 252, rfl⟩
abbrev main_call9_v2 : Ref sig .tc := ⟨.hbm, 253, rfl⟩
abbrev main_call9_v3 : Ref sig .tc := ⟨.hbm, 254, rfl⟩
abbrev main_call9_cst_0 : Ref sig .tc := ⟨.hbm, 255, rfl⟩
abbrev main_call9_v4 : Ref sig .tc := ⟨.hbm, 256, rfl⟩
abbrev main_call9_v5 : Ref sig .tc := ⟨.hbm, 257, rfl⟩
abbrev main_v139 : Ref sig .tc := ⟨.hbm, 258, rfl⟩
abbrev main_v140 : Ref sig .tc := ⟨.hbm, 259, rfl⟩
abbrev main_v141 : Ref sig .tc := ⟨.hbm, 260, rfl⟩
abbrev main_v142 : Ref sig .tc := ⟨.hbm, 261, rfl⟩
abbrev main_v143 : Ref sig .tc := ⟨.hbm, 262, rfl⟩
abbrev main_v144 : Ref sig .tc := ⟨.hbm, 263, rfl⟩
abbrev main_v145 : Ref sig .tc := ⟨.hbm, 264, rfl⟩
abbrev main_v146 : Ref sig .tc := ⟨.hbm, 265, rfl⟩
abbrev main_v147 : Ref sig .tc := ⟨.hbm, 266, rfl⟩
abbrev main_v148 : Ref sig .tc := ⟨.hbm, 267, rfl⟩
abbrev main_v149 : Ref sig .tc := ⟨.hbm, 268, rfl⟩
abbrev main_v150 : Ref sig .tc := ⟨.hbm, 269, rfl⟩
abbrev main_v151 : Ref sig .tc := ⟨.hbm, 270, rfl⟩
abbrev main_v152 : Ref sig .tc := ⟨.hbm, 271, rfl⟩
abbrev main_v153 : Ref sig .tc := ⟨.hbm, 272, rfl⟩
abbrev main_call10_v0 : Ref sig .tc := ⟨.hbm, 273, rfl⟩
abbrev main_call10_v1 : Ref sig .tc := ⟨.hbm, 274, rfl⟩
abbrev main_call10_cst : Ref sig .tc := ⟨.hbm, 275, rfl⟩
abbrev main_call10_v2 : Ref sig .tc := ⟨.hbm, 276, rfl⟩
abbrev main_call10_v3 : Ref sig .tc := ⟨.hbm, 277, rfl⟩
abbrev main_call10_cst_0 : Ref sig .tc := ⟨.hbm, 278, rfl⟩
abbrev main_call10_v4 : Ref sig .tc := ⟨.hbm, 279, rfl⟩
abbrev main_call10_v5 : Ref sig .tc := ⟨.hbm, 280, rfl⟩
abbrev main_v154 : Ref sig .tc := ⟨.hbm, 281, rfl⟩
abbrev main_v155 : Ref sig .tc := ⟨.hbm, 282, rfl⟩
abbrev main_v156 : Ref sig .tc := ⟨.hbm, 283, rfl⟩
abbrev main_v157 : Ref sig .tc := ⟨.hbm, 284, rfl⟩
abbrev main_v158 : Ref sig .tc := ⟨.hbm, 285, rfl⟩
abbrev main_v159 : Ref sig .tc := ⟨.hbm, 286, rfl⟩
abbrev main_v160 : Ref sig .tc := ⟨.hbm, 287, rfl⟩
abbrev main_v161 : Ref sig .tc := ⟨.hbm, 288, rfl⟩
abbrev main_v162 : Ref sig .tc := ⟨.hbm, 289, rfl⟩
abbrev main_v163 : Ref sig .tc := ⟨.hbm, 290, rfl⟩
abbrev main_v164 : Ref sig .tc := ⟨.hbm, 291, rfl⟩
abbrev main_v165 : Ref sig .tc := ⟨.hbm, 292, rfl⟩
abbrev main_v166 : Ref sig .tc := ⟨.hbm, 293, rfl⟩
abbrev main_v167 : Ref sig .tc := ⟨.hbm, 294, rfl⟩
abbrev main_v168 : Ref sig .tc := ⟨.hbm, 295, rfl⟩
abbrev main_call11_v0 : Ref sig .tc := ⟨.hbm, 296, rfl⟩
abbrev main_call11_v1 : Ref sig .tc := ⟨.hbm, 297, rfl⟩
abbrev main_call11_cst : Ref sig .tc := ⟨.hbm, 298, rfl⟩
abbrev main_call11_v2 : Ref sig .tc := ⟨.hbm, 299, rfl⟩
abbrev main_call11_v3 : Ref sig .tc := ⟨.hbm, 300, rfl⟩
abbrev main_call11_cst_0 : Ref sig .tc := ⟨.hbm, 301, rfl⟩
abbrev main_call11_v4 : Ref sig .tc := ⟨.hbm, 302, rfl⟩
abbrev main_call11_v5 : Ref sig .tc := ⟨.hbm, 303, rfl⟩
abbrev main_v169 : Ref sig .tc := ⟨.hbm, 304, rfl⟩
abbrev main_v170 : Ref sig .tc := ⟨.hbm, 305, rfl⟩
abbrev main_v171 : Ref sig .tc := ⟨.hbm, 306, rfl⟩
abbrev main_v172 : Ref sig .tc := ⟨.hbm, 307, rfl⟩
abbrev main_v173 : Ref sig .tc := ⟨.hbm, 308, rfl⟩
abbrev main_v174 : Ref sig .tc := ⟨.hbm, 309, rfl⟩
abbrev main_v175 : Ref sig .tc := ⟨.hbm, 310, rfl⟩
abbrev main_v176 : Ref sig .tc := ⟨.hbm, 311, rfl⟩
abbrev main_v177 : Ref sig .tc := ⟨.hbm, 312, rfl⟩
abbrev main_v178 : Ref sig .tc := ⟨.hbm, 313, rfl⟩
abbrev main_v179 : Ref sig .tc := ⟨.hbm, 314, rfl⟩
abbrev main_v180 : Ref sig .tc := ⟨.hbm, 315, rfl⟩
abbrev main_v181 : Ref sig .tc := ⟨.hbm, 316, rfl⟩
abbrev main_v182 : Ref sig .tc := ⟨.hbm, 317, rfl⟩
abbrev main_v183 : Ref sig .tc := ⟨.hbm, 318, rfl⟩
abbrev main_call12_v0 : Ref sig .tc := ⟨.hbm, 319, rfl⟩
abbrev main_call12_v1 : Ref sig .tc := ⟨.hbm, 320, rfl⟩
abbrev main_call12_cst : Ref sig .tc := ⟨.hbm, 321, rfl⟩
abbrev main_call12_v2 : Ref sig .tc := ⟨.hbm, 322, rfl⟩
abbrev main_call12_v3 : Ref sig .tc := ⟨.hbm, 323, rfl⟩
abbrev main_call12_cst_0 : Ref sig .tc := ⟨.hbm, 324, rfl⟩
abbrev main_call12_v4 : Ref sig .tc := ⟨.hbm, 325, rfl⟩
abbrev main_call12_v5 : Ref sig .tc := ⟨.hbm, 326, rfl⟩
abbrev main_v184 : Ref sig .tc := ⟨.hbm, 327, rfl⟩
abbrev main_v185 : Ref sig .tc := ⟨.hbm, 328, rfl⟩
abbrev main_v186 : Ref sig .tc := ⟨.hbm, 329, rfl⟩
abbrev main_v187 : Ref sig .tc := ⟨.hbm, 330, rfl⟩
abbrev main_v188 : Ref sig .tc := ⟨.hbm, 331, rfl⟩
abbrev main_v189 : Ref sig .tc := ⟨.hbm, 332, rfl⟩
abbrev main_v190 : Ref sig .tc := ⟨.hbm, 333, rfl⟩
abbrev main_v191 : Ref sig .tc := ⟨.hbm, 334, rfl⟩
abbrev main_v192 : Ref sig .tc := ⟨.hbm, 335, rfl⟩
abbrev main_v193 : Ref sig .tc := ⟨.hbm, 336, rfl⟩
abbrev main_v194 : Ref sig .tc := ⟨.hbm, 337, rfl⟩
abbrev main_v195 : Ref sig .tc := ⟨.hbm, 338, rfl⟩
abbrev main_v196 : Ref sig .tc := ⟨.hbm, 339, rfl⟩
abbrev main_v197 : Ref sig .tc := ⟨.hbm, 340, rfl⟩
abbrev main_v198 : Ref sig .tc := ⟨.hbm, 341, rfl⟩
abbrev main_call13_v0 : Ref sig .tc := ⟨.hbm, 342, rfl⟩
abbrev main_call13_v1 : Ref sig .tc := ⟨.hbm, 343, rfl⟩
abbrev main_call13_cst : Ref sig .tc := ⟨.hbm, 344, rfl⟩
abbrev main_call13_v2 : Ref sig .tc := ⟨.hbm, 345, rfl⟩
abbrev main_call13_v3 : Ref sig .tc := ⟨.hbm, 346, rfl⟩
abbrev main_call13_cst_0 : Ref sig .tc := ⟨.hbm, 347, rfl⟩
abbrev main_call13_v4 : Ref sig .tc := ⟨.hbm, 348, rfl⟩
abbrev main_call13_v5 : Ref sig .tc := ⟨.hbm, 349, rfl⟩
abbrev main_v199 : Ref sig .tc := ⟨.hbm, 350, rfl⟩
abbrev main_v200 : Ref sig .tc := ⟨.hbm, 351, rfl⟩
abbrev main_v201 : Ref sig .tc := ⟨.hbm, 352, rfl⟩
abbrev main_v202 : Ref sig .tc := ⟨.hbm, 353, rfl⟩
abbrev main_v203 : Ref sig .tc := ⟨.hbm, 354, rfl⟩
abbrev main_v204 : Ref sig .tc := ⟨.hbm, 355, rfl⟩
abbrev main_v205 : Ref sig .tc := ⟨.hbm, 356, rfl⟩
abbrev main_v206 : Ref sig .tc := ⟨.hbm, 357, rfl⟩
abbrev main_v207 : Ref sig .tc := ⟨.hbm, 358, rfl⟩
abbrev main_v208 : Ref sig .tc := ⟨.hbm, 359, rfl⟩
abbrev main_v209 : Ref sig .tc := ⟨.hbm, 360, rfl⟩
abbrev main_v210 : Ref sig .tc := ⟨.hbm, 361, rfl⟩
abbrev main_v211 : Ref sig .tc := ⟨.hbm, 362, rfl⟩
abbrev main_v212 : Ref sig .tc := ⟨.hbm, 363, rfl⟩
abbrev main_v213 : Ref sig .tc := ⟨.hbm, 364, rfl⟩
abbrev main_call14_v0 : Ref sig .tc := ⟨.hbm, 365, rfl⟩
abbrev main_call14_v1 : Ref sig .tc := ⟨.hbm, 366, rfl⟩
abbrev main_call14_cst : Ref sig .tc := ⟨.hbm, 367, rfl⟩
abbrev main_call14_v2 : Ref sig .tc := ⟨.hbm, 368, rfl⟩
abbrev main_call14_v3 : Ref sig .tc := ⟨.hbm, 369, rfl⟩
abbrev main_call14_cst_0 : Ref sig .tc := ⟨.hbm, 370, rfl⟩
abbrev main_call14_v4 : Ref sig .tc := ⟨.hbm, 371, rfl⟩
abbrev main_call14_v5 : Ref sig .tc := ⟨.hbm, 372, rfl⟩
abbrev main_v214 : Ref sig .tc := ⟨.hbm, 373, rfl⟩
abbrev main_v215 : Ref sig .tc := ⟨.hbm, 374, rfl⟩
abbrev main_v216 : Ref sig .tc := ⟨.hbm, 375, rfl⟩
abbrev main_v217 : Ref sig .tc := ⟨.hbm, 376, rfl⟩
abbrev main_v218 : Ref sig .tc := ⟨.hbm, 377, rfl⟩
abbrev main_v219 : Ref sig .tc := ⟨.hbm, 378, rfl⟩
abbrev main_v220 : Ref sig .tc := ⟨.hbm, 379, rfl⟩
abbrev main_v221 : Ref sig .tc := ⟨.hbm, 380, rfl⟩
abbrev main_v222 : Ref sig .tc := ⟨.hbm, 381, rfl⟩
abbrev main_v223 : Ref sig .tc := ⟨.hbm, 382, rfl⟩
abbrev main_v224 : Ref sig .tc := ⟨.hbm, 383, rfl⟩
abbrev main_v225 : Ref sig .tc := ⟨.hbm, 384, rfl⟩
abbrev main_v226 : Ref sig .tc := ⟨.hbm, 385, rfl⟩
abbrev main_v227 : Ref sig .tc := ⟨.hbm, 386, rfl⟩
abbrev main_v228 : Ref sig .tc := ⟨.hbm, 387, rfl⟩
abbrev main_call15_v0 : Ref sig .tc := ⟨.hbm, 388, rfl⟩
abbrev main_call15_v1 : Ref sig .tc := ⟨.hbm, 389, rfl⟩
abbrev main_call15_cst : Ref sig .tc := ⟨.hbm, 390, rfl⟩
abbrev main_call15_v2 : Ref sig .tc := ⟨.hbm, 391, rfl⟩
abbrev main_call15_v3 : Ref sig .tc := ⟨.hbm, 392, rfl⟩
abbrev main_call15_cst_0 : Ref sig .tc := ⟨.hbm, 393, rfl⟩
abbrev main_call15_v4 : Ref sig .tc := ⟨.hbm, 394, rfl⟩
abbrev main_call15_v5 : Ref sig .tc := ⟨.hbm, 395, rfl⟩
abbrev main_v229 : Ref sig .tc := ⟨.hbm, 396, rfl⟩
abbrev main_v230 : Ref sig .tc := ⟨.hbm, 397, rfl⟩
abbrev main_v231 : Ref sig .tc := ⟨.hbm, 398, rfl⟩
abbrev main_v232 : Ref sig .tc := ⟨.hbm, 399, rfl⟩
abbrev main_v233 : Ref sig .tc := ⟨.hbm, 400, rfl⟩
abbrev main_v234 : Ref sig .tc := ⟨.hbm, 401, rfl⟩
abbrev main_v235 : Ref sig .tc := ⟨.hbm, 402, rfl⟩
abbrev main_v236 : Ref sig .tc := ⟨.hbm, 403, rfl⟩
abbrev main_v237 : Ref sig .tc := ⟨.hbm, 404, rfl⟩
abbrev main_v238 : Ref sig .tc := ⟨.hbm, 405, rfl⟩
abbrev main_v239 : Ref sig .tc := ⟨.hbm, 406, rfl⟩
abbrev main_v240 : Ref sig .tc := ⟨.hbm, 407, rfl⟩
abbrev main_v241 : Ref sig .tc := ⟨.hbm, 408, rfl⟩
abbrev main_v242 : Ref sig .tc := ⟨.hbm, 409, rfl⟩
abbrev main_v243 : Ref sig .tc := ⟨.hbm, 410, rfl⟩
abbrev main_call16_v0 : Ref sig .tc := ⟨.hbm, 411, rfl⟩
abbrev main_call16_v1 : Ref sig .tc := ⟨.hbm, 412, rfl⟩
abbrev main_call16_cst : Ref sig .tc := ⟨.hbm, 413, rfl⟩
abbrev main_call16_v2 : Ref sig .tc := ⟨.hbm, 414, rfl⟩
abbrev main_call16_v3 : Ref sig .tc := ⟨.hbm, 415, rfl⟩
abbrev main_call16_cst_0 : Ref sig .tc := ⟨.hbm, 416, rfl⟩
abbrev main_call16_v4 : Ref sig .tc := ⟨.hbm, 417, rfl⟩
abbrev main_call16_v5 : Ref sig .tc := ⟨.hbm, 418, rfl⟩
abbrev main_v244 : Ref sig .tc := ⟨.hbm, 419, rfl⟩
abbrev main_v245 : Ref sig .tc := ⟨.hbm, 420, rfl⟩
abbrev main_v246 : Ref sig .tc := ⟨.hbm, 421, rfl⟩
abbrev main_v247 : Ref sig .tc := ⟨.hbm, 422, rfl⟩
abbrev main_v248 : Ref sig .tc := ⟨.hbm, 423, rfl⟩
abbrev main_v249 : Ref sig .tc := ⟨.hbm, 424, rfl⟩
abbrev main_v250 : Ref sig .tc := ⟨.hbm, 425, rfl⟩
abbrev main_v251 : Ref sig .tc := ⟨.hbm, 426, rfl⟩
abbrev main_v252 : Ref sig .tc := ⟨.hbm, 427, rfl⟩
abbrev main_v253 : Ref sig .tc := ⟨.hbm, 428, rfl⟩
abbrev main_v254 : Ref sig .tc := ⟨.hbm, 429, rfl⟩
abbrev main_v255 : Ref sig .tc := ⟨.hbm, 430, rfl⟩
abbrev main_v256 : Ref sig .tc := ⟨.hbm, 431, rfl⟩
abbrev main_v257 : Ref sig .tc := ⟨.hbm, 432, rfl⟩
abbrev main_v258 : Ref sig .tc := ⟨.hbm, 433, rfl⟩
abbrev main_call17_v0 : Ref sig .tc := ⟨.hbm, 434, rfl⟩
abbrev main_call17_v1 : Ref sig .tc := ⟨.hbm, 435, rfl⟩
abbrev main_call17_cst : Ref sig .tc := ⟨.hbm, 436, rfl⟩
abbrev main_call17_v2 : Ref sig .tc := ⟨.hbm, 437, rfl⟩
abbrev main_call17_v3 : Ref sig .tc := ⟨.hbm, 438, rfl⟩
abbrev main_call17_cst_0 : Ref sig .tc := ⟨.hbm, 439, rfl⟩
abbrev main_call17_v4 : Ref sig .tc := ⟨.hbm, 440, rfl⟩
abbrev main_call17_v5 : Ref sig .tc := ⟨.hbm, 441, rfl⟩
abbrev main_v259 : Ref sig .tc := ⟨.hbm, 442, rfl⟩
abbrev main_v260 : Ref sig .tc := ⟨.hbm, 443, rfl⟩
abbrev main_v261 : Ref sig .tc := ⟨.hbm, 444, rfl⟩
abbrev main_v262 : Ref sig .tc := ⟨.hbm, 445, rfl⟩
abbrev main_v263 : Ref sig .tc := ⟨.hbm, 446, rfl⟩
abbrev main_v264 : Ref sig .tc := ⟨.hbm, 447, rfl⟩
abbrev main_v265 : Ref sig .tc := ⟨.hbm, 448, rfl⟩
abbrev main_v266 : Ref sig .tc := ⟨.hbm, 449, rfl⟩
abbrev main_v267 : Ref sig .tc := ⟨.hbm, 450, rfl⟩
abbrev main_v268 : Ref sig .tc := ⟨.hbm, 451, rfl⟩
abbrev main_v269 : Ref sig .tc := ⟨.hbm, 452, rfl⟩
abbrev main_v270 : Ref sig .tc := ⟨.hbm, 453, rfl⟩
abbrev main_v271 : Ref sig .tc := ⟨.hbm, 454, rfl⟩
abbrev main_v272 : Ref sig .tc := ⟨.hbm, 455, rfl⟩
abbrev main_v273 : Ref sig .tc := ⟨.hbm, 456, rfl⟩
abbrev main_call18_v0 : Ref sig .tc := ⟨.hbm, 457, rfl⟩
abbrev main_call18_v1 : Ref sig .tc := ⟨.hbm, 458, rfl⟩
abbrev main_call18_cst : Ref sig .tc := ⟨.hbm, 459, rfl⟩
abbrev main_call18_v2 : Ref sig .tc := ⟨.hbm, 460, rfl⟩
abbrev main_call18_v3 : Ref sig .tc := ⟨.hbm, 461, rfl⟩
abbrev main_call18_cst_0 : Ref sig .tc := ⟨.hbm, 462, rfl⟩
abbrev main_call18_v4 : Ref sig .tc := ⟨.hbm, 463, rfl⟩
abbrev main_call18_v5 : Ref sig .tc := ⟨.hbm, 464, rfl⟩
abbrev main_v274 : Ref sig .tc := ⟨.hbm, 465, rfl⟩
abbrev main_v275 : Ref sig .tc := ⟨.hbm, 466, rfl⟩
abbrev main_v276 : Ref sig .tc := ⟨.hbm, 467, rfl⟩
abbrev main_v277 : Ref sig .tc := ⟨.hbm, 468, rfl⟩
abbrev main_v278 : Ref sig .tc := ⟨.hbm, 469, rfl⟩
abbrev main_v279 : Ref sig .tc := ⟨.hbm, 470, rfl⟩
abbrev main_v280 : Ref sig .tc := ⟨.hbm, 471, rfl⟩
abbrev main_v281 : Ref sig .tc := ⟨.hbm, 472, rfl⟩
abbrev main_v282 : Ref sig .tc := ⟨.hbm, 473, rfl⟩
abbrev main_v283 : Ref sig .tc := ⟨.hbm, 474, rfl⟩
abbrev main_v284 : Ref sig .tc := ⟨.hbm, 475, rfl⟩
abbrev main_v285 : Ref sig .tc := ⟨.hbm, 476, rfl⟩
abbrev main_v286 : Ref sig .tc := ⟨.hbm, 477, rfl⟩
abbrev main_v287 : Ref sig .tc := ⟨.hbm, 478, rfl⟩
abbrev main_v288 : Ref sig .tc := ⟨.hbm, 479, rfl⟩
abbrev main_call19_v0 : Ref sig .tc := ⟨.hbm, 480, rfl⟩
abbrev main_call19_v1 : Ref sig .tc := ⟨.hbm, 481, rfl⟩
abbrev main_call19_cst : Ref sig .tc := ⟨.hbm, 482, rfl⟩
abbrev main_call19_v2 : Ref sig .tc := ⟨.hbm, 483, rfl⟩
abbrev main_call19_v3 : Ref sig .tc := ⟨.hbm, 484, rfl⟩
abbrev main_call19_cst_0 : Ref sig .tc := ⟨.hbm, 485, rfl⟩
abbrev main_call19_v4 : Ref sig .tc := ⟨.hbm, 486, rfl⟩
abbrev main_call19_v5 : Ref sig .tc := ⟨.hbm, 487, rfl⟩
abbrev main_v289 : Ref sig .tc := ⟨.hbm, 488, rfl⟩
abbrev main_v290 : Ref sig .tc := ⟨.hbm, 489, rfl⟩
abbrev main_v291 : Ref sig .tc := ⟨.hbm, 490, rfl⟩
abbrev main_v292 : Ref sig .tc := ⟨.hbm, 491, rfl⟩
abbrev main_v293 : Ref sig .tc := ⟨.hbm, 492, rfl⟩
abbrev main_v294 : Ref sig .tc := ⟨.hbm, 493, rfl⟩
abbrev main_v295 : Ref sig .tc := ⟨.hbm, 494, rfl⟩
abbrev main_v296 : Ref sig .tc := ⟨.hbm, 495, rfl⟩
abbrev main_v297 : Ref sig .tc := ⟨.hbm, 496, rfl⟩
abbrev main_v298 : Ref sig .tc := ⟨.hbm, 497, rfl⟩
abbrev main_v299 : Ref sig .tc := ⟨.hbm, 498, rfl⟩
abbrev main_v300 : Ref sig .tc := ⟨.hbm, 499, rfl⟩
abbrev main_v301 : Ref sig .tc := ⟨.hbm, 500, rfl⟩
abbrev main_v302 : Ref sig .tc := ⟨.hbm, 501, rfl⟩
abbrev main_v303 : Ref sig .tc := ⟨.hbm, 502, rfl⟩
abbrev main_call20_v0 : Ref sig .tc := ⟨.hbm, 503, rfl⟩
abbrev main_call20_v1 : Ref sig .tc := ⟨.hbm, 504, rfl⟩
abbrev main_call20_cst : Ref sig .tc := ⟨.hbm, 505, rfl⟩
abbrev main_call20_v2 : Ref sig .tc := ⟨.hbm, 506, rfl⟩
abbrev main_call20_v3 : Ref sig .tc := ⟨.hbm, 507, rfl⟩
abbrev main_call20_cst_0 : Ref sig .tc := ⟨.hbm, 508, rfl⟩
abbrev main_call20_v4 : Ref sig .tc := ⟨.hbm, 509, rfl⟩
abbrev main_call20_v5 : Ref sig .tc := ⟨.hbm, 510, rfl⟩
abbrev main_v304 : Ref sig .tc := ⟨.hbm, 511, rfl⟩
abbrev main_v305 : Ref sig .tc := ⟨.hbm, 512, rfl⟩
abbrev main_v306 : Ref sig .tc := ⟨.hbm, 513, rfl⟩
abbrev main_v307 : Ref sig .tc := ⟨.hbm, 514, rfl⟩
abbrev main_v308 : Ref sig .tc := ⟨.hbm, 515, rfl⟩
abbrev main_v309 : Ref sig .tc := ⟨.hbm, 516, rfl⟩
abbrev main_v310 : Ref sig .tc := ⟨.hbm, 517, rfl⟩
abbrev main_v311 : Ref sig .tc := ⟨.hbm, 518, rfl⟩
abbrev main_v312 : Ref sig .tc := ⟨.hbm, 519, rfl⟩
abbrev main_v313 : Ref sig .tc := ⟨.hbm, 520, rfl⟩
abbrev main_v314 : Ref sig .tc := ⟨.hbm, 521, rfl⟩
abbrev main_v315 : Ref sig .tc := ⟨.hbm, 522, rfl⟩
abbrev main_c_16 : Ref sig .tc := ⟨.hbm, 523, rfl⟩
abbrev main_v316 : Ref sig .tc := ⟨.hbm, 524, rfl⟩
abbrev main_v317 : Ref sig .tc := ⟨.hbm, 525, rfl⟩
abbrev main_v318 : Ref sig .tc := ⟨.hbm, 526, rfl⟩
abbrev main_cst_17 : Ref sig .tc := ⟨.hbm, 527, rfl⟩
abbrev main_call21_v0 : Ref sig .tc := ⟨.hbm, 528, rfl⟩
abbrev main_call21_v1 : Ref sig .tc := ⟨.hbm, 529, rfl⟩
abbrev main_call21_v2 : Ref sig .tc := ⟨.hbm, 530, rfl⟩
abbrev main_v319 : Ref sig .tc := ⟨.hbm, 531, rfl⟩
abbrev main_v320 : Ref sig .tc := ⟨.hbm, 532, rfl⟩

abbrev nD : Nat := 1
abbrev τ : Topo := Topo.v7x

variable {F : FTy → Type} [FloatOps F]
-- ==== Kernel2.lean ====
abbrev S32768x1024 : Shape := ⟨2, ![32768, 1024]⟩
abbrev S1024 : Shape := ⟨1, ![1024]⟩
abbrev S1024x3080 : Shape := ⟨2, ![1024, 3080]⟩
abbrev S8 : Shape := ⟨1, ![8]⟩
abbrev S1024x8 : Shape := ⟨2, ![1024, 8]⟩
abbrev S_ : Shape := ⟨0, ![]⟩
abbrev S1024x128 : Shape := ⟨2, ![1024, 128]⟩
abbrev S1x1024x128 : Shape := ⟨3, ![1, 1024, 128]⟩
abbrev S2x1024x128 : Shape := ⟨3, ![2, 1024, 128]⟩
abbrev S8x1024 : Shape := ⟨2, ![8, 1024]⟩
abbrev S1x8x1024 : Shape := ⟨3, ![1, 8, 1024]⟩
abbrev S2x8x1024 : Shape := ⟨3, ![2, 8, 1024]⟩
abbrev S1x8 : Shape := ⟨2, ![1, 8]⟩
abbrev S1x128 : Shape := ⟨2, ![1, 128]⟩
abbrev S8x1 : Shape := ⟨2, ![8, 1]⟩
abbrev S1x1024 : Shape := ⟨2, ![1, 1024]⟩
abbrev S32768x512 : Shape := ⟨2, ![32768, 512]⟩
abbrev S32768x128 : Shape := ⟨2, ![32768, 128]⟩
abbrev S8x32768 : Shape := ⟨2, ![8, 32768]⟩
abbrev S512x1024 : Shape := ⟨2, ![512, 1024]⟩
abbrev S1024x512 : Shape := ⟨2, ![1024, 512]⟩
abbrev S1024x1024 : Shape := ⟨2, ![1024, 1024]⟩
abbrev S512x512 : Shape := ⟨2, ![512, 512]⟩
abbrev S512x128 : Shape := ⟨2, ![512, 128]⟩
abbrev S8x512 : Shape := ⟨2, ![8, 512]⟩
abbrev S512 : Shape := ⟨1, ![512]⟩
abbrev S512x1 : Shape := ⟨2, ![512, 1]⟩
abbrev S4x512 : Shape := ⟨2, ![4, 512]⟩
abbrev S128x128 : Shape := ⟨2, ![128, 128]⟩
abbrev S128 : Shape := ⟨1, ![128]⟩
abbrev S128x1 : Shape := ⟨2, ![128, 1]⟩

abbrev nBuf : Space → Nat
  | .hbm => 36
  | .vmem => 23
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3080, .f32⟩
  | .hbm, ⟨3, _⟩ => ⟨S8, .f32⟩
  | .hbm, ⟨4, _⟩ => ⟨S1024x8, .f32⟩
  | .hbm, ⟨5, _⟩ => ⟨S_, .i32⟩
  | .hbm, ⟨6, _⟩ => ⟨S_, .f32⟩
  | .hbm, ⟨7, _⟩ => ⟨S1024x128, .f32⟩
  | .hbm, ⟨8, _⟩ => ⟨S1024x128, .bf16⟩
  | .hbm, ⟨9, _⟩ => ⟨S1024x128, .f32⟩
  | .hbm, ⟨10, _⟩ => ⟨S1024x128, .f32⟩
  | .hbm, ⟨11, _⟩ => ⟨S1024x128, .bf16⟩
  | .hbm, ⟨12, _⟩ => ⟨S1x1024x128, .bf16⟩
  | .hbm, ⟨13, _⟩ => ⟨S1x1024x128, .bf16⟩
  | .hbm, ⟨14, _⟩ => ⟨S2x1024x128, .bf16⟩
  | .hbm, ⟨15, _⟩ => ⟨S8x1024, .f32⟩
  | .hbm, ⟨16, _⟩ => ⟨S8x1024, .bf16⟩
  | .hbm, ⟨17, _⟩ => ⟨S8x1024, .f32⟩
  | .hbm, ⟨18, _⟩ => ⟨S8x1024, .f32⟩
  | .hbm, ⟨19, _⟩ => ⟨S8x1024, .bf16⟩
  | .hbm, ⟨20, _⟩ => ⟨S1x8x1024, .bf16⟩
  | .hbm, ⟨21, _⟩ => ⟨S1x8x1024, .bf16⟩
  | .hbm, ⟨22, _⟩ => ⟨S2x8x1024, .bf16⟩
  | .hbm, ⟨23, _⟩ => ⟨S1x8, .f32⟩
  | .hbm, ⟨24, _⟩ => ⟨S_, .i32⟩
  | .hbm, ⟨25, _⟩ => ⟨S_, .f32⟩
  | .hbm, ⟨26, _⟩ => ⟨S1x128, .f32⟩
  | .hbm, ⟨27, _⟩ => ⟨S8x1, .f32⟩
  | .hbm, ⟨28, _⟩ => ⟨S1x1024, .f32⟩
  | .hbm, ⟨29, _⟩ => ⟨S1024x3080, .bf16⟩
  | .hbm, ⟨30, _⟩ => ⟨S32768x512, .bf16⟩
  | .hbm, ⟨31, _⟩ => ⟨S32768x512, .bf16⟩
  | .hbm, ⟨32, _⟩ => ⟨S32768x1024, .bf16⟩
  | .hbm, ⟨33, _⟩ => ⟨S32768x1024, .bf16⟩
  | .hbm, ⟨34, _⟩ => ⟨S32768x128, .f32⟩
  | .hbm, ⟨35, _⟩ => ⟨S8x32768, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1024x1024, .bf16⟩
  | .local _ .vmem, ⟨6, _⟩ => ⟨S1024x1024, .bf16⟩
  | .local _ .vmem, ⟨7, _⟩ => ⟨S2x1024x128, .bf16⟩
  | .local _ .vmem, ⟨8, _⟩ => ⟨S2x8x1024, .bf16⟩
  | .local _ .vmem, ⟨9, _⟩ => ⟨S1x128, .f32⟩
  | .local _ .vmem, ⟨10, _⟩ => ⟨S8x1, .f32⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x128, .f32⟩
  | .local _ .vmem, ⟨20, _⟩ => ⟨S512x128, .f32⟩
  | .local _ .vmem, ⟨21, _⟩ => ⟨S8x512, .f32⟩
  | .local _ .vmem, ⟨22, _⟩ => ⟨S8x512, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_0 : Ref sig .tc := ⟨.hbm, 24, rfl⟩
abbrev main_call1_v0 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22_0 : Ref sig .tc := ⟨.hbm, 30, rfl⟩
abbrev main_v22_1 : Ref sig .tc := ⟨.hbm, 31, rfl⟩
abbrev main_v22_2 : Ref sig .tc := ⟨.hbm, 32, rfl⟩
abbrev main_v22_3 : Ref sig .tc := ⟨.hbm, 33, rfl⟩
abbrev main_v22_4 : Ref sig .tc := ⟨.hbm, 34, rfl⟩
abbrev main_v22_5 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_4 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_5 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2x8x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== Reference2Ideal.lean ====
abbrev S32768x1024 : Shape := ⟨2, ![32768, 1024]⟩
abbrev S1024 : Shape := ⟨1, ![1024]⟩
abbrev S1024x3080 : Shape := ⟨2, ![1024, 3080]⟩
abbrev S8 : Shape := ⟨1, ![8]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S32768x3080 : Shape := ⟨2, ![32768, 3080]⟩
abbrev S32768x512 : Shape := ⟨2, ![32768, 512]⟩
abbrev S32768x8 : Shape := ⟨2, ![32768, 8]⟩

abbrev nBuf : Space → Nat
  | .hbm => 33
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024, .f32⟩
  | .hbm, ⟨2, _⟩ => ⟨S1024x3080, .f32⟩
  | .hbm, ⟨3, _⟩ => ⟨S8, .f32⟩
  | .hbm, ⟨4, _⟩ => ⟨S32768x1024, .f32⟩
  | .hbm, ⟨5, _⟩ => ⟨S_, .f32⟩
  | .hbm, ⟨6, _⟩ => ⟨S32768, .f32⟩
  | .hbm, ⟨7, _⟩ => ⟨S32768x1, .f32⟩
  | .hbm, ⟨8, _⟩ => ⟨S_, .f32⟩
  | .hbm, ⟨9, _⟩ => ⟨S32768x1, .f32⟩
  | .hbm, ⟨10, _⟩ => ⟨S32768x1, .f32⟩
  | .hbm, ⟨11, _⟩ => ⟨S_, .f32⟩
  | .hbm, ⟨12, _⟩ => ⟨S32768x1, .f32⟩
  | .hbm, ⟨13, _⟩ => ⟨S32768x1, .f32⟩
  | .hbm, ⟨14, _⟩ => ⟨S32768x1, .f32⟩
  | .hbm, ⟨15, _⟩ => ⟨S32768x1024, .f32⟩
  | .hbm, ⟨16, _⟩ => ⟨S32768x1024, .f32⟩
  | .hbm, ⟨17, _⟩ => ⟨S1x1024, .f32⟩
  | .hbm, ⟨18, _⟩ => ⟨S32768x1024, .f32⟩
  | .hbm, ⟨19, _⟩ => ⟨S32768x1024, .f32⟩
  | .hbm, ⟨20, _⟩ => ⟨S32768x3080, .f32⟩
  | .hbm, ⟨21, _⟩ => ⟨S32768x512, .f32⟩
  | .hbm, ⟨22, _⟩ => ⟨S32768x512, .f32⟩
  | .hbm, ⟨23, _⟩ => ⟨S32768x1024, .f32⟩
  | .hbm, ⟨24, _⟩ => ⟨S32768x1024, .f32⟩
  | .hbm, ⟨25, _⟩ => ⟨S32768x8, .f32⟩
  | .hbm, ⟨26, _⟩ => ⟨S_, .f32⟩
  | .hbm, ⟨27, _⟩ => ⟨S32768x512, .f32⟩
  | .hbm, ⟨28, _⟩ => ⟨S32768x512, .f32⟩
  | .hbm, ⟨29, _⟩ => ⟨S32768x512, .bf16⟩
  | .hbm, ⟨30, _⟩ => ⟨S32768x512, .bf16⟩
  | .hbm, ⟨31, _⟩ => ⟨S32768x1024, .bf16⟩
  | .hbm, ⟨32, _⟩ => ⟨S32768x1024, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩

abbrev nD : Nat := 1
abbrev τ : Topo := Topo.v7x

variable {F : FTy → Type} [FloatOps F]
-- ==== Kernel3.lean ====
abbrev S32768x1024 : Shape := ⟨2, ![32768, 1024]⟩
abbrev S1024 : Shape := ⟨1, ![1024]⟩
abbrev S1024x1024 : Shape := ⟨2, ![1024, 1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S1024x20 : Shape := ⟨2, ![1024, 20]⟩
abbrev S_ : Shape := ⟨0, ![]⟩
abbrev S1024x128 : Shape := ⟨2, ![1024, 128]⟩
abbrev S20 : Shape := ⟨1, ![20]⟩
abbrev S1x20 : Shape := ⟨2, ![1, 20]⟩
abbrev S1x128 : Shape := ⟨2, ![1, 128]⟩
abbrev S1x1024x128 : Shape := ⟨3, ![1, 1024, 128]⟩
abbrev S2x1024x128 : Shape := ⟨3, ![2, 1024, 128]⟩
abbrev S1x1024 : Shape := ⟨2, ![1, 1024]⟩
abbrev S262144x128 : Shape := ⟨2, ![262144, 128]⟩
abbrev S8x32768 : Shape := ⟨2, ![8, 32768]⟩
abbrev S512x1024 : Shape := ⟨2, ![512, 1024]⟩
abbrev S4096x128 : Shape := ⟨2, ![4096, 128]⟩
abbrev S8x512 : Shape := ⟨2, ![8, 512]⟩
abbrev S256x1024 : Shape := ⟨2, ![256, 1024]⟩
abbrev S256 : Shape := ⟨1, ![256]⟩
abbrev S256x1 : Shape := ⟨2, ![256, 1]⟩
abbrev S256x128 : Shape := ⟨2, ![256, 128]⟩
abbrev S256x256 : Shape := ⟨2, ![256, 256]⟩
abbrev S8x128 : Shape := ⟨2, ![8, 128]⟩
abbrev S128 : Shape := ⟨1, ![128]⟩
abbrev S8x256 : Shape := ⟨2, ![8, 256]⟩

abbrev nBuf : Space → Nat
  | .hbm => 33
  | .vmem => 18
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x4, .f32⟩
  | .hbm, ⟨7, _⟩ => ⟨S4, .f32⟩
  | .hbm, ⟨8, _⟩ => ⟨S1024x16, .f32⟩
  | .hbm, ⟨9, _⟩ => ⟨S16, .f32⟩
  | .hbm, ⟨10, _⟩ => ⟨S1024x20, .f32⟩
  | .hbm, ⟨11, _⟩ => ⟨S_, .i32⟩
  | .hbm, ⟨12, _⟩ => ⟨S_, .f32⟩
  | .hbm, ⟨13, _⟩ => ⟨S1024x128, .f32⟩
  | .hbm, ⟨14, _⟩ => ⟨S20, .f32⟩
  | .hbm, ⟨15, _⟩ => ⟨S1x20, .f32⟩
  | .hbm, ⟨16, _⟩ => ⟨S_, .i32⟩
  | .hbm, ⟨17, _⟩ => ⟨S_, .f32⟩
  | .hbm, ⟨18, _⟩ => ⟨S1x128, .f32⟩
  | .hbm, ⟨19, _⟩ => ⟨S1024x128, .bf16⟩
  | .hbm, ⟨20, _⟩ => ⟨S1024x128, .f32⟩
  | .hbm, ⟨21, _⟩ => ⟨S1024x128, .f32⟩
  | .hbm, ⟨22, _⟩ => ⟨S1024x128, .bf16⟩
  | .hbm, ⟨23, _⟩ => ⟨S1x1024x128, .bf16⟩
  | .hbm, ⟨24, _⟩ => ⟨S1x1024x128, .bf16⟩
  | .hbm, ⟨25, _⟩ => ⟨S2x1024x128, .bf16⟩
  | .hbm, ⟨26, _⟩ => ⟨S1x1024, .f32⟩
  | .hbm, ⟨27, _⟩ => ⟨S1024x1024, .bf16⟩
  | .hbm, ⟨28, _⟩ => ⟨S1x1024, .f32⟩
  | .hbm, ⟨29, _⟩ => ⟨S32768x1024, .f32⟩
  | .hbm, ⟨30, _⟩ => ⟨S262144x128, .f32⟩
  | .hbm, ⟨31, _⟩ => ⟨S8x32768, .f32⟩
  | .hbm, ⟨32, _⟩ => ⟨S1x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1024x1024, .bf16⟩
  | .local _ .vmem, ⟨8, _⟩ => ⟨S1x1024, .f32⟩
  | .local _ .vmem, ⟨9, _⟩ => ⟨S2x1024x128, .bf16⟩
  | .local _ .vmem, ⟨10, _⟩ => ⟨S1x128, .f32⟩
  | .local _ .vmem, ⟨11, _⟩ => ⟨S512x1024, .f32⟩
  | .local _ .vmem, ⟨12, _⟩ => ⟨S512x1024, .f32⟩
  | .local _ .vmem, ⟨13, _⟩ => ⟨S4096x128, .f32⟩
  | .local _ .vmem, ⟨14, _⟩ => ⟨S4096x128, .f32⟩
  | .local _ .vmem, ⟨15, _⟩ => ⟨S8x512, .f32⟩
  | .local _ .vmem, ⟨16, _⟩ => ⟨S8x512, .f32⟩
  | .local _ .vmem, ⟨17, _⟩ => ⟨S1x128, .f32⟩
  | _, _ => ⟨S32768x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_c : Ref sig .tc := ⟨.hbm, 11, rfl⟩
abbrev main_call0_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c_0 : Ref sig .tc := ⟨.hbm, 16, rfl⟩
abbrev main_call1_v0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15_0 : Ref sig .tc := ⟨.hbm, 29, rfl⟩
abbrev main_v15_1 : Ref sig .tc := ⟨.hbm, 30, rfl⟩
abbrev main_v15_2 : Ref sig .tc := ⟨.hbm, 31, rfl⟩
abbrev main_v15_3 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2x1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4096x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S8x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference3Ideal.lean ====
abbrev S32768x1024 : Shape := ⟨2, ![32768, 1024]⟩
abbrev S1024 : Shape := ⟨1, ![1024]⟩
abbrev S1024x1024 : Shape := ⟨2, ![1024, 1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S1x1024 : Shape := ⟨2, ![1, 1024]⟩
abbrev S_ : Shape := ⟨0, ![]⟩
abbrev S32768 : Shape := ⟨1, ![32768]⟩
abbrev S32768x1 : Shape := ⟨2, ![32768, 1]⟩
abbrev S262144x128 : Shape := ⟨2, ![262144, 128]⟩

abbrev nBuf : Space → Nat
  | .hbm => 43
  | .vmem => 0
  | .smem => 0
  | _ => 0

abbrev bufTy : (tb : Table) → Fin (tcTables nBuf tb) → BufTy
  | .hbm, ⟨0, _⟩ => ⟨S32768x1024, .bf16⟩
  | .hbm, ⟨1, _⟩ => ⟨S32768x1024, .bf16⟩
  | .hbm, ⟨2, _⟩ => ⟨S32768x1024, .f32⟩
  | .hbm, ⟨3, _⟩ => ⟨S1024, .f32⟩
  | .hbm, ⟨4, _⟩ => ⟨S1024x1024, .f32⟩
  | .hbm, ⟨5, _⟩ => ⟨S1024, .f32⟩
  | .hbm, ⟨6, _⟩ => ⟨S1024x4, .f32⟩
  | .hbm, ⟨7, _⟩ => ⟨S4, .f32⟩
  | .hbm, ⟨8, _⟩ => ⟨S1024x16, .f32⟩
  | .hbm, ⟨9, _⟩ => ⟨S16, .f32⟩
  | .hbm, ⟨10, _⟩ => ⟨S32768x1024, .f32⟩
  | .hbm, ⟨11, _⟩ => ⟨S1x1024, .f32⟩
  | .hbm, ⟨12, _⟩ => ⟨S32768x1024, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S_, .f32⟩
  | .hbm, ⟨18, _⟩ => ⟨S32768x1024, .f32⟩
  | .hbm, ⟨19, _⟩ => ⟨S32768x1024, .f32⟩
  | .hbm, ⟨20, _⟩ => ⟨S_, .f32⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S32768x1024, .f32⟩
  | .hbm, ⟨27, _⟩ => ⟨S_, .f32⟩
  | .hbm, ⟨28, _⟩ => ⟨S32768, .f32⟩
  | .hbm, ⟨29, _⟩ => ⟨S32768x1, .f32⟩
  | .hbm, ⟨30, _⟩ => ⟨S_, .f32⟩
  | .hbm, ⟨31, _⟩ => ⟨S32768x1, .f32⟩
  | .hbm, ⟨32, _⟩ => ⟨S32768x1, .f32⟩
  | .hbm, ⟨33, _⟩ => ⟨S_, .f32⟩
  | .hbm, ⟨34, _⟩ => ⟨S32768x1, .f32⟩
  | .hbm, ⟨35, _⟩ => ⟨S32768x1, .f32⟩
  | .hbm, ⟨36, _⟩ => ⟨S32768x1, .f32⟩
  | .hbm, ⟨37, _⟩ => ⟨S32768x1024, .f32⟩
  | .hbm, ⟨38, _⟩ => ⟨S32768x1024, .f32⟩
  | .hbm, ⟨39, _⟩ => ⟨S1x1024, .f32⟩
  | .hbm, ⟨40, _⟩ => ⟨S32768x1024, .f32⟩
  | .hbm, ⟨41, _⟩ => ⟨S32768x1024, .f32⟩
  | .hbm, ⟨42, _⟩ => ⟨S262144x128, .f32⟩
  | _, _ => ⟨S32768x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Kernel4.lean ====
abbrev S2x1024x16384 : Shape := ⟨3, ![2, 1024, 16384]⟩
abbrev S32768x1024 : Shape := ⟨2, ![32768, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S1024x20 : Shape := ⟨2, ![1024, 20]⟩
abbrev S_ : Shape := ⟨0, ![]⟩
abbrev S1024x128 : Shape := ⟨2, ![1024, 128]⟩
abbrev S20 : Shape := ⟨1, ![20]⟩
abbrev S1x20 : Shape := ⟨2, ![1, 20]⟩
abbrev S1x128 : Shape := ⟨2, ![1, 128]⟩
abbrev S1x1024x128 : Shape := ⟨3, ![1, 1024, 128]⟩
abbrev S2x1024x128 : Shape := ⟨3, ![2, 1024, 128]⟩
abbrev S1x1024 : Shape := ⟨2, ![1, 1024]⟩
abbrev S262144x128 : Shape := ⟨2, ![262144, 128]⟩
abbrev S8x32768 : Shape := ⟨2, ![8, 32768]⟩
abbrev S1x1024x512 : Shape := ⟨3, ![1, 1024, 512]⟩
abbrev S512x1024 : Shape := ⟨2, ![512, 1024]⟩
abbrev S4096x128 : Shape := ⟨2, ![4096, 128]⟩
abbrev S8x512 : Shape := ⟨2, ![8, 512]⟩
abbrev S1x1024x256 : Shape := ⟨3, ![1, 1024, 256]⟩
abbrev S1024x256 : Shape := ⟨2, ![1024, 256]⟩
abbrev S256x1024 : Shape := ⟨2, ![256, 1024]⟩
abbrev S256 : Shape := ⟨1, ![256]⟩
abbrev S256x1 : Shape := ⟨2, ![256, 1]⟩
abbrev S256x128 : Shape := ⟨2, ![256, 128]⟩
abbrev S256x256 : Shape := ⟨2, ![256, 256]⟩
abbrev S8x128 : Shape := ⟨2, ![8, 128]⟩
abbrev S128 : Shape := ⟨1, ![128]⟩
abbrev S8x256 : Shape := ⟨2, ![8, 256]⟩

abbrev nBuf : Space → Nat
  | .hbm => 31
  | .vmem => 17
  | .smem => 0
  | _ => 0

abbrev bufTy : (tb : Table) → Fin (tcTables nBuf tb) → BufTy
  | .hbm, ⟨0, _⟩ => ⟨S2x1024x16384, .bf16⟩
  | .hbm, ⟨1, _⟩ => ⟨S2x1024x16384, .bf16⟩
  | .hbm, ⟨2, _⟩ => ⟨S32768x1024, .f32⟩
  | .hbm, ⟨3, _⟩ => ⟨S1024x1024, .f32⟩
  | .hbm, ⟨4, _⟩ => ⟨S1024, .f32⟩
  | .hbm, ⟨5, _⟩ => ⟨S1024x4, .f32⟩
  | .hbm, ⟨6, _⟩ => ⟨S4, .f32⟩
  | .hbm, ⟨7, _⟩ => ⟨S1024x16, .f32⟩
  | .hbm, ⟨8, _⟩ => ⟨S16, .f32⟩
  | .hbm, ⟨9, _⟩ => ⟨S1024x20, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S20, .f32⟩
  | .hbm, ⟨14, _⟩ => ⟨S1x20, .f32⟩
  | .hbm, ⟨15, _⟩ => ⟨S_, .i32⟩
  | .hbm, ⟨16, _⟩ => ⟨S_, .f32⟩
  | .hbm, ⟨17, _⟩ => ⟨S1x128, .f32⟩
  | .hbm, ⟨18, _⟩ => ⟨S1024x128, .bf16⟩
  | .hbm, ⟨19, _⟩ => ⟨S1024x128, .f32⟩
  | .hbm, ⟨20, _⟩ => ⟨S1024x128, .f32⟩
  | .hbm, ⟨21, _⟩ => ⟨S1024x128, .bf16⟩
  | .hbm, ⟨22, _⟩ => ⟨S1x1024x128, .bf16⟩
  | .hbm, ⟨23, _⟩ => ⟨S1x1024x128, .bf16⟩
  | .hbm, ⟨24, _⟩ => ⟨S2x1024x128, .bf16⟩
  | .hbm, ⟨25, _⟩ => ⟨S1024x1024, .bf16⟩
  | .hbm, ⟨26, _⟩ => ⟨S1x1024, .f32⟩
  | .hbm, ⟨27, _⟩ => ⟨S32768x1024, .f32⟩
  | .hbm, ⟨28, _⟩ => ⟨S262144x128, .f32⟩
  | .hbm, ⟨29, _⟩ => ⟨S8x32768, .f32⟩
  | .hbm, ⟨30, _⟩ => ⟨S1x128, .f32⟩
  | .local _ .vmem, ⟨0, _⟩ => ⟨S1x1024x512, .bf16⟩
  | .local _ .vmem, ⟨1, _⟩ => ⟨S1x1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S2x1024x128, .bf16⟩
  | .local _ .vmem, ⟨9, _⟩ => ⟨S1x128, .f32⟩
  | .local _ .vmem, ⟨10, _⟩ => ⟨S512x1024, .f32⟩
  | .local _ .vmem, ⟨11, _⟩ => ⟨S512x1024, .f32⟩
  | .local _ .vmem, ⟨12, _⟩ => ⟨S4096x128, .f32⟩
  | .local _ .vmem, ⟨13, _⟩ => ⟨S4096x128, .f32⟩
  | .local _ .vmem, ⟨14, _⟩ => ⟨S8x512, .f32⟩
  | .local _ .vmem, ⟨15, _⟩ => ⟨S8x512, .f32⟩
  | .local _ .vmem, ⟨16, _⟩ => ⟨S1x128, .f32⟩
  | _, _ => ⟨S2x1024x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_call0_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_call1_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14_0 : Ref sig .tc := ⟨.hbm, 27, rfl⟩
abbrev main_v14_1 : Ref sig .tc := ⟨.hbm, 28, rfl⟩
abbrev main_v14_2 : Ref sig .tc := ⟨.hbm, 29, rfl⟩
abbrev main_v14_3 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_9 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![c0_i32.toNat, v1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4096x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== Reference4Ideal.lean ====
abbrev S2x1024x16384 : Shape := ⟨3, ![2, 1024, 16384]⟩
abbrev S32768x1024 : Shape := ⟨2, ![32768, 1024]⟩
abbrev S1024x1024 : Shape := ⟨2, ![1024, 1024]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16 : Shape := ⟨1, ![16]⟩
abbrev S2x16384x1024 : Shape := ⟨3, ![2, 16384, 1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩
abbrev S262144x128 : Shape := ⟨2, ![262144, 128]⟩

abbrev nBuf : Space → Nat
  | .hbm => 33
  | .vmem => 0
  | .smem => 0
  | _ => 0

abbrev bufTy : (tb : Table) → Fin (tcTables nBuf tb) → BufTy
  | .hbm, ⟨0, _⟩ => ⟨S2x1024x16384, .bf16⟩
  | .hbm, ⟨1, _⟩ => ⟨S2x1024x16384, .bf16⟩
  | .hbm, ⟨2, _⟩ => ⟨S32768x1024, .f32⟩
  | .hbm, ⟨3, _⟩ => ⟨S1024x1024, .f32⟩
  | .hbm, ⟨4, _⟩ => ⟨S1024, .f32⟩
  | .hbm, ⟨5, _⟩ => ⟨S1024x4, .f32⟩
  | .hbm, ⟨6, _⟩ => ⟨S4, .f32⟩
  | .hbm, ⟨7, _⟩ => ⟨S1024x16, .f32⟩
  | .hbm, ⟨8, _⟩ => ⟨S16, .f32⟩
  | .hbm, ⟨9, _⟩ => ⟨S2x1024x16384, .f32⟩
  | .hbm, ⟨10, _⟩ => ⟨S2x1024x16384, .f32⟩
  | .hbm, ⟨11, _⟩ => ⟨S2x1024x16384, .f32⟩
  | .hbm, ⟨12, _⟩ => ⟨S2x16384x1024, .f32⟩
  | .hbm, ⟨13, _⟩ => ⟨S32768x1024, .f32⟩
  | .hbm, ⟨14, _⟩ => ⟨S32768x1024, .f32⟩
  | .hbm, ⟨15, _⟩ => ⟨S32768x1024, .f32⟩
  | .hbm, ⟨16, _⟩ => ⟨S32768x1024, .f32⟩
  | .hbm, ⟨17, _⟩ => ⟨S_, .f32⟩
  | .hbm, ⟨18, _⟩ => ⟨S32768, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S_, .f32⟩
  | .hbm, ⟨24, _⟩ => ⟨S32768x1, .f32⟩
  | .hbm, ⟨25, _⟩ => ⟨S32768x1, .f32⟩
  | .hbm, ⟨26, _⟩ => ⟨S32768x1, .f32⟩
  | .hbm, ⟨27, _⟩ => ⟨S32768x1024, .f32⟩
  | .hbm, ⟨28, _⟩ => ⟨S32768x1024, .f32⟩
  | .hbm, ⟨29, _⟩ => ⟨S1x1024, .f32⟩
  | .hbm, ⟨30, _⟩ => ⟨S32768x1024, .f32⟩
  | .hbm, ⟨31, _⟩ => ⟨S32768x1024, .f32⟩
  | .hbm, ⟨32, _⟩ => ⟨S262144x128, .f32⟩
  | _, _ => ⟨S2x1024x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]
-- ==== Proof.Body.lean ====
/- What one tile's body does to its buffers: the two cases of the tile's validity word, each run once. -/
module

public import proofs.«01_k».proof.Proof.Gen.KernelIdeal.Skeleton
public import proofs.«01_k».proof.Proof.Gen.KernelIdeal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The four tables as the body is handed them: the lower expert, the higher expert, the group and the validity of
    each tile. -/
abbrev tbLo : Memref sig .tc .smem S152 .i32 := Memref.whole main_v23
abbrev tbHi : Memref sig .tc .smem S152 .i32 := Memref.whole main_v33
abbrev tbGrp : Memref sig .tc .smem S152 .i32 := Memref.whole main_v12
abbrev tbVal : Memref sig .tc .smem S152 .i32 := Memref.whole main_arg2

/-- The word that the body reads of the validity table at tile `i`. -/
abbrev validWord (i : grid0.Coords) (T : S152.Idx → Elt F .i32) : Elt F .i32 :=
  View.readAt (Elt F) tbVal.view (Rect.unit (s := S152) (k0_off1 i) S1.size (k0_off1_inb i)).toLoadRect T
    (Shape.Idx.first (numel1_S1.symm ▸ Nat.one_pos))
abbrev validWord' (i : grid0.Coords) (T : S152.Idx → Elt F .i32) : Elt F .i32 :=
  View.readAt (Elt F) tbVal.view (Rect.unit (s := S152) (k0_off2 i) S1.size (k0_off2_inb i)).toLoadRect T
    (Shape.Idx.first (numel1_S1.symm ▸ Nat.one_pos))

set_option backward.proofsInPublic true in
set_option maxHeartbeats 8000000 in
/-- A tile that holds no token: the body stores zeros over the whole output block. -/
noncomputable def runEmpty (c : Dev nD) (i : grid0.Coords)
    (arg5 : Memref sig .tc .vmem S2048x128 .f32) (harg5 : arg5.IsWhole) (arg6 : Memref sig .tc .vmem S1024x128 .bf16) (harg6 : arg6.IsWhole)
    (arg7 : Memref sig .tc .vmem S1x128 .f32) (harg7 : arg7.IsWhole) (arg8 : Memref sig .tc .vmem S1x1024x512 .bf16) (harg8 : arg8.IsWhole)
    (arg9 : Memref sig .tc .vmem S1x1024x512 .bf16) (harg9 : arg9.IsWhole) (arg10 : Memref sig .tc .vmem S1x512x1024 .bf16) (harg10 : arg10.IsWhole)
    (arg11 : Memref sig .tc .vmem S1x1024x512 .bf16) (harg11 : arg11.IsWhole) (arg12 : Memref sig .tc .vmem S1x1024x512 .bf16) (harg12 : arg12.IsWhole)
    (arg13 : Memref sig .tc .vmem S1x512x1024 .bf16) (harg13 : arg13.IsWhole) (arg14 : Memref sig .tc .vmem S2048x128 .f32) (harg14 : arg14.IsWhole)
    (T3 : S152.Idx → Elt F .i32)
    (k0_h1 : k0_cond1 (validWord i T3) = 1#1) (k0_h2 : ¬(k0_cond2 (validWord' i T3) = 1#1)) :
    { out0 : List (View.Piece (Elt F) S2048x128 .f32) //
      ∀ (K : PUnit → sProp 𝕄),
        iprop((tbVal.view.loc (c : Thread nD τ) ↦{fullShare.right} T3)
          ∗ (∃ d, owns (c : Thread nD τ) arg14 fullShare d)
          ∗ (iprop((tbVal.view.loc (c : Thread nD τ) ↦{fullShare.right} T3)
              ∗ (∃ f, arg14.view.loc (c : Thread nD τ) ↦[arg14.view.set]{fullShare} arg14.view.writes (Elt F) f out0)) -∗ K ⟨⟩))
          ⊢ wp frame (wpE (defs₀ (F := F)) Variants.none c none) Set.univ
              (cc0_moe_experts i tbLo (Memref.isWhole_whole _) tbHi (Memref.isWhole_whole _) tbGrp (Memref.isWhole_whole _) tbVal (Memref.isWhole_whole _)
                arg5 harg5 arg6 harg6 arg7 harg7 arg8 harg8 arg9 harg9 arg10 harg10 arg11 harg11 arg12 harg12 arg13 harg13 arg14 harg14) K } :=
  ⟨_, fun K => by
    unfold owns
    rw [cc0_moe_experts_eq_skeleton]; unfold cc0_moe_experts_skel
    iintro ⟨HT3, ⟨%d1, %f1, -, HO1⟩, Hk⟩
    have hT3 : tbVal.IsWhole := Memref.isWhole_whole _
    sl_exec! (disch := first | (guard_target = k0_cond1 _ = _; exact k0_h1) | (guard_target = ¬(k0_cond2 _ = _); exact k0_h2))
    sl_step
    iapply Hk
    isplitl [HT3]; · iexact HT3
    iexists _; iexact HO1⟩

/-- What it leaves: zeros. -/
theorem runEmpty_canon (c : Dev nD) (i : grid0.Coords)
    (arg5 : Memref sig .tc .vmem S2048x128 .f32) (harg5 : arg5.IsWhole) (arg6 : Memref sig .tc .vmem S1024x128 .bf16) (harg6 : arg6.IsWhole)
    (arg7 : Memref sig .tc .vmem S1x128 .f32) (harg7 : arg7.IsWhole) (arg8 : Memref sig .tc .vmem S1x1024x512 .bf16) (harg8 : arg8.IsWhole)
    (arg9 : Memref sig .tc .vmem S1x1024x512 .bf16) (harg9 : arg9.IsWhole) (arg10 : Memref sig .tc .vmem S1x512x1024 .bf16) (harg10 : arg10.IsWhole)
    (arg11 : Memref sig .tc .vmem S1x1024x512 .bf16) (harg11 : arg11.IsWhole) (arg12 : Memref sig .tc .vmem S1x1024x512 .bf16) (harg12 : arg12.IsWhole)
    (arg13 : Memref sig .tc .vmem S1x512x1024 .bf16) (harg13 : arg13.IsWhole) (arg14 : Memref sig .tc .vmem S2048x128 .f32) (harg14 : arg14.IsWhole)
    (T3 : S152.Idx → Elt F .i32)
    (k0_h1 : k0_cond1 (validWord i T3) = 1#1) (k0_h2 : ¬(k0_cond2 (validWord' i T3) = 1#1)) :
    (runEmpty (F := F) c i arg5 harg5 arg6 harg6 arg7 harg7 arg8 harg8 arg9 harg9 arg10 harg10 arg11 harg11 arg12 harg12 arg13 harg13 arg14 harg14 T3 k0_h1 k0_h2).1
      = [⟨Rect.unit (s := S2048x128) ![0, 0] S2048x128.size inb_S2048x128_S2048x128_0_0, k0_pay1 (F := F)⟩] := rfl

end Cert.Proof

end
-- ==== Proof.BodyFull.lean ====
/- The run of one tile that holds tokens. -/
module

public import proofs.«01_k».proof.Proof.Body
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option backward.proofsInPublic true in
set_option maxHeartbeats 16000000 in
/-- A tile that holds tokens: the body reads every window and the tables' words and stores the eight lane slices of the
    tile's result at stride eight. -/
noncomputable def runFull (c : Dev nD) (i : grid0.Coords)
    (arg5 : Memref sig .tc .vmem S2048x128 .f32) (harg5 : arg5.IsWhole) (arg6 : Memref sig .tc .vmem S1024x128 .bf16) (harg6 : arg6.IsWhole)
    (arg7 : Memref sig .tc .vmem S1x128 .f32) (harg7 : arg7.IsWhole) (arg8 : Memref sig .tc .vmem S1x1024x512 .bf16) (harg8 : arg8.IsWhole)
    (arg9 : Memref sig .tc .vmem S1x1024x512 .bf16) (harg9 : arg9.IsWhole) (arg10 : Memref sig .tc .vmem S1x512x1024 .bf16) (harg10 : arg10.IsWhole)
    (arg11 : Memref sig .tc .vmem S1x1024x512 .bf16) (harg11 : arg11.IsWhole) (arg12 : Memref sig .tc .vmem S1x1024x512 .bf16) (harg12 : arg12.IsWhole)
    (arg13 : Memref sig .tc .vmem S1x512x1024 .bf16) (harg13 : arg13.IsWhole) (arg14 : Memref sig .tc .vmem S2048x128 .f32) (harg14 : arg14.IsWhole)
    (T0 T1 T2 T3 : S152.Idx → Elt F .i32)
    (x5 : S2048x128.Idx → Elt F .f32) (x6 : S1024x128.Idx → Elt F .bf16) (x7 : S1x128.Idx → Elt F .f32) (x8 : S1x1024x512.Idx → Elt F .bf16) (x9 : S1x1024x512.Idx → Elt F .bf16) (x10 : S1x512x1024.Idx → Elt F .bf16) (x11 : S1x1024x512.Idx → Elt F .bf16) (x12 : S1x1024x512.Idx → Elt F .bf16) (x13 : S1x512x1024.Idx → Elt F .bf16)
    (k0_h1 : ¬(k0_cond1 (validWord i T3) = 1#1)) (k0_h2 : k0_cond2 (validWord' i T3) = 1#1) :
    { out0 : List (View.Piece (Elt F) S2048x128 .f32) //
      ∀ (K : PUnit → sProp 𝕄),
        iprop((arg5.view.loc (c : Thread nD τ) ↦[arg5.view.set]{fullShare} arg5.view.rep x5)
          ∗ (arg6.view.loc (c : Thread nD τ) ↦[arg6.view.set]{fullShare} arg6.view.rep x6)
          ∗ (arg7.view.loc (c : Thread nD τ) ↦[arg7.view.set]{fullShare} arg7.view.rep x7)
          ∗ (arg8.view.loc (c : Thread nD τ) ↦[arg8.view.set]{fullShare} arg8.view.rep x8)
          ∗ (arg9.view.loc (c : Thread nD τ) ↦[arg9.view.set]{fullShare} arg9.view.rep x9)
          ∗ (arg10.view.loc (c : Thread nD τ) ↦[arg10.view.set]{fullShare} arg10.view.rep x10)
          ∗ (arg11.view.loc (c : Thread nD τ) ↦[arg11.view.set]{fullShare} arg11.view.rep x11)
          ∗ (arg12.view.loc (c : Thread nD τ) ↦[arg12.view.set]{fullShare} arg12.view.rep x12)
          ∗ (arg13.view.loc (c : Thread nD τ) ↦[arg13.view.set]{fullShare} arg13.view.rep x13)
          ∗ (tbLo.view.loc (c : Thread nD τ) ↦{fullShare.right} T0)
          ∗ (tbHi.view.loc (c : Thread nD τ) ↦{fullShare.right} T1)
          ∗ (tbGrp.view.loc (c : Thread nD τ) ↦{fullShare.right} T2)
          ∗ (tbVal.view.loc (c : Thread nD τ) ↦{fullShare.right} T3)
          ∗ (∃ d, owns (c : Thread nD τ) arg14 fullShare d)
          ∗ (iprop((arg5.view.loc (c : Thread nD τ) ↦[arg5.view.set]{fullShare} arg5.view.rep x5)
          ∗ (arg6.view.loc (c : Thread nD τ) ↦[arg6.view.set]{fullShare} arg6.view.rep x6)
          ∗ (arg7.view.loc (c : Thread nD τ) ↦[arg7.view.set]{fullShare} arg7.view.rep x7)
          ∗ (arg8.view.loc (c : Thread nD τ) ↦[arg8.view.set]{fullShare} arg8.view.rep x8)
          ∗ (arg9.view.loc (c : Thread nD τ) ↦[arg9.view.set]{fullShare} arg9.view.rep x9)
          ∗ (arg10.view.loc (c : Thread nD τ) ↦[arg10.view.set]{fullShare} arg10.view.rep x10)
          ∗ (arg11.view.loc (c : Thread nD τ) ↦[arg11.view.set]{fullShare} arg11.view.rep x11)
          ∗ (arg12.view.loc (c : Thread nD τ) ↦[arg12.view.set]{fullShare} arg12.view.rep x12)
          ∗ (arg13.view.loc (c : Thread nD τ) ↦[arg13.view.set]{fullShare} arg13.view.rep x13)
          ∗ (tbLo.view.loc (c : Thread nD τ) ↦{fullShare.right} T0)
          ∗ (tbHi.view.loc (c : Thread nD τ) ↦{fullShare.right} T1)
          ∗ (tbGrp.view.loc (c : Thread nD τ) ↦{fullShare.right} T2)
          ∗ (tbVal.view.loc (c : Thread nD τ) ↦{fullShare.right} T3)
          ∗ (∃ f, arg14.view.loc (c : Thread nD τ) ↦[arg14.view.set]{fullShare} arg14.view.writes (Elt F) f out0)) -∗ K ⟨⟩))
          ⊢ wp frame (wpE (defs₀ (F := F)) Variants.none c none) Set.univ
              (cc0_moe_experts i tbLo (Memref.isWhole_whole _) tbHi (Memref.isWhole_whole _) tbGrp (Memref.isWhole_whole _) tbVal (Memref.isWhole_whole _)
                arg5 harg5 arg6 harg6 arg7 harg7 arg8 harg8 arg9 harg9 arg10 harg10 arg11 harg11 arg12 harg12 arg13 harg13 arg14 harg14) K } :=
  ⟨_, fun K => by
    unfold owns
    rw [cc0_moe_experts_eq_skeleton]; unfold cc0_moe_experts_skel
    iintro ⟨H5, H6, H7, H8, H9, H10, H11, H12, H13, HT0, HT1, HT2, HT3, ⟨%d1, %f1, -, HO1⟩, Hk⟩
    have hT0 : tbLo.IsWhole := Memref.isWhole_whole _
    have hT1 : tbHi.IsWhole := Memref.isWhole_whole _
    have hT2 : tbGrp.IsWhole := Memref.isWhole_whole _
    have hT3 : tbVal.IsWhole := Memref.isWhole_whole _
    sl_exec! (disch := first | (guard_target = ¬(k0_cond1 _ = _); exact k0_h1) | (guard_target = k0_cond2 _ = _; exact k0_h2))
    sl_step
    iapply Hk
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [HT0]; · iexact HT0
    isplitl [HT1]; · iexact HT1
    isplitl [HT2]; · iexact HT2
    isplitl [HT3]; · iexact HT3
    iexists _; iexact HO1⟩

end Cert.Proof

end
-- ==== Proof.BodyFullValue.lean ====
/- What the run of a tile that holds tokens leaves in the output block. -/
module

public import proofs.«01_k».proof.Proof.BodyFull
public import Idealize.ShloMosaic.Lib.VecWindow
public import Idealize.ShloMosaic.Lib.ValueIdxCore
public import Idealize.ShloMosaic.Lib.Pipeline.Value
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The tile's result as the body computes it, from the eight lane slices of the tokens, the router's parameters, the
    tile's group and two experts, and the two experts' weights. -/
def tileY (v10 v11 v12 v13 v14 v15 v16 v17 : Vec F S256x128 .f32) (v20 : Vec F S1024x128 .bf16) (v23 : Vec F S1x128 .f32) (v28 v30 v32 : Elt F .i32)
    (v101 v104 : Vec F S1x1024x512 .bf16) (v119 : Vec F S1x512x1024 .bf16) (v122 v125 : Vec F S1x1024x512 .bf16)
    (v140 : Vec F S1x512x1024 .bf16) : FVec F S256x1024 .f32 :=
  let v19 := k0_pay3 v10 v11 v12 v13 v14 v15 v16 v17
  let v26 := k0_pay4 v10 v11 v12 v13 v14 v15 v16 v17 v20 v23
  let v33 : IVec S256x128 32 := iota .tc S256x128 32 [1] iota_S256x128_d1_w32
  let v39 := k0_pay6 v10 v11 v12 v13 v14 v15 v16 v17 v20 v23
  let v44 := k0_pay7 v10 v11 v12 v13 v14 v15 v16 v17 v20 v23
  let v55 := k0_pay8 v26 v28 v33 v39 v44
  let v67 := k0_pay10 v26 v28 v33
  let v74 := k0_pay11 v26 v28 v33
  let v84 := k0_pay12 v26 v28 v30 v33
  let v89 := k0_pay13 v26 v32 v33
  k0_pay19 v19 (k0_pay15 v55 v67 v74 v84 v89) (k0_pay16 v19 v55 v67 v74 v84 v89 v101 v104 v119) (k0_pay17 v19 v122) (k0_pay18 v125) v140

/-- The word that the body reads of a table at tile `i`. -/
abbrev tileWord (tb : Memref sig .tc .smem S152 .i32) (i : grid0.Coords) (T : tb.view.ty.Contents (Elt F)) : Elt F .i32 :=
  View.readAt (Elt F) tb.view (Rect.unit (s := S152) (k0_off3 i) S1.size (k0_off3_inb i)).toLoadRect T
    (Shape.Idx.first (numel1_S1.symm ▸ Nat.one_pos))

/-- The rows `8 r + k` of a block. -/
abbrev lanes (k : Nat) (h : ∀ a, S256x128.size a = 0 ∨ (![k, 0] : Fin 2 → Nat) a + (![8, 1] : Fin 2 → Nat) a * (S256x128.size a - 1) < S2048x128.size a) : LoadRect S2048x128 :=
  ⟨![k, 0], S256x128.size, ![8, 1], h⟩

/-- The eight pieces in which the body stores a tile's result: piece `k` holds lanes `128 k …` in the rows `8 r + k`. -/
def outPieces (Y : FVec F S256x1024 .f32) : List (View.Piece (Elt F) S2048x128 .f32) :=
  [   ⟨⟨lanes 7 inb_S2048x128_S256x128_7_0_s_8_1, spos_8_1⟩, extractStridedSlice S256x128 ![0, 896] Y slices_S256x1024_o0_896_S256x128⟩,
      ⟨⟨lanes 6 inb_S2048x128_S256x128_6_0_s_8_1, spos_8_1⟩, extractStridedSlice S256x128 ![0, 768] Y slices_S256x1024_o0_768_S256x128⟩,
      ⟨⟨lanes 5 inb_S2048x128_S256x128_5_0_s_8_1, spos_8_1⟩, extractStridedSlice S256x128 ![0, 640] Y slices_S256x1024_o0_640_S256x128⟩,
      ⟨⟨lanes 4 inb_S2048x128_S256x128_4_0_s_8_1, spos_8_1⟩, extractStridedSlice S256x128 ![0, 512] Y slices_S256x1024_o0_512_S256x128⟩,
      ⟨⟨lanes 3 inb_S2048x128_S256x128_3_0_s_8_1, spos_8_1⟩, extractStridedSlice S256x128 ![0, 384] Y slices_S256x1024_o0_384_S256x128⟩,
      ⟨⟨lanes 2 inb_S2048x128_S256x128_2_0_s_8_1, spos_8_1⟩, extractStridedSlice S256x128 ![0, 256] Y slices_S256x1024_o0_256_S256x128⟩,
      ⟨⟨lanes 1 inb_S2048x128_S256x128_1_0_s_8_1, spos_8_1⟩, extractStridedSlice S256x128 ![0, 128] Y slices_S256x1024_o0_128_S256x128⟩,
      ⟨⟨lanes 0 inb_S2048x128_S256x128_0_0_s_8_1, spos_8_1⟩, extractStridedSlice S256x128 ![0, 0] Y slices_S256x1024_o0_0_S256x128⟩]

set_option maxHeartbeats 16000000 in
/-- The run's pieces are those of the tile's result over what its loads read. -/
theorem runFull_pieces_reads (c : Dev nD) (i : grid0.Coords)
    (arg5 : Memref sig .tc .vmem S2048x128 .f32) (harg5 : arg5.IsWhole) (arg6 : Memref sig .tc .vmem S1024x128 .bf16) (harg6 : arg6.IsWhole)
    (arg7 : Memref sig .tc .vmem S1x128 .f32) (harg7 : arg7.IsWhole) (arg8 : Memref sig .tc .vmem S1x1024x512 .bf16) (harg8 : arg8.IsWhole)
    (arg9 : Memref sig .tc .vmem S1x1024x512 .bf16) (harg9 : arg9.IsWhole) (arg10 : Memref sig .tc .vmem S1x512x1024 .bf16) (harg10 : arg10.IsWhole)
    (arg11 : Memref sig .tc .vmem S1x1024x512 .bf16) (harg11 : arg11.IsWhole) (arg12 : Memref sig .tc .vmem S1x1024x512 .bf16) (harg12 : arg12.IsWhole)
    (arg13 : Memref sig .tc .vmem S1x512x1024 .bf16) (harg13 : arg13.IsWhole) (arg14 : Memref sig .tc .vmem S2048x128 .f32) (harg14 : arg14.IsWhole)
    (T0 T1 T2 T3 : S152.Idx → Elt F .i32)
    (x5 : S2048x128.Idx → Elt F .f32) (x6 : S1024x128.Idx → Elt F .bf16) (x7 : S1x128.Idx → Elt F .f32) (x8 : S1x1024x512.Idx → Elt F .bf16) (x9 : S1x1024x512.Idx → Elt F .bf16) (x10 : S1x512x1024.Idx → Elt F .bf16) (x11 : S1x1024x512.Idx → Elt F .bf16) (x12 : S1x1024x512.Idx → Elt F .bf16) (x13 : S1x512x1024.Idx → Elt F .bf16)
    (k0_h1 : ¬(k0_cond1 (validWord i T3) = 1#1)) (k0_h2 : k0_cond2 (validWord' i T3) = 1#1) :
    (runFull (F := F) c i arg5 harg5 arg6 harg6 arg7 harg7 arg8 harg8 arg9 harg9 arg10 harg10 arg11 harg11 arg12 harg12 arg13 harg13 arg14 harg14 T0 T1 T2 T3 x5 x6 x7 x8 x9 x10 x11 x12 x13 k0_h1 k0_h2).1
      = outPieces (tileY (View.readAt (Elt F) arg5.view (lanes 0 inb_S2048x128_S256x128_0_0_s_8_1) (arg5.view.rep x5)) (View.readAt (Elt F) arg5.view (lanes 1 inb_S2048x128_S256x128_1_0_s_8_1) (arg5.view.rep x5)) (View.readAt (Elt F) arg5.view (lanes 2 inb_S2048x128_S256x128_2_0_s_8_1) (arg5.view.rep x5)) (View.readAt (Elt F) arg5.view (lanes 3 inb_S2048x128_S256x128_3_0_s_8_1) (arg5.view.rep x5)) (View.readAt (Elt F) arg5.view (lanes 4 inb_S2048x128_S256x128_4_0_s_8_1) (arg5.view.rep x5)) (View.readAt (Elt F) arg5.view (lanes 5 inb_S2048x128_S256x128_5_0_s_8_1) (arg5.view.rep x5)) (View.readAt (Elt F) arg5.view (lanes 6 inb_S2048x128_S256x128_6_0_s_8_1) (arg5.view.rep x5)) (View.readAt (Elt F) arg5.view (lanes 7 inb_S2048x128_S256x128_7_0_s_8_1) (arg5.view.rep x5)) (View.readAt (Elt F) arg6.view (Rect.unit ![0,0] S1024x128.size inb_S1024x128_S1024x128_0_0).toLoadRect (arg6.view.rep x6)) (View.readAt (Elt F) arg7.view (Rect.unit ![0,0] S1x128.size inb_S1x128_S1x128_0_0).toLoadRect (arg7.view.rep x7)) (tileWord tbGrp i T2) (tileWord tbLo i T0) (tileWord tbHi i T1) (View.readAt (Elt F) arg8.view (Rect.unit ![0,0,0] S1x1024x512.size inb_S1x1024x512_S1x1024x512_0_0_0).toLoadRect (arg8.view.rep x8)) (View.readAt (Elt F) arg9.view (Rect.unit ![0,0,0] S1x1024x512.size inb_S1x1024x512_S1x1024x512_0_0_0).toLoadRect (arg9.view.rep x9)) (View.readAt (Elt F) arg10.view (Rect.unit ![0,0,0] S1x512x1024.size inb_S1x512x1024_S1x512x1024_0_0_0).toLoadRect (arg10.view.rep x10)) (View.readAt (Elt F) arg11.view (Rect.unit ![0,0,0] S1x1024x512.size inb_S1x1024x512_S1x1024x512_0_0_0).toLoadRect (arg11.view.rep x11)) (View.readAt (Elt F) arg12.view (Rect.unit ![0,0,0] S1x1024x512.size inb_S1x1024x512_S1x1024x512_0_0_0).toLoadRect (arg12.view.rep x12)) (View.readAt (Elt F) arg13.view (Rect.unit ![0,0,0] S1x512x1024.size inb_S1x512x1024_S1x512x1024_0_0_0).toLoadRect (arg13.view.rep x13))) := by
  unfold runFull
  dsimp only
  unfold outPieces tileY
  dsimp only
  simp only [runFull.sl.r_1, runFull.sl.r_2, runFull.sl.r_3, runFull.sl.r_4, runFull.sl.r_5, runFull.sl.r_6, runFull.sl.r_7, runFull.sl.r_8, runFull.sl.r_9, runFull.sl.r_10, runFull.sl.r_11, runFull.sl.r_12, runFull.sl.r_13, runFull.sl.r_14, runFull.sl.r_15, runFull.sl.r_16, runFull.sl.r_17, runFull.sl.v33, k0_pay2, k0_pay20, k0_pay21, k0_pay22, k0_pay23, k0_pay24, k0_pay25, k0_pay26]
  rfl

set_option maxHeartbeats 16000000 in
/-- The run's pieces are those of the tile's result over the blocks' contents. -/
theorem runFull_pieces (c : Dev nD) (i : grid0.Coords)
    (arg5 : Memref sig .tc .vmem S2048x128 .f32) (harg5 : arg5.IsWhole) (arg6 : Memref sig .tc .vmem S1024x128 .bf16) (harg6 : arg6.IsWhole)
    (arg7 : Memref sig .tc .vmem S1x128 .f32) (harg7 : arg7.IsWhole) (arg8 : Memref sig .tc .vmem S1x1024x512 .bf16) (harg8 : arg8.IsWhole)
    (arg9 : Memref sig .tc .vmem S1x1024x512 .bf16) (harg9 : arg9.IsWhole) (arg10 : Memref sig .tc .vmem S1x512x1024 .bf16) (harg10 : arg10.IsWhole)
    (arg11 : Memref sig .tc .vmem S1x1024x512 .bf16) (harg11 : arg11.IsWhole) (arg12 : Memref sig .tc .vmem S1x1024x512 .bf16) (harg12 : arg12.IsWhole)
    (arg13 : Memref sig .tc .vmem S1x512x1024 .bf16) (harg13 : arg13.IsWhole) (arg14 : Memref sig .tc .vmem S2048x128 .f32) (harg14 : arg14.IsWhole)
    (T0 T1 T2 T3 : S152.Idx → Elt F .i32)
    (x5 : S2048x128.Idx → Elt F .f32) (x6 : S1024x128.Idx → Elt F .bf16) (x7 : S1x128.Idx → Elt F .f32) (x8 : S1x1024x512.Idx → Elt F .bf16) (x9 : S1x1024x512.Idx → Elt F .bf16) (x10 : S1x512x1024.Idx → Elt F .bf16) (x11 : S1x1024x512.Idx → Elt F .bf16) (x12 : S1x1024x512.Idx → Elt F .bf16) (x13 : S1x512x1024.Idx → Elt F .bf16)
    (k0_h1 : ¬(k0_cond1 (validWord i T3) = 1#1)) (k0_h2 : k0_cond2 (validWord' i T3) = 1#1) :
    (runFull (F := F) c i arg5 harg5 arg6 harg6 arg7 harg7 arg8 harg8 arg9 harg9 arg10 harg10 arg11 harg11 arg12 harg12 arg13 harg13 arg14 harg14 T0 T1 T2 T3 x5 x6 x7 x8 x9 x10 x11 x12 x13 k0_h1 k0_h2).1
      = outPieces (tileY (fun y => x5 ((lanes 0 inb_S2048x128_S256x128_0_0_s_8_1).idx y)) (fun y => x5 ((lanes 1 inb_S2048x128_S256x128_1_0_s_8_1).idx y)) (fun y => x5 ((lanes 2 inb_S2048x128_S256x128_2_0_s_8_1).idx y)) (fun y => x5 ((lanes 3 inb_S2048x128_S256x128_3_0_s_8_1).idx y)) (fun y => x5 ((lanes 4 inb_S2048x128_S256x128_4_0_s_8_1).idx y)) (fun y => x5 ((lanes 5 inb_S2048x128_S256x128_5_0_s_8_1).idx y)) (fun y => x5 ((lanes 6 inb_S2048x128_S256x128_6_0_s_8_1).idx y)) (fun y => x5 ((lanes 7 inb_S2048x128_S256x128_7_0_s_8_1).idx y)) x6 x7 (tileWord tbGrp i T2) (tileWord tbLo i T0) (tileWord tbHi i T1) x8 x9 x10 x11 x12 x13) := by
  rw [runFull_pieces_reads]
  have hr : ∀ k h, View.readAt (Elt F) arg5.view (lanes k h) (arg5.view.rep x5) = fun y => x5 ((lanes k h).idx y) :=
    fun k h => View.readAt_rep _ _ _
  have h6 := View.readAt_rep_full (Val := Elt F) arg6.view x6 (off := ![0, 0]) inb_S1024x128_S1024x128_0_0
  have h7 := View.readAt_rep_full (Val := Elt F) arg7.view x7 (off := ![0, 0]) inb_S1x128_S1x128_0_0
  have h8 := View.readAt_rep_full (Val := Elt F) arg8.view x8 (off := ![0, 0, 0]) inb_S1x1024x512_S1x1024x512_0_0_0
  have h9 := View.readAt_rep_full (Val := Elt F) arg9.view x9 (off := ![0, 0, 0]) inb_S1x1024x512_S1x1024x512_0_0_0
  have h10 := View.readAt_rep_full (Val := Elt F) arg10.view x10 (off := ![0, 0, 0]) inb_S1x512x1024_S1x512x1024_0_0_0
  have h11 := View.readAt_rep_full (Val := Elt F) arg11.view x11 (off := ![0, 0, 0]) inb_S1x1024x512_S1x1024x512_0_0_0
  have h12 := View.readAt_rep_full (Val := Elt F) arg12.view x12 (off := ![0, 0, 0]) inb_S1x1024x512_S1x1024x512_0_0_0
  have h13 := View.readAt_rep_full (Val := Elt F) arg13.view x13 (off := ![0, 0, 0]) inb_S1x512x1024_S1x512x1024_0_0_0
  rw [hr, hr, hr, hr, hr, hr, hr, hr, h6, h7, h8, h9, h10, h11, h12, h13]

/-- A tile's result laid out as the output block is: row `8 r + k` holds the lanes `128 k …` of token `r`. -/
def blockOf (Y : FVec F S256x1024 .f32) : S2048x128.Idx → Elt F .f32 := fun j =>
  Y (ValueIdx.ix2 ⟨(j 0).val / 8, by have : (j 0).val < 2048 := (j 0).isLt; omega⟩
    ⟨(j 0).val % 8 * 128 + (j 1).val, by have : (j 1).val < 128 := (j 1).isLt; omega⟩)

theorem lanes_idx0 (k : Nat) (h : ∀ a, S256x128.size a = 0 ∨ (![k, 0] : Fin 2 → Nat) a + (![8, 1] : Fin 2 → Nat) a * (S256x128.size a - 1) < S2048x128.size a)
    (y : S256x128.Idx) : (((lanes k h).idx y) 0).val = k + 8 * (y 0).val := rfl

theorem lanes_idx1 (k : Nat) (h : ∀ a, S256x128.size a = 0 ∨ (![k, 0] : Fin 2 → Nat) a + (![8, 1] : Fin 2 → Nat) a * (S256x128.size a - 1) < S2048x128.size a)
    (y : S256x128.Idx) : (((lanes k h).idx y) 1).val = (y 1).val := by
  show 0 + 1 * (y 1).val = _
  omega

/-- One piece agrees with the layout. -/
theorem piece_apply (Y : FVec F S256x1024 .f32) (k : Nat) (hk : k < 8)
    (h : ∀ a, S256x128.size a = 0 ∨ (![k, 0] : Fin 2 → Nat) a + (![8, 1] : Fin 2 → Nat) a * (S256x128.size a - 1) < S2048x128.size a)
    (hs : S256x1024.Slices ![0, 128 * k] S256x128) (y : S256x128.Idx) :
    extractStridedSlice S256x128 ![0, 128 * k] Y hs y = blockOf Y ((lanes k h).idx y) := by
  unfold blockOf
  refine congrArg Y ?_
  have h0 := lanes_idx0 k h y
  have h1 := lanes_idx1 k h y
  funext a
  apply Fin.ext
  fin_cases a
  · show 0 + (y 0).val = (((lanes k h).idx y) 0).val / 8
    omega
  · show 128 * k + (y 1).val = (((lanes k h).idx y) 0).val % 8 * 128 + (((lanes k h).idx y) 1).val
    omega

/-- An index of the block lies in the piece that its row names. -/
theorem mem_piece (k : Nat) (hp : ∀ a, 0 < (![8, 1] : Fin 2 → Nat) a) (h : ∀ a, S256x128.size a = 0 ∨ (![k, 0] : Fin 2 → Nat) a + (![8, 1] : Fin 2 → Nat) a * (S256x128.size a - 1) < S2048x128.size a)
    (j : S2048x128.Idx) (hj : (j 0).val % 8 = k) : j ∈ (⟨lanes k h, hp⟩ : Rect S2048x128).set := by
  have hj0 : (j 0).val < 2048 := (j 0).isLt
  have hm := (⟨lanes k h, hp⟩ : Rect S2048x128).map_emb_univ ▸ Finset.mem_map_of_mem (⟨lanes k h, hp⟩ : Rect S2048x128).emb (Finset.mem_univ (ValueIdx.ix2 ⟨(j 0).val / 8, by omega⟩ (j 1) : S256x128.Idx))
  have e : (lanes k h).idx (ValueIdx.ix2 ⟨(j 0).val / 8, by omega⟩ (j 1) : S256x128.Idx) = j := by
    funext a
    apply Fin.ext
    fin_cases a
    · have := lanes_idx0 k h (ValueIdx.ix2 ⟨(j 0).val / 8, by omega⟩ (j 1) : S256x128.Idx)
      refine this.trans ?_
      show k + 8 * ((j 0).val / 8) = (j 0).val
      omega
    · exact lanes_idx1 k h (ValueIdx.ix2 ⟨(j 0).val / 8, by omega⟩ (j 1) : S256x128.Idx)
  rw [← e]
  exact hm

/-- Every index of the block is stored by a piece. -/
theorem outPieces_cover (Y : FVec F S256x1024 .f32) (j : S2048x128.Idx) : ∃ p ∈ outPieces Y, j ∈ p.1.set := by
  have hk : (j 0).val % 8 < 8 := Nat.mod_lt _ (by decide)
  unfold outPieces
  rcases (by omega : (j 0).val % 8 = 0 ∨ (j 0).val % 8 = 1 ∨ (j 0).val % 8 = 2 ∨ (j 0).val % 8 = 3 ∨ (j 0).val % 8 = 4 ∨ (j 0).val % 8 = 5
    ∨ (j 0).val % 8 = 6 ∨ (j 0).val % 8 = 7) with e | e | e | e | e | e | e | e
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_piece 0 _ _ j e⟩
  · exact ⟨_, List.mem_cons_of_mem _ (List.mem_cons_of_mem _ (List.mem_cons_of_mem _ (List.mem_cons_of_mem _ (List.mem_cons_of_mem _ (List.mem_cons_of_mem _ (List.mem_cons_self)))))), mem_piece 1 _ _ j e⟩
  · exact ⟨_, List.mem_cons_of_mem _ (List.mem_cons_of_mem _ (List.mem_cons_of_mem _ (List.mem_cons_of_mem _ (List.mem_cons_of_mem _ (List.mem_cons_self))))), mem_piece 2 _ _ j e⟩
  · exact ⟨_, List.mem_cons_of_mem _ (List.mem_cons_of_mem _ (List.mem_cons_of_mem _ (List.mem_cons_of_mem _ (List.mem_cons_self)))), mem_piece 3 _ _ j e⟩
  · exact ⟨_, List.mem_cons_of_mem _ (List.mem_cons_of_mem _ (List.mem_cons_of_mem _ (List.mem_cons_self))), mem_piece 4 _ _ j e⟩
  · exact ⟨_, List.mem_cons_of_mem _ (List.mem_cons_of_mem _ (List.mem_cons_self)), mem_piece 5 _ _ j e⟩
  · exact ⟨_, List.mem_cons_of_mem _ (List.mem_cons_self), mem_piece 6 _ _ j e⟩
  · exact ⟨_, List.mem_cons_self, mem_piece 7 _ _ j e⟩

/-- Put together the pieces are the layout of the tile's result. -/
theorem outPieces_canon (Y : FVec F S256x1024 .f32) : View.canon (outPieces Y) = blockOf Y := by
  funext j
  refine View.canon_apply_of_pieces (blockOf Y) _ ?_ j (outPieces_cover Y j)
  intro p hp
  unfold outPieces at hp
  rcases List.mem_cons.mp hp with rfl | hp
  · exact fun y => piece_apply Y 7 (by decide) inb_S2048x128_S256x128_7_0_s_8_1 slices_S256x1024_o0_896_S256x128 y
  rcases List.mem_cons.mp hp with rfl | hp
  · exact fun y => piece_apply Y 6 (by decide) inb_S2048x128_S256x128_6_0_s_8_1 slices_S256x1024_o0_768_S256x128 y
  rcases List.mem_cons.mp hp with rfl | hp
  · exact fun y => piece_apply Y 5 (by decide) inb_S2048x128_S256x128_5_0_s_8_1 slices_S256x1024_o0_640_S256x128 y
  rcases List.mem_cons.mp hp with rfl | hp
  · exact fun y => piece_apply Y 4 (by decide) inb_S2048x128_S256x128_4_0_s_8_1 slices_S256x1024_o0_512_S256x128 y
  rcases List.mem_cons.mp hp with rfl | hp
  · exact fun y => piece_apply Y 3 (by decide) inb_S2048x128_S256x128_3_0_s_8_1 slices_S256x1024_o0_384_S256x128 y
  rcases List.mem_cons.mp hp with rfl | hp
  · exact fun y => piece_apply Y 2 (by decide) inb_S2048x128_S256x128_2_0_s_8_1 slices_S256x1024_o0_256_S256x128 y
  rcases List.mem_cons.mp hp with rfl | hp
  · exact fun y => piece_apply Y 1 (by decide) inb_S2048x128_S256x128_1_0_s_8_1 slices_S256x1024_o0_128_S256x128 y
  rcases List.mem_cons.mp hp with rfl | hp
  · exact fun y => piece_apply Y 0 (by decide) inb_S2048x128_S256x128_0_0_s_8_1 slices_S256x1024_o0_0_S256x128 y
  · cases hp

end Cert.Proof

end
-- ==== Proof.Host.lean ====
/- What the operations before the call leave in the arrays and the tables that the call reads. -/
module

public import proofs.«01_k».proof.Proof.Gen.KernelIdeal.Launch
public import Idealize.ShloMosaic.Lib.StableHlo.RunRead
public import Idealize.ShloMosaic.Lib.StableHlo.Run
public import Idealize.ShloMosaic.Lib.StableHlo.Predicate
public import Idealize.ShloMosaic.Lib.Claim
public import Idealize.ShloMosaic.Lib.Tactic
public import Idealize.ShloMosaic.Init

@[expose] public section

set_option maxRecDepth 16384

noncomputable section

namespace Cert.Proof

open Cert.KernelIdeal Cert.KernelIdeal.Gen
open Idealize.ShloMosaic
open Idealize.ShloMosaic.TcCoe

variable {F : FTy → Type} [FloatOps F]

/-- The stretches of operations that run before the call. -/
abbrev stretches : List (List (HloOp τ sig (Elt F))) :=
  [hostOps0, hostOps0_1, hostOps0_2, hostOps0_3, hostOps0_4, hostOps0_5, hostOps0_6, hostOps0_7, hostOps0_8]

/-- A buffer's contents when the call starts, from the contents `W` at the start. -/
abbrev atCall (W : Valuation τ sig (Elt F)) : Valuation τ sig (Elt F) :=
  StableHlo.after stretches.flatten W

/-- The quotient of each word by 6, rounded down, as the operations compute it. -/
def quotTab (T : IVec S152 32) : IVec S152 32 :=
  let six : IVec S152 32 := broadcastInDim S152 ![] bcast_S_S152 (constantI S_ 32 6#32)
  let q : IVec S152 32 := Host.divsi T six
  select (andi (cmpi .ne (signi T) (broadcastInDim S152 ![] bcast_S_S152 (signi (constantI S_ 32 6#32))))
      (cmpi .ne (Host.remsi T six) (broadcastInDim S152 ![] bcast_S_S152 (constantI S_ 32 0#32))))
    (subi q (broadcastInDim S152 ![] bcast_S_S152 (constantI S_ 32 1#32))) q

/-- The remainder of each word by the word `d`, of the divisor's sign, as the operations compute it. -/
def remBy (d : IVec S_ 32) (T : IVec S152 32) : IVec S152 32 :=
  select (andi (cmpi .ne (cmpi .slt (Host.remsi T (broadcastInDim S152 ![] bcast_S_S152 d)) (broadcastInDim S152 ![] bcast_S_S152 (constantI S_ 32 0#32)))
        (broadcastInDim S152 ![] bcast_S_S152 (cmpi .slt d (constantI S_ 32 0#32))))
      (cmpi .ne (Host.remsi T (broadcastInDim S152 ![] bcast_S_S152 d)) (broadcastInDim S152 ![] bcast_S_S152 (constantI S_ 32 0#32))))
    (addi (Host.remsi T (broadcastInDim S152 ![] bcast_S_S152 d)) (broadcastInDim S152 ![] bcast_S_S152 d)) (Host.remsi T (broadcastInDim S152 ![] bcast_S_S152 d))

/-- The remainder by 6. -/
def remTab (T : IVec S152 32) : IVec S152 32 :=
  remBy (select (cmpi .eq (constantI S_ 32 6#32) (constantI S_ 32 0#32)) (constantI S_ 32 1#32) (constantI S_ 32 6#32)) T

/-- Each group times four plus the entry of the literal table `L` that the remainder names. -/
def expertTab (L : S6.Idx → BitVec 32) (T : IVec S152 32) : IVec S152 32 :=
  let r := remTab T
  let start : IVec S152 32 := select (cmpi .slt r (broadcastInDim S152 ![] bcast_S_S152 (constantI S_ 32 0#32)))
    (addi r (broadcastInDim S152 ![] bcast_S_S152 (constantI S_ 32 6#32))) r
  addi (muli (quotTab T) (broadcastInDim S152 ![] bcast_S_S152 (constantI S_ 32 4#32)))
    (Host.gather gather_S6_S152x1_S152_n_0_n_n_0_1_1 L (broadcastInDim S152x1 ![0] bcast_S152_S152x1_0 start))

theorem atCall_v12 (W : Valuation τ sig (Elt F)) :
    atCall W (Proc.devRef .tc main_v12) = quotTab (W (Proc.devRef .tc main_arg1)) := by
  after_reads_simp
  rfl

theorem atCall_v23 (W : Valuation τ sig (Elt F)) :
    atCall W (Proc.devRef .tc main_v23) = expertTab (fun i => lit0 (S6.rowMajor i)) (W (Proc.devRef .tc main_arg1)) := by
  after_reads_simp
  rfl

theorem atCall_v33 (W : Valuation τ sig (Elt F)) :
    atCall W (Proc.devRef .tc main_v33) = expertTab (fun i => lit1 (S6.rowMajor i)) (W (Proc.devRef .tc main_arg1)) := by
  after_reads_simp
  rfl

/-- The router's weights: those of the group and of the expert side by side, padded with zero lanes. -/
def routerW (wg : FVec F S1024x4 .f32) (we : FVec F S1024x16 .f32) : FVec F S1024x128 .bf16 :=
  shapeCast S1024x128 (extractStridedSlice S1x1024x128 ![0, 0, 0]
    (concatenate S2x1024x128 0 [⟨S1x1024x128, broadcastInDim S1x1024x128 ![1, 2] bcast_S1024x128_S1x1024x128_1_2
        (truncf .bf16 (pad S1024x128 ![0, 0] ![0, 108] ![0, 0] (concatenate S1024x20 1 [⟨S1024x4, wg⟩, ⟨S1024x16, we⟩] concatenates_S1024x4_S1024x16_S1024x20_d1)
          (sitofp .f32 (constantI S_ 32 0#32)) pads_S1024x20_S1024x128_000_01080 h_S_) bitsLt_bf16_f32)⟩,
      ⟨S1x1024x128, broadcastInDim S1x1024x128 ![1, 2] bcast_S1024x128_S1x1024x128_1_2
        (truncf .bf16 (subf (pad S1024x128 ![0, 0] ![0, 108] ![0, 0] (concatenate S1024x20 1 [⟨S1024x4, wg⟩, ⟨S1024x16, we⟩] concatenates_S1024x4_S1024x16_S1024x20_d1)
          (sitofp .f32 (constantI S_ 32 0#32)) pads_S1024x20_S1024x128_000_01080 h_S_)
          (extf .f32 (truncf .bf16 (pad S1024x128 ![0, 0] ![0, 108] ![0, 0] (concatenate S1024x20 1 [⟨S1024x4, wg⟩, ⟨S1024x16, we⟩] concatenates_S1024x4_S1024x16_S1024x20_d1)
          (sitofp .f32 (constantI S_ 32 0#32)) pads_S1024x20_S1024x128_000_01080 h_S_) bitsLt_bf16_f32) bitsLt_bf16_f32)) bitsLt_bf16_f32)⟩]
      concatenates_S1x1024x128_S1x1024x128_S2x1024x128_d0) slices_S2x1024x128_S1x1024x128_0_0_0) shapeCasts_S1x1024x128_S1024x128

theorem atCall_v35 (W : Valuation τ sig (Elt F)) :
    atCall W (Proc.devRef .tc main_v35) = routerW (W (Proc.devRef .tc main_arg3)) (W (Proc.devRef .tc main_arg5)) := by
  after_reads_simp
  rfl

/-- The router's biases, side by side, padded with zero lanes. -/
def routerB (bg : FVec F S4 .f32) (be : FVec F S16 .f32) : FVec F S1x128 .f32 :=
  pad S1x128 ![0, 0] ![0, 108] ![0, 0] (broadcastInDim S1x20 ![1] bcast_S20_S1x20_1 (concatenate S20 0 [⟨S4, bg⟩, ⟨S16, be⟩] concatenates_S4_S16_S20_d0))
    (sitofp .f32 (constantI S_ 32 0#32)) pads_S1x20_S1x128_000_01080 h_S_

theorem atCall_v4 (W : Valuation τ sig (Elt F)) :
    atCall W (Proc.devRef .tc main_v4) = routerB (W (Proc.devRef .tc main_arg4)) (W (Proc.devRef .tc main_arg6)) := by
  after_reads_simp
  rfl

theorem atCall_v36 (W : Valuation τ sig (Elt F)) :
    atCall W (Proc.devRef .tc main_v36) = truncf .bf16 (W (Proc.devRef .tc main_arg7) : FVec F S16x1024x512 .f32) bitsLt_bf16_f32 := by
  after_reads_simp

theorem atCall_v37 (W : Valuation τ sig (Elt F)) :
    atCall W (Proc.devRef .tc main_v37) = truncf .bf16 (W (Proc.devRef .tc main_arg8) : FVec F S16x1024x512 .f32) bitsLt_bf16_f32 := by
  after_reads_simp

theorem atCall_v38 (W : Valuation τ sig (Elt F)) :
    atCall W (Proc.devRef .tc main_v38) = truncf .bf16 (W (Proc.devRef .tc main_arg9) : FVec F S16x512x1024 .f32) bitsLt_bf16_f32 := by
  after_reads_simp

theorem atCall_arg0 (W : Valuation τ sig (Elt F)) : atCall W (Proc.devRef .tc main_arg0) = W (Proc.devRef .tc main_arg0) := by
  after_reads_simp

theorem atCall_arg1 (W : Valuation τ sig (Elt F)) : atCall W (Proc.devRef .tc main_arg1) = W (Proc.devRef .tc main_arg1) := by
  after_reads_simp

theorem atCall_arg2 (W : Valuation τ sig (Elt F)) : atCall W (Proc.devRef .tc main_arg2) = W (Proc.devRef .tc main_arg2) := by
  after_reads_simp

theorem atCall_arg3 (W : Valuation τ sig (Elt F)) : atCall W (Proc.devRef .tc main_arg3) = W (Proc.devRef .tc main_arg3) := by
  after_reads_simp

theorem atCall_arg4 (W : Valuation τ sig (Elt F)) : atCall W (Proc.devRef .tc main_arg4) = W (Proc.devRef .tc main_arg4) := by
  after_reads_simp

theorem atCall_arg5 (W : Valuation τ sig (Elt F)) : atCall W (Proc.devRef .tc main_arg5) = W (Proc.devRef .tc main_arg5) := by
  after_reads_simp

theorem atCall_arg6 (W : Valuation τ sig (Elt F)) : atCall W (Proc.devRef .tc main_arg6) = W (Proc.devRef .tc main_arg6) := by
  after_reads_simp

theorem atCall_arg7 (W : Valuation τ sig (Elt F)) : atCall W (Proc.devRef .tc main_arg7) = W (Proc.devRef .tc main_arg7) := by
  after_reads_simp

theorem atCall_arg8 (W : Valuation τ sig (Elt F)) : atCall W (Proc.devRef .tc main_arg8) = W (Proc.devRef .tc main_arg8) := by
  after_reads_simp

theorem atCall_arg9 (W : Valuation τ sig (Elt F)) : atCall W (Proc.devRef .tc main_arg9) = W (Proc.devRef .tc main_arg9) := by
  after_reads_simp

/-! ## The words of the tables -/

/-- The quotient at an index depends on the word there alone. -/
theorem quotTab_apply (T : IVec S152 32) (j : S152.Idx) : quotTab T j = quotTab (fun _ => T j) (Shape.Idx.ofFin ⟨0, by decide⟩) := rfl

/-- The quotient of a tile's word. -/
theorem quotTab_word (T : IVec S152 32) (j : S152.Idx) (k : Nat) (hk : k < 24) (hT : T j = BitVec.ofNat 32 k) :
    quotTab T j = BitVec.ofNat 32 (k / 6) := by
  rw [quotTab_apply, hT]
  have h : ∀ k : Fin 24, quotTab (fun _ => BitVec.ofNat 32 k.val) (Shape.Idx.ofFin ⟨0, by decide⟩) = BitVec.ofNat 32 (k.val / 6) := by decide +kernel
  exact h ⟨k, hk⟩

theorem remBy_apply (d : IVec S_ 32) (T : IVec S152 32) (j : S152.Idx) : remBy d T j = remBy d (fun _ => T j) (Shape.Idx.ofFin ⟨0, by decide⟩) := by
  obtain ⟨w, rfl⟩ : ∃ w, d = fun _ => w :=
    ⟨d (fun a => a.elim0), funext fun x => congrArg d (funext fun a => a.elim0)⟩
  rfl

theorem remTab_apply (T : IVec S152 32) (j : S152.Idx) : remTab T j = remTab (fun _ => T j) (Shape.Idx.ofFin ⟨0, by decide⟩) := remBy_apply _ T j

/-- The remainder of a tile's word. -/
theorem remTab_word (T : IVec S152 32) (j : S152.Idx) (k : Nat) (hk : k < 24) (hT : T j = BitVec.ofNat 32 k) :
    remTab T j = BitVec.ofNat 32 (k % 6) := by
  rw [remTab_apply, hT]
  have h : ∀ k : Fin 24, remTab (fun _ => BitVec.ofNat 32 k.val) (Shape.Idx.ofFin ⟨0, by decide⟩) = BitVec.ofNat 32 (k.val % 6) := by decide +kernel
  exact h ⟨k, hk⟩

/-- A remainder as a start index: six added to it where it is negative. -/
def wrapTab (r : IVec S152 32) : IVec S152 32 :=
  select (cmpi .slt r (broadcastInDim S152 ![] bcast_S_S152 (constantI S_ 32 0#32)))
    (addi r (broadcastInDim S152 ![] bcast_S_S152 (constantI S_ 32 6#32))) r

theorem wrapTab_apply (r : IVec S152 32) (j : S152.Idx) : wrapTab r j = wrapTab (fun _ => r j) (Shape.Idx.ofFin ⟨0, by decide⟩) := rfl

/-- The start index of the lookup, at each tile. -/
def startTab (T : IVec S152 32) : IVec S152 32 := wrapTab (remTab T)

/-- The start index of a tile's lookup is its word's remainder. -/
theorem startTab_word (T : IVec S152 32) (j : S152.Idx) (k : Nat) (hk : k < 24) (hT : T j = BitVec.ofNat 32 k) :
    startTab T j = BitVec.ofNat 32 (k % 6) := by
  unfold startTab
  rw [wrapTab_apply, remTab_word T j k hk hT]
  have h : ∀ k : Fin 6, wrapTab (fun _ => BitVec.ofNat 32 k.val) (Shape.Idx.ofFin ⟨0, by decide⟩) = BitVec.ofNat 32 k.val := by decide +kernel
  exact h ⟨k % 6, Nat.mod_lt _ (by decide)⟩

/-- The lower and the higher expert of a group that a pair names. -/
def pairLo (p : Nat) : Nat := if p < 3 then 0 else if p < 5 then 1 else 2
def pairHi (p : Nat) : Nat := if p = 0 then 1 else if p = 1 ∨ p = 3 then 2 else 3

/-- The entry that a tile's lookup reads. -/
theorem expertTab_read (L : S6.Idx → BitVec 32) (T : IVec S152 32) (p : Fin 152) (k : Nat) (hk : k < 24) (hT : T (Shape.Idx.ofFin p) = BitVec.ofNat 32 k) :
    expertTab L T (Shape.Idx.ofFin p) = BitVec.ofNat 32 (k / 6) * 4#32 + L (Shape.Idx.ofFin ⟨k % 6, Nat.mod_lt _ (by decide)⟩) := by
  have hq := quotTab_word T (Shape.Idx.ofFin p) k hk hT
  have hs := startTab_word T (Shape.Idx.ofFin p) k hk hT
  have hg := StableHlo.Predicate.gather_take gather_S6_S152x1_S152_n_0_n_n_0_1_1 rfl rfl rfl rfl L
    (broadcastInDim S152x1 ![0] bcast_S152_S152x1_0 (startTab T)) p (by decide)
  have hi : (broadcastInDim S152x1 ![0] bcast_S152_S152x1_0 (startTab T)) (StableHlo.Predicate.ixP p) = BitVec.ofNat 32 (k % 6) := by
    rw [← hs]
    refine congrArg (startTab T) ?_
    funext a
    apply Fin.ext
    fin_cases a
    rfl
  show quotTab T (Shape.Idx.ofFin p) * 4#32 + Host.gather gather_S6_S152x1_S152_n_0_n_n_0_1_1 L
    (broadcastInDim S152x1 ![0] bcast_S152_S152x1_0 (startTab T)) (Shape.Idx.ofFin p) = _
  rw [hg, hq]
  congr 2
  apply congrArg
  apply Fin.ext
  have h6 : k % 6 < 6 := Nat.mod_lt _ (by decide)
  show min ((broadcastInDim S152x1 ![0] bcast_S152_S152x1_0 (startTab T)) (StableHlo.Predicate.ixP p)).toInt.toNat (6 - 1) = k % 6
  rw [hi, StableHlo.Predicate.toInt_ofNat_small _ (by omega)]
  omega

/-- The lower expert of a tile. -/
theorem expertTab_lo (T : IVec S152 32) (p : Fin 152) (k : Nat) (hk : k < 24) (hT : T (Shape.Idx.ofFin p) = BitVec.ofNat 32 k) :
    expertTab (fun i => lit0 (S6.rowMajor i)) T (Shape.Idx.ofFin p) = BitVec.ofNat 32 (k / 6 * 4 + pairLo (k % 6)) := by
  rw [expertTab_read _ T p k hk hT]
  have h : ∀ k : Fin 24, BitVec.ofNat 32 (k.val / 6) * 4#32 + (lit0 (S6.rowMajor (Shape.Idx.ofFin ⟨k.val % 6, Nat.mod_lt _ (by decide)⟩)) : BitVec 32)
      = BitVec.ofNat 32 (k.val / 6 * 4 + pairLo (k.val % 6)) := by decide +kernel
  exact h ⟨k, hk⟩

/-- The higher expert of a tile. -/
theorem expertTab_hi (T : IVec S152 32) (p : Fin 152) (k : Nat) (hk : k < 24) (hT : T (Shape.Idx.ofFin p) = BitVec.ofNat 32 k) :
    expertTab (fun i => lit1 (S6.rowMajor i)) T (Shape.Idx.ofFin p) = BitVec.ofNat 32 (k / 6 * 4 + pairHi (k % 6)) := by
  rw [expertTab_read _ T p k hk hT]
  have h : ∀ k : Fin 24, BitVec.ofNat 32 (k.val / 6) * 4#32 + (lit1 (S6.rowMajor (Shape.Idx.ofFin ⟨k.val % 6, Nat.mod_lt _ (by decide)⟩)) : BitVec 32)
      = BitVec.ofNat 32 (k.val / 6 * 4 + pairHi (k.val % 6)) := by decide +kernel
  exact h ⟨k, hk⟩

end Cert.Proof

end
-- ==== Proof.Tables.lean ====
/- The tables' words at a tile, and the side conditions on the tables that the call checks. -/
module

public import proofs.«01_k».proof.Proof.BodyFullValue
public import proofs.«01_k».proof.Proof.Host
public import Idealize.ShloMosaic.Lib.Affine

@[expose] public section

set_option maxRecDepth 16384

noncomputable section

namespace Cert.Proof

open Cert.KernelIdeal Cert.KernelIdeal.Gen
open Idealize.ShloMosaic
open Idealize.ShloMosaic.TcCoe

variable {F : FTy → Type} [FloatOps F]

/-- A tile's number as an index of the tables. -/
abbrev tileIdx (i : grid0.Coords) : S152.Idx := Shape.Idx.ofFin (i 0)

theorem indexCast_tile : ∀ n : Fin 152, (Scalar.indexCast (BitVec.ofNat 32 n.val) : Index).toNat = n.val := by decide +kernel

theorem off1_eq (i : grid0.Coords) : k0_off1 i 0 = (i 0).val := indexCast_tile (i 0)
theorem off2_eq (i : grid0.Coords) : k0_off2 i 0 = (i 0).val := indexCast_tile (i 0)
theorem off3_eq (i : grid0.Coords) : k0_off3 i 0 = (i 0).val := indexCast_tile (i 0)

/-- The word at an offset that is the tile's number is the table's word at the tile. -/
theorem idx_of_off (i : grid0.Coords) (x : S152.Idx) (h : (x 0).val = (i 0).val) : x = tileIdx i := by
  funext a
  obtain rfl : a = 0 := Subsingleton.elim _ _
  exact Fin.ext h

theorem validWord_eq (i : grid0.Coords) (T : S152.Idx → Elt F .i32) : validWord i T = T (tileIdx i) := by
  refine congrArg T (idx_of_off i _ ?_)
  show k0_off1 i 0 + 1 * 0 = _
  rw [off1_eq]; rfl

theorem validWord'_eq (i : grid0.Coords) (T : S152.Idx → Elt F .i32) : validWord' i T = T (tileIdx i) := by
  refine congrArg T (idx_of_off i _ ?_)
  show k0_off2 i 0 + 1 * 0 = _
  rw [off2_eq]; rfl

theorem tileWord_grp (i : grid0.Coords) (T : S152.Idx → Elt F .i32) : tileWord (F := F) tbGrp i T = T (tileIdx i) := by
  refine congrArg T (idx_of_off i _ ?_)
  show k0_off3 i 0 + 1 * 0 = _
  rw [off3_eq]; rfl

theorem tileWord_lo (i : grid0.Coords) (T : S152.Idx → Elt F .i32) : tileWord (F := F) tbLo i T = T (tileIdx i) := by
  refine congrArg T (idx_of_off i _ ?_)
  show k0_off3 i 0 + 1 * 0 = _
  rw [off3_eq]; rfl

theorem tileWord_hi (i : grid0.Coords) (T : S152.Idx → Elt F .i32) : tileWord (F := F) tbHi i T = T (tileIdx i) := by
  refine congrArg T (idx_of_off i _ ?_)
  show k0_off3 i 0 + 1 * 0 = _
  rw [off3_eq]; rfl

/-- The first condition asks whether the word is zero, -/
theorem cond1_iff (w : BitVec 32) : k0_cond1 w = 1#1 ↔ w = 0#32 := by
  unfold k0_cond1
  simp only [Scalar.cmpi, Scalar.extui, IntOp.cmpi_ne, IntOp.cmpi]
  by_cases h : w = 0#32
  · subst h; decide
  · have e : (w == 0#32) = false := by simpa using h
    rw [e]; simp only [h, iff_false]; decide

/-- and the second whether it is not. -/
theorem cond2_iff (w : BitVec 32) : k0_cond2 w = 1#1 ↔ w ≠ 0#32 := by
  unfold k0_cond2
  simp only [Scalar.cmpi, Scalar.extui, IntOp.cmpi_ne, IntOp.cmpi]
  by_cases h : w = 0#32
  · subst h; decide
  · have e : (w != 0#32) = true := by simpa using h
    rw [e]; simp only [ne_eq, h, not_false_eq_true, iff_true]; decide

theorem cond1_valid (i : grid0.Coords) (T : S152.Idx → Elt F .i32) : k0_cond1 (validWord i T) = 1#1 ↔ (show BitVec 32 from T (tileIdx i)) = 0#32 := by
  rw [validWord_eq]; exact cond1_iff _

theorem cond2_valid (i : grid0.Coords) (T : S152.Idx → Elt F .i32) : k0_cond2 (validWord' i T) = 1#1 ↔ ¬(show BitVec 32 from T (tileIdx i)) = 0#32 := by
  rw [validWord'_eq]; exact cond2_iff _

/-- The word that the pipeline reads of a table at a tile. -/
theorem at0_eq (pf : pre0.Contents (Elt F)) (i : grid0.Coords) (h : ∀ a, (k0_off1 i) a + S1.size a ≤ S152.size a) (h1 : (Rect.unit (s := S152) (k0_off1 i) S1.size h).shape.numel = 1) :
    pf.at 0 (Rect.unit (s := S152) (k0_off1 i) S1.size h) h1 = pf 0 (tileIdx i) := by
  refine congrArg (pf 0) (idx_of_off i _ ?_)
  show k0_off1 i 0 + 1 * 0 = _
  rw [off1_eq]; rfl

theorem at1_eq (pf : pre0.Contents (Elt F)) (i : grid0.Coords) (h : ∀ a, (k0_off1 i) a + S1.size a ≤ S152.size a) (h1 : (Rect.unit (s := S152) (k0_off1 i) S1.size h).shape.numel = 1) :
    pf.at 1 (Rect.unit (s := S152) (k0_off1 i) S1.size h) h1 = pf 1 (tileIdx i) := by
  refine congrArg (pf 1) (idx_of_off i _ ?_)
  show k0_off1 i 0 + 1 * 0 = _
  rw [off1_eq]; rfl

theorem transform3_eq (pf : pre0.Contents (Elt F)) (i : grid0.Coords) :
    cc0_transform_3 k0_off1_inb numel1_S1 pf i = ![(show BitVec 32 from pf 0 (tileIdx i)).toNat, 0, 0] := by
  rw [← at0_eq pf i (k0_off1_inb i) numel1_S1]; rfl
theorem transform4_eq (pf : pre0.Contents (Elt F)) (i : grid0.Coords) :
    cc0_transform_4 k0_off1_inb numel1_S1 pf i = ![(show BitVec 32 from pf 0 (tileIdx i)).toNat, 0, 0] := by
  rw [← at0_eq pf i (k0_off1_inb i) numel1_S1]; rfl
theorem transform5_eq (pf : pre0.Contents (Elt F)) (i : grid0.Coords) :
    cc0_transform_5 k0_off1_inb numel1_S1 pf i = ![(show BitVec 32 from pf 0 (tileIdx i)).toNat, 0, 0] := by
  rw [← at0_eq pf i (k0_off1_inb i) numel1_S1]; rfl
theorem transform6_eq (pf : pre0.Contents (Elt F)) (i : grid0.Coords) :
    cc0_transform_6 k0_off1_inb numel1_S1 pf i = ![(show BitVec 32 from pf 1 (tileIdx i)).toNat, 0, 0] := by
  rw [← at1_eq pf i (k0_off1_inb i) numel1_S1]; rfl
theorem transform7_eq (pf : pre0.Contents (Elt F)) (i : grid0.Coords) :
    cc0_transform_7 k0_off1_inb numel1_S1 pf i = ![(show BitVec 32 from pf 1 (tileIdx i)).toNat, 0, 0] := by
  rw [← at1_eq pf i (k0_off1_inb i) numel1_S1]; rfl
theorem transform8_eq (pf : pre0.Contents (Elt F)) (i : grid0.Coords) :
    cc0_transform_8 k0_off1_inb numel1_S1 pf i = ![(show BitVec 32 from pf 1 (tileIdx i)).toNat, 0, 0] := by
  rw [← at1_eq pf i (k0_off1_inb i) numel1_S1]; rfl

/-- An expert's matrices lie inside the array of all sixteen. -/
theorem inb_up (f : Fin 3 → Nat) (n : Nat) (hn : n < 16) (hf : f = ![n, 0, 0]) : ∀ a, (f a + 1) * S1x1024x512.size a ≤ S16x1024x512.size a := by
  subst hf
  intro a
  fin_cases a
  · show (n + 1) * 1 ≤ 16; omega
  · show (0 + 1) * 1024 ≤ 1024; omega
  · show (0 + 1) * 512 ≤ 512; omega

theorem inb_down (f : Fin 3 → Nat) (n : Nat) (hn : n < 16) (hf : f = ![n, 0, 0]) : ∀ a, (f a + 1) * S1x512x1024.size a ≤ S16x512x1024.size a := by
  subst hf
  intro a
  fin_cases a
  · show (n + 1) * 1 ≤ 16; omega
  · show (0 + 1) * 512 ≤ 512; omega
  · show (0 + 1) * 1024 ≤ 1024; omega

/-- The side condition, of tables whose experts are among the sixteen. -/
theorem ok_of_lt (pf : pre0.Contents (Elt F)) (h0 : ∀ x, (show BitVec 32 from pf 0 x).toNat < 16) (h1 : ∀ x, (show BitVec 32 from pf 1 x).toNat < 16) : ok0 pf :=
  ⟨fun i => ⟨inb_up _ _ (h0 _) (transform3_eq pf i), .inr (Affine.block_words_dvd (of_decide_eq_true rfl) (by decide))⟩,
   fun i => ⟨inb_up _ _ (h0 _) (transform4_eq pf i), .inr (Affine.block_words_dvd (of_decide_eq_true rfl) (by decide))⟩,
   fun i => ⟨inb_down _ _ (h0 _) (transform5_eq pf i), .inr (Affine.block_words_dvd (of_decide_eq_true rfl) (by decide))⟩,
   fun i => ⟨inb_up _ _ (h1 _) (transform6_eq pf i), .inr (Affine.block_words_dvd (of_decide_eq_true rfl) (by decide))⟩,
   fun i => ⟨inb_up _ _ (h1 _) (transform7_eq pf i), .inr (Affine.block_words_dvd (of_decide_eq_true rfl) (by decide))⟩,
   fun i => ⟨inb_down _ _ (h1 _) (transform8_eq pf i), .inr (Affine.block_words_dvd (of_decide_eq_true rfl) (by decide))⟩⟩

theorem atD3_eq (pf : pre0.Contents (Elt F)) (i : grid0.Coords) (off : Fin 1 → Nat) (h : off 0 = (i 0).val) : pf.atD 3 off = pf 3 (tileIdx i) := by
  have hb : ∀ a : Fin 1, off a + 1 ≤ S152.size a := fun a => by
    fin_cases a
    have : (i 0).val < 152 := (i 0).isLt
    show off 0 + 1 ≤ 152
    omega
  refine (dif_pos hb).trans ?_
  exact congrArg (pf 3) (idx_of_off i _ h)

/-- The body stores into the output block at every tile. -/
theorem idle9_eq (pf : pre0.Contents (Elt F)) (i : grid0.Coords) : idle0 pf 9 i = false := by
  show (!(k0_cond1 (pf.atD 3 (k0_off1 i)) == 1#1) && !(k0_cond2 (pf.atD 3 (k0_off2 i)) == 1#1)) = false
  rw [atD3_eq pf i _ (off1_eq i), atD3_eq pf i _ (off2_eq i)]
  by_cases h : (show BitVec 32 from pf 3 (tileIdx i)) = 0#32
  · have := (cond1_iff _).2 h
    rw [show k0_cond1 (pf 3 (tileIdx i)) = 1#1 from this]; rfl
  · have := (cond2_iff _).2 h
    rw [show k0_cond2 (pf 3 (tileIdx i)) = 1#1 from this, Bool.and_comm]; rfl

end Cert.Proof

end
-- ==== Proof.Launch.lean ====
/- The pipeline of the call at tables whose experts are among the sixteen: what each block holds, the body's obligation at
   every tile, and the launch. -/
module

public import proofs.«01_k».proof.Proof.Tables
public import Idealize.ShloMosaic.Lib.Pipeline.Frame
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Tactic
public import Idealize.ShloMosaic.Adequacy
public import Idealize.ShloMosaic.Init

@[expose] public section

set_option maxRecDepth 16384
set_option Elab.async false

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The result of a tile that holds tokens, over the blocks' contents and the tables' words. -/
def fullTile (g lo hi : BitVec 32) (x5 : S2048x128.Idx → Elt F .f32) (x6 : S1024x128.Idx → Elt F .bf16) (x7 : S1x128.Idx → Elt F .f32)
    (x8 : S1x1024x512.Idx → Elt F .bf16) (x9 : S1x1024x512.Idx → Elt F .bf16) (x10 : S1x512x1024.Idx → Elt F .bf16) (x11 : S1x1024x512.Idx → Elt F .bf16)
    (x12 : S1x1024x512.Idx → Elt F .bf16) (x13 : S1x512x1024.Idx → Elt F .bf16) : FVec F S256x1024 .f32 :=
  tileY (fun y => x5 ((lanes 0 inb_S2048x128_S256x128_0_0_s_8_1).idx y)) (fun y => x5 ((lanes 1 inb_S2048x128_S256x128_1_0_s_8_1).idx y))
    (fun y => x5 ((lanes 2 inb_S2048x128_S256x128_2_0_s_8_1).idx y)) (fun y => x5 ((lanes 3 inb_S2048x128_S256x128_3_0_s_8_1).idx y))
    (fun y => x5 ((lanes 4 inb_S2048x128_S256x128_4_0_s_8_1).idx y)) (fun y => x5 ((lanes 5 inb_S2048x128_S256x128_5_0_s_8_1).idx y))
    (fun y => x5 ((lanes 6 inb_S2048x128_S256x128_6_0_s_8_1).idx y)) (fun y => x5 ((lanes 7 inb_S2048x128_S256x128_7_0_s_8_1).idx y))
    x6 x7 g lo hi x8 x9 x10 x11 x12 x13

/-- The output block of a tile: zeros when its validity word is zero. -/
def tileOut (g lo hi v : BitVec 32) (x5 : S2048x128.Idx → Elt F .f32) (x6 : S1024x128.Idx → Elt F .bf16) (x7 : S1x128.Idx → Elt F .f32)
    (x8 : S1x1024x512.Idx → Elt F .bf16) (x9 : S1x1024x512.Idx → Elt F .bf16) (x10 : S1x512x1024.Idx → Elt F .bf16) (x11 : S1x1024x512.Idx → Elt F .bf16)
    (x12 : S1x1024x512.Idx → Elt F .bf16) (x13 : S1x512x1024.Idx → Elt F .bf16) : S2048x128.Idx → Elt F .f32 :=
  if v = 0#32 then k0_pay1 (F := F) else blockOf (fullTile g lo hi x5 x6 x7 x8 x9 x10 x11 x12 x13)

variable (pf : pre0.Contents (Elt F)) (ok : ok0 pf)
variable (V : (c : Dev nD) → (b : Ref sig .tc) → Buf (Elt F) ((c.tc : Thread nD τ).loc b))

/-- The tables as the pipeline takes them, and the pipeline at them. -/
def adm : (pcfg0 (F := F)).Adm := ⟨pf, ok⟩
abbrev cfgA : Pipeline.Cfg sig Λ₀ := cfg0 (F := F) (adm pf ok)

/-- Tile `t`'s coordinates. -/
abbrev crd (t : Fin (cfgA pf ok).N) : grid0.Coords := (cfgA pf ok).grid.coords t

abbrev ms0 (t : Fin (cfgA pf ok).N) : Memref sig .tc .vmem S2048x128 .f32 := spec0_0.stage ((cfgA pf ok).slots t (0 : Fin 10))
abbrev hs0 (t : Fin (cfgA pf ok).N) : (ms0 pf ok t).IsWhole := hstage0_0 (((cfgA pf ok).slots t (0 : Fin 10)).cast nbuf0_0)
abbrev ms1 (t : Fin (cfgA pf ok).N) : Memref sig .tc .vmem S1024x128 .bf16 := spec0_1.stage ((cfgA pf ok).slots t (1 : Fin 10))
abbrev hs1 (t : Fin (cfgA pf ok).N) : (ms1 pf ok t).IsWhole := hstage0_1 (((cfgA pf ok).slots t (1 : Fin 10)).cast nbuf0_1)
abbrev ms2 (t : Fin (cfgA pf ok).N) : Memref sig .tc .vmem S1x128 .f32 := spec0_2.stage ((cfgA pf ok).slots t (2 : Fin 10))
abbrev hs2 (t : Fin (cfgA pf ok).N) : (ms2 pf ok t).IsWhole := hstage0_2 (((cfgA pf ok).slots t (2 : Fin 10)).cast nbuf0_2)
abbrev ms3 (t : Fin (cfgA pf ok).N) : Memref sig .tc .vmem S1x1024x512 .bf16 := spec0_3.stage ((cfgA pf ok).slots t (3 : Fin 10))
abbrev hs3 (t : Fin (cfgA pf ok).N) : (ms3 pf ok t).IsWhole := hstage0_3 (((cfgA pf ok).slots t (3 : Fin 10)).cast nbuf0_3)
abbrev ms4 (t : Fin (cfgA pf ok).N) : Memref sig .tc .vmem S1x1024x512 .bf16 := spec0_4.stage ((cfgA pf ok).slots t (4 : Fin 10))
abbrev hs4 (t : Fin (cfgA pf ok).N) : (ms4 pf ok t).IsWhole := hstage0_4 (((cfgA pf ok).slots t (4 : Fin 10)).cast nbuf0_4)
abbrev ms5 (t : Fin (cfgA pf ok).N) : Memref sig .tc .vmem S1x512x1024 .bf16 := spec0_5.stage ((cfgA pf ok).slots t (5 : Fin 10))
abbrev hs5 (t : Fin (cfgA pf ok).N) : (ms5 pf ok t).IsWhole := hstage0_5 (((cfgA pf ok).slots t (5 : Fin 10)).cast nbuf0_5)
abbrev ms6 (t : Fin (cfgA pf ok).N) : Memref sig .tc .vmem S1x1024x512 .bf16 := spec0_6.stage ((cfgA pf ok).slots t (6 : Fin 10))
abbrev hs6 (t : Fin (cfgA pf ok).N) : (ms6 pf ok t).IsWhole := hstage0_6 (((cfgA pf ok).slots t (6 : Fin 10)).cast nbuf0_6)
abbrev ms7 (t : Fin (cfgA pf ok).N) : Memref sig .tc .vmem S1x1024x512 .bf16 := spec0_7.stage ((cfgA pf ok).slots t (7 : Fin 10))
abbrev hs7 (t : Fin (cfgA pf ok).N) : (ms7 pf ok t).IsWhole := hstage0_7 (((cfgA pf ok).slots t (7 : Fin 10)).cast nbuf0_7)
abbrev ms8 (t : Fin (cfgA pf ok).N) : Memref sig .tc .vmem S1x512x1024 .bf16 := spec0_8.stage ((cfgA pf ok).slots t (8 : Fin 10))
abbrev hs8 (t : Fin (cfgA pf ok).N) : (ms8 pf ok t).IsWhole := hstage0_8 (((cfgA pf ok).slots t (8 : Fin 10)).cast nbuf0_8)
abbrev ms9 (t : Fin (cfgA pf ok).N) : Memref sig .tc .vmem S2048x128 .f32 := spec0_9.stage ((cfgA pf ok).slots t (9 : Fin 10))
abbrev hs9 (t : Fin (cfgA pf ok).N) : (ms9 pf ok t).IsWhole := hstage0_9 (((cfgA pf ok).slots t (9 : Fin 10)).cast nbuf0_9)

/-- What window `w`'s array holds when the call starts. -/
def arrVal (c : Dev nD) (w : Fin (cfgA pf ok).W) : Buf (Elt F) (((cfgA pf ok).win w).arr.view.loc (c : Thread nD τ)) :=
  V c (Pipeline.arrRef (cfgA pf ok).spec w)

/-- Window `w`'s block at tile `t`, read off its array. -/
def iblk (c : Dev nD) (w : Fin (cfgA pf ok).W) (t : Fin (cfgA pf ok).N) : (((cfgA pf ok).win w).xblock (crd pf ok t)).Idx → Elt F ((cfgA pf ok).win w).elt :=
  (((cfgA pf ok).win w).blk t).view.read (Elt F) (arrVal pf ok V c w)

/-- What the body leaves in the output block at tile `t`. -/
def oblk (c : Dev nD) (t : Fin (cfgA pf ok).N) : S2048x128.Idx → Elt F .f32 :=
  tileOut (pf 2 (tileIdx (crd pf ok t))) (pf 0 (tileIdx (crd pf ok t))) (pf 1 (tileIdx (crd pf ok t))) (pf 3 (tileIdx (crd pf ok t)))
    (iblk pf ok V c (0 : Fin 10) t) (iblk pf ok V c (1 : Fin 10) t) (iblk pf ok V c (2 : Fin 10) t) (iblk pf ok V c (3 : Fin 10) t) (iblk pf ok V c (4 : Fin 10) t)
    (iblk pf ok V c (5 : Fin 10) t) (iblk pf ok V c (6 : Fin 10) t) (iblk pf ok V c (7 : Fin 10) t) (iblk pf ok V c (8 : Fin 10) t)

/-- The pipeline's data: every input block as read, the output block as the body leaves it. -/
def dats (_ : Fin 1) (c : Dev nD) : Dat τ (Elt F) Unit ℕ (UR sig nD τ) ℕ (cfgA pf ok) c where
  A w := arrVal pf ok V c w
  after w t := match w with
    | ⟨0, _⟩ => iblk pf ok V c (0 : Fin 10) t
    | ⟨1, _⟩ => iblk pf ok V c (1 : Fin 10) t
    | ⟨2, _⟩ => iblk pf ok V c (2 : Fin 10) t
    | ⟨3, _⟩ => iblk pf ok V c (3 : Fin 10) t
    | ⟨4, _⟩ => iblk pf ok V c (4 : Fin 10) t
    | ⟨5, _⟩ => iblk pf ok V c (5 : Fin 10) t
    | ⟨6, _⟩ => iblk pf ok V c (6 : Fin 10) t
    | ⟨7, _⟩ => iblk pf ok V c (7 : Fin 10) t
    | ⟨8, _⟩ => iblk pf ok V c (8 : Fin 10) t
    | ⟨9, _⟩ => oblk pf ok V c t
  Φ t := iprop(Pipeline.ΦA spec0 c ∗ Pipeline.ΦT pre0 pf c)
  q w := Pipeline.shareOf spec0 w
  owed _ := 0

theorem after_0 (c : Dev nD) (t : Fin (cfgA pf ok).N) : (dats pf ok V 0 c).after (0 : Fin 10) t = iblk pf ok V c (0 : Fin 10) t := rfl
theorem after_1 (c : Dev nD) (t : Fin (cfgA pf ok).N) : (dats pf ok V 0 c).after (1 : Fin 10) t = iblk pf ok V c (1 : Fin 10) t := rfl
theorem after_2 (c : Dev nD) (t : Fin (cfgA pf ok).N) : (dats pf ok V 0 c).after (2 : Fin 10) t = iblk pf ok V c (2 : Fin 10) t := rfl
theorem after_3 (c : Dev nD) (t : Fin (cfgA pf ok).N) : (dats pf ok V 0 c).after (3 : Fin 10) t = iblk pf ok V c (3 : Fin 10) t := rfl
theorem after_4 (c : Dev nD) (t : Fin (cfgA pf ok).N) : (dats pf ok V 0 c).after (4 : Fin 10) t = iblk pf ok V c (4 : Fin 10) t := rfl
theorem after_5 (c : Dev nD) (t : Fin (cfgA pf ok).N) : (dats pf ok V 0 c).after (5 : Fin 10) t = iblk pf ok V c (5 : Fin 10) t := rfl
theorem after_6 (c : Dev nD) (t : Fin (cfgA pf ok).N) : (dats pf ok V 0 c).after (6 : Fin 10) t = iblk pf ok V c (6 : Fin 10) t := rfl
theorem after_7 (c : Dev nD) (t : Fin (cfgA pf ok).N) : (dats pf ok V 0 c).after (7 : Fin 10) t = iblk pf ok V c (7 : Fin 10) t := rfl
theorem after_8 (c : Dev nD) (t : Fin (cfgA pf ok).N) : (dats pf ok V 0 c).after (8 : Fin 10) t = iblk pf ok V c (8 : Fin 10) t := rfl
theorem after_9 (c : Dev nD) (t : Fin (cfgA pf ok).N) : (dats pf ok V 0 c).after (9 : Fin 10) t = oblk pf ok V c t := rfl

theorem before_0 (c : Dev nD) (t : Fin (cfgA pf ok).N) (d) : (dats pf ok V 0 c).before (0 : Fin 10) t d = iblk pf ok V c (0 : Fin 10) t :=
  ((dats pf ok V 0 c).before_in_eq_fetched (0 : Fin 10) rfl (fun _ => rfl) (fun _ _ _ => rfl) (fun t => by rw [after_0]; unfold Dat.blockOf iblk; rfl) t d).trans
    (by unfold Dat.fetched Dat.blockOf iblk; rfl)
theorem before_1 (c : Dev nD) (t : Fin (cfgA pf ok).N) (d) : (dats pf ok V 0 c).before (1 : Fin 10) t d = iblk pf ok V c (1 : Fin 10) t :=
  ((dats pf ok V 0 c).before_in_eq_fetched (1 : Fin 10) rfl (fun _ => rfl) (fun _ _ _ => rfl) (fun t => by rw [after_1]; unfold Dat.blockOf iblk; rfl) t d).trans
    (by unfold Dat.fetched Dat.blockOf iblk; rfl)
theorem before_2 (c : Dev nD) (t : Fin (cfgA pf ok).N) (d) : (dats pf ok V 0 c).before (2 : Fin 10) t d = iblk pf ok V c (2 : Fin 10) t :=
  ((dats pf ok V 0 c).before_in_eq_fetched (2 : Fin 10) rfl (fun _ => rfl) (fun _ _ _ => rfl) (fun t => by rw [after_2]; unfold Dat.blockOf iblk; rfl) t d).trans
    (by unfold Dat.fetched Dat.blockOf iblk; rfl)
theorem before_3 (c : Dev nD) (t : Fin (cfgA pf ok).N) (d) : (dats pf ok V 0 c).before (3 : Fin 10) t d = iblk pf ok V c (3 : Fin 10) t :=
  ((dats pf ok V 0 c).before_in_eq_fetched (3 : Fin 10) rfl (fun _ => rfl) (fun _ _ _ => rfl) (fun t => by rw [after_3]; unfold Dat.blockOf iblk; rfl) t d).trans
    (by unfold Dat.fetched Dat.blockOf iblk; rfl)
theorem before_4 (c : Dev nD) (t : Fin (cfgA pf ok).N) (d) : (dats pf ok V 0 c).before (4 : Fin 10) t d = iblk pf ok V c (4 : Fin 10) t :=
  ((dats pf ok V 0 c).before_in_eq_fetched (4 : Fin 10) rfl (fun _ => rfl) (fun _ _ _ => rfl) (fun t => by rw [after_4]; unfold Dat.blockOf iblk; rfl) t d).trans
    (by unfold Dat.fetched Dat.blockOf iblk; rfl)
theorem before_5 (c : Dev nD) (t : Fin (cfgA pf ok).N) (d) : (dats pf ok V 0 c).before (5 : Fin 10) t d = iblk pf ok V c (5 : Fin 10) t :=
  ((dats pf ok V 0 c).before_in_eq_fetched (5 : Fin 10) rfl (fun _ => rfl) (fun _ _ _ => rfl) (fun t => by rw [after_5]; unfold Dat.blockOf iblk; rfl) t d).trans
    (by unfold Dat.fetched Dat.blockOf iblk; rfl)
theorem before_6 (c : Dev nD) (t : Fin (cfgA pf ok).N) (d) : (dats pf ok V 0 c).before (6 : Fin 10) t d = iblk pf ok V c (6 : Fin 10) t :=
  ((dats pf ok V 0 c).before_in_eq_fetched (6 : Fin 10) rfl (fun _ => rfl) (fun _ _ _ => rfl) (fun t => by rw [after_6]; unfold Dat.blockOf iblk; rfl) t d).trans
    (by unfold Dat.fetched Dat.blockOf iblk; rfl)
theorem before_7 (c : Dev nD) (t : Fin (cfgA pf ok).N) (d) : (dats pf ok V 0 c).before (7 : Fin 10) t d = iblk pf ok V c (7 : Fin 10) t :=
  ((dats pf ok V 0 c).before_in_eq_fetched (7 : Fin 10) rfl (fun _ => rfl) (fun _ _ _ => rfl) (fun t => by rw [after_7]; unfold Dat.blockOf iblk; rfl) t d).trans
    (by unfold Dat.fetched Dat.blockOf iblk; rfl)
theorem before_8 (c : Dev nD) (t : Fin (cfgA pf ok).N) (d) : (dats pf ok V 0 c).before (8 : Fin 10) t d = iblk pf ok V c (8 : Fin 10) t :=
  ((dats pf ok V 0 c).before_in_eq_fetched (8 : Fin 10) rfl (fun _ => rfl) (fun _ _ _ => rfl) (fun t => by rw [after_8]; unfold Dat.blockOf iblk; rfl) t d).trans
    (by unfold Dat.fetched Dat.blockOf iblk; rfl)

/-- No tile leaves a window idle. -/
theorem idle_eq (t : Fin (cfgA pf ok).N) : (cfgA pf ok).idle (9 : Fin 10) ((cfgA pf ok).grid.coords t) = false := idle9_eq pf _

/-- The body at tile `t` on its staging memrefs, as the pipeline calls it. -/
abbrev bodyAt (t : Fin (cfgA pf ok).N) : Prog (TpuEff nD τ sig (Elt F) Λ₀ .tc) PUnit :=
  cc0_moe_experts (crd pf ok t) tbLo (Memref.isWhole_whole _) tbHi (Memref.isWhole_whole _) tbGrp (Memref.isWhole_whole _) tbVal (Memref.isWhole_whole _)
    (ms0 pf ok t) (hs0 pf ok t) (ms1 pf ok t) (hs1 pf ok t) (ms2 pf ok t) (hs2 pf ok t) (ms3 pf ok t) (hs3 pf ok t) (ms4 pf ok t) (hs4 pf ok t)
    (ms5 pf ok t) (hs5 pf ok t) (ms6 pf ok t) (hs6 pf ok t) (ms7 pf ok t) (hs7 pf ok t) (ms8 pf ok t) (hs8 pf ok t) (ms9 pf ok t) (hs9 pf ok t)

/-- The tables as the launch hands them to the body, one by one. -/
theorem tables_eq (c : Dev nD) :
    (Pipeline.ΦT pre0 pf c : sProp 𝕄)
      = iprop((tbLo.view.loc (c : Thread nD τ) ↦{fullShare.right} pf 0) ∗ (tbHi.view.loc (c : Thread nD τ) ↦{fullShare.right} pf 1)
        ∗ (tbGrp.view.loc (c : Thread nD τ) ↦{fullShare.right} pf 2) ∗ (tbVal.view.loc (c : Thread nD τ) ↦{fullShare.right} pf 3)) := by
  unfold Pipeline.ΦT Pipeline.prefHeld
  rw [show (Finset.univ : Finset (Fin 4)) = insert (0 : Fin 4) (insert (1 : Fin 4) (insert (2 : Fin 4) {(3 : Fin 4)})) from by decide,
    bigSep_insert (by decide), bigSep_insert (by decide), bigSep_insert (by decide), bigSep_singleton]
  rfl

end Cert.Proof

end
-- ==== Proof.LaunchBody.lean ====
/- The body's obligation at every tile of the pipeline, and the launch of the call. -/
module

public import proofs.«01_k».proof.Proof.Launch
public import Idealize.ShloMosaic.Lib.Pipeline.Frame
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Tactic
public import Idealize.ShloMosaic.Adequacy
public import Idealize.ShloMosaic.Init

@[expose] public section

set_option maxRecDepth 16384
set_option Elab.async false

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The pieces stored at a tile that holds no token fill the block -/
theorem empty_cover (c : Dev nD) (i : grid0.Coords)
    (arg5 : Memref sig .tc .vmem S2048x128 .f32) (harg5 : arg5.IsWhole) (arg6 : Memref sig .tc .vmem S1024x128 .bf16) (harg6 : arg6.IsWhole)
    (arg7 : Memref sig .tc .vmem S1x128 .f32) (harg7 : arg7.IsWhole) (arg8 : Memref sig .tc .vmem S1x1024x512 .bf16) (harg8 : arg8.IsWhole)
    (arg9 : Memref sig .tc .vmem S1x1024x512 .bf16) (harg9 : arg9.IsWhole) (arg10 : Memref sig .tc .vmem S1x512x1024 .bf16) (harg10 : arg10.IsWhole)
    (arg11 : Memref sig .tc .vmem S1x1024x512 .bf16) (harg11 : arg11.IsWhole) (arg12 : Memref sig .tc .vmem S1x1024x512 .bf16) (harg12 : arg12.IsWhole)
    (arg13 : Memref sig .tc .vmem S1x512x1024 .bf16) (harg13 : arg13.IsWhole) (arg14 : Memref sig .tc .vmem S2048x128 .f32) (harg14 : arg14.IsWhole)
    (T3 : S152.Idx → Elt F .i32) (k0_h1 : k0_cond1 (validWord i T3) = 1#1) (k0_h2 : ¬(k0_cond2 (validWord' i T3) = 1#1)) (j : S2048x128.Idx) :
    ∃ p ∈ (runEmpty (F := F) c i arg5 harg5 arg6 harg6 arg7 harg7 arg8 harg8 arg9 harg9 arg10 harg10 arg11 harg11 arg12 harg12 arg13 harg13 arg14 harg14 T3 k0_h1 k0_h2).1, j ∈ p.1.set := by
  rw [runEmpty_canon]
  refine ⟨_, List.mem_cons_self, ?_⟩
  rw [Rect.mem_set_unit]; intro a
  have h := (j a).isLt
  fin_cases a <;> exact ⟨Nat.zero_le _, by simpa using h⟩

/-- with zeros. -/
theorem empty_canon (c : Dev nD) (i : grid0.Coords)
    (arg5 : Memref sig .tc .vmem S2048x128 .f32) (harg5 : arg5.IsWhole) (arg6 : Memref sig .tc .vmem S1024x128 .bf16) (harg6 : arg6.IsWhole)
    (arg7 : Memref sig .tc .vmem S1x128 .f32) (harg7 : arg7.IsWhole) (arg8 : Memref sig .tc .vmem S1x1024x512 .bf16) (harg8 : arg8.IsWhole)
    (arg9 : Memref sig .tc .vmem S1x1024x512 .bf16) (harg9 : arg9.IsWhole) (arg10 : Memref sig .tc .vmem S1x512x1024 .bf16) (harg10 : arg10.IsWhole)
    (arg11 : Memref sig .tc .vmem S1x1024x512 .bf16) (harg11 : arg11.IsWhole) (arg12 : Memref sig .tc .vmem S1x1024x512 .bf16) (harg12 : arg12.IsWhole)
    (arg13 : Memref sig .tc .vmem S1x512x1024 .bf16) (harg13 : arg13.IsWhole) (arg14 : Memref sig .tc .vmem S2048x128 .f32) (harg14 : arg14.IsWhole)
    (T3 : S152.Idx → Elt F .i32) (k0_h1 : k0_cond1 (validWord i T3) = 1#1) (k0_h2 : ¬(k0_cond2 (validWord' i T3) = 1#1)) :
    View.canon (runEmpty (F := F) c i arg5 harg5 arg6 harg6 arg7 harg7 arg8 harg8 arg9 harg9 arg10 harg10 arg11 harg11 arg12 harg12 arg13 harg13 arg14 harg14 T3 k0_h1 k0_h2).1 = k0_pay1 (F := F) := by
  rw [runEmpty_canon]
  exact View.canon_unit_zero (S := S2048x128) (by funext a; fin_cases a <;> rfl) _ _

/-- The pieces stored at a tile that holds tokens fill the block -/
theorem full_cover (c : Dev nD) (i : grid0.Coords)
    (arg5 : Memref sig .tc .vmem S2048x128 .f32) (harg5 : arg5.IsWhole) (arg6 : Memref sig .tc .vmem S1024x128 .bf16) (harg6 : arg6.IsWhole)
    (arg7 : Memref sig .tc .vmem S1x128 .f32) (harg7 : arg7.IsWhole) (arg8 : Memref sig .tc .vmem S1x1024x512 .bf16) (harg8 : arg8.IsWhole)
    (arg9 : Memref sig .tc .vmem S1x1024x512 .bf16) (harg9 : arg9.IsWhole) (arg10 : Memref sig .tc .vmem S1x512x1024 .bf16) (harg10 : arg10.IsWhole)
    (arg11 : Memref sig .tc .vmem S1x1024x512 .bf16) (harg11 : arg11.IsWhole) (arg12 : Memref sig .tc .vmem S1x1024x512 .bf16) (harg12 : arg12.IsWhole)
    (arg13 : Memref sig .tc .vmem S1x512x1024 .bf16) (harg13 : arg13.IsWhole) (arg14 : Memref sig .tc .vmem S2048x128 .f32) (harg14 : arg14.IsWhole)
    (T0 T1 T2 T3 : S152.Idx → Elt F .i32)
    (x5 : S2048x128.Idx → Elt F .f32) (x6 : S1024x128.Idx → Elt F .bf16) (x7 : S1x128.Idx → Elt F .f32) (x8 : S1x1024x512.Idx → Elt F .bf16) (x9 : S1x1024x512.Idx → Elt F .bf16) (x10 : S1x512x1024.Idx → Elt F .bf16) (x11 : S1x1024x512.Idx → Elt F .bf16) (x12 : S1x1024x512.Idx → Elt F .bf16) (x13 : S1x512x1024.Idx → Elt F .bf16)
    (k0_h1 : ¬(k0_cond1 (validWord i T3) = 1#1)) (k0_h2 : k0_cond2 (validWord' i T3) = 1#1) (j : S2048x128.Idx) :
    ∃ p ∈ (runFull (F := F) c i arg5 harg5 arg6 harg6 arg7 harg7 arg8 harg8 arg9 harg9 arg10 harg10 arg11 harg11 arg12 harg12 arg13 harg13 arg14 harg14 T0 T1 T2 T3 x5 x6 x7 x8 x9 x10 x11 x12 x13 k0_h1 k0_h2).1, j ∈ p.1.set := by
  rw [runFull_pieces]
  exact outPieces_cover _ j

/-- with the tile's result. -/
theorem full_canon (c : Dev nD) (i : grid0.Coords)
    (arg5 : Memref sig .tc .vmem S2048x128 .f32) (harg5 : arg5.IsWhole) (arg6 : Memref sig .tc .vmem S1024x128 .bf16) (harg6 : arg6.IsWhole)
    (arg7 : Memref sig .tc .vmem S1x128 .f32) (harg7 : arg7.IsWhole) (arg8 : Memref sig .tc .vmem S1x1024x512 .bf16) (harg8 : arg8.IsWhole)
    (arg9 : Memref sig .tc .vmem S1x1024x512 .bf16) (harg9 : arg9.IsWhole) (arg10 : Memref sig .tc .vmem S1x512x1024 .bf16) (harg10 : arg10.IsWhole)
    (arg11 : Memref sig .tc .vmem S1x1024x512 .bf16) (harg11 : arg11.IsWhole) (arg12 : Memref sig .tc .vmem S1x1024x512 .bf16) (harg12 : arg12.IsWhole)
    (arg13 : Memref sig .tc .vmem S1x512x1024 .bf16) (harg13 : arg13.IsWhole) (arg14 : Memref sig .tc .vmem S2048x128 .f32) (harg14 : arg14.IsWhole)
    (T0 T1 T2 T3 : S152.Idx → Elt F .i32)
    (x5 : S2048x128.Idx → Elt F .f32) (x6 : S1024x128.Idx → Elt F .bf16) (x7 : S1x128.Idx → Elt F .f32) (x8 : S1x1024x512.Idx → Elt F .bf16) (x9 : S1x1024x512.Idx → Elt F .bf16) (x10 : S1x512x1024.Idx → Elt F .bf16) (x11 : S1x1024x512.Idx → Elt F .bf16) (x12 : S1x1024x512.Idx → Elt F .bf16) (x13 : S1x512x1024.Idx → Elt F .bf16)
    (k0_h1 : ¬(k0_cond1 (validWord i T3) = 1#1)) (k0_h2 : k0_cond2 (validWord' i T3) = 1#1) :
    View.canon (runFull (F := F) c i arg5 harg5 arg6 harg6 arg7 harg7 arg8 harg8 arg9 harg9 arg10 harg10 arg11 harg11 arg12 harg12 arg13 harg13 arg14 harg14 T0 T1 T2 T3 x5 x6 x7 x8 x9 x10 x11 x12 x13 k0_h1 k0_h2).1
      = blockOf (fullTile (T2 (tileIdx i)) (T0 (tileIdx i)) (T1 (tileIdx i)) x5 x6 x7 x8 x9 x10 x11 x12 x13) := by
  rw [runFull_pieces, outPieces_canon, tileWord_grp, tileWord_lo, tileWord_hi]
  rfl

variable (pf : pre0.Contents (Elt F)) (ok : ok0 pf)
variable (V : (c : Dev nD) → (b : Ref sig .tc) → Buf (Elt F) ((c.tc : Thread nD τ).loc b))

/-- The output block where the validity word is zero, -/
theorem oblk_empty (c : Dev nD) (t : Fin (cfgA pf ok).N) (h : (show BitVec 32 from pf 3 (tileIdx (crd pf ok t))) = 0#32) :
    oblk pf ok V c t = k0_pay1 (F := F) := if_pos h

/-- and where it is not. -/
theorem oblk_full (c : Dev nD) (t : Fin (cfgA pf ok).N) (h : ¬(show BitVec 32 from pf 3 (tileIdx (crd pf ok t))) = 0#32) :
    oblk pf ok V c t = blockOf (fullTile (pf 2 (tileIdx (crd pf ok t))) (pf 0 (tileIdx (crd pf ok t))) (pf 1 (tileIdx (crd pf ok t))) (iblk pf ok V c (0 : Fin 10) t) (iblk pf ok V c (1 : Fin 10) t) (iblk pf ok V c (2 : Fin 10) t) (iblk pf ok V c (3 : Fin 10) t) (iblk pf ok V c (4 : Fin 10) t) (iblk pf ok V c (5 : Fin 10) t) (iblk pf ok V c (6 : Fin 10) t) (iblk pf ok V c (7 : Fin 10) t) (iblk pf ok V c (8 : Fin 10) t)) := if_neg h

set_option maxHeartbeats 8000000 in
/-- The body's obligation at a tile that holds no token. -/
theorem sound_empty (c : Dev nD) (t : Fin (cfgA pf ok).N) (h : (show BitVec 32 from pf 3 (tileIdx (crd pf ok t))) = 0#32) :
    iprop((dats pf ok V 0 c).Φ t.castSucc ∗ (dats pf ok V 0 c).owesAt () t.castSucc
        ∗ (∃ d, owns (c : Thread nD τ) (ms0 pf ok t) fullShare ((dats pf ok V 0 c).before (0 : Fin 10) t d))
        ∗ (∃ d, owns (c : Thread nD τ) (ms1 pf ok t) fullShare ((dats pf ok V 0 c).before (1 : Fin 10) t d))
        ∗ (∃ d, owns (c : Thread nD τ) (ms2 pf ok t) fullShare ((dats pf ok V 0 c).before (2 : Fin 10) t d))
        ∗ (∃ d, owns (c : Thread nD τ) (ms3 pf ok t) fullShare ((dats pf ok V 0 c).before (3 : Fin 10) t d))
        ∗ (∃ d, owns (c : Thread nD τ) (ms4 pf ok t) fullShare ((dats pf ok V 0 c).before (4 : Fin 10) t d))
        ∗ (∃ d, owns (c : Thread nD τ) (ms5 pf ok t) fullShare ((dats pf ok V 0 c).before (5 : Fin 10) t d))
        ∗ (∃ d, owns (c : Thread nD τ) (ms6 pf ok t) fullShare ((dats pf ok V 0 c).before (6 : Fin 10) t d))
        ∗ (∃ d, owns (c : Thread nD τ) (ms7 pf ok t) fullShare ((dats pf ok V 0 c).before (7 : Fin 10) t d))
        ∗ (∃ d, owns (c : Thread nD τ) (ms8 pf ok t) fullShare ((dats pf ok V 0 c).before (8 : Fin 10) t d))
        ∗ (∃ d, owns (c : Thread nD τ) (ms9 pf ok t) fullShare ((dats pf ok V 0 c).before (9 : Fin 10) t d)))
      ⊢ wp frame (wpE (defs₀ (F := F)) Variants.none c none) Set.univ (bodyAt pf ok t) fun _ =>
          iprop((dats pf ok V 0 c).Φ t.succ ∗ (dats pf ok V 0 c).owesAt () t.succ
            ∗ bigSep Finset.univ fun w : Fin (cfgA pf ok).W =>
                match (cfgA pf ok).idle w ((cfgA pf ok).grid.coords t) with
                | true =>
                  match ((cfgA pf ok).win w).flush t with
                  | false => iprop(∃ d, owns (c : Thread nD τ) (((cfgA pf ok).win w).stage ((cfgA pf ok).slots t w)) fullShare ((dats pf ok V 0 c).before w t d))
                  | true => owns (c : Thread nD τ) (((cfgA pf ok).win w).stage ((cfgA pf ok).slots t w)) fullShare ((dats pf ok V 0 c).after w t)
                | false => owns (c : Thread nD τ) (((cfgA pf ok).win w).stage ((cfgA pf ok).slots t w)) fullShare ((dats pf ok V 0 c).after w t)) := by
  have k0_h1 : k0_cond1 (validWord (F := F) (crd pf ok t) (pf 3)) = 1#1 := (cond1_valid _ _).2 h
  have k0_h2 : ¬(k0_cond2 (validWord' (F := F) (crd pf ok t) (pf 3)) = 1#1) := fun hh => (cond2_valid _ _).1 hh h
  rw [bigSep_W0]
  rewrite [idle_eq pf ok t]
  simp only [before_0, before_1, before_2, before_3, before_4, before_5, before_6, before_7, before_8,
    after_0, after_1, after_2, after_3, after_4, after_5, after_6, after_7, after_8, after_9]
  rewrite [oblk_empty pf ok V c t h,
    show (dats pf ok V 0 c).Φ t.succ = iprop(Pipeline.ΦA spec0 c ∗ Pipeline.ΦT pre0 pf c) from rfl,
    show (dats pf ok V 0 c).Φ t.castSucc = iprop(Pipeline.ΦA spec0 c ∗ Pipeline.ΦT pre0 pf c) from rfl,
    show (dats pf ok V 0 c).owesAt () t.succ = (dats pf ok V 0 c).owesAt () t.castSucc from rfl, tables_eq]
  iintro ⟨⟨HA, ⟨HT0, HT1, HT2, HT3⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runEmpty (F := F) c (crd pf ok t) (ms0 pf ok t) (hs0 pf ok t) (ms1 pf ok t) (hs1 pf ok t) (ms2 pf ok t) (hs2 pf ok t) (ms3 pf ok t) (hs3 pf ok t) (ms4 pf ok t) (hs4 pf ok t) (ms5 pf ok t) (hs5 pf ok t) (ms6 pf ok t) (hs6 pf ok t) (ms7 pf ok t) (hs7 pf ok t) (ms8 pf ok t) (hs8 pf ok t) (ms9 pf ok t) (hs9 pf ok t) (pf 3) k0_h1 k0_h2).2 _)
  isplitl [HT3]; · iexact HT3
  isplitl [H9]; · iexists _; iexact H9
  iintro ⟨HT3, ⟨%e9, H9⟩⟩
  isplitl [HA HT0 HT1 HT2 HT3]
  · isplitl [HA]; · iexact HA
    isplitl [HT0]; · iexact HT0
    isplitl [HT1]; · iexact HT1
    isplitl [HT2]; · iexact HT2
    iexact HT3
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  unfold owns; iexists _; isplitr; swap
  · iexact H9
  · ipureintro
    exact (View.read_writes_eq_canon _ _ _ (empty_cover c _ _ _ _ _ _ _ _ _ _ _ _ _ _ _ _ _ _ _ _ _ _ _ _)).trans (empty_canon c _ _ _ _ _ _ _ _ _ _ _ _ _ _ _ _ _ _ _ _ _ _ _ _)

set_option maxHeartbeats 16000000 in
/-- The body's obligation at a tile that holds tokens. -/
theorem sound_full (c : Dev nD) (t : Fin (cfgA pf ok).N) (h : ¬(show BitVec 32 from pf 3 (tileIdx (crd pf ok t))) = 0#32) :
    iprop((dats pf ok V 0 c).Φ t.castSucc ∗ (dats pf ok V 0 c).owesAt () t.castSucc
        ∗ (∃ d, owns (c : Thread nD τ) (ms0 pf ok t) fullShare ((dats pf ok V 0 c).before (0 : Fin 10) t d))
        ∗ (∃ d, owns (c : Thread nD τ) (ms1 pf ok t) fullShare ((dats pf ok V 0 c).before (1 : Fin 10) t d))
        ∗ (∃ d, owns (c : Thread nD τ) (ms2 pf ok t) fullShare ((dats pf ok V 0 c).before (2 : Fin 10) t d))
        ∗ (∃ d, owns (c : Thread nD τ) (ms3 pf ok t) fullShare ((dats pf ok V 0 c).before (3 : Fin 10) t d))
        ∗ (∃ d, owns (c : Thread nD τ) (ms4 pf ok t) fullShare ((dats pf ok V 0 c).before (4 : Fin 10) t d))
        ∗ (∃ d, owns (c : Thread nD τ) (ms5 pf ok t) fullShare ((dats pf ok V 0 c).before (5 : Fin 10) t d))
        ∗ (∃ d, owns (c : Thread nD τ) (ms6 pf ok t) fullShare ((dats pf ok V 0 c).before (6 : Fin 10) t d))
        ∗ (∃ d, owns (c : Thread nD τ) (ms7 pf ok t) fullShare ((dats pf ok V 0 c).before (7 : Fin 10) t d))
        ∗ (∃ d, owns (c : Thread nD τ) (ms8 pf ok t) fullShare ((dats pf ok V 0 c).before (8 : Fin 10) t d))
        ∗ (∃ d, owns (c : Thread nD τ) (ms9 pf ok t) fullShare ((dats pf ok V 0 c).before (9 : Fin 10) t d)))
      ⊢ wp frame (wpE (defs₀ (F := F)) Variants.none c none) Set.univ (bodyAt pf ok t) fun _ =>
          iprop((dats pf ok V 0 c).Φ t.succ ∗ (dats pf ok V 0 c).owesAt () t.succ
            ∗ bigSep Finset.univ fun w : Fin (cfgA pf ok).W =>
                match (cfgA pf ok).idle w ((cfgA pf ok).grid.coords t) with
                | true =>
                  match ((cfgA pf ok).win w).flush t with
                  | false => iprop(∃ d, owns (c : Thread nD τ) (((cfgA pf ok).win w).stage ((cfgA pf ok).slots t w)) fullShare ((dats pf ok V 0 c).before w t d))
                  | true => owns (c : Thread nD τ) (((cfgA pf ok).win w).stage ((cfgA pf ok).slots t w)) fullShare ((dats pf ok V 0 c).after w t)
                | false => owns (c : Thread nD τ) (((cfgA pf ok).win w).stage ((cfgA pf ok).slots t w)) fullShare ((dats pf ok V 0 c).after w t)) := by
  have k0_h1 : ¬(k0_cond1 (validWord (F := F) (crd pf ok t) (pf 3)) = 1#1) := fun hh => h ((cond1_valid _ _).1 hh)
  have k0_h2 : k0_cond2 (validWord' (F := F) (crd pf ok t) (pf 3)) = 1#1 := (cond2_valid _ _).2 h
  rw [bigSep_W0]
  rewrite [idle_eq pf ok t]
  simp only [before_0, before_1, before_2, before_3, before_4, before_5, before_6, before_7, before_8,
    after_0, after_1, after_2, after_3, after_4, after_5, after_6, after_7, after_8, after_9]
  rewrite [oblk_full pf ok V c t h,
    show (dats pf ok V 0 c).Φ t.succ = iprop(Pipeline.ΦA spec0 c ∗ Pipeline.ΦT pre0 pf c) from rfl,
    show (dats pf ok V 0 c).Φ t.castSucc = iprop(Pipeline.ΦA spec0 c ∗ Pipeline.ΦT pre0 pf c) from rfl,
    show (dats pf ok V 0 c).owesAt () t.succ = (dats pf ok V 0 c).owesAt () t.castSucc from rfl, tables_eq]
  iintro ⟨⟨HA, ⟨HT0, HT1, HT2, HT3⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((runFull (F := F) c (crd pf ok t) (ms0 pf ok t) (hs0 pf ok t) (ms1 pf ok t) (hs1 pf ok t) (ms2 pf ok t) (hs2 pf ok t) (ms3 pf ok t) (hs3 pf ok t) (ms4 pf ok t) (hs4 pf ok t) (ms5 pf ok t) (hs5 pf ok t) (ms6 pf ok t) (hs6 pf ok t) (ms7 pf ok t) (hs7 pf ok t) (ms8 pf ok t) (hs8 pf ok t) (ms9 pf ok t) (hs9 pf ok t) (pf 0) (pf 1) (pf 2) (pf 3) (iblk pf ok V c (0 : Fin 10) t) (iblk pf ok V c (1 : Fin 10) t) (iblk pf ok V c (2 : Fin 10) t) (iblk pf ok V c (3 : Fin 10) t) (iblk pf ok V c (4 : Fin 10) t) (iblk pf ok V c (5 : Fin 10) t) (iblk pf ok V c (6 : Fin 10) t) (iblk pf ok V c (7 : Fin 10) t) (iblk pf ok V c (8 : Fin 10) t) k0_h1 k0_h2).2 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [H7]; · iapply rep_of_owns; iexact H7
  isplitl [H8]; · iapply rep_of_owns; iexact H8
  isplitl [HT0]; · iexact HT0
  isplitl [HT1]; · iexact HT1
  isplitl [HT2]; · iexact HT2
  isplitl [HT3]; · iexact HT3
  isplitl [H9]; · iexists _; iexact H9
  iintro ⟨H0, H1, H2, H3, H4, H5, H6, H7, H8, HT0, HT1, HT2, HT3, ⟨%e9, H9⟩⟩
  isplitl [HA HT0 HT1 HT2 HT3]
  · isplitl [HA]; · iexact HA
    isplitl [HT0]; · iexact HT0
    isplitl [HT1]; · iexact HT1
    isplitl [HT2]; · iexact HT2
    iexact HT3
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  isplitl [H7]; · iapply owns_of_rep; iexact H7
  isplitl [H8]; · iapply owns_of_rep; iexact H8
  unfold owns; iexists _; isplitr; swap
  · iexact H9
  · ipureintro
    exact (View.read_writes_eq_canon _ _ _ (full_cover c _ _ _ _ _ _ _ _ _ _ _ _ _ _ _ _ _ _ _ _ _ _ _ _ _ _ _ _ _ _ _ _ _ _ _ _)).trans (full_canon c _ _ _ _ _ _ _ _ _ _ _ _ _ _ _ _ _ _ _ _ _ _ _ _ _ _ _ _ _ _ _ _ _ _ _ _)

/-- The library's body obligation, at every tile. -/
theorem body_obligation (c : Dev nD) : BodyObligation (dats pf ok V 0 c) (defs₀ (F := F)) Variants.none () Set.univ := fun t => by
  rw [bigSep_W0]
  by_cases h : (show BitVec 32 from pf 3 (tileIdx (crd pf ok t))) = 0#32
  · exact sound_empty pf ok V c t h
  · exact sound_full pf ok V c t h

end Cert.Proof

end
-- ==== Proof.Run.lean ====
/- The run of the whole program from a memory whose tables name experts among the sixteen. -/
module

public import proofs.«01_k».proof.Proof.LaunchBody

@[expose] public section

set_option maxRecDepth 16384

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]
variable (m : (ℓ : Loc nD τ sig) → Buf (Elt F) ℓ) (ρ : Dev nD → PrngReg)

/-- The contents when the call starts. -/
def valAt (c : Dev nD) (b : Ref sig .tc) : Buf (Elt F) ((c.tc : Thread nD τ).loc b) := atCall (fun b => m (c, b)) b

/-- The tables that the call is handed on core `c`. -/
def tabs (c : Dev nD) : pre0.Contents (Elt F) := fun k => valAt m c (pre0.ref k)

theorem stretches_sub : (stretches (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub, hostOps0_8_sub⟩

theorem stretches_fresh : (stretches (F := F)).Forall fun ops => ops.Forall fun op => op.fresh = ∅ := by
  refine ⟨?_, ?_, ?_, ?_, ?_, ?_, ?_, ?_, ?_⟩ <;> (repeat' first | exact trivial | refine ⟨rfl, ?_⟩ | exact rfl)

set_option backward.isDefEq.respectTransparency.types false in
set_option maxHeartbeats 8000000 in
/-- The run: every array of the call ends as the pipeline's data say, every other buffer as the call found it, and every
    counter at zero. -/
theorem run_main (c₀ : Dev nD) (ok : ok0 (tabs m c₀)) :
    θ_run (defs (F := F)) (onTc (τ := τ) (main (F := F))) (s₀ m ρ)
      (fun r => Pipeline.FramePost (Pipeline.pin (pcfgs (F := F)) fun _ => adm (tabs m c₀) ok) (dats (tabs m c₀) ok (valAt m)) 0 (valAt m) r
        ∧ r.2.sem = fun _ => 0) :=
  Pipeline.θ_run_frameP_shared (pcfgs (F := F)) (fun _ => adm (tabs m c₀) ok) (dats (tabs m c₀) ok (valAt m)) 0 launch₀0 defs₀ Variants.none m ρ main
    (fun c => (body_obligation (tabs m c₀) ok (valAt m) c).loose)
    (fun _ _ _ => rfl) (fun _ _ => rfl) (valAt m)
    (Pipeline.hmainP_prefixes (pcfgs (F := F)) 0 defs₀ Variants.none m main stretches stretches_sub stretches_fresh main_chain)
    (fun _ _ => rfl)
    (fun c k => by rw [Subsingleton.elim c c₀]; rfl)
    (fun _ _ => rfl) (Q' := _) (fun _ h => h)

end Cert.Proof

end
-- ==== Proof.Pre.lean ====
/- What the two preconditions say of the arrays, element by element. -/
module

public import proofs.«01_k».proof.Proof.Gen.Pre_bins_in_range
public import proofs.«01_k».proof.Proof.Gen.Pre_router_finite
public import Idealize.ShloMosaic.Lib.ReduceAll
public import Idealize.ShloMosaic.Lib.Affine
public import Idealize.ShloMosaic.PureOps.Ideal.Laws

@[expose] public section

set_option maxRecDepth 16384

noncomputable section

namespace Cert.Proof

open Idealize.ShloMosaic

/-- A word that is at least 0 and below 24, read signed, is one of the numbers below 24. -/
theorem word_of_range (w : BitVec 32) (h0 : IntOp.cmpi .sge w 0#32 = 1#1) (h1 : IntOp.cmpi .slt w 24#32 = 1#1) :
    ∃ k : Nat, k < 24 ∧ w = BitVec.ofNat 32 k := by
  have a := IntOp.cmpi_sge.1 h0
  have b := IntOp.cmpi_slt.1 h1
  rw [show (0#32 : BitVec 32).toInt = 0 from by decide] at a
  rw [show (24#32 : BitVec 32).toInt = 24 from by decide] at b
  have e := BitVec.toInt_eq_toNat_cond w
  have l := w.isLt
  refine ⟨w.toNat, ?_, by simp⟩
  split at e <;> omega

section
attribute [local instance] Cert.Pre_bins_in_range.Gen.facts

/-- Every tile's word is the number of one of the 24 groups' pairs. -/
theorem bins_of_range {F : FTy → Type} [FloatOps F] {a0 a1 a2 a3 a4 a5 a6 a7 a8 a9}
    (h : Cert.Pre_bins_in_range.fn (F := F) a0 a1 a2 a3 a4 a5 a6 a7 a8 a9 = fun _ => 1#1) (j : Cert.Pre_bins_in_range.S152.Idx) :
    ∃ k : Nat, k < 24 ∧ a1 j = BitVec.ofNat 32 k := by
  have hj := congrFun h j
  obtain ⟨p, q⟩ := IntOp.andi_eq_one.1 hj
  exact word_of_range _ p q
end

/-- An extended real whose magnitude is below plus infinity is a real number. -/
theorem real_of_abs_lt (x : EReal) (h : Ideal.cmp .olt (max x (-x)) (⊤ : EReal) = 1#1) : ∃ r : ℝ, x = (r : EReal) := by
  induction x using EReal.rec with
  | bot => simp [Ideal.cmp] at h
  | top => simp [Ideal.cmp] at h
  | coe r => exact ⟨r, rfl⟩

section
attribute [local instance] Cert.Pre_router_finite.Gen.facts

instance : Subsingleton (Cert.Pre_router_finite.S_.Idx) := ⟨fun _ _ => funext fun a => a.elim0⟩

/-- The pattern of plus infinity denotes plus infinity. -/
theorem infinity_eq : Ideal.ofBits (φ := .f32) (0x7F800000#32) = (⊤ : EReal) := by simp [Ideal.ofBits, Ideal.ieee]

/-- What the second precondition says: the tiles' words are in range and every entry of the tokens and of the router's
    weights and biases is a real number. -/
theorem finite_of_pre {a0 a1 a2 a3 a4 a5 a6 a7 a8 a9}
    (h : Cert.Pre_router_finite.fn (F := Ideal) a0 a1 a2 a3 a4 a5 a6 a7 a8 a9 = fun _ => 1#1) :
    (∀ j, ∃ k : Nat, k < 24 ∧ a1 j = BitVec.ofNat 32 k) ∧ (∀ j, ∃ r : ℝ, a0 j = (r : EReal)) ∧ (∀ j, ∃ r : ℝ, a3 j = (r : EReal))
      ∧ (∀ j, ∃ r : ℝ, a4 j = (r : EReal)) ∧ (∀ j, ∃ r : ℝ, a5 j = (r : EReal)) ∧ (∀ j, ∃ r : ℝ, a6 j = (r : EReal)) := by
  have hj := congrFun h (fun a => a.elim0)
  obtain ⟨hj, p6⟩ := IntOp.andi_eq_one.1 hj
  obtain ⟨hj, p5⟩ := IntOp.andi_eq_one.1 hj
  obtain ⟨hj, p4⟩ := IntOp.andi_eq_one.1 hj
  obtain ⟨hj, p3⟩ := IntOp.andi_eq_one.1 hj
  obtain ⟨p1, p0⟩ := IntOp.andi_eq_one.1 hj
  refine ⟨fun j => ?_, fun j => ?_, fun j => ?_, fun j => ?_, fun j => ?_, fun j => ?_⟩
  · obtain ⟨p, q⟩ := IntOp.andi_eq_one.1 (Host.reduce_andi_all _ _ _ _ _ p1 j)
    exact word_of_range _ p q
  · refine real_of_abs_lt _ ?_
    rw [← infinity_eq]; exact Host.reduce_andi_all _ _ _ _ _ p0 j
  · refine real_of_abs_lt _ ?_
    rw [← infinity_eq]; exact Host.reduce_andi_all _ _ _ _ _ p3 j
  · refine real_of_abs_lt _ ?_
    rw [← infinity_eq]; exact Host.reduce_andi_all _ _ _ _ _ p4 j
  · refine real_of_abs_lt _ ?_
    rw [← infinity_eq]; exact Host.reduce_andi_all _ _ _ _ _ p5 j
  · refine real_of_abs_lt _ ?_
    rw [← infinity_eq]; exact Host.reduce_andi_all _ _ _ _ _ p6 j
end

end Cert.Proof

end
-- ==== Proof.Frames.lean ====
/- From tiles whose words are in range, the program runs, leaves its arguments as they were and its result as the
   pipeline's data say; the frame claims. -/
module

public import proofs.«01_k».proof.Proof.Run
public import proofs.«01_k».proof.Proof.Pre
public import proofs.«01_k».proof.Defs

@[expose] public section

set_option maxRecDepth 16384

noncomputable section

namespace Cert.Proof

open Cert.KernelIdeal Cert.KernelIdeal.Gen
open Idealize.ShloMosaic
open Idealize.ShloMosaic.TcCoe
open Idealize.SL.Sem

variable {F : FTy → Type} [FloatOps F]

/-- Every tile's word is one of the 24 pairs of a group and two of its experts. -/
def BinsOk (T : IVec S152 32) : Prop := ∀ j, ∃ k : Nat, k < 24 ∧ T j = BitVec.ofNat 32 k

theorem lo_lt (k : Nat) (h : k < 24) : (BitVec.ofNat 32 (k / 6 * 4 + pairLo (k % 6))).toNat < 16 := by
  have : ∀ k : Fin 24, (BitVec.ofNat 32 (k.val / 6 * 4 + pairLo (k.val % 6))).toNat < 16 := by decide +kernel
  exact this ⟨k, h⟩

theorem hi_lt (k : Nat) (h : k < 24) : (BitVec.ofNat 32 (k / 6 * 4 + pairHi (k % 6))).toNat < 16 := by
  have : ∀ k : Fin 24, (BitVec.ofNat 32 (k.val / 6 * 4 + pairHi (k.val % 6))).toNat < 16 := by decide +kernel
  exact this ⟨k, h⟩

theorem idx152 (x : S152.Idx) : x = Shape.Idx.ofFin (x 0) := by
  funext a
  obtain rfl : a = 0 := Subsingleton.elim _ _
  rfl

theorem expert_lo_lt (T : IVec S152 32) (h : BinsOk T) (x : S152.Idx) : (expertTab (fun i => lit0 (S6.rowMajor i)) T x).toNat < 16 := by
  obtain ⟨k, hk, e⟩ := h x
  rw [idx152 x] at e ⊢
  exact (congrArg BitVec.toNat (expertTab_lo T (x 0) k hk e)).trans_lt (lo_lt k hk)

theorem expert_hi_lt (T : IVec S152 32) (h : BinsOk T) (x : S152.Idx) : (expertTab (fun i => lit1 (S6.rowMajor i)) T x).toNat < 16 := by
  obtain ⟨k, hk, e⟩ := h x
  rw [idx152 x] at e ⊢
  exact (congrArg BitVec.toNat (expertTab_hi T (x 0) k hk e)).trans_lt (hi_lt k hk)

variable (m : (ℓ : Loc nD τ sig) → Buf (Elt F) ℓ) (ρ : Dev nD → PrngReg)

theorem tabs_0 (c : Dev nD) : tabs m c 0 = expertTab (fun i => lit0 (S6.rowMajor i)) (m ((c.tc : Thread nD τ).loc main_arg1)) :=
  atCall_v23 (F := F) (fun b => m (c, b))
theorem tabs_1 (c : Dev nD) : tabs m c 1 = expertTab (fun i => lit1 (S6.rowMajor i)) (m ((c.tc : Thread nD τ).loc main_arg1)) :=
  atCall_v33 (F := F) (fun b => m (c, b))
theorem tabs_2 (c : Dev nD) : tabs m c 2 = quotTab (m ((c.tc : Thread nD τ).loc main_arg1)) :=
  atCall_v12 (F := F) (fun b => m (c, b))
theorem tabs_3 (c : Dev nD) : tabs m c 3 = m ((c.tc : Thread nD τ).loc main_arg2) :=
  atCall_arg2 (F := F) (fun b => m (c, b))

/-- The tables' side condition. -/
theorem ok_of_bins (c : Dev nD) (h : BinsOk (m ((c.tc : Thread nD τ).loc main_arg1))) : ok0 (tabs m c) :=
  ok_of_lt _
    (fun x => (congrArg BitVec.toNat (congrFun (tabs_0 m c) x)).trans_lt (expert_lo_lt _ h x))
    (fun x => (congrArg BitVec.toNat (congrFun (tabs_1 m c) x)).trans_lt (expert_hi_lt _ h x))

theorem valAt_arg0 (c : Dev nD) : valAt m c main_arg0 = m ((c.tc : Thread nD τ).loc main_arg0) := atCall_arg0 (F := F) (fun b => m (c, b))
theorem valAt_arg1 (c : Dev nD) : valAt m c main_arg1 = m ((c.tc : Thread nD τ).loc main_arg1) := atCall_arg1 (F := F) (fun b => m (c, b))
theorem valAt_arg2 (c : Dev nD) : valAt m c main_arg2 = m ((c.tc : Thread nD τ).loc main_arg2) := atCall_arg2 (F := F) (fun b => m (c, b))
theorem valAt_arg3 (c : Dev nD) : valAt m c main_arg3 = m ((c.tc : Thread nD τ).loc main_arg3) := atCall_arg3 (F := F) (fun b => m (c, b))
theorem valAt_arg4 (c : Dev nD) : valAt m c main_arg4 = m ((c.tc : Thread nD τ).loc main_arg4) := atCall_arg4 (F := F) (fun b => m (c, b))
theorem valAt_arg5 (c : Dev nD) : valAt m c main_arg5 = m ((c.tc : Thread nD τ).loc main_arg5) := atCall_arg5 (F := F) (fun b => m (c, b))
theorem valAt_arg6 (c : Dev nD) : valAt m c main_arg6 = m ((c.tc : Thread nD τ).loc main_arg6) := atCall_arg6 (F := F) (fun b => m (c, b))
theorem valAt_arg7 (c : Dev nD) : valAt m c main_arg7 = m ((c.tc : Thread nD τ).loc main_arg7) := atCall_arg7 (F := F) (fun b => m (c, b))
theorem valAt_arg8 (c : Dev nD) : valAt m c main_arg8 = m ((c.tc : Thread nD τ).loc main_arg8) := atCall_arg8 (F := F) (fun b => m (c, b))
theorem valAt_arg9 (c : Dev nD) : valAt m c main_arg9 = m ((c.tc : Thread nD τ).loc main_arg9) := atCall_arg9 (F := F) (fun b => m (c, b))

/-- The one core. -/
abbrev core : Dev nD := ⟨0, by decide⟩

attribute [local irreducible] valAt tabs in
set_option maxHeartbeats 4000000 in
/-- The run, from tiles whose words are in range. -/
theorem run_bins (h : BinsOk (m ((core.tc : Thread nD τ).loc main_arg1))) :
    θ_run (defs (F := F)) (onTc (τ := τ) (main (F := F))) ⟨m, fun _ => 0, ρ⟩ (fun r => (∀ c : Dev nD,
      r.2.mem ((c.tc : Thread nD τ).loc main_v39) = (dats (tabs m core) (ok_of_bins m core h) (valAt m) 0 c).arrAt (9 : Fin 10) (cfgA (tabs m core) (ok_of_bins m core h)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) := by
  refine (θ_run defs _ _).mono (fun r hr => ⟨fun c => ?_, hr.2⟩) (run_main m ρ core (ok_of_bins m core h))
  have hc := hr.1 c
  refine ⟨hc.1 (9 : Fin 10), ?_, ?_, ?_, ?_, ?_, ?_, ?_, ?_, ?_, ?_⟩
  · exact ((hc.1 (0 : Fin 10)).trans ((dats (tabs m core) (ok_of_bins m core h) (valAt m) 0 c).arrAt_in (0 : Fin 10) rfl _)).trans (valAt_arg0 m c)
  · exact (hc.2 main_arg1 (Pipeline.mem_restRefs_of (win := spec0) main_arg1 rfl (by decide))).trans (valAt_arg1 m c)
  · exact (hc.2 main_arg2 (Pipeline.mem_restRefs_of (win := spec0) main_arg2 rfl (by decide))).trans (valAt_arg2 m c)
  · exact (hc.2 main_arg3 (Pipeline.mem_restRefs_of (win := spec0) main_arg3 rfl (by decide))).trans (valAt_arg3 m c)
  · exact (hc.2 main_arg4 (Pipeline.mem_restRefs_of (win := spec0) main_arg4 rfl (by decide))).trans (valAt_arg4 m c)
  · exact (hc.2 main_arg5 (Pipeline.mem_restRefs_of (win := spec0) main_arg5 rfl (by decide))).trans (valAt_arg5 m c)
  · exact (hc.2 main_arg6 (Pipeline.mem_restRefs_of (win := spec0) main_arg6 rfl (by decide))).trans (valAt_arg6 m c)
  · exact (hc.2 main_arg7 (Pipeline.mem_restRefs_of (win := spec0) main_arg7 rfl (by decide))).trans (valAt_arg7 m c)
  · exact (hc.2 main_arg8 (Pipeline.mem_restRefs_of (win := spec0) main_arg8 rfl (by decide))).trans (valAt_arg8 m c)
  · exact (hc.2 main_arg9 (Pipeline.mem_restRefs_of (win := spec0) main_arg9 rfl (by decide))).trans (valAt_arg9 m c)

section
attribute [local instance] Cert.Pre_bins_in_range.Gen.facts Cert.Pre_router_finite.Gen.facts

/-- The kernel's frame over the extended reals, -/
theorem frame_ideal : Cert.quiescent_KernelIdeal := fun m ρ hp =>
  (θ_run defs _ _).mono (fun _ h => ⟨fun c => (h.1 c).2, h.2⟩) (run_bins (F := Ideal) m ρ (bins_of_range (hp core)))

/-- under the value claim's precondition, -/
theorem frame_ideal_finite : Cert.quiescent_KernelIdeal_pre_router_finite := fun m ρ hp =>
  (θ_run defs _ _).mono (fun _ h => ⟨fun c => (h.1 c).2, h.2⟩) (run_bins (F := Ideal) m ρ (finite_of_pre (hp core)).1)

end

end Cert.Proof

end
-- ==== Proof.Same.lean ====
/- The program over the bit-exact words and the program over the reals are the same text: their launches, host
   operations and bodies are equal, so that a run of the one is a run of the other. -/
module
public import proofs.«01_k».proof.Proof.Gen.Kernel.Launch
public import proofs.«01_k».proof.Proof.Gen.KernelIdeal.Launch
public import proofs.«01_k».proof.Defs
@[expose] public section
set_option maxRecDepth 16384
namespace Cert.Proof.Same
open Idealize.ShloMosaic
open Idealize.ShloMosaic.TcCoe
set_option maxHeartbeats 400000 in
/-- The registered body is the same. -/
theorem regs_same : Cert.Kernel.defs₀ (F := Bits) = Cert.KernelIdeal.defs₀ (F := Bits) := by
  unfold Cert.Kernel.defs₀ Cert.KernelIdeal.defs₀
  refine congrArg Defs.onTc ?_
  funext k a
  obtain rfl : k = 0 := Subsingleton.elim _ _
  obtain ⟨t, s⟩ := a
  rfl
set_option maxHeartbeats 400000 in
/-- Stretch 0 of host operations is the same. -/
theorem stretch_same_0 : Cert.Kernel.Gen.hostOps0 (F := Bits) = Cert.KernelIdeal.Gen.hostOps0 (F := Bits) := rfl
/-- Stretch 1 of host operations is the same. -/
theorem stretch_same_1 : Cert.Kernel.Gen.hostOps0_1 (F := Bits) = Cert.KernelIdeal.Gen.hostOps0_1 (F := Bits) := rfl
/-- Stretch 2 of host operations is the same. -/
theorem stretch_same_2 : Cert.Kernel.Gen.hostOps0_2 (F := Bits) = Cert.KernelIdeal.Gen.hostOps0_2 (F := Bits) := rfl
/-- Stretch 3 of host operations is the same. -/
theorem stretch_same_3 : Cert.Kernel.Gen.hostOps0_3 (F := Bits) = Cert.KernelIdeal.Gen.hostOps0_3 (F := Bits) := rfl
/-- Stretch 4 of host operations is the same. -/
theorem stretch_same_4 : Cert.Kernel.Gen.hostOps0_4 (F := Bits) = Cert.KernelIdeal.Gen.hostOps0_4 (F := Bits) := rfl
/-- Stretch 5 of host operations is the same. -/
theorem stretch_same_5 : Cert.Kernel.Gen.hostOps0_5 (F := Bits) = Cert.KernelIdeal.Gen.hostOps0_5 (F := Bits) := rfl
/-- Stretch 6 of host operations is the same. -/
theorem stretch_same_6 : Cert.Kernel.Gen.hostOps0_6 (F := Bits) = Cert.KernelIdeal.Gen.hostOps0_6 (F := Bits) := rfl
/-- Stretch 7 of host operations is the same. -/
theorem stretch_same_7 : Cert.Kernel.Gen.hostOps0_7 (F := Bits) = Cert.KernelIdeal.Gen.hostOps0_7 (F := Bits) := rfl
set_option maxHeartbeats 2000000 in
/-- Stretch 8 of host operations is the same. -/
theorem stretch_same_8 : Cert.Kernel.Gen.hostOps0_8 (F := Bits) = Cert.KernelIdeal.Gen.hostOps0_8 (F := Bits) := rfl
set_option maxHeartbeats 2000000 in
/-- The whole program is the same. -/
theorem main_same : Cert.Kernel.main (F := Bits) = Cert.KernelIdeal.main (F := Bits) := by
  funext c
  refine (Cert.Kernel.Gen.main_chain c).trans (Eq.trans ?_ (Cert.KernelIdeal.Gen.main_chain c).symm)
  rw [stretch_same_0, stretch_same_1, stretch_same_2, stretch_same_3, stretch_same_4, stretch_same_5, stretch_same_6, stretch_same_7, stretch_same_8]
  rfl

set_option maxHeartbeats 2000000 in
/-- All that the program can call is the same. -/
theorem defs_same : Cert.Kernel.defs (F := Bits) = Cert.KernelIdeal.defs (F := Bits) :=
  show Pipeline.defs Cert.Kernel.pcfgs Cert.Kernel.defs₀ = Pipeline.defs Cert.KernelIdeal.pcfgs Cert.KernelIdeal.defs₀ from
    congrArg (Pipeline.defs (Cert.KernelIdeal.pcfgs (F := Bits))) regs_same

end Cert.Proof.Same

end
-- ==== Proof.FrameKernel.lean ====
/- The frame claim of the program over the bit-exact words, from its run over any floats. -/
module

public import proofs.«01_k».proof.Proof.Frames
public import proofs.«01_k».proof.Proof.Same
public import proofs.«01_k».proof.Proof.Gen.Kernel

@[expose] public section

set_option maxRecDepth 16384

namespace Cert.Proof

open Idealize.ShloMosaic
open Idealize.ShloMosaic.TcCoe
open Idealize.SL.Sem

set_option maxHeartbeats 1000000 in
/-- Over the bit-exact words the program runs to its end, leaves its arguments as they were and every counter at 0. -/
theorem frame_kernel : Cert.quiescent_Kernel := by
  intro m ρ hp
  rw [Same.defs_same, Same.main_same]
  exact (θ_run Cert.KernelIdeal.defs _ _).mono (fun _ h => ⟨fun c => (h.1 c).2, h.2⟩)
    (run_bins (F := Bits) m ρ (bins_of_range (hp core)))

end Cert.Proof

end
-- ==== Proof.FrameReference.lean ====
/- The frame claims of the reference. -/
module

public import proofs.«01_k».proof.Proof.Gen.ReferenceIdeal.Run
public import proofs.«01_k».proof.Proof.Gen.ReferenceIdeal
public import proofs.«01_k».proof.Proof.Gen.Pre_router_finite
public import proofs.«01_k».proof.Defs

@[expose] public section

set_option maxRecDepth 16384

namespace Cert.Proof

open Idealize.ShloMosaic
open Idealize.ShloMosaic.TcCoe
open Idealize.SL.Sem

/-- The reference runs to its end from any memory, leaves its arguments as they were and every counter at 0. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run (F := Ideal) m ρ)

/-- The same under the value claim's precondition. -/
theorem frame_reference_finite : Cert.quiescent_ReferenceIdeal_pre_router_finite := fun m ρ _ =>
  (θ_run Cert.ReferenceIdeal.defs _ _).mono
    (fun r h => ⟨fun c => (h c).2, sem_eq_zero_of_no_sems (by decide) r.2⟩) (Cert.ReferenceIdeal.Value.run (F := Ideal) m ρ)

end Cert.Proof

end
-- ==== Proof.Spec.lean ====
/- The mathematics of the layer's experts for one token: the softmax of four logits, the share of one of two chosen
   experts, an expert's result, and the law that carries a weight past an expert's sum. -/
module

public import Idealize.ShloMosaic.PureOps.Ideal.Laws
public import Idealize.ShloMosaic.Lib.Pointwise
public import proofs.«01_k».proof.Proof.Host

@[expose] public section

set_option maxRecDepth 16384

noncomputable section

namespace Cert.Proof

open Idealize.ShloMosaic

/-- The largest of four logits. -/
def top (L : Fin 4 → EReal) : EReal := Finset.univ.fold max ⊥ L

/-- The softmax of four logits, at one of them. -/
def soft (L : Fin 4 → EReal) (k : Fin 4) : EReal :=
  Ideal.div (Ideal.exp (L k - top L)) (∑ j, Ideal.exp (L j - top L))

/-- The part of `a` in the sum of the two softmax entries `a` and `b`. -/
def part (L : Fin 4 → EReal) (a b : Fin 4) : EReal := Ideal.div (soft L a) (soft L a + soft L b)

/-- The gate's activation. -/
def silu (g : EReal) : EReal := g * Ideal.div 1 (1 + Ideal.exp (-g))

/-- One entry of an expert's result, of a token `x`. -/
def expertOut (x : Fin 1024 → EReal) (wg wu : Fin 1024 → Fin 512 → EReal) (wd : Fin 512 → EReal) : EReal :=
  ∑ f, (silu (∑ d, x d * wg d f) * ∑ d, x d * wu d f) * wd f

/-- The group of a tile, and its two experts within the group and among all. -/
def grpOf (k : Fin 24) : Fin 4 := ⟨k.val / 6, by omega⟩
def loOf (k : Fin 24) : Fin 4 := ⟨pairLo (k.val % 6), by unfold pairLo; split <;> [omega; (split <;> omega)]⟩
def hiOf (k : Fin 24) : Fin 4 := ⟨pairHi (k.val % 6), by unfold pairHi; split <;> [omega; (split <;> omega)]⟩
def member (g e : Fin 4) : Fin 16 := ⟨g.val * 4 + e.val, by omega⟩

theorem lo_ne_hi (k : Fin 24) : loOf k ≠ hiOf k := by
  revert k; decide

theorem member_ne (g a b : Fin 4) (h : a ≠ b) : member g a ≠ member g b := by
  revert g a b; decide

/-- The token of a lane row, the token's entry at a lane of it, and the tile of a token. -/
def rowOf (r : Fin 311296) : Fin 38912 := ⟨r.val / 8, by omega⟩
def colOf (r : Fin 311296) (l : Fin 128) : Fin 1024 := ⟨r.val % 8 * 128 + l.val, by omega⟩
def binOf (R : Fin 38912) : Fin 152 := ⟨R.val / 256, by omega⟩

/-- A weighted pair of experts. -/
def pairOut (w : Fin 4 → EReal) (E : Fin 16 → EReal) (g a b : Fin 4) : EReal := w a * E (member g a) + w b * E (member g b)

/-- A one-hot word as a number. -/
theorem oneHot (n g : Nat) (hn : n < 2 ^ 32) (hg : g < 2 ^ 32) :
    (FloatOps.uitofp (F := Ideal) FTy.f32 (IntOp.cmpi CmpIPredicate.eq (BitVec.ofNat 32 n) (BitVec.ofNat 32 g)) : EReal)
      = if n = g then 1 else 0 := by
  have e : (BitVec.ofNat 32 n = BitVec.ofNat 32 g) ↔ n = g := by
    constructor
    · intro h
      have := congrArg BitVec.toNat h
      rwa [BitVec.toNat_ofNat, BitVec.toNat_ofNat, Nat.mod_eq_of_lt hn, Nat.mod_eq_of_lt hg] at this
    · intro h; rw [h]
  by_cases h : n = g
  · rw [if_pos h, h, IntOp.cmpi_eq.2 rfl]
    show (((1#1 : BitVec 1).toNat : ℝ) : EReal) = 1
    norm_num
  · rw [if_neg h]
    have : IntOp.cmpi CmpIPredicate.eq (BitVec.ofNat 32 n) (BitVec.ofNat 32 g) = 0#1 := by
      rcases (by decide : ∀ b : BitVec 1, b = 0#1 ∨ b = 1#1) (IntOp.cmpi CmpIPredicate.eq (BitVec.ofNat 32 n) (BitVec.ofNat 32 g)) with q | q
      · exact q
      · exact absurd (e.1 (IntOp.cmpi_eq.1 q)) h
    rw [this]
    show (((0#1 : BitVec 1).toNat : ℝ) : EReal) = 0
    norm_num

theorem oneHot4 (a b : Fin 4) :
    (FloatOps.uitofp (F := Ideal) FTy.f32 (IntOp.cmpi CmpIPredicate.eq (BitVec.ofNat 32 a.val) (BitVec.ofNat 32 b.val)) : EReal)
      = if a.val = b.val then 1 else 0 := oneHot _ _ (by omega) (by omega)

theorem oneHot16 (a b : Fin 16) :
    (FloatOps.uitofp (F := Ideal) FTy.f32 (IntOp.cmpi CmpIPredicate.eq (BitVec.ofNat 32 a.val) (BitVec.ofNat 32 b.val)) : EReal)
      = if a.val = b.val then 1 else 0 := oneHot _ _ (by omega) (by omega)

/-- A sum against a one-hot vector is the entry. -/
theorem sum_oneHot {n : Nat} (f : Fin n → EReal) (k : Fin n) : ∑ j, f j * (if k.val = j.val then (1 : EReal) else 0) = f k := by
  rw [Finset.sum_eq_single k]
  · simp
  · intro b _ hb
    rw [if_neg (fun h => hb (Fin.ext h.symm)), mul_zero]
  · intro h; exact absurd (Finset.mem_univ k) h

/-- The sixteen experts, two of them with a weight: the two. -/
theorem sum_pair (c E : Fin 16 → EReal) (lo hi : Fin 16) (h : lo ≠ hi) (wl wh : EReal)
    (hc : ∀ e, c e = wl * (if lo.val = e.val then 1 else 0) + wh * (if hi.val = e.val then 1 else 0)) :
    ∑ e, c e * E e = wl * E lo + wh * E hi := by
  rw [← Finset.sum_subset (Finset.subset_univ {lo, hi}) (fun e _ he => ?_), Finset.sum_pair h, hc, hc]
  · have h1 : ¬ hi.val = lo.val := fun q => h (Fin.ext q.symm)
    have h2 : ¬ lo.val = hi.val := fun q => h (Fin.ext q)
    simp [h1, h2]
  · rw [hc]
    have h1 : ¬ lo.val = e.val := fun q => he (by simp [Fin.ext q])
    have h2 : ¬ hi.val = e.val := fun q => he (by simp [Fin.ext q])
    simp [h1, h2]

/-- A sum over sixteen, term by term. -/
theorem sum16 (f : Fin 16 → EReal) : ∑ e, f e = f 0 + f 1 + f 2 + f 3 + f 4 + f 5 + f 6 + f 7 + f 8 + f 9 + f 10 + f 11 + f 12 + f 13 + f 14 + f 15 := by
  simp only [Fin.sum_univ_castSucc, Fin.sum_univ_zero, zero_add]
  rfl

/-- A nonnegative real weight passes into a sum. -/
theorem weight_sum {n : Nat} (w : EReal) (h0 : 0 ≤ w) (ht : w ≠ ⊤) (f : Fin n → EReal) : w * ∑ j, f j = ∑ j, w * f j := by
  classical
  refine Finset.induction_on (Finset.univ : Finset (Fin n)) (by simp) ?_
  intro a s ha ih
  rw [Finset.sum_insert ha, Finset.sum_insert ha, EReal.left_distrib_of_nonneg_of_ne_top h0 ht, ih]

/-- An expert's result with the weight inside, before the second product. -/
theorem expertOut_weight (x : Fin 1024 → EReal) (wg wu : Fin 1024 → Fin 512 → EReal) (wd : Fin 512 → EReal) (w : EReal) (h0 : 0 ≤ w) (ht : w ≠ ⊤) :
    ∑ f, (silu (∑ d, x d * wg d f) * (∑ d, x d * wu d f) * w) * wd f = w * expertOut x wg wu wd := by
  unfold expertOut
  rw [weight_sum w h0 ht]
  refine Finset.sum_congr rfl fun f _ => ?_
  rw [mul_comm _ w, mul_assoc]

end Cert.Proof

end
-- ==== Proof.Lanes.lean ====
/- The kernel's 128 lanes of logits: which of them a mask keeps, and the largest and the sum of those it keeps. -/
module

public import proofs.«01_k».proof.Proof.Spec

@[expose] public section

set_option maxRecDepth 16384

noncomputable section

namespace Cert.Proof

open Idealize.ShloMosaic

/-- A choice by a decided word. -/
theorem select_ite {p : Prop} [Decidable p] {α : Type} (a b : α) : Scalar.select (if p then (1#1 : BitVec 1) else 0#1) a b = if p then a else b := by
  by_cases h : p
  · rw [if_pos h, if_pos h]; rfl
  · rw [if_neg h, if_neg h]; rfl

/-- The mask of the groups' lanes. -/
theorem mask_groups (l : Fin 128) : IntOp.cmpi CmpIPredicate.slt (BitVec.ofNat 32 l.val) 4#32 = if 0 ≤ l.val ∧ l.val < 0 + 4 then 1#1 else 0#1 := by
  revert l; decide +kernel

/-- The mask of the lanes of a group's experts. -/
theorem mask_experts (g : Fin 4) (l : Fin 128) :
    IntOp.andi (IntOp.cmpi CmpIPredicate.sge (BitVec.ofNat 32 l.val) (Scalar.addi (4#32) (Scalar.muli (4#32) (BitVec.ofNat 32 g.val))))
      (IntOp.cmpi CmpIPredicate.slt (BitVec.ofNat 32 l.val) (Scalar.addi (Scalar.addi (4#32) (Scalar.muli (4#32) (BitVec.ofNat 32 g.val))) 4#32))
      = if 4 + g.val * 4 ≤ l.val ∧ l.val < 4 + g.val * 4 + 4 then 1#1 else 0#1 := by
  revert g l; decide +kernel

/-- The mask of one group's lane, and of one expert's lane. -/
theorem mask_group (g : Fin 4) (l : Fin 128) : IntOp.cmpi CmpIPredicate.eq (BitVec.ofNat 32 l.val) (BitVec.ofNat 32 g.val) = if l.val = g.val then 1#1 else 0#1 := by
  revert g l; decide +kernel

theorem mask_expert (e : Fin 16) (l : Fin 128) :
    IntOp.cmpi CmpIPredicate.eq (BitVec.ofNat 32 l.val) (Scalar.addi (4#32) (BitVec.ofNat 32 e.val)) = if l.val = 4 + e.val then 1#1 else 0#1 := by
  revert e l; decide +kernel

/-- The largest of four neighbouring lanes. -/
theorem block_max (f : Fin 128 → EReal) (b : Nat) (hb : b + 4 ≤ 128) :
    Finset.fold max ⊥ (fun l : Fin 128 => if b ≤ l.val ∧ l.val < b + 4 then f l else ⊥) Finset.univ = top (fun j => f ⟨b + j.val, by omega⟩) := by
  show Finset.sup Finset.univ (fun l : Fin 128 => if b ≤ l.val ∧ l.val < b + 4 then f l else ⊥) = Finset.sup Finset.univ (fun j : Fin 4 => f ⟨b + j.val, by omega⟩)
  refine le_antisymm (Finset.sup_le fun l _ => ?_) (Finset.sup_le fun j _ => ?_)
  · split
    · rename_i h
      have := Finset.le_sup (f := fun j : Fin 4 => f ⟨b + j.val, by omega⟩) (Finset.mem_univ (⟨l.val - b, by omega⟩ : Fin 4))
      refine le_trans (le_of_eq ?_) this
      exact congrArg f (Fin.ext (by show l.val = b + (l.val - b); omega))
    · exact bot_le
  · have := Finset.le_sup (f := fun l : Fin 128 => if b ≤ l.val ∧ l.val < b + 4 then f l else ⊥) (Finset.mem_univ (⟨b + j.val, by omega⟩ : Fin 128))
    refine le_trans (le_of_eq ?_) this
    dsimp only
    rw [if_pos (by omega)]

/-- The sum of four neighbouring lanes. -/
theorem block_sum (f : Fin 128 → EReal) (b : Nat) (hb : b + 4 ≤ 128) :
    ∑ l : Fin 128, (if b ≤ l.val ∧ l.val < b + 4 then f l else 0) = ∑ j : Fin 4, f ⟨b + j.val, by omega⟩ := by
  symm
  refine Finset.sum_of_injOn (fun j : Fin 4 => (⟨b + j.val, by omega⟩ : Fin 128)) ?_ ?_ ?_ ?_
  · intro i _ j _ h
    have := congrArg Fin.val h
    exact Fin.ext (by simp only at this; omega)
  · intro i _; exact Finset.mem_coe.2 (Finset.mem_univ _)
  · intro l _ h
    rw [if_neg]
    intro q
    refine h ⟨⟨l.val - b, by omega⟩, Finset.mem_coe.2 (Finset.mem_univ _), Fin.ext ?_⟩
    show b + (l.val - b) = l.val
    omega
  · intro j _
    rw [if_pos (by dsimp only; omega)]

/-- The sum that keeps one lane. -/
theorem lane_sum (f : Fin 128 → EReal) (n : Nat) (hn : n < 128) : ∑ l : Fin 128, (if l.val = n then f l else 0) = f ⟨n, hn⟩ := by
  rw [Finset.sum_eq_single (⟨n, hn⟩ : Fin 128)]
  · simp
  · intro b _ hb
    rw [if_neg (fun h => hb (Fin.ext h))]
  · intro h; exact absurd (Finset.mem_univ _) h

end Cert.Proof

end
-- ==== Proof.KernelRows.lean ====
/- The kernel's tile read at a row and a column: the weighted pair of experts, each weight inside its expert's sum. -/
module

public import proofs.«01_k».proof.Proof.Launch
public import proofs.«01_k».proof.Proof.Lanes

@[expose] public section

set_option maxRecDepth 16384

noncomputable section

namespace Cert.Proof

open Cert.KernelIdeal Cert.KernelIdeal.Gen
open Idealize.ShloMosaic
open Idealize.ShloMosaic.TcCoe

/-- The pattern of minus infinity denotes minus infinity. -/
theorem neg_infinity_eq : Ideal.ofBits FTy.f32 (4286578688#32) = (⊥ : EReal) := by simp [Ideal.ofBits, Ideal.ieee]

/-- A row's logits of the groups, and of a group's experts. -/
def lgGroups (v : FVec Ideal S256x128 .f32) (r : Fin 256) : Fin 4 → EReal := fun j => v (ix2 r ⟨0 + j.val, by omega⟩)
def lgExperts (v : FVec Ideal S256x128 .f32) (r : Fin 256) (g : Fin 4) : Fin 4 → EReal := fun j => v (ix2 r ⟨4 + g.val * 4 + j.val, by omega⟩)

section
variable (v10 v11 v12 v13 v14 v15 v16 v17 : Vec Ideal S256x128 .f32) (v20 : Vec Ideal S1024x128 .bf16) (v23 : Vec Ideal S1x128 .f32) (r : Fin 256)

theorem pay5_apply (l : Fin 128) : k0_pay5 (ix2 r l) = if 0 ≤ l.val ∧ l.val < 0 + 4 then 1#1 else 0#1 := by
  pointwise [k0_pay5]
  rw [mask_groups]
  simp only [Nat.zero_le, true_and, Nat.zero_add]

theorem pay6_apply : k0_pay6 v10 v11 v12 v13 v14 v15 v16 v17 v20 v23 (ix2 r 0) = top (lgGroups (k0_pay4 v10 v11 v12 v13 v14 v15 v16 v17 v20 v23) r) := by
  pointwise [k0_pay6]
  simp only [neg_infinity_eq, pay5_apply, select_ite]
  exact block_max (fun l => k0_pay4 v10 v11 v12 v13 v14 v15 v16 v17 v20 v23 (ix2 r l)) 0 (by decide)

theorem pay7_apply (l : Fin 128) : k0_pay7 v10 v11 v12 v13 v14 v15 v16 v17 v20 v23 (ix2 r l)
    = if 0 ≤ l.val ∧ l.val < 0 + 4 then Ideal.exp (k0_pay4 v10 v11 v12 v13 v14 v15 v16 v17 v20 v23 (ix2 r l)
        - top (lgGroups (k0_pay4 v10 v11 v12 v13 v14 v15 v16 v17 v20 v23) r)) else 0 := by
  pointwise [k0_pay7]
  rw [pay5_apply, pay6_apply, select_ite]
  simp only [Nat.zero_le, true_and, Nat.zero_add]

/-- The group's softmax entry. -/
theorem pay8_apply (g : Fin 4) (w : Elt Ideal .i32) (hw : w = BitVec.ofNat 32 g.val) :
    k0_pay8 (k0_pay4 v10 v11 v12 v13 v14 v15 v16 v17 v20 v23) w (iota .tc S256x128 32 [1] iota_S256x128_d1_w32) (k0_pay6 v10 v11 v12 v13 v14 v15 v16 v17 v20 v23)
        (k0_pay7 v10 v11 v12 v13 v14 v15 v16 v17 v20 v23) (ix2 r 0)
      = soft (lgGroups (k0_pay4 v10 v11 v12 v13 v14 v15 v16 v17 v20 v23) r) g := by
  pointwise [k0_pay8]
  simp only [hw, mask_group, select_ite, pay7_apply, pay6_apply]
  rw [lane_sum (fun l => k0_pay4 v10 v11 v12 v13 v14 v15 v16 v17 v20 v23 (ix2 r l)) g.val (by omega),
    block_sum (fun l => Ideal.exp (k0_pay4 v10 v11 v12 v13 v14 v15 v16 v17 v20 v23 (ix2 r l)
        - top (lgGroups (k0_pay4 v10 v11 v12 v13 v14 v15 v16 v17 v20 v23) r))) 0 (by decide)]
  unfold soft lgGroups
  simp only [Nat.zero_add]
end

section
variable (v : FVec Ideal S256x128 .f32) (g a b : Fin 4) (r : Fin 256) (w wl wh : Elt Ideal .i32) (hw : w = BitVec.ofNat 32 g.val)
  (hl : wl = BitVec.ofNat 32 (member g a).val) (hh : wh = BitVec.ofNat 32 (member g b).val)
include hw

theorem pay9_apply (l : Fin 128) : k0_pay9 (F := Ideal) w (iota .tc S256x128 32 [1] iota_S256x128_d1_w32) (ix2 r l) = if 4 + g.val * 4 ≤ l.val ∧ l.val < 4 + g.val * 4 + 4 then 1#1 else 0#1 := by
  pointwise [k0_pay9]
  rw [hw]
  exact mask_experts g l

theorem pay10_apply : k0_pay10 v w (iota .tc S256x128 32 [1] iota_S256x128_d1_w32) (ix2 r 0) = top (lgExperts v r g) := by
  pointwise [k0_pay10]
  simp only [neg_infinity_eq, pay9_apply g r w hw, select_ite]
  exact block_max (fun l => v (ix2 r l)) (4 + g.val * 4) (by omega)

theorem pay11_apply : k0_pay11 v w (iota .tc S256x128 32 [1] iota_S256x128_d1_w32) (ix2 r 0) = ∑ j, Ideal.exp (lgExperts v r g j - top (lgExperts v r g)) := by
  pointwise [k0_pay11]
  simp only [pay9_apply g r w hw, select_ite, pay10_apply v g r w hw]
  exact block_sum (fun l => Ideal.exp (v (ix2 r l) - top (lgExperts v r g))) (4 + g.val * 4) (by omega)

include hl in
/-- The lower expert's softmax entry. -/
theorem pay12_apply : k0_pay12 v w wl (iota .tc S256x128 32 [1] iota_S256x128_d1_w32) (ix2 r 0) = soft (lgExperts v r g) a := by
  pointwise [k0_pay12]
  simp only [hl, mask_expert, select_ite, pay10_apply v g r w hw, pay11_apply v g r w hw]
  rw [lane_sum (fun l => v (ix2 r l)) (4 + (member g a).val) (by omega)]
  unfold soft lgExperts
  simp only [member, Nat.add_assoc]

include hh in
/-- The higher expert's softmax entry. -/
theorem pay14_apply : k0_pay14 (k0_pay10 v w (iota .tc S256x128 32 [1] iota_S256x128_d1_w32)) (k0_pay11 v w (iota .tc S256x128 32 [1] iota_S256x128_d1_w32))
      (k0_pay13 v wh (iota .tc S256x128 32 [1] iota_S256x128_d1_w32)) (ix2 r 0) = soft (lgExperts v r g) b := by
  pointwise [k0_pay14, k0_pay13]
  simp only [hh, mask_expert, select_ite, pay10_apply v g r w hw, pay11_apply v g r w hw]
  rw [lane_sum (fun l => v (ix2 r l)) (4 + (member g b).val) (by omega)]
  unfold soft lgExperts
  simp only [member, Nat.add_assoc]
end

/-- The two experts' products and their sum, over the weights' parts. -/
theorem pair_apply (v19 : FVec Ideal S256x1024 .bf16) (v55 v67 v74 v84 : FVec Ideal S256x1 .f32) (v89 : FVec Ideal S256x128 .f32)
    (v101 v104 : Vec Ideal S1x1024x512 .bf16) (v119 : Vec Ideal S1x512x1024 .bf16) (v122 v125 : Vec Ideal S1x1024x512 .bf16)
    (v140 : Vec Ideal S1x512x1024 .bf16) (r : Fin 256) (c : Fin 1024) (x : Fin 1024 → EReal) (W A B : EReal)
    (hx : ∀ d, v19 (ix2 r d) = x d) (h55 : v55 (ix2 r 0) = W) (h84 : v84 (ix2 r 0) = A) (h14 : k0_pay14 v67 v74 v89 (ix2 r 0) = B) :
    k0_pay19 v19 (k0_pay15 v55 v67 v74 v84 v89) (k0_pay16 v19 v55 v67 v74 v84 v89 v101 v104 v119) (k0_pay17 v19 v122) (k0_pay18 v125) v140 (ix2 r c)
      = (∑ f, (silu (∑ d, x d * v101 (ix3 0 d f)) * (∑ d, x d * v104 (ix3 0 d f)) * (W * Ideal.div A (A + B))) * v119 (ix3 0 f c))
        + ∑ f, (silu (∑ d, x d * v122 (ix3 0 d f)) * (∑ d, x d * v125 (ix3 0 d f)) * (W * Ideal.div B (A + B))) * v140 (ix3 0 f c) := by
  pointwise [k0_pay19, k0_pay15, k0_pay16, k0_pay17, k0_pay18]
  simp only [hx, h55, h84, h14, zero_sub]
  rfl

/-- The tile's result, each weight inside its expert's sum. -/
theorem tileY_apply (v10 v11 v12 v13 v14 v15 v16 v17 : Vec Ideal S256x128 .f32) (v20 : Vec Ideal S1024x128 .bf16) (v23 : Vec Ideal S1x128 .f32) (g a b : Fin 4)
    (v101 v104 : Vec Ideal S1x1024x512 .bf16) (v119 : Vec Ideal S1x512x1024 .bf16) (v122 v125 : Vec Ideal S1x1024x512 .bf16)
    (v140 : Vec Ideal S1x512x1024 .bf16) (r : Fin 256) (c : Fin 1024) (x : Fin 1024 → EReal) (G E : Fin 4 → EReal)
    (hx : ∀ d, k0_pay3 v10 v11 v12 v13 v14 v15 v16 v17 (ix2 r d) = x d)
    (hG : lgGroups (k0_pay4 v10 v11 v12 v13 v14 v15 v16 v17 v20 v23) r = G)
    (hE : lgExperts (k0_pay4 v10 v11 v12 v13 v14 v15 v16 v17 v20 v23) r g = E) :
    tileY v10 v11 v12 v13 v14 v15 v16 v17 v20 v23 (BitVec.ofNat 32 g.val) (BitVec.ofNat 32 (member g a).val) (BitVec.ofNat 32 (member g b).val)
        v101 v104 v119 v122 v125 v140 (ix2 r c)
      = (∑ f, (silu (∑ d, x d * v101 (ix3 0 d f)) * (∑ d, x d * v104 (ix3 0 d f)) * (soft G g * Ideal.div (soft E a) (soft E a + soft E b))) * v119 (ix3 0 f c))
        + ∑ f, (silu (∑ d, x d * v122 (ix3 0 d f)) * (∑ d, x d * v125 (ix3 0 d f)) * (soft G g * Ideal.div (soft E b) (soft E a + soft E b))) * v140 (ix3 0 f c) := by
  subst hG hE
  exact pair_apply _ _ _ _ _ _ v101 v104 v119 v122 v125 v140 r c x _ _ _ hx
    (pay8_apply v10 v11 v12 v13 v14 v15 v16 v17 v20 v23 r g _ rfl)
    (pay12_apply (k0_pay4 v10 v11 v12 v13 v14 v15 v16 v17 v20 v23) g a r _ _ rfl rfl)
    (pay14_apply (k0_pay4 v10 v11 v12 v13 v14 v15 v16 v17 v20 v23) g b r _ _ rfl rfl)

/-- A row's entries, of the block of lane rows. -/
theorem pay3_apply (x5 : S2048x128.Idx → Elt Ideal .f32) (r : Fin 256) (d : Fin 1024) :
    k0_pay3 (F := Ideal) (fun y => x5 ((lanes 0 inb_S2048x128_S256x128_0_0_s_8_1).idx y)) (fun y => x5 ((lanes 1 inb_S2048x128_S256x128_1_0_s_8_1).idx y))
    (fun y => x5 ((lanes 2 inb_S2048x128_S256x128_2_0_s_8_1).idx y)) (fun y => x5 ((lanes 3 inb_S2048x128_S256x128_3_0_s_8_1).idx y))
    (fun y => x5 ((lanes 4 inb_S2048x128_S256x128_4_0_s_8_1).idx y)) (fun y => x5 ((lanes 5 inb_S2048x128_S256x128_5_0_s_8_1).idx y))
    (fun y => x5 ((lanes 6 inb_S2048x128_S256x128_6_0_s_8_1).idx y)) (fun y => x5 ((lanes 7 inb_S2048x128_S256x128_7_0_s_8_1).idx y)) (ix2 r d)
      = x5 (ix2 ⟨r.val * 8 + d.val / 128, by omega⟩ ⟨d.val % 128, Nat.mod_lt _ (by decide)⟩) := by
  pointwise [k0_pay3]
  repeat' split
  all_goals
    exact congrArg x5 (congrArg₂ (fun p q => ix2 p q) (Fin.ext (by dsimp only; omega)) (Fin.ext (by dsimp only; omega)))

end Cert.Proof

end
-- ==== Proof.RefRows.lean ====
/- The reference read at an index: its words, its two softmaxes, its sixteen weights, and its result. -/
module

public import proofs.«01_k».proof.Proof.Gen.ReferenceIdeal.Run
public import proofs.«01_k».proof.Proof.Spec
public import Idealize.ShloMosaic.Lib.Routing.OpsSet

@[expose] public section

set_option maxRecDepth 16384

noncomputable section

namespace Cert.Proof.RefRows

open Cert.ReferenceIdeal Cert.ReferenceIdeal.Gen Cert.ReferenceIdeal.Value
open Idealize.ShloMosaic
open Idealize.ShloMosaic.TcCoe

variable (V0 : Valuation τ sig (Elt Ideal))

/-- A token's entries, of the array of lane rows. -/
def tok (X : (⟨2, ![311296, 128]⟩ : Shape).Idx → EReal) (R : Fin 38912) (d : Fin 1024) : EReal :=
  X (ix2 ⟨R.val * 8 + d.val / 128, by omega⟩ ⟨d.val % 128, Nat.mod_lt _ (by decide)⟩)

/-- The logits of a token: of the groups, and of all experts. -/
def lgt {n : Nat} (x : Fin 1024 → EReal) (W : (⟨2, ![1024, n]⟩ : Shape).Idx → EReal) (b : (⟨1, ![n]⟩ : Shape).Idx → EReal) (g : Fin n) : EReal :=
  (∑ d, x d * W (ix2 d g)) + b (ix1 g)

/-- Expert `e`'s entry `c` for a token. -/
def expAt (x : Fin 1024 → EReal) (Wg Wu : (⟨3, ![16, 1024, 512]⟩ : Shape).Idx → EReal) (Wd : (⟨3, ![16, 512, 1024]⟩ : Shape).Idx → EReal)
    (c : Fin 1024) (e : Fin 16) : EReal :=
  expertOut x (fun d f => Wg (ix3 e d f)) (fun d f => Wu (ix3 e d f)) (fun f => Wd (ix3 e f c))

theorem v0_apply (R : Fin 38912) (d : Fin 1024) :
    (res_main_v0 V0) (ix2 R d : S38912x1024.Idx) = tok (V0 (Proc.devRef .tc main_arg0)) R d := by
  pointwise [res_main_v0, tok]

theorem v2_apply (R : Fin 38912) : (res_main_v2 V0) (ix1 R : S38912.Idx) = V0 (Proc.devRef .tc main_arg1) (ix1 (binOf R) : S152.Idx) := by
  pointwise [res_main_v2]
  rfl

section
variable (R : Fin 38912) (k : Fin 24) (hT : V0 (Proc.devRef .tc main_arg1) (ix1 (binOf R) : S152.Idx) = BitVec.ofNat 32 k.val)
include hT

/-- The token's group. -/
theorem v5_apply : (res_main_v5 V0) (ix1 R : S38912.Idx) = BitVec.ofNat 32 (grpOf k).val := by
  pointwise [res_main_v5, res_main_call0_v2, res_main_call0_v0, id]
  rw [v2_apply, hT]
  clear hT
  revert k
  decide +kernel

/-- The token's pair of experts. -/
theorem v6_apply : (res_main_v6 V0) (ix1 R : S38912.Idx) = BitVec.ofNat 32 (k.val % 6) := by
  pointwise [res_main_v6, res_main_call1_v4, res_main_call1_v2, res_main_call1_v0, id]
  rw [v2_apply, hT]
  clear hT
  revert k
  decide +kernel

/-- The pair as the start of the look-ups. -/
theorem start_apply : (broadcastInDim S38912x1 ![0] bcast_S38912_S38912x1_0
        (select
          (cmpi CmpIPredicate.slt (res_main_v6 V0) (broadcastInDim S38912 ![] bcast_S_S38912 (constantI S_ 32 0#32)))
          (addi (res_main_v6 V0) (broadcastInDim S38912 ![] bcast_S_S38912 (constantI S_ 32 6#32))) (res_main_v6 V0))) (ix2 R (0 : Fin 1) : S38912x1.Idx)
      = BitVec.ofNat 32 (k.val % 6) := by
  pointwise
  rw [v6_apply V0 R k hT]
  clear hT
  revert k
  decide +kernel

/-- The lower expert of the pair. -/
theorem v23_lo : (res_main_v23 V0) (ix2 R 0 : S38912x2.Idx) = BitVec.ofNat 32 (loOf k).val := by
  pointwise [res_main_v23]
  refine (Routing.gather_take1 _ rfl rfl rfl rfl _ _ R (⟨k.val % 6, Nat.mod_lt _ (by decide)⟩ : Fin 6) (start_apply V0 R k hT) (by decide)).trans ?_
  have h : ∀ k : Fin 24, (lit0 (S6.rowMajor (ix1 ⟨k.val % 6, Nat.mod_lt _ (by decide)⟩)) : BitVec 32) = BitVec.ofNat 32 (loOf k).val := by decide +kernel
  exact h k

/-- The higher expert of the pair. -/
theorem v23_hi : (res_main_v23 V0) (ix2 R 1 : S38912x2.Idx) = BitVec.ofNat 32 (hiOf k).val := by
  pointwise [res_main_v23]
  refine (Routing.gather_take1 _ rfl rfl rfl rfl _ _ R (⟨k.val % 6, Nat.mod_lt _ (by decide)⟩ : Fin 6) (start_apply V0 R k hT) (by decide)).trans ?_
  have h : ∀ k : Fin 24, (lit1 (S6.rowMajor (ix1 ⟨k.val % 6, Nat.mod_lt _ (by decide)⟩)) : BitVec 32) = BitVec.ofNat 32 (hiOf k).val := by decide +kernel
  exact h k

/-- The group, one-hot. -/
theorem v24_apply (g : Fin 4) : (res_main_v24 V0) (ix2 R g : S38912x4.Idx) = if (grpOf k).val = g.val then (1 : EReal) else 0 := by
  pointwise [res_main_v24]
  rw [v5_apply V0 R k hT]
  exact oneHot4 (grpOf k) g

end

/-- The groups' logits. -/
theorem v29_apply (R : Fin 38912) (g : Fin 4) : (res_main_v29 V0) (ix2 R g : S38912x4.Idx)
    = lgt (tok (V0 (Proc.devRef .tc main_arg0)) R) (V0 (Proc.devRef .tc main_arg3)) (V0 (Proc.devRef .tc main_arg4)) g := by
  pointwise [res_main_v29, lgt]
  simp only [v0_apply]

/-- The pattern of minus infinity denotes minus infinity. -/
theorem neg_infinity : Ideal.ofBits (φ := .f32) (4286578688#32) = (⊥ : EReal) := by simp [Ideal.ofBits, Ideal.ieee]

/-- The exponentials of a row of four, less its largest. -/
theorem expRow (v : FVec Ideal S38912x4 .f32) (R : Fin 38912) (g : Fin 4) :
    (Host.exp (subf v (broadcastInDim S38912x4 ![0, 1] bcast_S38912x1_S38912x4_0_1 (broadcastInDim S38912x1 ![0] bcast_S38912_S38912x1_0 (maximumf (broadcastInDim S38912 ![] bcast_S_S38912 (constant S_ .f32 0xFF800000#32)) (Host.reduce FloatOps.maximumf v (constant S_ .f32 0xFF800000#32) reducesTo_S38912x4_S38912_d1 h_S_)))))) (ix2 R g)
      = Ideal.exp (v (ix2 R g) - top fun j => v (ix2 R j)) := by
  pointwise
  rw [neg_infinity, max_eq_right bot_le]
  rfl

/-- A token's four group logits, and the four logits of its group's experts. -/
def L29 (R : Fin 38912) : Fin 4 → EReal := fun g => res_main_v29 V0 (ix2 R g : S38912x4.Idx)
def L49 (R : Fin 38912) : Fin 4 → EReal := fun g => res_main_v49 V0 (ix2 R g : S38912x4.Idx)

theorem v36_apply (R : Fin 38912) (g : Fin 4) : (res_main_v36 V0) (ix2 R g : S38912x4.Idx)
    = Ideal.exp (L29 V0 R g - top (L29 V0 R)) :=
  expRow (res_main_v29 V0) R g

theorem v56_apply (R : Fin 38912) (g : Fin 4) : (res_main_v56 V0) (ix2 R g : S38912x4.Idx)
    = Ideal.exp (L49 V0 R g - top (L49 V0 R)) :=
  expRow (res_main_v49 V0) R g

section
variable (R : Fin 38912) (k : Fin 24) (hT : V0 (Proc.devRef .tc main_arg1) (ix1 (binOf R) : S152.Idx) = BitVec.ofNat 32 k.val)
include hT

/-- The logits of the group's experts. -/
theorem v49_apply (e : Fin 4) : (res_main_v49 V0) (ix2 R e : S38912x4.Idx)
    = lgt (tok (V0 (Proc.devRef .tc main_arg0)) R) (V0 (Proc.devRef .tc main_arg5)) (V0 (Proc.devRef .tc main_arg6)) (member (grpOf k) e) := by
  pointwise [res_main_v49]
  simp only [v24_apply V0 R k hT, v0_apply]
  exact sum_oneHot (fun g => lgt (tok (V0 (Proc.devRef .tc main_arg0)) R) (V0 (Proc.devRef .tc main_arg5)) (V0 (Proc.devRef .tc main_arg6)) (member g e)) (grpOf k)

/-- The softmax entry of the lower expert. -/
theorem v61_lo : (res_main_v61 V0) (ix2 R 0 : S38912x2.Idx) = soft (L49 V0 R) (loOf k) := by
  pointwise [res_main_v61]
  rw [v23_lo V0 R k hT]
  simp only [v56_apply, oneHot4]
  exact sum_oneHot (soft (L49 V0 R)) (loOf k)

/-- The softmax entry of the higher expert. -/
theorem v61_hi : (res_main_v61 V0) (ix2 R 1 : S38912x2.Idx) = soft (L49 V0 R) (hiOf k) := by
  pointwise [res_main_v61]
  rw [v23_hi V0 R k hT]
  simp only [v56_apply, oneHot4]
  exact sum_oneHot (soft (L49 V0 R)) (hiOf k)

end

end Cert.Proof.RefRows

end
-- ==== Proof.Weights.lean ====
/- Softmax entries and weights of real logits are nonnegative real numbers. -/
module

public import proofs.«01_k».proof.Proof.RefRows

@[expose] public section

set_option maxRecDepth 16384

noncomputable section

namespace Cert.Proof

open Idealize.ShloMosaic

/-- An extended real that is a real number, and one that is a positive real number. -/
def IsReal (x : EReal) : Prop := ∃ r : ℝ, x = (r : EReal)
def IsPos (x : EReal) : Prop := ∃ r : ℝ, 0 < r ∧ x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.sum {n : Nat} (f : Fin n → EReal) (h : ∀ j, IsReal (f j)) : IsReal (∑ j, f j) :=
  Finset.sum_induction f IsReal (fun _ _ => IsReal.add) ⟨0, rfl⟩ fun j _ => h j

theorem IsPos.add {x y : EReal} (hx : IsPos x) (hy : IsPos y) : IsPos (x + y) := by
  obtain ⟨a, ha, rfl⟩ := hx; obtain ⟨b, hb, rfl⟩ := hy; exact ⟨a + b, add_pos ha hb, (EReal.coe_add a b).symm⟩
theorem IsPos.mul {x y : EReal} (hx : IsPos x) (hy : IsPos y) : IsPos (x * y) := by
  obtain ⟨a, ha, rfl⟩ := hx; obtain ⟨b, hb, rfl⟩ := hy; exact ⟨a * b, mul_pos ha hb, (EReal.coe_mul a b).symm⟩
theorem IsPos.div {x y : EReal} (hx : IsPos x) (hy : IsPos y) : IsPos (Ideal.div x y) := by
  obtain ⟨a, ha, rfl⟩ := hx; obtain ⟨b, hb, rfl⟩ := hy
  refine ⟨a * b⁻¹, mul_pos ha (inv_pos.2 hb), ?_⟩
  unfold Ideal.div
  rw [if_neg (by exact_mod_cast hb.ne'), ← EReal.coe_inv, ← EReal.coe_mul]

/-- The logits of a real token under real parameters are real. -/
theorem lgt_real {n : Nat} (x : Fin 1024 → EReal) (W : (⟨2, ![1024, n]⟩ : Shape).Idx → EReal) (b : (⟨1, ![n]⟩ : Shape).Idx → EReal) (g : Fin n)
    (hx : ∀ d, IsReal (x d)) (hW : ∀ j, IsReal (W j)) (hb : ∀ j, IsReal (b j)) : IsReal (RefRows.lgt x W b g) :=
  (IsReal.sum _ fun d => (hx d).mul (hW _)).add (hb _)

/-- The largest of four real logits is real. -/
theorem top_real (L : Fin 4 → EReal) (h : ∀ j, IsReal (L j)) : IsReal (top L) := by
  obtain ⟨j, _, e⟩ := Finset.exists_mem_eq_sup (Finset.univ : Finset (Fin 4)) ⟨0, Finset.mem_univ _⟩ L
  have : top L = L j := e
  rw [this]; exact h j

/-- The exponential of a difference of reals is positive. -/
theorem exp_pos_of (x y : EReal) (hx : IsReal x) (hy : IsReal y) : IsPos (Ideal.exp (x - y)) := by
  obtain ⟨a, rfl⟩ := hx; obtain ⟨b, rfl⟩ := hy
  refine ⟨Real.exp (a - b), Real.exp_pos _, ?_⟩
  rw [← EReal.coe_sub]; rfl

/-- A softmax entry of real logits is a positive real. -/
theorem soft_pos (L : Fin 4 → EReal) (h : ∀ j, IsReal (L j)) (k : Fin 4) : IsPos (soft L k) := by
  have e : ∀ j, IsPos (Ideal.exp (L j - top L)) := fun j => exp_pos_of _ _ (h j) (top_real L h)
  unfold soft
  refine (e k).div ?_
  rw [Fin.sum_univ_four]
  exact (((e 0).add (e 1)).add (e 2)).add (e 3)

/-- A weight of real logits. -/
theorem weight_pos (G E : Fin 4 → EReal) (hG : ∀ j, IsReal (G j)) (hE : ∀ j, IsReal (E j)) (g a b c : Fin 4) :
    IsPos (soft G g * Ideal.div (soft E a) (soft E b + soft E c)) :=
  (soft_pos G hG g).mul ((soft_pos E hE a).div ((soft_pos E hE b).add (soft_pos E hE c)))

theorem IsPos.nonneg {x : EReal} (h : IsPos x) : 0 ≤ x := by
  obtain ⟨a, ha, rfl⟩ := h; exact_mod_cast ha.le
theorem IsPos.ne_top {x : EReal} (h : IsPos x) : x ≠ ⊤ := by
  obtain ⟨a, _, rfl⟩ := h; exact EReal.coe_ne_top a

/-- The layer's entry for a token: the weighted pair of experts that the token's tile names. -/
def entry (x : Fin 1024 → EReal) (a3 : (⟨2, ![1024, 4]⟩ : Shape).Idx → EReal) (a4 : (⟨1, ![4]⟩ : Shape).Idx → EReal)
    (a5 : (⟨2, ![1024, 16]⟩ : Shape).Idx → EReal) (a6 : (⟨1, ![16]⟩ : Shape).Idx → EReal)
    (a7 a8 : (⟨3, ![16, 1024, 512]⟩ : Shape).Idx → EReal) (a9 : (⟨3, ![16, 512, 1024]⟩ : Shape).Idx → EReal) (k : Fin 24) (c : Fin 1024) : EReal :=
  let G : Fin 4 → EReal := fun g => RefRows.lgt x a3 a4 g
  let E : Fin 4 → EReal := fun e => RefRows.lgt x a5 a6 (member (grpOf k) e)
  (soft G (grpOf k) * Ideal.div (soft E (loOf k)) (soft E (loOf k) + soft E (hiOf k))) * RefRows.expAt x a7 a8 a9 c (member (grpOf k) (loOf k))
    + (soft G (grpOf k) * Ideal.div (soft E (hiOf k)) (soft E (loOf k) + soft E (hiOf k))) * RefRows.expAt x a7 a8 a9 c (member (grpOf k) (hiOf k))

end Cert.Proof

end
-- ==== Proof.KernelEntry.lean ====
/- The kernel's output block at an index, in a closed form. -/
module

public import proofs.«01_k».proof.Proof.KernelRows
public import proofs.«01_k».proof.Proof.Weights

@[expose] public section

set_option maxRecDepth 16384

noncomputable section

namespace Cert.Proof

open Cert.KernelIdeal Cert.KernelIdeal.Gen
open Idealize.ShloMosaic
open Idealize.ShloMosaic.TcCoe

/-! The router's parameters at the lanes of the groups and of the experts. -/

theorem routerW_group (wg : FVec Ideal S1024x4 .f32) (we : FVec Ideal S1024x16 .f32) (d : Fin 1024) (j : Fin 4) :
    routerW wg we (ix2 d ⟨0 + j.val, by omega⟩) = wg (ix2 d j) := by
  pointwise [routerW]
  rw [dif_pos (by omega)]

theorem routerW_expert (wg : FVec Ideal S1024x4 .f32) (we : FVec Ideal S1024x16 .f32) (d : Fin 1024) (g j : Fin 4) :
    routerW wg we (ix2 d ⟨4 + g.val * 4 + j.val, by omega⟩) = we (ix2 d (member g j)) := by
  pointwise [routerW]
  rw [dif_pos (by omega), dif_neg (by omega)]
  exact congrArg we (congrArg₂ (fun p q => ix2 p q) rfl (Fin.ext (by show _ = g.val * 4 + j.val; dsimp only; omega)))

theorem routerB_group (bg : FVec Ideal S4 .f32) (be : FVec Ideal S16 .f32) (j : Fin 4) :
    routerB bg be (ix2 0 ⟨0 + j.val, by omega⟩) = bg (ix1 j) := by
  pointwise [routerB]
  rw [dif_pos (by omega)]

theorem routerB_expert (bg : FVec Ideal S4 .f32) (be : FVec Ideal S16 .f32) (g j : Fin 4) :
    routerB bg be (ix2 0 ⟨4 + g.val * 4 + j.val, by omega⟩) = be (ix1 (member g j)) := by
  pointwise [routerB]
  rw [dif_pos (by omega), dif_neg (by omega)]
  exact congrArg be (congrArg (fun q => ix1 q) (Fin.ext (by show _ = g.val * 4 + j.val; dsimp only; omega)))

/-- The logits of a tile's row at a lane. -/
theorem pay4_apply (v10 v11 v12 v13 v14 v15 v16 v17 : Vec Ideal S256x128 .f32) (v20 : Vec Ideal S1024x128 .bf16) (v23 : Vec Ideal S1x128 .f32)
    (r : Fin 256) (l : Fin 128) (x : Fin 1024 → EReal) (hx : ∀ d, k0_pay3 v10 v11 v12 v13 v14 v15 v16 v17 (ix2 r d) = x d) :
    k0_pay4 v10 v11 v12 v13 v14 v15 v16 v17 v20 v23 (ix2 r l) = (∑ d, x d * v20 (ix2 d l)) + v23 (ix2 0 l) := by
  pointwise [k0_pay4]
  simp only [hx]

/-- A tile's result at a row and a column is the layer's entry. -/
theorem fullTile_entry (a3 : FVec Ideal S1024x4 .f32) (a4 : FVec Ideal S4 .f32) (a5 : FVec Ideal S1024x16 .f32) (a6 : FVec Ideal S16 .f32)
    (a7 a8 : FVec Ideal S16x1024x512 .f32) (a9 : FVec Ideal S16x512x1024 .f32) (k : Fin 24) (x : Fin 1024 → EReal)
    (h3 : ∀ j, IsReal (a3 j)) (h4 : ∀ j, IsReal (a4 j)) (h5 : ∀ j, IsReal (a5 j)) (h6 : ∀ j, IsReal (a6 j)) (hxr : ∀ d, IsReal (x d))
    (x5 : S2048x128.Idx → Elt Ideal .f32) (x6 : S1024x128.Idx → Elt Ideal .bf16) (x7 : S1x128.Idx → Elt Ideal .f32)
    (x8 x9 : S1x1024x512.Idx → Elt Ideal .bf16) (x10 : S1x512x1024.Idx → Elt Ideal .bf16) (x11 x12 : S1x1024x512.Idx → Elt Ideal .bf16)
    (x13 : S1x512x1024.Idx → Elt Ideal .bf16) (r : Fin 256) (c : Fin 1024)
    (hx : ∀ d : Fin 1024, x5 (ix2 ⟨r.val * 8 + d.val / 128, by omega⟩ ⟨d.val % 128, Nat.mod_lt _ (by decide)⟩) = x d)
    (hW : ∀ d l, x6 (ix2 d l) = routerW a3 a5 (ix2 d l)) (hB : ∀ l, x7 (ix2 0 l) = routerB a4 a6 (ix2 0 l))
    (h8 : ∀ d f, x8 (ix3 0 d f) = a7 (ix3 (member (grpOf k) (loOf k)) d f)) (h9 : ∀ d f, x9 (ix3 0 d f) = a8 (ix3 (member (grpOf k) (loOf k)) d f))
    (h10 : ∀ f c, x10 (ix3 0 f c) = a9 (ix3 (member (grpOf k) (loOf k)) f c))
    (h11 : ∀ d f, x11 (ix3 0 d f) = a7 (ix3 (member (grpOf k) (hiOf k)) d f)) (h12 : ∀ d f, x12 (ix3 0 d f) = a8 (ix3 (member (grpOf k) (hiOf k)) d f))
    (h13 : ∀ f c, x13 (ix3 0 f c) = a9 (ix3 (member (grpOf k) (hiOf k)) f c)) :
    fullTile (BitVec.ofNat 32 (grpOf k).val) (BitVec.ofNat 32 (member (grpOf k) (loOf k)).val) (BitVec.ofNat 32 (member (grpOf k) (hiOf k)).val)
        x5 x6 x7 x8 x9 x10 x11 x12 x13 (ix2 r c)
      = entry x a3 a4 a5 a6 a7 a8 a9 k c := by
  have hp3 := fun d => (pay3_apply x5 r d).trans (hx d)
  refine (tileY_apply _ _ _ _ _ _ _ _ x6 x7 (grpOf k) (loOf k) (hiOf k) x8 x9 x10 x11 x12 x13 r c x
    (fun g => RefRows.lgt x a3 a4 g) (fun e => RefRows.lgt x a5 a6 (member (grpOf k) e)) hp3 (funext fun j => ?_) (funext fun j => ?_)).trans ?_
  · refine (pay4_apply _ _ _ _ _ _ _ _ x6 x7 r _ x hp3).trans ?_
    simp only [hW, hB, routerW_group, routerB_group]
    rfl
  · refine (pay4_apply _ _ _ _ _ _ _ _ x6 x7 r _ x hp3).trans ?_
    simp only [hW, hB, routerW_expert, routerB_expert]
    rfl
  · simp only [h8, h9, h10, h11, h12, h13]
    have hG : ∀ g : Fin 4, IsReal ((fun g => RefRows.lgt x a3 a4 g) g) := fun g => lgt_real x a3 a4 g hxr h3 h4
    have hE : ∀ e : Fin 4, IsReal ((fun e => RefRows.lgt x a5 a6 (member (grpOf k) e)) e) := fun e => lgt_real x a5 a6 (member (grpOf k) e) hxr h5 h6
    have wl := weight_pos _ _ hG hE (grpOf k) (loOf k) (loOf k) (hiOf k)
    have wh := weight_pos _ _ hG hE (grpOf k) (hiOf k) (loOf k) (hiOf k)
    exact congrArg₂ (· + ·)
      (expertOut_weight x (fun d f => a7 (ix3 (member (grpOf k) (loOf k)) d f)) (fun d f => a8 (ix3 (member (grpOf k) (loOf k)) d f))
        (fun f => a9 (ix3 (member (grpOf k) (loOf k)) f c)) _ wl.nonneg wl.ne_top)
      (expertOut_weight x (fun d f => a7 (ix3 (member (grpOf k) (hiOf k)) d f)) (fun d f => a8 (ix3 (member (grpOf k) (hiOf k)) d f))
        (fun f => a9 (ix3 (member (grpOf k) (hiOf k)) f c)) _ wh.nonneg wh.ne_top)

/-- The block of zeros. -/
theorem pay1_apply (j : S2048x128.Idx) : k0_pay1 (F := Ideal) j = (0 : EReal) := by
  show Ideal.ofBits FTy.f32 0#32 = 0
  simp [Ideal.ofBits, Ideal.ieee]

/-- The output block at a lane row, by the tile's validity word. -/
theorem tileOut_apply (g lo hi v : BitVec 32) (x5 : S2048x128.Idx → Elt Ideal .f32) (x6 : S1024x128.Idx → Elt Ideal .bf16) (x7 : S1x128.Idx → Elt Ideal .f32)
    (x8 : S1x1024x512.Idx → Elt Ideal .bf16) (x9 : S1x1024x512.Idx → Elt Ideal .bf16) (x10 : S1x512x1024.Idx → Elt Ideal .bf16) (x11 : S1x1024x512.Idx → Elt Ideal .bf16)
    (x12 : S1x1024x512.Idx → Elt Ideal .bf16) (x13 : S1x512x1024.Idx → Elt Ideal .bf16) (r : Fin 2048) (l : Fin 128) :
    tileOut g lo hi v x5 x6 x7 x8 x9 x10 x11 x12 x13 (ix2 r l)
      = Scalar.select (IntOp.cmpi .ne v 0#32) (fullTile g lo hi x5 x6 x7 x8 x9 x10 x11 x12 x13 (ix2 ⟨r.val / 8, by omega⟩ ⟨r.val % 8 * 128 + l.val, by omega⟩)) (0 : EReal) := by
  unfold tileOut
  by_cases h : v = 0#32
  · rw [if_pos h, h]
    exact pay1_apply _
  · rw [if_neg h, IntOp.cmpi_ne.2 h]
    rfl

end Cert.Proof

end
-- ==== Proof.Blocks.lean ====
/- The blocks of the call's windows at a tile, read off their arrays entry by entry. -/
module

public import proofs.«01_k».proof.Proof.Launch
public import Idealize.ShloMosaic.Lib.Pipeline.ValueKit
public import Idealize.ShloMosaic.Lib.Pointwise

@[expose] public section

set_option maxRecDepth 16384

noncomputable section

namespace Cert.Proof

open Cert.KernelIdeal Cert.KernelIdeal.Gen
open Idealize.ShloMosaic
open Idealize.ShloMosaic.TcCoe

variable {F : FTy → Type} [FloatOps F]
variable (pf : pre0.Contents (Elt F)) (ok : ok0 pf)
variable (V : (c : Dev nD) → (b : Ref sig .tc) → Buf (Elt F) ((c.tc : Thread nD τ).loc b))
variable (c : Dev nD) (t : Fin (cfgA pf ok).N)

/-- The tile's number. -/
theorem transform0_eq : ∀ i : grid0.Coords, cc0_transform_0 i = ![(i 0).val, 0] := by decide +kernel
theorem transform1_eq : ∀ i : grid0.Coords, cc0_transform_1 i = ![0, 0] := by decide +kernel
theorem transform2_eq : ∀ i : grid0.Coords, cc0_transform_2 i = ![0, 0] := by decide +kernel
theorem transform9_eq : ∀ i : grid0.Coords, cc0_transform_9 i = ![(i 0).val, 0] := by decide +kernel

theorem tile_lt (i : grid0.Coords) : (i 0).val < 152 := (i 0).isLt

/-- The tokens' block. -/
theorem iblk0_apply (r : Fin 2048) (l : Fin 128) :
    (iblk pf ok V c (0 : Fin 10) t : S2048x128.Idx → Elt F .f32) (ix2 r l)
      = V c main_arg0 (ix2 ⟨(crd pf ok t 0).val * 2048 + r.val, by have := tile_lt (crd pf ok t); omega⟩ l : S311296x128.Idx) := by
  refine congrArg (V c main_arg0) (funext fun a => Fin.ext ?_)
  match a with
  | ⟨0, _⟩ =>
    show cc0_transform_0 (crd pf ok t) 0 * 2048 + 1 * r.val = _
    rw [transform0_eq, Nat.one_mul]; rfl
  | ⟨1, _⟩ =>
    show cc0_transform_0 (crd pf ok t) 1 * 128 + 1 * l.val = _
    rw [transform0_eq]
    show 0 * 128 + 1 * l.val = l.val
    omega

/-- The router's weights, whole. -/
theorem iblk1_apply (r : Fin 1024) (l : Fin 128) :
    (iblk pf ok V c (1 : Fin 10) t : S1024x128.Idx → Elt F .bf16) (ix2 r l) = V c main_v35 (ix2 r l : S1024x128.Idx) := by
  refine congrArg (V c main_v35) (funext fun a => Fin.ext ?_)
  match a with
  | ⟨0, _⟩ =>
    show cc0_transform_1 (crd pf ok t) 0 * 1024 + 1 * r.val = r.val
    rw [transform1_eq]; show 0 * 1024 + 1 * r.val = r.val; omega
  | ⟨1, _⟩ =>
    show cc0_transform_1 (crd pf ok t) 1 * 128 + 1 * l.val = l.val
    rw [transform1_eq]; show 0 * 128 + 1 * l.val = l.val; omega

/-- The router's biases, whole. -/
theorem iblk2_apply (l : Fin 128) :
    (iblk pf ok V c (2 : Fin 10) t : S1x128.Idx → Elt F .f32) (ix2 0 l) = V c main_v4 (ix2 0 l : S1x128.Idx) := by
  refine congrArg (V c main_v4) (funext fun a => Fin.ext ?_)
  match a with
  | ⟨0, _⟩ =>
    show cc0_transform_2 (crd pf ok t) 0 * 1 + 1 * 0 = 0
    rw [transform2_eq]; rfl
  | ⟨1, _⟩ =>
    show cc0_transform_2 (crd pf ok t) 1 * 128 + 1 * l.val = l.val
    rw [transform2_eq]; show 0 * 128 + 1 * l.val = l.val; omega

/-! The two experts' matrices, at the experts the tables name. -/

theorem iblk3_apply (e : Fin 16) (he : (show BitVec 32 from pf 0 (tileIdx (crd pf ok t))) = BitVec.ofNat 32 e.val) (d : Fin 1024) (f : Fin 512) :
    (iblk pf ok V c (3 : Fin 10) t : S1x1024x512.Idx → Elt F .bf16) (ix3 0 d f) = V c main_v36 (ix3 e d f : S16x1024x512.Idx) := by
  have ht := transform3_eq pf (crd pf ok t)
  rw [he, BitVec.toNat_ofNat, Nat.mod_eq_of_lt (by omega)] at ht
  refine congrArg (V c main_v36) (funext fun a => Fin.ext ?_)
  match a with
  | ⟨0, _⟩ =>
    show cc0_transform_3 k0_off1_inb numel1_S1 pf (crd pf ok t) 0 * 1 + 1 * 0 = e.val
    rw [ht]; show e.val * 1 + 1 * 0 = e.val; omega
  | ⟨1, _⟩ =>
    show cc0_transform_3 k0_off1_inb numel1_S1 pf (crd pf ok t) 1 * 1024 + 1 * d.val = d.val
    rw [ht]; show 0 * 1024 + 1 * d.val = d.val; omega
  | ⟨2, _⟩ =>
    show cc0_transform_3 k0_off1_inb numel1_S1 pf (crd pf ok t) 2 * 512 + 1 * f.val = f.val
    rw [ht]; show 0 * 512 + 1 * f.val = f.val; omega

theorem iblk4_apply (e : Fin 16) (he : (show BitVec 32 from pf 0 (tileIdx (crd pf ok t))) = BitVec.ofNat 32 e.val) (d : Fin 1024) (f : Fin 512) :
    (iblk pf ok V c (4 : Fin 10) t : S1x1024x512.Idx → Elt F .bf16) (ix3 0 d f) = V c main_v37 (ix3 e d f : S16x1024x512.Idx) := by
  have ht := transform4_eq pf (crd pf ok t)
  rw [he, BitVec.toNat_ofNat, Nat.mod_eq_of_lt (by omega)] at ht
  refine congrArg (V c main_v37) (funext fun a => Fin.ext ?_)
  match a with
  | ⟨0, _⟩ =>
    show cc0_transform_4 k0_off1_inb numel1_S1 pf (crd pf ok t) 0 * 1 + 1 * 0 = e.val
    rw [ht]; show e.val * 1 + 1 * 0 = e.val; omega
  | ⟨1, _⟩ =>
    show cc0_transform_4 k0_off1_inb numel1_S1 pf (crd pf ok t) 1 * 1024 + 1 * d.val = d.val
    rw [ht]; show 0 * 1024 + 1 * d.val = d.val; omega
  | ⟨2, _⟩ =>
    show cc0_transform_4 k0_off1_inb numel1_S1 pf (crd pf ok t) 2 * 512 + 1 * f.val = f.val
    rw [ht]; show 0 * 512 + 1 * f.val = f.val; omega

theorem iblk5_apply (e : Fin 16) (he : (show BitVec 32 from pf 0 (tileIdx (crd pf ok t))) = BitVec.ofNat 32 e.val) (d : Fin 512) (f : Fin 1024) :
    (iblk pf ok V c (5 : Fin 10) t : S1x512x1024.Idx → Elt F .bf16) (ix3 0 d f) = V c main_v38 (ix3 e d f : S16x512x1024.Idx) := by
  have ht := transform5_eq pf (crd pf ok t)
  rw [he, BitVec.toNat_ofNat, Nat.mod_eq_of_lt (by omega)] at ht
  refine congrArg (V c main_v38) (funext fun a => Fin.ext ?_)
  match a with
  | ⟨0, _⟩ =>
    show cc0_transform_5 k0_off1_inb numel1_S1 pf (crd pf ok t) 0 * 1 + 1 * 0 = e.val
    rw [ht]; show e.val * 1 + 1 * 0 = e.val; omega
  | ⟨1, _⟩ =>
    show cc0_transform_5 k0_off1_inb numel1_S1 pf (crd pf ok t) 1 * 512 + 1 * d.val = d.val
    rw [ht]; show 0 * 512 + 1 * d.val = d.val; omega
  | ⟨2, _⟩ =>
    show cc0_transform_5 k0_off1_inb numel1_S1 pf (crd pf ok t) 2 * 1024 + 1 * f.val = f.val
    rw [ht]; show 0 * 1024 + 1 * f.val = f.val; omega

theorem iblk6_apply (e : Fin 16) (he : (show BitVec 32 from pf 1 (tileIdx (crd pf ok t))) = BitVec.ofNat 32 e.val) (d : Fin 1024) (f : Fin 512) :
    (iblk pf ok V c (6 : Fin 10) t : S1x1024x512.Idx → Elt F .bf16) (ix3 0 d f) = V c main_v36 (ix3 e d f : S16x1024x512.Idx) := by
  have ht := transform6_eq pf (crd pf ok t)
  rw [he, BitVec.toNat_ofNat, Nat.mod_eq_of_lt (by omega)] at ht
  refine congrArg (V c main_v36) (funext fun a => Fin.ext ?_)
  match a with
  | ⟨0, _⟩ =>
    show cc0_transform_6 k0_off1_inb numel1_S1 pf (crd pf ok t) 0 * 1 + 1 * 0 = e.val
    rw [ht]; show e.val * 1 + 1 * 0 = e.val; omega
  | ⟨1, _⟩ =>
    show cc0_transform_6 k0_off1_inb numel1_S1 pf (crd pf ok t) 1 * 1024 + 1 * d.val = d.val
    rw [ht]; show 0 * 1024 + 1 * d.val = d.val; omega
  | ⟨2, _⟩ =>
    show cc0_transform_6 k0_off1_inb numel1_S1 pf (crd pf ok t) 2 * 512 + 1 * f.val = f.val
    rw [ht]; show 0 * 512 + 1 * f.val = f.val; omega

theorem iblk7_apply (e : Fin 16) (he : (show BitVec 32 from pf 1 (tileIdx (crd pf ok t))) = BitVec.ofNat 32 e.val) (d : Fin 1024) (f : Fin 512) :
    (iblk pf ok V c (7 : Fin 10) t : S1x1024x512.Idx → Elt F .bf16) (ix3 0 d f) = V c main_v37 (ix3 e d f : S16x1024x512.Idx) := by
  have ht := transform7_eq pf (crd pf ok t)
  rw [he, BitVec.toNat_ofNat, Nat.mod_eq_of_lt (by omega)] at ht
  refine congrArg (V c main_v37) (funext fun a => Fin.ext ?_)
  match a with
  | ⟨0, _⟩ =>
    show cc0_transform_7 k0_off1_inb numel1_S1 pf (crd pf ok t) 0 * 1 + 1 * 0 = e.val
    rw [ht]; show e.val * 1 + 1 * 0 = e.val; omega
  | ⟨1, _⟩ =>
    show cc0_transform_7 k0_off1_inb numel1_S1 pf (crd pf ok t) 1 * 1024 + 1 * d.val = d.val
    rw [ht]; show 0 * 1024 + 1 * d.val = d.val; omega
  | ⟨2, _⟩ =>
    show cc0_transform_7 k0_off1_inb numel1_S1 pf (crd pf ok t) 2 * 512 + 1 * f.val = f.val
    rw [ht]; show 0 * 512 + 1 * f.val = f.val; omega

theorem iblk8_apply (e : Fin 16) (he : (show BitVec 32 from pf 1 (tileIdx (crd pf ok t))) = BitVec.ofNat 32 e.val) (d : Fin 512) (f : Fin 1024) :
    (iblk pf ok V c (8 : Fin 10) t : S1x512x1024.Idx → Elt F .bf16) (ix3 0 d f) = V c main_v38 (ix3 e d f : S16x512x1024.Idx) := by
  have ht := transform8_eq pf (crd pf ok t)
  rw [he, BitVec.toNat_ofNat, Nat.mod_eq_of_lt (by omega)] at ht
  refine congrArg (V c main_v38) (funext fun a => Fin.ext ?_)
  match a with
  | ⟨0, _⟩ =>
    show cc0_transform_8 k0_off1_inb numel1_S1 pf (crd pf ok t) 0 * 1 + 1 * 0 = e.val
    rw [ht]; show e.val * 1 + 1 * 0 = e.val; omega
  | ⟨1, _⟩ =>
    show cc0_transform_8 k0_off1_inb numel1_S1 pf (crd pf ok t) 1 * 512 + 1 * d.val = d.val
    rw [ht]; show 0 * 512 + 1 * d.val = d.val; omega
  | ⟨2, _⟩ =>
    show cc0_transform_8 k0_off1_inb numel1_S1 pf (crd pf ok t) 2 * 1024 + 1 * f.val = f.val
    rw [ht]; show 0 * 1024 + 1 * f.val = f.val; omega

end Cert.Proof

end
-- ==== Proof.Output.lean ====
/- The output block of a tile in a closed form, and the output array from its blocks. -/
module

public import proofs.«01_k».proof.Proof.KernelEntry
public import proofs.«01_k».proof.Proof.Blocks

@[expose] public section

set_option maxRecDepth 16384

noncomputable section

namespace Cert.Proof

open Cert.KernelIdeal Cert.KernelIdeal.Gen
open Idealize.ShloMosaic
open Idealize.ShloMosaic.TcCoe

variable (pf : pre0.Contents (Elt Ideal)) (ok : ok0 pf)
variable (V : (c : Dev nD) → (b : Ref sig .tc) → Buf (Elt Ideal) ((c.tc : Thread nD τ).loc b))
variable (c : Dev nD)

/-- A lane row of the whole array, from a tile and a lane row of its block. -/
def laneRow (i : grid0.Coords) (r : Fin 2048) : Fin 311296 := ⟨(i 0).val * 2048 + r.val, by have := tile_lt i; omega⟩

theorem tileIdx_eq (i : grid0.Coords) (r : Fin 2048) : tileIdx i = (ix1 (binOf (rowOf (laneRow i r))) : S152.Idx) := by
  funext a
  obtain rfl : a = 0 := Subsingleton.elim _ _
  refine Fin.ext ?_
  show (i 0).val = ((i 0).val * 2048 + r.val) / 8 / 256
  omega

/-- What a tile leaves in the output block, at a lane row and a lane. -/
theorem oblk_entry (a0 : FVec Ideal S311296x128 .f32) (a3 : FVec Ideal S1024x4 .f32) (a4 : FVec Ideal S4 .f32) (a5 : FVec Ideal S1024x16 .f32) (a6 : FVec Ideal S16 .f32)
    (a7 a8 : FVec Ideal S16x1024x512 .f32) (a9 : FVec Ideal S16x512x1024 .f32) (k : Fin 24) (v : BitVec 32)
    (h0 : ∀ j, IsReal (a0 j)) (h3 : ∀ j, IsReal (a3 j)) (h4 : ∀ j, IsReal (a4 j)) (h5 : ∀ j, IsReal (a5 j)) (h6 : ∀ j, IsReal (a6 j))
    (e0 : V c main_arg0 = a0) (e35 : V c main_v35 = routerW a3 a5) (e4 : V c main_v4 = routerB a4 a6)
    (e36 : V c main_v36 = a7) (e37 : V c main_v37 = a8) (e38 : V c main_v38 = a9) (t : Fin (cfgA pf ok).N)
    (hg : (show BitVec 32 from pf 2 (tileIdx (crd pf ok t))) = BitVec.ofNat 32 (grpOf k).val)
    (hl : (show BitVec 32 from pf 0 (tileIdx (crd pf ok t))) = BitVec.ofNat 32 (member (grpOf k) (loOf k)).val)
    (hh : (show BitVec 32 from pf 1 (tileIdx (crd pf ok t))) = BitVec.ofNat 32 (member (grpOf k) (hiOf k)).val)
    (hv : (show BitVec 32 from pf 3 (tileIdx (crd pf ok t))) = v) (r : Fin 2048) (l : Fin 128) :
    oblk pf ok V c t (ix2 r l)
      = Scalar.select (IntOp.cmpi .ne v 0#32)
          (entry (RefRows.tok a0 (rowOf (laneRow (crd pf ok t) r))) a3 a4 a5 a6 a7 a8 a9 k (colOf (laneRow (crd pf ok t) r) l)) (0 : EReal) := by
  have hT := tile_lt (crd pf ok t)
  refine (tileOut_apply _ _ _ _ _ _ _ _ _ _ _ _ _ r l).trans ?_
  refine congr (congrArg₂ Scalar.select (congrArg (fun w => IntOp.cmpi .ne w 0#32) hv) ?_) rfl
  have hc : (⟨r.val % 8 * 128 + l.val, by omega⟩ : Fin 1024) = colOf (laneRow (crd pf ok t) r) l := Fin.ext (by
    show r.val % 8 * 128 + l.val = ((crd pf ok t 0).val * 2048 + r.val) % 8 * 128 + l.val
    omega)
  have key := fullTile_entry a3 a4 a5 a6 a7 a8 a9 k (RefRows.tok a0 (rowOf (laneRow (crd pf ok t) r))) h3 h4 h5 h6 (fun d => h0 _)
    (iblk pf ok V c (0 : Fin 10) t) (iblk pf ok V c (1 : Fin 10) t) (iblk pf ok V c (2 : Fin 10) t) (iblk pf ok V c (3 : Fin 10) t) (iblk pf ok V c (4 : Fin 10) t)
    (iblk pf ok V c (5 : Fin 10) t) (iblk pf ok V c (6 : Fin 10) t) (iblk pf ok V c (7 : Fin 10) t) (iblk pf ok V c (8 : Fin 10) t)
    ⟨r.val / 8, by omega⟩ (colOf (laneRow (crd pf ok t) r) l)
    (fun d => by
      refine (iblk0_apply pf ok V c t _ _).trans ((congrFun e0 _).trans (congrArg a0 (congrArg₂ (fun p q => ix2 p q) (Fin.ext ?_) rfl)))
      show (crd pf ok t 0).val * 2048 + (r.val / 8 * 8 + d.val / 128) = ((crd pf ok t 0).val * 2048 + r.val) / 8 * 8 + d.val / 128
      omega)
    (fun d l => (iblk1_apply pf ok V c t d l).trans (congrFun e35 _))
    (fun l => (iblk2_apply pf ok V c t l).trans (congrFun e4 _))
    (fun d f => (iblk3_apply pf ok V c t _ hl d f).trans (congrFun e36 _))
    (fun d f => (iblk4_apply pf ok V c t _ hl d f).trans (congrFun e37 _))
    (fun d f => (iblk5_apply pf ok V c t _ hl d f).trans (congrFun e38 _))
    (fun d f => (iblk6_apply pf ok V c t _ hh d f).trans (congrFun e36 _))
    (fun d f => (iblk7_apply pf ok V c t _ hh d f).trans (congrFun e37 _))
    (fun d f => (iblk8_apply pf ok V c t _ hh d f).trans (congrFun e38 _))
  rw [← hg, ← hl, ← hh] at key
  rw [hc]
  exact key

/-! ## The output array -/

theorem coords_val : ∀ t : Fin grid0.N, (grid0.coords t 0).val = t.val := by decide +kernel

theorem crd_val (t : Fin (cfgA pf ok).N) : (crd pf ok t 0).val = t.val := coords_val t

/-- Every tile writes its output block back. -/
theorem flush9 (t : Fin (cfgA pf ok).N) : ((cfgA pf ok).win (9 : Fin 10)).flush t = true := by
  have hidx : ∀ t : Fin (cfgA pf ok).N, ((cfgA pf ok).win (9 : Fin 10)).index t = ![t.val, 0] := fun t => by
    show cc0_transform_9 (crd pf ok t) = _
    rw [transform9_eq, crd_val]
  unfold Pipeline.Window.flush
  rw [Bool.and_eq_true]
  refine ⟨rfl, ?_⟩
  rw [Bool.or_eq_true]
  by_cases h : t.val + 1 = (cfgA pf ok).grid.N
  · exact Or.inl (by simpa using h)
  · refine Or.inr (decide_eq_true ⟨lt_of_le_of_ne t.isLt h, fun e => ?_⟩)
    have e' := ((hidx _).symm.trans e).trans (hidx t)
    have := congrFun e' 0
    have : t.val + 1 = t.val := this
    omega

/-- The output block's place in the array. -/
theorem emb9 (t : Fin (cfgA pf ok).N) (r : Fin 2048) (l : Fin 128) :
    (((cfgA pf ok).win (9 : Fin 10)).blk t).view.emb (ix2 r l : S2048x128.Idx) = (ix2 (laneRow (crd pf ok t) r) l : S311296x128.Idx) := by
  refine funext fun a => Fin.ext ?_
  match a with
  | ⟨0, _⟩ =>
    show cc0_transform_9 (crd pf ok t) 0 * 2048 + 1 * r.val = _
    rw [transform9_eq, Nat.one_mul]; rfl
  | ⟨1, _⟩ =>
    show cc0_transform_9 (crd pf ok t) 1 * 128 + 1 * l.val = _
    rw [transform9_eq]
    show 0 * 128 + 1 * l.val = l.val
    omega

theorem ix2_eta {n m : Nat} (y : (⟨2, ![n, m]⟩ : Shape).Idx) : y = ix2 (y 0) (y 1) := by
  funext a
  match a with
  | ⟨0, _⟩ => rfl
  | ⟨1, _⟩ => rfl

/-- The output array is a function `G` of which every tile's output block is the part. -/
theorem arrAt9 (G : S311296x128.Idx → EReal)
    (hG : ∀ t r l, oblk pf ok V c t (ix2 r l) = G (ix2 (laneRow (crd pf ok t) r) l)) :
    (dats pf ok V 0 c).arrAt (9 : Fin 10) (cfgA pf ok).N = G := by
  refine Pipeline.Dat.arrAt_eq_of_emb (dats pf ok V 0 c) (9 : Fin 10) G (fun t _ y => ?_) (fun i => ?_)
  · have e : y = (ix2 (y (0 : Fin 2)) (y (1 : Fin 2)) : S2048x128.Idx) := ix2_eta (n := 2048) (m := 128) y
    rw [e]
    exact (hG t _ _).trans (congrArg G (emb9 pf ok t _ _).symm)
  · have hi : (i (0 : Fin 2)).val < 311296 := (i (0 : Fin 2)).isLt
    have hN : (i (0 : Fin 2)).val / 2048 < (cfgA pf ok).N := by
      show _ < 152
      omega
    refine ⟨⟨(i (0 : Fin 2)).val / 2048, hN⟩, flush9 pf ok _, ?_⟩
    have e : i = (((cfgA pf ok).win (9 : Fin 10)).blk ⟨(i (0 : Fin 2)).val / 2048, hN⟩).view.emb
        (ix2 ⟨(i (0 : Fin 2)).val % 2048, Nat.mod_lt _ (by decide)⟩ (i (1 : Fin 2)) : S2048x128.Idx) := by
      refine (ix2_eta (n := 311296) (m := 128) i).trans (Eq.trans ?_ (emb9 pf ok _ _ _).symm)
      refine congrArg₂ (fun p q => ix2 p q) (Fin.ext ?_) rfl
      show (i (0 : Fin 2)).val = (crd pf ok ⟨(i (0 : Fin 2)).val / 2048, hN⟩ 0).val * 2048 + (i (0 : Fin 2)).val % 2048
      rw [crd_val]
      show (i (0 : Fin 2)).val = (i (0 : Fin 2)).val / 2048 * 2048 + (i (0 : Fin 2)).val % 2048
      omega
    exact Eq.mpr (congrArg (fun z => z ∈ (((cfgA pf ok).win (9 : Fin 10)).blk ⟨(i (0 : Fin 2)).val / 2048, hN⟩).view.set) e) (View.emb_mem_set _ _)

end Cert.Proof

end
-- ==== Proof.RefValue.lean ====
/- The reference's result at an index: the weighted pair of experts of the row's tile. -/
module

public import proofs.«01_k».proof.Proof.RefRows

@[expose] public section

set_option maxRecDepth 16384

noncomputable section

namespace Cert.Proof.RefRows

open Cert.ReferenceIdeal Cert.ReferenceIdeal.Gen Cert.ReferenceIdeal.Value
open Idealize.ShloMosaic
open Idealize.ShloMosaic.TcCoe

variable (V0 : Valuation τ sig (Elt Ideal))

/-- A group's start and an expert within it, as a word. -/
theorem word_member (g e : Fin 4) : IntOp.addi (IntOp.muli (BitVec.ofNat 32 g.val) 4#32) (BitVec.ofNat 32 e.val) = BitVec.ofNat 32 (member g e).val := by
  revert g e; decide +kernel

/-- The weight of an expert of the row's group: its group's softmax entry times its part of the pair. -/
def wt (L G : Fin 4 → EReal) (g a b : Fin 4) : EReal := soft G g * part L a b

/-- The weight of each of the sixteen experts. -/
def comb (V0 : Valuation τ sig (Elt Ideal)) (R : Fin 38912) (e : Fin 16) : EReal := res_main_v74 V0 (ix2 R e : S38912x16.Idx)

section
variable (R : Fin 38912) (k : Fin 24) (hT : V0 (Proc.devRef .tc main_arg1) (ix1 (binOf R) : S152.Idx) = BitVec.ofNat 32 k.val)
include hT

theorem comb_apply (e : Fin 16) : comb V0 R e
    = (soft (L29 V0 R) (grpOf k) * Ideal.div (soft (L49 V0 R) (loOf k)) (soft (L49 V0 R) (loOf k) + soft (L49 V0 R) (hiOf k)))
        * (if (member (grpOf k) (loOf k)).val = e.val then 1 else 0)
      + (soft (L29 V0 R) (grpOf k) * Ideal.div (soft (L49 V0 R) (hiOf k)) (soft (L49 V0 R) (loOf k) + soft (L49 V0 R) (hiOf k)))
        * (if (member (grpOf k) (hiOf k)).val = e.val then 1 else 0) := by
  unfold comb
  pointwise [res_main_v74]
  simp only [Fin.sum_univ_two]
  simp only [v61_lo V0 R k hT, v61_hi V0 R k hT, v5_apply V0 R k hT, v23_lo V0 R k hT, v23_hi V0 R k hT, word_member, oneHot16, v36_apply, v24_apply V0 R k hT]
  rw [show (∑ x, Ideal.div (Ideal.exp (L29 V0 R x - top (L29 V0 R))) (∑ x, Ideal.exp (L29 V0 R x - top (L29 V0 R))) * (if (grpOf k).val = x.val then (1 : EReal) else 0))
    = soft (L29 V0 R) (grpOf k) from sum_oneHot (soft (L29 V0 R)) (grpOf k)]

end

/-- The experts' results for a row. -/
def expR (V0 : Valuation τ sig (Elt Ideal)) (R : Fin 38912) (c : Fin 1024) (e : Fin 16) : EReal :=
  expAt (tok (V0 (Proc.devRef .tc main_arg0)) R) (V0 (Proc.devRef .tc main_arg7)) (V0 (Proc.devRef .tc main_arg8)) (V0 (Proc.devRef .tc main_arg9)) c e

/-- An expert's gate products for a row. -/
def gate (V0 : Valuation τ sig (Elt Ideal)) (R : Fin 38912) (e : Fin 16) (f : Fin 512) : EReal :=
  ∑ d, tok (V0 (Proc.devRef .tc main_arg0)) R d * V0 (Proc.devRef .tc main_arg7) (ix3 e d f : S16x1024x512.Idx)

theorem v78_apply (R : Fin 38912) (f : Fin 512) : (res_main_v78 V0) (ix2 R f : S38912x512.Idx) = gate V0 R 0 f := by
  pointwise [res_main_v78]; simp only [v0_apply]; rfl
theorem v93_apply (R : Fin 38912) (f : Fin 512) : (res_main_v93 V0) (ix2 R f : S38912x512.Idx) = gate V0 R 1 f := by
  pointwise [res_main_v93]; simp only [v0_apply]; rfl
theorem v108_apply (R : Fin 38912) (f : Fin 512) : (res_main_v108 V0) (ix2 R f : S38912x512.Idx) = gate V0 R 2 f := by
  pointwise [res_main_v108]; simp only [v0_apply]; rfl
theorem v123_apply (R : Fin 38912) (f : Fin 512) : (res_main_v123 V0) (ix2 R f : S38912x512.Idx) = gate V0 R 3 f := by
  pointwise [res_main_v123]; simp only [v0_apply]; rfl
theorem v138_apply (R : Fin 38912) (f : Fin 512) : (res_main_v138 V0) (ix2 R f : S38912x512.Idx) = gate V0 R 4 f := by
  pointwise [res_main_v138]; simp only [v0_apply]; rfl
theorem v153_apply (R : Fin 38912) (f : Fin 512) : (res_main_v153 V0) (ix2 R f : S38912x512.Idx) = gate V0 R 5 f := by
  pointwise [res_main_v153]; simp only [v0_apply]; rfl
theorem v168_apply (R : Fin 38912) (f : Fin 512) : (res_main_v168 V0) (ix2 R f : S38912x512.Idx) = gate V0 R 6 f := by
  pointwise [res_main_v168]; simp only [v0_apply]; rfl
theorem v183_apply (R : Fin 38912) (f : Fin 512) : (res_main_v183 V0) (ix2 R f : S38912x512.Idx) = gate V0 R 7 f := by
  pointwise [res_main_v183]; simp only [v0_apply]; rfl
theorem v198_apply (R : Fin 38912) (f : Fin 512) : (res_main_v198 V0) (ix2 R f : S38912x512.Idx) = gate V0 R 8 f := by
  pointwise [res_main_v198]; simp only [v0_apply]; rfl
theorem v213_apply (R : Fin 38912) (f : Fin 512) : (res_main_v213 V0) (ix2 R f : S38912x512.Idx) = gate V0 R 9 f := by
  pointwise [res_main_v213]; simp only [v0_apply]; rfl
theorem v228_apply (R : Fin 38912) (f : Fin 512) : (res_main_v228 V0) (ix2 R f : S38912x512.Idx) = gate V0 R 10 f := by
  pointwise [res_main_v228]; simp only [v0_apply]; rfl
theorem v243_apply (R : Fin 38912) (f : Fin 512) : (res_main_v243 V0) (ix2 R f : S38912x512.Idx) = gate V0 R 11 f := by
  pointwise [res_main_v243]; simp only [v0_apply]; rfl
theorem v258_apply (R : Fin 38912) (f : Fin 512) : (res_main_v258 V0) (ix2 R f : S38912x512.Idx) = gate V0 R 12 f := by
  pointwise [res_main_v258]; simp only [v0_apply]; rfl
theorem v273_apply (R : Fin 38912) (f : Fin 512) : (res_main_v273 V0) (ix2 R f : S38912x512.Idx) = gate V0 R 13 f := by
  pointwise [res_main_v273]; simp only [v0_apply]; rfl
theorem v288_apply (R : Fin 38912) (f : Fin 512) : (res_main_v288 V0) (ix2 R f : S38912x512.Idx) = gate V0 R 14 f := by
  pointwise [res_main_v288]; simp only [v0_apply]; rfl
theorem v303_apply (R : Fin 38912) (f : Fin 512) : (res_main_v303 V0) (ix2 R f : S38912x512.Idx) = gate V0 R 15 f := by
  pointwise [res_main_v303]; simp only [v0_apply]; rfl

/-- The first five experts' part of the sum. -/
theorem v150_apply (R : Fin 38912) (c : Fin 1024) : (res_main_v150 V0) (ix2 R c : S38912x1024.Idx)
    = comb V0 R 0 * expR V0 R c 0 + comb V0 R 1 * expR V0 R c 1 + comb V0 R 2 * expR V0 R c 2 + comb V0 R 3 * expR V0 R c 3 + comb V0 R 4 * expR V0 R c 4 := by
  pointwise [res_main_v150]
  simp only [v78_apply, v93_apply, v108_apply, v123_apply, v138_apply, v0_apply]
  rfl

/-- The first fifteen. -/
theorem v300_apply (R : Fin 38912) (c : Fin 1024) : (res_main_v300 V0) (ix2 R c : S38912x1024.Idx)
    = comb V0 R 0 * expR V0 R c 0 + comb V0 R 1 * expR V0 R c 1 + comb V0 R 2 * expR V0 R c 2 + comb V0 R 3 * expR V0 R c 3 + comb V0 R 4 * expR V0 R c 4
      + comb V0 R 5 * expR V0 R c 5 + comb V0 R 6 * expR V0 R c 6 + comb V0 R 7 * expR V0 R c 7 + comb V0 R 8 * expR V0 R c 8 + comb V0 R 9 * expR V0 R c 9
      + comb V0 R 10 * expR V0 R c 10 + comb V0 R 11 * expR V0 R c 11 + comb V0 R 12 * expR V0 R c 12 + comb V0 R 13 * expR V0 R c 13 + comb V0 R 14 * expR V0 R c 14 := by
  pointwise [res_main_v300, res_main_v225]
  simp only [v150_apply, v153_apply, v168_apply, v183_apply, v198_apply, v213_apply, v228_apply, v243_apply, v258_apply, v273_apply, v288_apply, v0_apply]
  rfl

/-- The reference's result. -/
theorem result_apply (r : Fin 311296) (l : Fin 128) : (val6 V0 main_v320) (ix2 r l : S311296x128.Idx)
    = Scalar.select (IntOp.cmpi .ne (V0 (Proc.devRef .tc main_arg2) (ix1 (binOf (rowOf r)) : S152.Idx)) 0#32)
        (∑ e, comb V0 (rowOf r) e * expR V0 (rowOf r) (colOf r l) e) (Ideal.ofBits .f32 0#32) := by
  rw [val6_main_v320]
  pointwise [id]
  simp only [v300_apply, v303_apply, v0_apply]
  rw [sum16]
  rfl

end Cert.Proof.RefRows

end
-- ==== Proof.RefEntry.lean ====
/- The reference's result at an index, in a closed form. -/
module

public import proofs.«01_k».proof.Proof.RefValue
public import proofs.«01_k».proof.Proof.Weights

@[expose] public section

set_option maxRecDepth 16384

noncomputable section

namespace Cert.Proof.RefRows

open Cert.ReferenceIdeal Cert.ReferenceIdeal.Gen Cert.ReferenceIdeal.Value
open Idealize.ShloMosaic
open Idealize.ShloMosaic.TcCoe

variable (V0 : Valuation τ sig (Elt Ideal))

/-- The pattern of zero denotes zero. -/
theorem ofBits_zero : Ideal.ofBits FTy.f32 0#32 = (0 : EReal) := by simp [Ideal.ofBits, Ideal.ieee]

/-- The reference's result at an index: the layer's entry where the tile's validity word is not zero. -/
theorem result_entry (r : Fin 311296) (l : Fin 128) (k : Fin 24)
    (hT : V0 (Proc.devRef .tc main_arg1) (ix1 (binOf (rowOf r)) : S152.Idx) = BitVec.ofNat 32 k.val) :
    (val6 V0 main_v320) (ix2 r l : S311296x128.Idx)
      = Scalar.select (IntOp.cmpi .ne (V0 (Proc.devRef .tc main_arg2) (ix1 (binOf (rowOf r)) : S152.Idx)) 0#32)
          (entry (tok (V0 (Proc.devRef .tc main_arg0)) (rowOf r)) (V0 (Proc.devRef .tc main_arg3)) (V0 (Proc.devRef .tc main_arg4))
            (V0 (Proc.devRef .tc main_arg5)) (V0 (Proc.devRef .tc main_arg6)) (V0 (Proc.devRef .tc main_arg7)) (V0 (Proc.devRef .tc main_arg8))
            (V0 (Proc.devRef .tc main_arg9)) k (colOf r l)) (0 : EReal) := by
  have h29 : L29 V0 (rowOf r) = fun g => lgt (tok (V0 (Proc.devRef .tc main_arg0)) (rowOf r)) (V0 (Proc.devRef .tc main_arg3)) (V0 (Proc.devRef .tc main_arg4)) g :=
    funext fun g => v29_apply V0 _ g
  have h49 : L49 V0 (rowOf r) = fun e => lgt (tok (V0 (Proc.devRef .tc main_arg0)) (rowOf r)) (V0 (Proc.devRef .tc main_arg5)) (V0 (Proc.devRef .tc main_arg6)) (member (grpOf k) e) :=
    funext fun e => v49_apply V0 (rowOf r) k hT e
  refine (result_apply V0 r l).trans ?_
  rw [sum_pair (comb V0 (rowOf r)) (expR V0 (rowOf r) (colOf r l)) _ _
    (member_ne (grpOf k) (loOf k) (hiOf k) (lo_ne_hi k)) _ _ (comb_apply V0 (rowOf r) k hT), h29, h49, ofBits_zero]
  rfl

end Cert.Proof.RefRows

end
-- ==== Proof.Algebraic.lean ====
/- The value claim: over the extended reals the kernel's result is the reference's. -/
module

public import proofs.«01_k».proof.Proof.Output
public import proofs.«01_k».proof.Proof.Frames
public import proofs.«01_k».proof.Proof.RefEntry
public import proofs.«01_k».proof.Proof.Gen.ReferenceIdeal.Run
public import proofs.«01_k».proof.Proof.Gen.ReferenceIdeal

@[expose] public section

set_option maxRecDepth 16384

noncomputable section

namespace Cert.Proof

open Idealize.ShloMosaic
open Idealize.ShloMosaic.TcCoe
open Idealize.SL.Sem

/-- Equal arguments have equal entries. -/
theorem entry_congr (r : Fin 311296) (l : Fin 128) (k : Fin 24) {a0 b0 : FVec Ideal ⟨2, ![311296, 128]⟩ .f32} {a2 b2 : IVec ⟨1, ![152]⟩ 32}
    {a3 b3 : FVec Ideal ⟨2, ![1024, 4]⟩ .f32} {a4 b4 : FVec Ideal ⟨1, ![4]⟩ .f32} {a5 b5 : FVec Ideal ⟨2, ![1024, 16]⟩ .f32} {a6 b6 : FVec Ideal ⟨1, ![16]⟩ .f32}
    {a7 b7 a8 b8 : FVec Ideal ⟨3, ![16, 1024, 512]⟩ .f32} {a9 b9 : FVec Ideal ⟨3, ![16, 512, 1024]⟩ .f32}
    (h0 : a0 = b0) (h2 : a2 = b2) (h3 : a3 = b3) (h4 : a4 = b4) (h5 : a5 = b5) (h6 : a6 = b6) (h7 : a7 = b7) (h8 : a8 = b8) (h9 : a9 = b9) :
    Scalar.select (IntOp.cmpi .ne (a2 (ix1 (binOf (rowOf r)))) 0#32) (entry (RefRows.tok a0 (rowOf r)) a3 a4 a5 a6 a7 a8 a9 k (colOf r l)) (0 : EReal)
      = Scalar.select (IntOp.cmpi .ne (b2 (ix1 (binOf (rowOf r)))) 0#32) (entry (RefRows.tok b0 (rowOf r)) b3 b4 b5 b6 b7 b8 b9 k (colOf r l)) (0 : EReal) := by
  subst h0 h2 h3 h4 h5 h6 h7 h8 h9
  rfl

section Kernel
open Cert.KernelIdeal Cert.KernelIdeal.Gen

variable (m : (ℓ : Loc nD τ sig) → Buf (Elt Ideal) ℓ)

theorem valAt_v35 (c : Dev nD) : valAt m c main_v35 = routerW (F := Ideal) (m ((c.tc : Thread nD τ).loc main_arg3)) (m ((c.tc : Thread nD τ).loc main_arg5)) :=
  atCall_v35 (F := Ideal) (fun b => m (c, b))
theorem valAt_v4 (c : Dev nD) : valAt m c main_v4 = routerB (F := Ideal) (m ((c.tc : Thread nD τ).loc main_arg4)) (m ((c.tc : Thread nD τ).loc main_arg6)) :=
  atCall_v4 (F := Ideal) (fun b => m (c, b))
theorem valAt_v36 (c : Dev nD) : valAt m c main_v36 = m ((c.tc : Thread nD τ).loc main_arg7) :=
  (atCall_v36 (F := Ideal) (fun b => m (c, b))).trans rfl
theorem valAt_v37 (c : Dev nD) : valAt m c main_v37 = m ((c.tc : Thread nD τ).loc main_arg8) :=
  (atCall_v37 (F := Ideal) (fun b => m (c, b))).trans rfl
theorem valAt_v38 (c : Dev nD) : valAt m c main_v38 = m ((c.tc : Thread nD τ).loc main_arg9) :=
  (atCall_v38 (F := Ideal) (fun b => m (c, b))).trans rfl

/-- The kernel's output array is any function `G` whose elements are the layer's entries where the tile's validity word is
    not zero, and zero elsewhere. -/
theorem arr_eq (h : BinsOk (m ((core.tc : Thread nD τ).loc main_arg1)))
    (h0 : ∀ j, IsReal (m ((core.tc : Thread nD τ).loc main_arg0) j)) (h3 : ∀ j, IsReal (m ((core.tc : Thread nD τ).loc main_arg3) j))
    (h4 : ∀ j, IsReal (m ((core.tc : Thread nD τ).loc main_arg4) j)) (h5 : ∀ j, IsReal (m ((core.tc : Thread nD τ).loc main_arg5) j))
    (h6 : ∀ j, IsReal (m ((core.tc : Thread nD τ).loc main_arg6) j))
    (G : S311296x128.Idx → EReal)
    (hG : ∀ (r : Fin 311296) (l : Fin 128) (k : Fin 24),
      m ((core.tc : Thread nD τ).loc main_arg1) (ix1 (binOf (rowOf r)) : S152.Idx) = BitVec.ofNat 32 k.val →
      G (ix2 r l) = Scalar.select (IntOp.cmpi .ne (m ((core.tc : Thread nD τ).loc main_arg2) (ix1 (binOf (rowOf r)) : S152.Idx)) 0#32)
        (entry (RefRows.tok (m ((core.tc : Thread nD τ).loc main_arg0)) (rowOf r)) (m ((core.tc : Thread nD τ).loc main_arg3))
          (m ((core.tc : Thread nD τ).loc main_arg4)) (m ((core.tc : Thread nD τ).loc main_arg5)) (m ((core.tc : Thread nD τ).loc main_arg6))
          (m ((core.tc : Thread nD τ).loc main_arg7)) (m ((core.tc : Thread nD τ).loc main_arg8)) (m ((core.tc : Thread nD τ).loc main_arg9))
          k (colOf r l)) (0 : EReal)) :
    (dats (tabs m core) (ok_of_bins m core h) (valAt m) 0 core).arrAt (9 : Fin 10) (cfgA (tabs m core) (ok_of_bins m core h)).N = G := by
  refine arrAt9 (tabs m core) (ok_of_bins m core h) (valAt m) core G (fun t r l => ?_)
  have hx := tileIdx_eq (crd (tabs m core) (ok_of_bins m core h) t) r
  obtain ⟨k, hk, e⟩ := h (tileIdx (crd (tabs m core) (ok_of_bins m core h) t))
  refine Eq.trans ?_ (hG (laneRow (crd (tabs m core) (ok_of_bins m core h) t) r) l ⟨k, hk⟩ ((congrArg _ hx.symm).trans e)).symm
  exact oblk_entry (tabs m core) (ok_of_bins m core h) (valAt m) core _ _ _ _ _ _ _ _ ⟨k, hk⟩ _ h0 h3 h4 h5 h6
    (valAt_arg0 m core) (valAt_v35 m core) (valAt_v4 m core) (valAt_v36 m core) (valAt_v37 m core) (valAt_v38 m core) t
    ((congrFun (tabs_2 m core) _).trans (quotTab_word _ _ k hk e))
    ((congrFun (tabs_0 m core) _).trans (expertTab_lo _ _ k hk e))
    ((congrFun (tabs_1 m core) _).trans (expertTab_hi _ _ k hk e))
    ((congrFun (tabs_3 m core) _).trans (congrArg _ hx)) r l

end Kernel

section
attribute [local instance] Cert.KernelIdeal.Gen.facts Cert.ReferenceIdeal.Gen.facts Cert.Pre_router_finite.Gen.facts

set_option maxHeartbeats 4000000 in
/-- Over the extended reals, with words in range and real router inputs, kernel and reference end with equal results. -/
theorem algebraic : Cert.algebraic_KernelIdeal_ReferenceIdeal_pre_router_finite := by
  intro m g m' g' hp hm
  obtain ⟨hb, h0, h3, h4, h5, h6⟩ := finite_of_pre (hp core)
  have hR := Cert.ReferenceIdeal.Value.run (F := Ideal) m' g'
  have hK := run_bins (F := Ideal) m g hb
  obtain ⟨m0, m1, m2, m3, m4, m5, m6, m7, m8, m9⟩ := hm core
  have key := arr_eq m hb h0 h3 h4 h5 h6 (Cert.ReferenceIdeal.Value.val6 (StableHlo.launchContents m' core) Cert.ReferenceIdeal.main_v320)
    (fun r l k e => (RefRows.result_entry (StableHlo.launchContents m' core) r l k ((congrFun m1 _).trans e)).trans
      (entry_congr r l k m0 m2 m3 m4 m5 m6 m7 m8 m9))
  refine ⟨fun c => (dats (tabs m core) (ok_of_bins m core hb) (valAt m) 0 c).arrAt (9 : Fin 10) (cfgA (tabs m core) (ok_of_bins m core hb)).N, ?_, ?_⟩
  · exact (θ_run _ _ _).mono (fun _ h => h.1) hK
  · refine (θ_run _ _ _).mono (fun r h c => ⟨?_, (h c).2⟩) hR
    obtain rfl : c = core := Subsingleton.elim _ _
    exact ((h core).1.trans (Cert.ReferenceIdeal.Value.val6_main_v320 (StableHlo.launchContents m' core)).symm).trans key.symm

end

end Cert.Proof

end
-- ==== Proof.ProjHost.lean ====
/- What the operations before the projections' call leave in the arrays that it reads. -/
module

public import proofs.«01_k».proof.Proof.Gen.Kernel2Ideal.Value
public import Idealize.ShloMosaic.Lib.StableHlo.RunRead
public import Idealize.ShloMosaic.Lib.StableHlo.Run
public import Idealize.ShloMosaic.Lib.Tactic

@[expose] public section

set_option maxRecDepth 16384

noncomputable section

namespace Cert.Proof.Proj

open Cert.Kernel2Ideal Cert.Kernel2Ideal.Gen
open Idealize.ShloMosaic
open Idealize.ShloMosaic.TcCoe

variable {F : FTy → Type} [FloatOps F]

/-- A buffer's contents when the call starts, from the contents `W` at the start. -/
abbrev atCall (W : Valuation τ sig (Elt F)) : Valuation τ sig (Elt F) :=
  StableHlo.after ([hostOps0, hostOps0_1, hostOps0_2, hostOps0_3, hostOps0_4] : List (List (HloOp τ sig (Elt F)))).flatten W

theorem atCall_v20 (W : Valuation τ sig (Elt F)) :
    atCall W (Proc.devRef .tc main_v20) = broadcastInDim S1x1024 ![1] bcast_S1024_S1x1024_1 (W (Proc.devRef .tc main_arg1)) := by
  after_reads_simp

theorem atCall_v21 (W : Valuation τ sig (Elt F)) :
    atCall W (Proc.devRef .tc main_v21) = truncf .bf16 (W (Proc.devRef .tc main_arg2)) bitsLt_bf16_f32 := by
  after_reads_simp

variable (m : (ℓ : Loc nD τ sig) → Buf (Elt F) ℓ)

/-- The norm's weights, as one row. -/
theorem V_v20 (c : Dev nD) : V m c main_v20 = broadcastInDim S1x1024 ![1] bcast_S1024_S1x1024_1 (m ((c.tc : Thread nD τ).loc main_arg1)) :=
  (atCall_v20 (fun b => m (c, b))).trans rfl

/-- The projections' weights, cast. -/
theorem V_v21 (c : Dev nD) : V m c main_v21 = truncf .bf16 (m ((c.tc : Thread nD τ).loc main_arg2)) bitsLt_bf16_f32 :=
  (atCall_v21 (fun b => m (c, b))).trans rfl

end Cert.Proof.Proj

end
-- ==== Proof.ProjBlocks.lean ====
/- The blocks of the projections' windows at a grid point, read off their arrays entry by entry. -/
module

public import proofs.«01_k».proof.Proof.ProjHost
public import Idealize.ShloMosaic.Lib.Pipeline.ValueKit
public import Idealize.ShloMosaic.Lib.Pointwise

@[expose] public section

set_option maxRecDepth 16384

noncomputable section

namespace Cert.Proof.Proj

open Cert.Kernel2Ideal Cert.Kernel2Ideal.Gen
open Idealize.ShloMosaic
open Idealize.ShloMosaic.TcCoe

variable {F : FTy → Type} [FloatOps F]

theorem transform0_eq : ∀ i : grid0.Coords, cc0_transform_0 i = ![(i 0).val, 0] := by decide +kernel
theorem transform1_eq : ∀ i : grid0.Coords, cc0_transform_1 i = ![0, 0] := by decide +kernel
theorem transform2_eq : ∀ i : grid0.Coords, cc0_transform_2 i = ![0, 0] := by decide +kernel
theorem transform3_eq : ∀ i : grid0.Coords, cc0_transform_3 i = ![0, 1] := by decide +kernel
theorem transform4_eq : ∀ i : grid0.Coords, cc0_transform_4 i = ![0, 1] := by decide +kernel
theorem transform5_eq : ∀ i : grid0.Coords, cc0_transform_5 i = ![0, 2] := by decide +kernel
theorem transform10_eq : ∀ i : grid0.Coords, cc0_transform_10 i = ![(i 0).val, 0] := by decide +kernel
theorem transform11_eq : ∀ i : grid0.Coords, cc0_transform_11 i = ![(i 0).val, 0] := by decide +kernel
theorem transform12_eq : ∀ i : grid0.Coords, cc0_transform_12 i = ![(i 0).val, 0] := by decide +kernel
theorem transform13_eq : ∀ i : grid0.Coords, cc0_transform_13 i = ![(i 0).val, 0] := by decide +kernel

theorem block_lt (i : grid0.Coords) : (i 0).val < 64 := (i 0).isLt
theorem coords_val : ∀ t : Fin grid0.N, (grid0.coords t 0).val = t.val := by decide +kernel

/-- A token of the whole array, from a grid point and a row of its block. -/
def token (i : grid0.Coords) (r : Fin 512) : Fin 32768 := ⟨(i 0).val * 512 + r.val, by have := block_lt i; omega⟩

/-- The columns of the weights that hold each projection. -/
def colQ (l : Fin 512) : Fin 3080 := ⟨l.val, by omega⟩
def colK (l : Fin 512) : Fin 3080 := ⟨512 + l.val, by omega⟩
def colV (l : Fin 1024) : Fin 3080 := ⟨1024 + l.val, by omega⟩
def colO (l : Fin 1024) : Fin 3080 := ⟨2048 + l.val, by omega⟩

variable (m : (ℓ : Loc nD τ sig) → Buf (Elt F) ℓ) (c : Dev nD) (t : Fin cfg0.N)

/-- A block filled from its array, at an index that the transfer moves. -/
theorem fill_of_moved {Γ : RefSig} {G : Pipeline.Grid} (w : Pipeline.Window Γ G) {α : Type} (i : G.Coords) (d : w.block.Idx → α)
    (g : (w.xblock i).Idx → α) {j : w.block.Idx} (h : w.moved i j = true) :
    w.fill i d g j = g fun a => ⟨(j a).val, (w.moved_iff i j).mp h a⟩ := by
  unfold Pipeline.Window.fill
  rw [dif_pos h]

/-- The tokens' block. -/
theorem iblk0_apply (r : Fin 512) (d : Fin 1024) :
    (iblk m c (0 : Fin 16) t : S512x1024.Idx → Elt F .f32) (ix2 r d) = V m c main_arg0 (ix2 (token (grid0.coords t) r) d : S32768x1024.Idx) := by
  refine congrArg (V m c main_arg0) (funext fun a => Fin.ext ?_)
  match a with
  | ⟨0, _⟩ =>
    show cc0_transform_0 (grid0.coords t) 0 * 512 + 1 * r.val = _
    rw [transform0_eq, Nat.one_mul]; rfl
  | ⟨1, _⟩ =>
    show cc0_transform_0 (grid0.coords t) 1 * 1024 + 1 * d.val = _
    rw [transform0_eq]; show 0 * 1024 + 1 * d.val = d.val; omega

/-- The norm's weights, whole. -/
theorem iblk1_apply (d : Fin 1024) :
    (iblk m c (1 : Fin 16) t : S1x1024.Idx → Elt F .f32) (ix2 0 d) = V m c main_v20 (ix2 0 d : S1x1024.Idx) := by
  refine congrArg (V m c main_v20) (funext fun a => Fin.ext ?_)
  match a with
  | ⟨0, _⟩ =>
    show cc0_transform_1 (grid0.coords t) 0 * 1 + 1 * 0 = _
    rw [transform1_eq]; rfl
  | ⟨1, _⟩ =>
    show cc0_transform_1 (grid0.coords t) 1 * 1024 + 1 * d.val = _
    rw [transform1_eq]; show 0 * 1024 + 1 * d.val = d.val; omega

/-- The queries' columns of the weights. -/
theorem X2_apply (d : Fin 1024) (l : Fin 512) :
    (X0_2 m c t : S1024x512.Idx → Elt F .bf16) (ix2 d l) = V m c main_v21 (ix2 d (colQ l) : S1024x3080.Idx) := by
  refine (fill_of_moved (cfg0.win (2 : Fin 16)) (cfg0.grid.coords t) dflt0_2 (iblk m c 2 t) (moved0_2 t (ix2 d l : S1024x512.Idx))).trans ?_
  refine congrArg (V m c main_v21) (funext fun a => Fin.ext ?_)
  match a with
  | ⟨0, _⟩ =>
    show cc0_transform_2 (grid0.coords t) 0 * 1024 + 1 * d.val = d.val
    rw [transform2_eq]; show 0 * 1024 + 1 * d.val = d.val; omega
  | ⟨1, _⟩ =>
    show cc0_transform_2 (grid0.coords t) 1 * 512 + 1 * l.val = _
    rw [transform2_eq]; show 0 * 512 + 1 * l.val = l.val; omega

/-- The keys' columns of the weights. -/
theorem X3_apply (d : Fin 1024) (l : Fin 512) :
    (X0_3 m c t : S1024x512.Idx → Elt F .bf16) (ix2 d l) = V m c main_v21 (ix2 d (colK l) : S1024x3080.Idx) := by
  refine (fill_of_moved (cfg0.win (3 : Fin 16)) (cfg0.grid.coords t) dflt0_3 (iblk m c 3 t) (moved0_3 t (ix2 d l : S1024x512.Idx))).trans ?_
  refine congrArg (V m c main_v21) (funext fun a => Fin.ext ?_)
  match a with
  | ⟨0, _⟩ =>
    show cc0_transform_3 (grid0.coords t) 0 * 1024 + 1 * d.val = d.val
    rw [transform3_eq]; show 0 * 1024 + 1 * d.val = d.val; omega
  | ⟨1, _⟩ =>
    show cc0_transform_3 (grid0.coords t) 1 * 512 + 1 * l.val = _
    rw [transform3_eq]; show 1 * 512 + 1 * l.val = 512 + l.val; omega

/-- The values' columns of the weights. -/
theorem X4_apply (d : Fin 1024) (l : Fin 1024) :
    (X0_4 m c t : S1024x1024.Idx → Elt F .bf16) (ix2 d l) = V m c main_v21 (ix2 d (colV l) : S1024x3080.Idx) := by
  refine (fill_of_moved (cfg0.win (4 : Fin 16)) (cfg0.grid.coords t) dflt0_4 (iblk m c 4 t) (moved0_4 t (ix2 d l : S1024x1024.Idx))).trans ?_
  refine congrArg (V m c main_v21) (funext fun a => Fin.ext ?_)
  match a with
  | ⟨0, _⟩ =>
    show cc0_transform_4 (grid0.coords t) 0 * 1024 + 1 * d.val = d.val
    rw [transform4_eq]; show 0 * 1024 + 1 * d.val = d.val; omega
  | ⟨1, _⟩ =>
    show cc0_transform_4 (grid0.coords t) 1 * 1024 + 1 * l.val = _
    rw [transform4_eq]; show 1 * 1024 + 1 * l.val = 1024 + l.val; omega

/-- The output gates' columns of the weights. -/
theorem X5_apply (d : Fin 1024) (l : Fin 1024) :
    (X0_5 m c t : S1024x1024.Idx → Elt F .bf16) (ix2 d l) = V m c main_v21 (ix2 d (colO l) : S1024x3080.Idx) := by
  refine (fill_of_moved (cfg0.win (5 : Fin 16)) (cfg0.grid.coords t) dflt0_5 (iblk m c 5 t) (moved0_5 t (ix2 d l : S1024x1024.Idx))).trans ?_
  refine congrArg (V m c main_v21) (funext fun a => Fin.ext ?_)
  match a with
  | ⟨0, _⟩ =>
    show cc0_transform_5 (grid0.coords t) 0 * 1024 + 1 * d.val = d.val
    rw [transform5_eq]; show 0 * 1024 + 1 * d.val = d.val; omega
  | ⟨1, _⟩ =>
    show cc0_transform_5 (grid0.coords t) 1 * 1024 + 1 * l.val = _
    rw [transform5_eq]; show 2 * 1024 + 1 * l.val = 2048 + l.val; omega

/-- Every point writes block 0 of the results back. -/
theorem flush10 (t : Fin cfg0.N) : (cfg0.win (10 : Fin 16)).flush t = true := by
  have hidx : ∀ t : Fin cfg0.N, (cfg0.win (10 : Fin 16)).index t = ![t.val, 0] := fun t => by
    show cc0_transform_10 (grid0.coords t) = _
    rw [transform10_eq, coords_val]
  unfold Pipeline.Window.flush
  rw [Bool.and_eq_true]
  refine ⟨rfl, ?_⟩
  rw [Bool.or_eq_true]
  by_cases h : t.val + 1 = cfg0.grid.N
  · exact Or.inl (by simpa using h)
  · refine Or.inr (decide_eq_true ⟨lt_of_le_of_ne t.isLt h, fun e => ?_⟩)
    have e' := ((hidx _).symm.trans e).trans (hidx t)
    have := congrFun e' 0
    have : t.val + 1 = t.val := this
    omega

/-- Its place in the array. -/
theorem emb10 (t : Fin cfg0.N) (r : Fin 512) (l : Fin 512) :
    ((cfg0.win (10 : Fin 16)).blk t).view.emb (ix2 r l : S512x512.Idx) = (ix2 (token (grid0.coords t) r) l : S32768x512.Idx) := by
  refine funext fun a => Fin.ext ?_
  match a with
  | ⟨0, _⟩ =>
    show cc0_transform_10 (grid0.coords t) 0 * 512 + 1 * r.val = _
    rw [transform10_eq, Nat.one_mul]; rfl
  | ⟨1, _⟩ =>
    show cc0_transform_10 (grid0.coords t) 1 * 512 + 1 * l.val = _
    rw [transform10_eq]; show 0 * 512 + 1 * l.val = l.val; omega

/-- Every point writes block 1 of the results back. -/
theorem flush11 (t : Fin cfg0.N) : (cfg0.win (11 : Fin 16)).flush t = true := by
  have hidx : ∀ t : Fin cfg0.N, (cfg0.win (11 : Fin 16)).index t = ![t.val, 0] := fun t => by
    show cc0_transform_11 (grid0.coords t) = _
    rw [transform11_eq, coords_val]
  unfold Pipeline.Window.flush
  rw [Bool.and_eq_true]
  refine ⟨rfl, ?_⟩
  rw [Bool.or_eq_true]
  by_cases h : t.val + 1 = cfg0.grid.N
  · exact Or.inl (by simpa using h)
  · refine Or.inr (decide_eq_true ⟨lt_of_le_of_ne t.isLt h, fun e => ?_⟩)
    have e' := ((hidx _).symm.trans e).trans (hidx t)
    have := congrFun e' 0
    have : t.val + 1 = t.val := this
    omega

/-- Its place in the array. -/
theorem emb11 (t : Fin cfg0.N) (r : Fin 512) (l : Fin 512) :
    ((cfg0.win (11 : Fin 16)).blk t).view.emb (ix2 r l : S512x512.Idx) = (ix2 (token (grid0.coords t) r) l : S32768x512.Idx) := by
  refine funext fun a => Fin.ext ?_
  match a with
  | ⟨0, _⟩ =>
    show cc0_transform_11 (grid0.coords t) 0 * 512 + 1 * r.val = _
    rw [transform11_eq, Nat.one_mul]; rfl
  | ⟨1, _⟩ =>
    show cc0_transform_11 (grid0.coords t) 1 * 512 + 1 * l.val = _
    rw [transform11_eq]; show 0 * 512 + 1 * l.val = l.val; omega

/-- Every point writes block 2 of the results back. -/
theorem flush12 (t : Fin cfg0.N) : (cfg0.win (12 : Fin 16)).flush t = true := by
  have hidx : ∀ t : Fin cfg0.N, (cfg0.win (12 : Fin 16)).index t = ![t.val, 0] := fun t => by
    show cc0_transform_12 (grid0.coords t) = _
    rw [transform12_eq, coords_val]
  unfold Pipeline.Window.flush
  rw [Bool.and_eq_true]
  refine ⟨rfl, ?_⟩
  rw [Bool.or_eq_true]
  by_cases h : t.val + 1 = cfg0.grid.N
  · exact Or.inl (by simpa using h)
  · refine Or.inr (decide_eq_true ⟨lt_of_le_of_ne t.isLt h, fun e => ?_⟩)
    have e' := ((hidx _).symm.trans e).trans (hidx t)
    have := congrFun e' 0
    have : t.val + 1 = t.val := this
    omega

/-- Its place in the array. -/
theorem emb12 (t : Fin cfg0.N) (r : Fin 512) (l : Fin 1024) :
    ((cfg0.win (12 : Fin 16)).blk t).view.emb (ix2 r l : S512x1024.Idx) = (ix2 (token (grid0.coords t) r) l : S32768x1024.Idx) := by
  refine funext fun a => Fin.ext ?_
  match a with
  | ⟨0, _⟩ =>
    show cc0_transform_12 (grid0.coords t) 0 * 512 + 1 * r.val = _
    rw [transform12_eq, Nat.one_mul]; rfl
  | ⟨1, _⟩ =>
    show cc0_transform_12 (grid0.coords t) 1 * 1024 + 1 * l.val = _
    rw [transform12_eq]; show 0 * 1024 + 1 * l.val = l.val; omega

/-- Every point writes block 3 of the results back. -/
theorem flush13 (t : Fin cfg0.N) : (cfg0.win (13 : Fin 16)).flush t = true := by
  have hidx : ∀ t : Fin cfg0.N, (cfg0.win (13 : Fin 16)).index t = ![t.val, 0] := fun t => by
    show cc0_transform_13 (grid0.coords t) = _
    rw [transform13_eq, coords_val]
  unfold Pipeline.Window.flush
  rw [Bool.and_eq_true]
  refine ⟨rfl, ?_⟩
  rw [Bool.or_eq_true]
  by_cases h : t.val + 1 = cfg0.grid.N
  · exact Or.inl (by simpa using h)
  · refine Or.inr (decide_eq_true ⟨lt_of_le_of_ne t.isLt h, fun e => ?_⟩)
    have e' := ((hidx _).symm.trans e).trans (hidx t)
    have := congrFun e' 0
    have : t.val + 1 = t.val := this
    omega

/-- Its place in the array. -/
theorem emb13 (t : Fin cfg0.N) (r : Fin 512) (l : Fin 1024) :
    ((cfg0.win (13 : Fin 16)).blk t).view.emb (ix2 r l : S512x1024.Idx) = (ix2 (token (grid0.coords t) r) l : S32768x1024.Idx) := by
  refine funext fun a => Fin.ext ?_
  match a with
  | ⟨0, _⟩ =>
    show cc0_transform_13 (grid0.coords t) 0 * 512 + 1 * r.val = _
    rw [transform13_eq, Nat.one_mul]; rfl
  | ⟨1, _⟩ =>
    show cc0_transform_13 (grid0.coords t) 1 * 1024 + 1 * l.val = _
    rw [transform13_eq]; show 0 * 1024 + 1 * l.val = l.val; omega

end Cert.Proof.Proj

end
-- ==== Proof.ProjOut.lean ====
/- What the projections' body leaves in each of its output blocks: the one value that it stores there. -/
module

public import proofs.«01_k».proof.Proof.Gen.Kernel2Ideal.Value
public import Idealize.ShloMosaic.Lib.Tactic

@[expose] public section

set_option maxRecDepth 16384

noncomputable section

namespace Cert.Proof.Proj

open Cert.Kernel2Ideal Cert.Kernel2Ideal.Gen
open Idealize.ShloMosaic
open Idealize.ShloMosaic.TcCoe

variable {F : FTy → Type} [FloatOps F]

theorem hz : (![0, 0] : Fin 2 → Nat) = fun _ => 0 := funext fun a => by fin_cases a <;> rfl

/-- The block of the queries. -/
theorem out10 (c : Dev nD) (i : grid0.Coords)
    (a1 : Memref sig .tc .vmem S512x1024 .f32) (h1 : a1.IsWhole)
    (a2 : Memref sig .tc .vmem S1x1024 .f32) (h2 : a2.IsWhole)
    (a3 : Memref sig .tc .vmem S1024x512 .bf16) (h3 : a3.IsWhole)
    (a4 : Memref sig .tc .vmem S1024x512 .bf16) (h4 : a4.IsWhole)
    (a5 : Memref sig .tc .vmem S1024x1024 .bf16) (h5 : a5.IsWhole)
    (a6 : Memref sig .tc .vmem S1024x1024 .bf16) (h6 : a6.IsWhole)
    (a7 : Memref sig .tc .vmem S2x1024x128 .bf16) (h7 : a7.IsWhole)
    (a8 : Memref sig .tc .vmem S2x8x1024 .bf16) (h8 : a8.IsWhole)
    (a9 : Memref sig .tc .vmem S1x128 .f32) (h9 : a9.IsWhole)
    (a10 : Memref sig .tc .vmem S8x1 .f32) (h10 : a10.IsWhole)
    (a11 : Memref sig .tc .vmem S512x512 .bf16) (h11 : a11.IsWhole)
    (a12 : Memref sig .tc .vmem S512x512 .bf16) (h12 : a12.IsWhole)
    (a13 : Memref sig .tc .vmem S512x1024 .bf16) (h13 : a13.IsWhole)
    (a14 : Memref sig .tc .vmem S512x1024 .bf16) (h14 : a14.IsWhole)
    (a15 : Memref sig .tc .vmem S512x128 .f32) (h15 : a15.IsWhole)
    (a16 : Memref sig .tc .vmem S8x512 .f32) (h16 : a16.IsWhole)
    (x0 : Vec F S512x1024 .f32) (x1 : Vec F S1x1024 .f32) (x2 : Vec F S1024x512 .bf16) (x3 : Vec F S1024x512 .bf16) (x4 : Vec F S1024x1024 .bf16) (x5 : Vec F S1024x1024 .bf16) (x6 : Vec F S2x1024x128 .bf16) (x7 : Vec F S2x8x1024 .bf16) (x8 : Vec F S1x128 .f32) (x9 : Vec F S8x1 .f32) :
    out0_A_10 c i a1 h1 a2 h2 a3 h3 a4 h4 a5 h5 a6 h6 a7 h7 a8 h8 a9 h9 a10 h10 a11 h11 a12 h12 a13 h13 a14 h14 a15 h15 a16 h16 x0 x1 x2 x3 x4 x5 x6 x7 x8 x9 = k0_pay5 x0 x1 x2 := by
  unfold out0_A_10
  rw [View.read_writes_junk_eq_canon]
  show View.canon ([⟨Rect.unit ![0, 0] S512x512.size inb_S512x512_S512x512_0_0,
      k0_pay5 (View.readAt (Elt F) a1.view (Rect.unit ![0, 0] S512x1024.size inb_S512x1024_S512x1024_0_0).toLoadRect (h1.unread x0)) (View.readAt (Elt F) a2.view (Rect.unit ![0, 0] S1x1024.size inb_S1x1024_S1x1024_0_0).toLoadRect (h2.unread x1)) (View.readAt (Elt F) a3.view (Rect.unit ![0, 0] S1024x512.size inb_S1024x512_S1024x512_0_0).toLoadRect (h3.unread x2))⟩] :
      List (View.Piece (Elt F) S512x512 .bf16)) = _
  rw [View.canon_unit_zero hz, View.readAt_eq_ld, View.readAt_eq_ld, View.readAt_eq_ld, h1.read_unread, h2.read_unread, h3.read_unread,
    View.ld_unit_zero hz, View.ld_unit_zero hz, View.ld_unit_zero hz]

/-- The block of the keys. -/
theorem out11 (c : Dev nD) (i : grid0.Coords)
    (a1 : Memref sig .tc .vmem S512x1024 .f32) (h1 : a1.IsWhole)
    (a2 : Memref sig .tc .vmem S1x1024 .f32) (h2 : a2.IsWhole)
    (a3 : Memref sig .tc .vmem S1024x512 .bf16) (h3 : a3.IsWhole)
    (a4 : Memref sig .tc .vmem S1024x512 .bf16) (h4 : a4.IsWhole)
    (a5 : Memref sig .tc .vmem S1024x1024 .bf16) (h5 : a5.IsWhole)
    (a6 : Memref sig .tc .vmem S1024x1024 .bf16) (h6 : a6.IsWhole)
    (a7 : Memref sig .tc .vmem S2x1024x128 .bf16) (h7 : a7.IsWhole)
    (a8 : Memref sig .tc .vmem S2x8x1024 .bf16) (h8 : a8.IsWhole)
    (a9 : Memref sig .tc .vmem S1x128 .f32) (h9 : a9.IsWhole)
    (a10 : Memref sig .tc .vmem S8x1 .f32) (h10 : a10.IsWhole)
    (a11 : Memref sig .tc .vmem S512x512 .bf16) (h11 : a11.IsWhole)
    (a12 : Memref sig .tc .vmem S512x512 .bf16) (h12 : a12.IsWhole)
    (a13 : Memref sig .tc .vmem S512x1024 .bf16) (h13 : a13.IsWhole)
    (a14 : Memref sig .tc .vmem S512x1024 .bf16) (h14 : a14.IsWhole)
    (a15 : Memref sig .tc .vmem S512x128 .f32) (h15 : a15.IsWhole)
    (a16 : Memref sig .tc .vmem S8x512 .f32) (h16 : a16.IsWhole)
    (x0 : Vec F S512x1024 .f32) (x1 : Vec F S1x1024 .f32) (x2 : Vec F S1024x512 .bf16) (x3 : Vec F S1024x512 .bf16) (x4 : Vec F S1024x1024 .bf16) (x5 : Vec F S1024x1024 .bf16) (x6 : Vec F S2x1024x128 .bf16) (x7 : Vec F S2x8x1024 .bf16) (x8 : Vec F S1x128 .f32) (x9 : Vec F S8x1 .f32) :
    out0_A_11 c i a1 h1 a2 h2 a3 h3 a4 h4 a5 h5 a6 h6 a7 h7 a8 h8 a9 h9 a10 h10 a11 h11 a12 h12 a13 h13 a14 h14 a15 h15 a16 h16 x0 x1 x2 x3 x4 x5 x6 x7 x8 x9 = k0_pay6 x0 x1 x3 := by
  unfold out0_A_11
  rw [View.read_writes_junk_eq_canon]
  show View.canon ([⟨Rect.unit ![0, 0] S512x512.size inb_S512x512_S512x512_0_0,
      k0_pay6 (View.readAt (Elt F) a1.view (Rect.unit ![0, 0] S512x1024.size inb_S512x1024_S512x1024_0_0).toLoadRect (h1.unread x0)) (View.readAt (Elt F) a2.view (Rect.unit ![0, 0] S1x1024.size inb_S1x1024_S1x1024_0_0).toLoadRect (h2.unread x1)) (View.readAt (Elt F) a4.view (Rect.unit ![0, 0] S1024x512.size inb_S1024x512_S1024x512_0_0).toLoadRect (h4.unread x3))⟩] :
      List (View.Piece (Elt F) S512x512 .bf16)) = _
  rw [View.canon_unit_zero hz, View.readAt_eq_ld, View.readAt_eq_ld, View.readAt_eq_ld, h1.read_unread, h2.read_unread, h4.read_unread,
    View.ld_unit_zero hz, View.ld_unit_zero hz, View.ld_unit_zero hz]

/-- The block of the values. -/
theorem out12 (c : Dev nD) (i : grid0.Coords)
    (a1 : Memref sig .tc .vmem S512x1024 .f32) (h1 : a1.IsWhole)
    (a2 : Memref sig .tc .vmem S1x1024 .f32) (h2 : a2.IsWhole)
    (a3 : Memref sig .tc .vmem S1024x512 .bf16) (h3 : a3.IsWhole)
    (a4 : Memref sig .tc .vmem S1024x512 .bf16) (h4 : a4.IsWhole)
    (a5 : Memref sig .tc .vmem S1024x1024 .bf16) (h5 : a5.IsWhole)
    (a6 : Memref sig .tc .vmem S1024x1024 .bf16) (h6 : a6.IsWhole)
    (a7 : Memref sig .tc .vmem S2x1024x128 .bf16) (h7 : a7.IsWhole)
    (a8 : Memref sig .tc .vmem S2x8x1024 .bf16) (h8 : a8.IsWhole)
    (a9 : Memref sig .tc .vmem S1x128 .f32) (h9 : a9.IsWhole)
    (a10 : Memref sig .tc .vmem S8x1 .f32) (h10 : a10.IsWhole)
    (a11 : Memref sig .tc .vmem S512x512 .bf16) (h11 : a11.IsWhole)
    (a12 : Memref sig .tc .vmem S512x512 .bf16) (h12 : a12.IsWhole)
    (a13 : Memref sig .tc .vmem S512x1024 .bf16) (h13 : a13.IsWhole)
    (a14 : Memref sig .tc .vmem S512x1024 .bf16) (h14 : a14.IsWhole)
    (a15 : Memref sig .tc .vmem S512x128 .f32) (h15 : a15.IsWhole)
    (a16 : Memref sig .tc .vmem S8x512 .f32) (h16 : a16.IsWhole)
    (x0 : Vec F S512x1024 .f32) (x1 : Vec F S1x1024 .f32) (x2 : Vec F S1024x512 .bf16) (x3 : Vec F S1024x512 .bf16) (x4 : Vec F S1024x1024 .bf16) (x5 : Vec F S1024x1024 .bf16) (x6 : Vec F S2x1024x128 .bf16) (x7 : Vec F S2x8x1024 .bf16) (x8 : Vec F S1x128 .f32) (x9 : Vec F S8x1 .f32) :
    out0_A_12 c i a1 h1 a2 h2 a3 h3 a4 h4 a5 h5 a6 h6 a7 h7 a8 h8 a9 h9 a10 h10 a11 h11 a12 h12 a13 h13 a14 h14 a15 h15 a16 h16 x0 x1 x2 x3 x4 x5 x6 x7 x8 x9 = k0_pay7 x0 x1 x4 := by
  unfold out0_A_12
  rw [View.read_writes_junk_eq_canon]
  show View.canon ([⟨Rect.unit ![0, 0] S512x1024.size inb_S512x1024_S512x1024_0_0,
      k0_pay7 (View.readAt (Elt F) a1.view (Rect.unit ![0, 0] S512x1024.size inb_S512x1024_S512x1024_0_0).toLoadRect (h1.unread x0)) (View.readAt (Elt F) a2.view (Rect.unit ![0, 0] S1x1024.size inb_S1x1024_S1x1024_0_0).toLoadRect (h2.unread x1)) (View.readAt (Elt F) a5.view (Rect.unit ![0, 0] S1024x1024.size inb_S1024x1024_S1024x1024_0_0).toLoadRect (h5.unread x4))⟩] :
      List (View.Piece (Elt F) S512x1024 .bf16)) = _
  rw [View.canon_unit_zero hz, View.readAt_eq_ld, View.readAt_eq_ld, View.readAt_eq_ld, h1.read_unread, h2.read_unread, h5.read_unread,
    View.ld_unit_zero hz, View.ld_unit_zero hz, View.ld_unit_zero hz]

/-- The block of the output gates. -/
theorem out13 (c : Dev nD) (i : grid0.Coords)
    (a1 : Memref sig .tc .vmem S512x1024 .f32) (h1 : a1.IsWhole)
    (a2 : Memref sig .tc .vmem S1x1024 .f32) (h2 : a2.IsWhole)
    (a3 : Memref sig .tc .vmem S1024x512 .bf16) (h3 : a3.IsWhole)
    (a4 : Memref sig .tc .vmem S1024x512 .bf16) (h4 : a4.IsWhole)
    (a5 : Memref sig .tc .vmem S1024x1024 .bf16) (h5 : a5.IsWhole)
    (a6 : Memref sig .tc .vmem S1024x1024 .bf16) (h6 : a6.IsWhole)
    (a7 : Memref sig .tc .vmem S2x1024x128 .bf16) (h7 : a7.IsWhole)
    (a8 : Memref sig .tc .vmem S2x8x1024 .bf16) (h8 : a8.IsWhole)
    (a9 : Memref sig .tc .vmem S1x128 .f32) (h9 : a9.IsWhole)
    (a10 : Memref sig .tc .vmem S8x1 .f32) (h10 : a10.IsWhole)
    (a11 : Memref sig .tc .vmem S512x512 .bf16) (h11 : a11.IsWhole)
    (a12 : Memref sig .tc .vmem S512x512 .bf16) (h12 : a12.IsWhole)
    (a13 : Memref sig .tc .vmem S512x1024 .bf16) (h13 : a13.IsWhole)
    (a14 : Memref sig .tc .vmem S512x1024 .bf16) (h14 : a14.IsWhole)
    (a15 : Memref sig .tc .vmem S512x128 .f32) (h15 : a15.IsWhole)
    (a16 : Memref sig .tc .vmem S8x512 .f32) (h16 : a16.IsWhole)
    (x0 : Vec F S512x1024 .f32) (x1 : Vec F S1x1024 .f32) (x2 : Vec F S1024x512 .bf16) (x3 : Vec F S1024x512 .bf16) (x4 : Vec F S1024x1024 .bf16) (x5 : Vec F S1024x1024 .bf16) (x6 : Vec F S2x1024x128 .bf16) (x7 : Vec F S2x8x1024 .bf16) (x8 : Vec F S1x128 .f32) (x9 : Vec F S8x1 .f32) :
    out0_A_13 c i a1 h1 a2 h2 a3 h3 a4 h4 a5 h5 a6 h6 a7 h7 a8 h8 a9 h9 a10 h10 a11 h11 a12 h12 a13 h13 a14 h14 a15 h15 a16 h16 x0 x1 x2 x3 x4 x5 x6 x7 x8 x9 = k0_pay8 (k0_pay3 x0 x1) x5 := by
  unfold out0_A_13
  rw [View.read_writes_junk_eq_canon]
  show View.canon ([⟨Rect.unit ![0, 0] S512x1024.size inb_S512x1024_S512x1024_0_0,
      k0_pay8 (k0_pay3 (View.readAt (Elt F) a1.view (Rect.unit ![0, 0] S512x1024.size inb_S512x1024_S512x1024_0_0).toLoadRect (h1.unread x0)) (View.readAt (Elt F) a2.view (Rect.unit ![0, 0] S1x1024.size inb_S1x1024_S1x1024_0_0).toLoadRect (h2.unread x1))) (View.readAt (Elt F) a6.view (Rect.unit ![0, 0] S1024x1024.size inb_S1024x1024_S1024x1024_0_0).toLoadRect (h6.unread x5))⟩] :
      List (View.Piece (Elt F) S512x1024 .bf16)) = _
  rw [View.canon_unit_zero hz, View.readAt_eq_ld, View.readAt_eq_ld, View.readAt_eq_ld, h1.read_unread, h2.read_unread, h6.read_unread,
    View.ld_unit_zero hz, View.ld_unit_zero hz, View.ld_unit_zero hz]

end Cert.Proof.Proj

end
-- ==== Proof.ProjRows.lean ====
/- The projections' stored values read at a row and a column: the row's root-mean-square norm against a column of the weights. -/
module

public import proofs.«01_k».proof.Proof.ProjOut
public import Idealize.ShloMosaic.Lib.Pointwise

@[expose] public section

set_option maxRecDepth 16384

noncomputable section

namespace Cert.Proof.Proj

open Cert.Kernel2Ideal Cert.Kernel2Ideal.Gen
open Idealize.ShloMosaic
open Idealize.ShloMosaic.TcCoe

/-- A token's entries over the root of their mean square, times the norm's weights. -/
def normed (x g : Fin 1024 → EReal) (d : Fin 1024) : EReal :=
  x d * Ideal.rsqrt (Ideal.div (∑ e, x e * x e) (Ideal.ofBits FTy.f32 0x44800000#32) + Ideal.ofBits FTy.f32 0x358637BD#32) * g d

/-- The factor of the keys. -/
def keyScale : EReal := Ideal.ofBits FTy.f32 0x3DB504F3#32

variable (x : Vec Ideal S512x1024 .f32) (g : Vec Ideal S1x1024 .f32)

theorem pay3_apply (r : Fin 512) (d : Fin 1024) :
    k0_pay3 x g (ix2 r d) = normed (fun e => x (ix2 r e)) (fun e => g (ix2 0 e)) d := by
  pointwise [k0_pay3, k0_pay2, normed]

theorem pay5_apply (w : Vec Ideal S1024x512 .bf16) (r : Fin 512) (l : Fin 512) :
    k0_pay5 x g w (ix2 r l) = ∑ d, normed (fun e => x (ix2 r e)) (fun e => g (ix2 0 e)) d * w (ix2 d l) := by
  pointwise [k0_pay5]
  simp only [pay3_apply]

theorem pay6_apply (w : Vec Ideal S1024x512 .bf16) (r : Fin 512) (l : Fin 512) :
    k0_pay6 x g w (ix2 r l) = (∑ d, normed (fun e => x (ix2 r e)) (fun e => g (ix2 0 e)) d * w (ix2 d l)) * keyScale := by
  pointwise [k0_pay6, keyScale]
  simp only [pay3_apply]

theorem pay7_apply (w : Vec Ideal S1024x1024 .bf16) (r : Fin 512) (l : Fin 1024) :
    k0_pay7 x g w (ix2 r l) = ∑ d, normed (fun e => x (ix2 r e)) (fun e => g (ix2 0 e)) d * w (ix2 d l) := by
  pointwise [k0_pay7]
  simp only [pay3_apply]

theorem pay8_apply (w : Vec Ideal S1024x1024 .bf16) (r : Fin 512) (l : Fin 1024) :
    k0_pay8 (k0_pay3 x g) w (ix2 r l) = ∑ d, normed (fun e => x (ix2 r e)) (fun e => g (ix2 0 e)) d * w (ix2 d l) := by
  pointwise [k0_pay8]
  simp only [pay3_apply]

end Cert.Proof.Proj

end
-- ==== Proof.ProjRef.lean ====
/- The reference's projections read at a token and a column. -/
module

public import proofs.«01_k».proof.Proof.Gen.Reference2Ideal.Run
public import proofs.«01_k».proof.Proof.ProjRows

@[expose] public section

set_option maxRecDepth 16384

noncomputable section

namespace Cert.Proof.Proj

open Cert.Reference2Ideal Cert.Reference2Ideal.Gen
open Idealize.ShloMosaic
open Idealize.ShloMosaic.TcCoe

variable (x : FVec Ideal S32768x1024 .f32) (g : FVec Ideal S1024 .f32) (w : FVec Ideal S1024x3080 .f32)

/-- The reference's normed tokens. -/
def refNormed : FVec Ideal S32768x1024 .f32 :=
  mulf (mulf x (broadcastInDim S32768x1024 ![0, 1] bcast_S32768x1_S32768x1024_0_1 (Host.rsqrt (addf (Host.divf (broadcastInDim S32768x1 ![0] bcast_S32768_S32768x1_0
    (Host.reduceAdd (mulf x x) (constant S_ .f32 0x00000000#32) reducesTo_S32768x1024_S32768_d1 h_S_)) (broadcastInDim S32768x1 ![] bcast_S_S32768x1 (constant S_ .f32 0x44800000#32)))
    (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 g))

/-- All of its projections. -/
def refAll : FVec Ideal S32768x3080 .f32 :=
  Host.dotGeneral dot_S32768x1024_S1024x3080_S32768x3080_1_0_0_1_n_n none (refNormed x g) w

theorem refNormed_apply (R : Fin 32768) (d : Fin 1024) :
    refNormed x g (ix2 R d) = normed (fun e => x (ix2 R e)) (fun e => g (ix1 e)) d := by
  pointwise [refNormed, normed]

theorem refAll_apply (R : Fin 32768) (l : Fin 3080) :
    refAll x g w (ix2 R l) = ∑ d, normed (fun e => x (ix2 R e)) (fun e => g (ix1 e)) d * w (ix2 d l) := by
  pointwise [refAll]
  simp only [refNormed_apply]

end Cert.Proof.Proj

end
-- ==== Proof.ProjValue.lean ====
/- The value claim of the projections: over the extended reals the four arrays are the reference's. -/
module

public import proofs.«01_k».proof.Proof.ProjBlocks
public import proofs.«01_k».proof.Proof.ProjRef
public import proofs.«01_k».proof.Proof.Gen.Kernel2.Frame
public import proofs.«01_k».proof.Proof.Gen.Reference2Ideal
public import proofs.«01_k».proof.Defs

@[expose] public section

set_option maxRecDepth 16384

noncomputable section

namespace Cert.Proof.Proj

open Idealize.ShloMosaic
open Idealize.ShloMosaic.TcCoe
open Idealize.SL.Sem

section Kernel
open Cert.Kernel2Ideal Cert.Kernel2Ideal.Gen

theorem ix2_eta {n m : Nat} (y : (⟨2, ![n, m]⟩ : Shape).Idx) : y = ix2 (y 0) (y 1) := by
  funext a
  match a with
  | ⟨0, _⟩ => rfl
  | ⟨1, _⟩ => rfl

/-- A projection's entry: the normed token against a column of the weights. -/
def proj (x : FVec Ideal S32768x1024 .f32) (g : FVec Ideal S1024 .f32) (w : FVec Ideal S1024x3080 .f32) (R : Fin 32768) (j : Fin 3080) : EReal :=
  ∑ d, normed (fun e => x (ix2 R e)) (fun e => g (ix1 e)) d * w (ix2 d j)

variable (m : (ℓ : Loc nD τ sig) → Buf (Elt Ideal) ℓ) (c : Dev nD)

theorem g_apply (t : Fin cfg0.N) (d : Fin 1024) :
    (iblk m c (1 : Fin 16) t : S1x1024.Idx → Elt Ideal .f32) (ix2 0 d) = m ((c.tc : Thread nD τ).loc main_arg1) (ix1 d : S1024.Idx) := by
  refine (iblk1_apply m c t d).trans ((congrFun (V_v20 m c) _).trans ?_)
  pointwise

theorem x_apply (t : Fin cfg0.N) (r : Fin 512) (d : Fin 1024) :
    (iblk m c (0 : Fin 16) t : S512x1024.Idx → Elt Ideal .f32) (ix2 r d)
      = m ((c.tc : Thread nD τ).loc main_arg0) (ix2 (token (grid0.coords t) r) d : S32768x1024.Idx) :=
  (iblk0_apply m c t r d).trans (congrFun (V_main_arg0 m c) _)

theorem w_apply (d : Fin 1024) (j : Fin 3080) :
    V m c main_v21 (ix2 d j : S1024x3080.Idx) = m ((c.tc : Thread nD τ).loc main_arg2) (ix2 d j : S1024x3080.Idx) := by
  refine (congrFun (V_v21 m c) _).trans ?_
  pointwise

/-- A row's sum in a point's block is the token's projection. -/
theorem sum_eq {n : Nat} (t : Fin cfg0.N) (r : Fin 512) (l : Fin n) (j : Fin 3080) (W : FVec Ideal ⟨2, ![1024, n]⟩ .bf16)
    (hW : ∀ d, W (ix2 d l) = V m c main_v21 (ix2 d j : S1024x3080.Idx)) :
    (∑ d, normed (fun e => (iblk m c (0 : Fin 16) t : S512x1024.Idx → Elt Ideal .f32) (ix2 r e))
        (fun e => (iblk m c (1 : Fin 16) t : S1x1024.Idx → Elt Ideal .f32) (ix2 0 e)) d * W (ix2 d l))
      = proj (m ((c.tc : Thread nD τ).loc main_arg0)) (m ((c.tc : Thread nD τ).loc main_arg1)) (m ((c.tc : Thread nD τ).loc main_arg2))
          (token (grid0.coords t) r) j := by
  unfold proj
  refine Finset.sum_congr rfl fun d _ => congrArg₂ (fun a b : EReal => a * b) ?_ ((hW d).trans (w_apply m c d j))
  exact congrArg₂ (fun x g => normed x g d) (funext fun e => x_apply m c t r e) (funext fun e => g_apply m c t e)

/-- The array of the queries. -/
theorem arr10 (G : S32768x512.Idx → EReal)
    (hG : ∀ R l, G (ix2 R l) = proj (m ((c.tc : Thread nD τ).loc main_arg0)) (m ((c.tc : Thread nD τ).loc main_arg1)) (m ((c.tc : Thread nD τ).loc main_arg2)) R (colQ l)) :
    (dats m 0 c).arrAt (10 : Fin 16) cfg0.N = G := by
  refine Pipeline.Dat.arrAt_eq_of_emb (dats m 0 c) (10 : Fin 16) G (fun t _ y => ?_) (fun i => ?_)
  · have e : y = (ix2 (y (0 : Fin 2)) (y (1 : Fin 2)) : S512x512.Idx) := ix2_eta (n := 512) (m := 512) y
    rw [e]
    generalize y (0 : Fin 2) = r
    generalize y (1 : Fin 2) = l
    revert r l
    intro (r : Fin 512) (l : Fin 512)
    refine Eq.trans ?_ (congrArg G (emb10 t r l).symm)
    refine (congrFun (Value.flushed10_A m c t) (ix2 r l : S512x512.Idx)).trans ?_
    refine (congrFun (out10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (X0_2 m c t) (X0_3 m c t) (X0_4 m c t) (X0_5 m c t) (iblk m c 6 t) (iblk m c 7 t) (iblk m c 8 t) (iblk m c 9 t)) (ix2 r l : S512x512.Idx)).trans ?_
    refine (pay5_apply (iblk m c 0 t) (iblk m c 1 t) (X0_2 m c t) r l).trans ?_
    exact (sum_eq m c t r l (colQ l) (X0_2 m c t) (fun d => X2_apply m c t d l)).trans (hG _ l).symm
  · have hi : (i (0 : Fin 2)).val < 32768 := (i (0 : Fin 2)).isLt
    have hN : (i (0 : Fin 2)).val / 512 < cfg0.N := by
      show _ < 64
      omega
    refine ⟨⟨(i (0 : Fin 2)).val / 512, hN⟩, flush10 _, ?_⟩
    have e : i = ((cfg0.win (10 : Fin 16)).blk ⟨(i (0 : Fin 2)).val / 512, hN⟩).view.emb
        (ix2 ⟨(i (0 : Fin 2)).val % 512, Nat.mod_lt _ (by decide)⟩ (i (1 : Fin 2)) : S512x512.Idx) := by
      refine (ix2_eta (n := 32768) (m := 512) i).trans (Eq.trans ?_ (emb10 _ _ _).symm)
      refine congrArg₂ (fun p q => ix2 p q) (Fin.ext ?_) rfl
      show (i (0 : Fin 2)).val = (grid0.coords ⟨(i (0 : Fin 2)).val / 512, hN⟩ 0).val * 512 + (i (0 : Fin 2)).val % 512
      rw [coords_val]
      show (i (0 : Fin 2)).val = (i (0 : Fin 2)).val / 512 * 512 + (i (0 : Fin 2)).val % 512
      omega
    exact Eq.mpr (congrArg (fun z => z ∈ ((cfg0.win (10 : Fin 16)).blk ⟨(i (0 : Fin 2)).val / 512, hN⟩).view.set) e) (View.emb_mem_set _ _)

/-- The array of the keys. -/
theorem arr11 (G : S32768x512.Idx → EReal)
    (hG : ∀ R l, G (ix2 R l) = proj (m ((c.tc : Thread nD τ).loc main_arg0)) (m ((c.tc : Thread nD τ).loc main_arg1)) (m ((c.tc : Thread nD τ).loc main_arg2)) R (colK l) * keyScale) :
    (dats m 0 c).arrAt (11 : Fin 16) cfg0.N = G := by
  refine Pipeline.Dat.arrAt_eq_of_emb (dats m 0 c) (11 : Fin 16) G (fun t _ y => ?_) (fun i => ?_)
  · have e : y = (ix2 (y (0 : Fin 2)) (y (1 : Fin 2)) : S512x512.Idx) := ix2_eta (n := 512) (m := 512) y
    rw [e]
    generalize y (0 : Fin 2) = r
    generalize y (1 : Fin 2) = l
    revert r l
    intro (r : Fin 512) (l : Fin 512)
    refine Eq.trans ?_ (congrArg G (emb11 t r l).symm)
    refine (congrFun (Value.flushed11_A m c t) (ix2 r l : S512x512.Idx)).trans ?_
    refine (congrFun (out11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (X0_2 m c t) (X0_3 m c t) (X0_4 m c t) (X0_5 m c t) (iblk m c 6 t) (iblk m c 7 t) (iblk m c 8 t) (iblk m c 9 t)) (ix2 r l : S512x512.Idx)).trans ?_
    refine (pay6_apply (iblk m c 0 t) (iblk m c 1 t) (X0_3 m c t) r l).trans ?_
    exact (congrArg (fun a : EReal => a * keyScale) (sum_eq m c t r l (colK l) (X0_3 m c t) (fun d => X3_apply m c t d l))).trans (hG _ l).symm
  · have hi : (i (0 : Fin 2)).val < 32768 := (i (0 : Fin 2)).isLt
    have hN : (i (0 : Fin 2)).val / 512 < cfg0.N := by
      show _ < 64
      omega
    refine ⟨⟨(i (0 : Fin 2)).val / 512, hN⟩, flush11 _, ?_⟩
    have e : i = ((cfg0.win (11 : Fin 16)).blk ⟨(i (0 : Fin 2)).val / 512, hN⟩).view.emb
        (ix2 ⟨(i (0 : Fin 2)).val % 512, Nat.mod_lt _ (by decide)⟩ (i (1 : Fin 2)) : S512x512.Idx) := by
      refine (ix2_eta (n := 32768) (m := 512) i).trans (Eq.trans ?_ (emb11 _ _ _).symm)
      refine congrArg₂ (fun p q => ix2 p q) (Fin.ext ?_) rfl
      show (i (0 : Fin 2)).val = (grid0.coords ⟨(i (0 : Fin 2)).val / 512, hN⟩ 0).val * 512 + (i (0 : Fin 2)).val % 512
      rw [coords_val]
      show (i (0 : Fin 2)).val = (i (0 : Fin 2)).val / 512 * 512 + (i (0 : Fin 2)).val % 512
      omega
    exact Eq.mpr (congrArg (fun z => z ∈ ((cfg0.win (11 : Fin 16)).blk ⟨(i (0 : Fin 2)).val / 512, hN⟩).view.set) e) (View.emb_mem_set _ _)

/-- The array of the values. -/
theorem arr12 (G : S32768x1024.Idx → EReal)
    (hG : ∀ R l, G (ix2 R l) = proj (m ((c.tc : Thread nD τ).loc main_arg0)) (m ((c.tc : Thread nD τ).loc main_arg1)) (m ((c.tc : Thread nD τ).loc main_arg2)) R (colV l)) :
    (dats m 0 c).arrAt (12 : Fin 16) cfg0.N = G := by
  refine Pipeline.Dat.arrAt_eq_of_emb (dats m 0 c) (12 : Fin 16) G (fun t _ y => ?_) (fun i => ?_)
  · have e : y = (ix2 (y (0 : Fin 2)) (y (1 : Fin 2)) : S512x1024.Idx) := ix2_eta (n := 512) (m := 1024) y
    rw [e]
    generalize y (0 : Fin 2) = r
    generalize y (1 : Fin 2) = l
    revert r l
    intro (r : Fin 512) (l : Fin 1024)
    refine Eq.trans ?_ (congrArg G (emb12 t r l).symm)
    refine (congrFun (Value.flushed12_A m c t) (ix2 r l : S512x1024.Idx)).trans ?_
    refine (congrFun (out12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (X0_2 m c t) (X0_3 m c t) (X0_4 m c t) (X0_5 m c t) (iblk m c 6 t) (iblk m c 7 t) (iblk m c 8 t) (iblk m c 9 t)) (ix2 r l : S512x1024.Idx)).trans ?_
    refine (pay7_apply (iblk m c 0 t) (iblk m c 1 t) (X0_4 m c t) r l).trans ?_
    exact (sum_eq m c t r l (colV l) (X0_4 m c t) (fun d => X4_apply m c t d l)).trans (hG _ l).symm
  · have hi : (i (0 : Fin 2)).val < 32768 := (i (0 : Fin 2)).isLt
    have hN : (i (0 : Fin 2)).val / 512 < cfg0.N := by
      show _ < 64
      omega
    refine ⟨⟨(i (0 : Fin 2)).val / 512, hN⟩, flush12 _, ?_⟩
    have e : i = ((cfg0.win (12 : Fin 16)).blk ⟨(i (0 : Fin 2)).val / 512, hN⟩).view.emb
        (ix2 ⟨(i (0 : Fin 2)).val % 512, Nat.mod_lt _ (by decide)⟩ (i (1 : Fin 2)) : S512x1024.Idx) := by
      refine (ix2_eta (n := 32768) (m := 1024) i).trans (Eq.trans ?_ (emb12 _ _ _).symm)
      refine congrArg₂ (fun p q => ix2 p q) (Fin.ext ?_) rfl
      show (i (0 : Fin 2)).val = (grid0.coords ⟨(i (0 : Fin 2)).val / 512, hN⟩ 0).val * 512 + (i (0 : Fin 2)).val % 512
      rw [coords_val]
      show (i (0 : Fin 2)).val = (i (0 : Fin 2)).val / 512 * 512 + (i (0 : Fin 2)).val % 512
      omega
    exact Eq.mpr (congrArg (fun z => z ∈ ((cfg0.win (12 : Fin 16)).blk ⟨(i (0 : Fin 2)).val / 512, hN⟩).view.set) e) (View.emb_mem_set _ _)

/-- The array of the output gates. -/
theorem arr13 (G : S32768x1024.Idx → EReal)
    (hG : ∀ R l, G (ix2 R l) = proj (m ((c.tc : Thread nD τ).loc main_arg0)) (m ((c.tc : Thread nD τ).loc main_arg1)) (m ((c.tc : Thread nD τ).loc main_arg2)) R (colO l)) :
    (dats m 0 c).arrAt (13 : Fin 16) cfg0.N = G := by
  refine Pipeline.Dat.arrAt_eq_of_emb (dats m 0 c) (13 : Fin 16) G (fun t _ y => ?_) (fun i => ?_)
  · have e : y = (ix2 (y (0 : Fin 2)) (y (1 : Fin 2)) : S512x1024.Idx) := ix2_eta (n := 512) (m := 1024) y
    rw [e]
    generalize y (0 : Fin 2) = r
    generalize y (1 : Fin 2) = l
    revert r l
    intro (r : Fin 512) (l : Fin 1024)
    refine Eq.trans ?_ (congrArg G (emb13 t r l).symm)
    refine (congrFun (Value.flushed13_A m c t) (ix2 r l : S512x1024.Idx)).trans ?_
    refine (congrFun (out13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (X0_2 m c t) (X0_3 m c t) (X0_4 m c t) (X0_5 m c t) (iblk m c 6 t) (iblk m c 7 t) (iblk m c 8 t) (iblk m c 9 t)) (ix2 r l : S512x1024.Idx)).trans ?_
    refine (pay8_apply (iblk m c 0 t) (iblk m c 1 t) (X0_5 m c t) r l).trans ?_
    exact (sum_eq m c t r l (colO l) (X0_5 m c t) (fun d => X5_apply m c t d l)).trans (hG _ l).symm
  · have hi : (i (0 : Fin 2)).val < 32768 := (i (0 : Fin 2)).isLt
    have hN : (i (0 : Fin 2)).val / 512 < cfg0.N := by
      show _ < 64
      omega
    refine ⟨⟨(i (0 : Fin 2)).val / 512, hN⟩, flush13 _, ?_⟩
    have e : i = ((cfg0.win (13 : Fin 16)).blk ⟨(i (0 : Fin 2)).val / 512, hN⟩).view.emb
        (ix2 ⟨(i (0 : Fin 2)).val % 512, Nat.mod_lt _ (by decide)⟩ (i (1 : Fin 2)) : S512x1024.Idx) := by
      refine (ix2_eta (n := 32768) (m := 1024) i).trans (Eq.trans ?_ (emb13 _ _ _).symm)
      refine congrArg₂ (fun p q => ix2 p q) (Fin.ext ?_) rfl
      show (i (0 : Fin 2)).val = (grid0.coords ⟨(i (0 : Fin 2)).val / 512, hN⟩ 0).val * 512 + (i (0 : Fin 2)).val % 512
      rw [coords_val]
      show (i (0 : Fin 2)).val = (i (0 : Fin 2)).val / 512 * 512 + (i (0 : Fin 2)).val % 512
      omega
    exact Eq.mpr (congrArg (fun z => z ∈ ((cfg0.win (13 : Fin 16)).blk ⟨(i (0 : Fin 2)).val / 512, hN⟩).view.set) e) (View.emb_mem_set _ _)

end Kernel

end Cert.Proof.Proj

end
-- ==== Proof.ProjAlgebraic.lean ====
/- The claims of the projections: the frames of the program and of the reference, and their equal results. -/
module

public import proofs.«01_k».proof.Proof.ProjValue

@[expose] public section

set_option maxRecDepth 16384

noncomputable section

namespace Cert.Proof.Proj

open Idealize.ShloMosaic
open Idealize.ShloMosaic.TcCoe
open Idealize.SL.Sem

/-- Over the bit-exact words the program runs to its end, leaves its arguments as they were and every counter at 0. -/
theorem frame_kernel2 : Cert.quiescent_Kernel2 := fun m ρ _ => Cert.Kernel2.Gen.frame m ρ

/-- The same over the extended reals. -/
theorem frame_kernel2_ideal : Cert.quiescent_Kernel2Ideal := fun m ρ _ => Cert.Kernel2Ideal.Gen.frame m ρ

/-- The reference runs to its end from any memory, leaves its arguments as they were and every counter at 0. -/
theorem frame_reference2 : Cert.quiescent_Reference2Ideal := fun m ρ _ =>
  (θ_run Cert.Reference2Ideal.defs _ _).mono
    (fun r h => ⟨fun c => (h c).2.2.2.2, sem_eq_zero_of_no_sems (by decide) r.2⟩) (Cert.Reference2Ideal.Value.run (F := Ideal) m ρ)

/-- Equal arguments have equal projections. -/
theorem proj_congr (R : Fin 32768) (j : Fin 3080) {x x' : FVec Ideal ⟨2, ![32768, 1024]⟩ .f32} {g g' : FVec Ideal ⟨1, ![1024]⟩ .f32}
    {w w' : FVec Ideal ⟨2, ![1024, 3080]⟩ .f32} (hx : x = x') (hg : g = g') (hw : w = w') : proj x g w R j = proj x' g' w' R j := by
  subst hx hg hw
  rfl

section Reference
open Cert.Reference2Ideal Cert.Reference2Ideal.Gen

variable (x : FVec Ideal S32768x1024 .f32) (g : FVec Ideal S1024 .f32) (w : FVec Ideal S1024x3080 .f32) (R : Fin 32768)

theorem refQ_apply (l : Fin 512) :
    (truncf .bf16 (extractStridedSlice S32768x512 ![0, 0] (refAll x g w) slices_S32768x3080_S32768x512_0_0) bitsLt_bf16_f32 : FVec Ideal S32768x512 .bf16) (ix2 R l)
      = proj x g w R (colQ l) := by
  pointwise
  refine (refAll_apply x g w R _).trans ?_
  rfl

theorem refK_apply (l : Fin 512) :
    (truncf .bf16 (mulf (extractStridedSlice S32768x512 ![0, 512] (refAll x g w) slices_S32768x3080_S32768x512_0_512)
        (broadcastInDim S32768x512 ![] bcast_S_S32768x512 (constant S_ .f32 0x3DB504F3#32))) bitsLt_bf16_f32 : FVec Ideal S32768x512 .bf16) (ix2 R l)
      = proj x g w R (colK l) * keyScale := by
  pointwise [keyScale]
  exact congrArg (fun a : EReal => a * Ideal.ofBits FTy.f32 0x3DB504F3#32) (refAll_apply x g w R _)

theorem refV_apply (l : Fin 1024) :
    (truncf .bf16 (extractStridedSlice S32768x1024 ![0, 1024] (refAll x g w) slices_S32768x3080_S32768x1024_0_1024) bitsLt_bf16_f32 : FVec Ideal S32768x1024 .bf16) (ix2 R l)
      = proj x g w R (colV l) := by
  pointwise
  exact refAll_apply x g w R _

theorem refO_apply (l : Fin 1024) :
    (truncf .bf16 (extractStridedSlice S32768x1024 ![0, 2048] (refAll x g w) slices_S32768x3080_S32768x1024_0_2048) bitsLt_bf16_f32 : FVec Ideal S32768x1024 .bf16) (ix2 R l)
      = proj x g w R (colO l) := by
  pointwise
  exact refAll_apply x g w R _

end Reference

set_option maxHeartbeats 4000000 in
/-- Over the extended reals, program and reference end with equal queries, keys, values and output gates. -/
theorem algebraic2 : Cert.algebraic_Kernel2Ideal_Reference2Ideal := by
  intro m g m' g' _ hm
  have hK := Cert.Kernel2Ideal.Value.run_blocks (F := Ideal) m g
  have hR := Cert.Reference2Ideal.Value.run (F := Ideal) m' g'
  refine ⟨fun c => (Cert.Kernel2Ideal.Gen.dats m 0 c).arrAt (10 : Fin 16) Cert.Kernel2Ideal.cfg0.N,
    fun c => (Cert.Kernel2Ideal.Gen.dats m 0 c).arrAt (11 : Fin 16) Cert.Kernel2Ideal.cfg0.N,
    fun c => (Cert.Kernel2Ideal.Gen.dats m 0 c).arrAt (12 : Fin 16) Cert.Kernel2Ideal.cfg0.N,
    fun c => (Cert.Kernel2Ideal.Gen.dats m 0 c).arrAt (13 : Fin 16) Cert.Kernel2Ideal.cfg0.N, ?_, ?_⟩
  · exact (θ_run _ _ _).mono (fun _ h c => ⟨(h c).1, (h c).2.1, (h c).2.2.1, (h c).2.2.2.1, (h c).2.2.2.2.2.2⟩) hK
  · refine (θ_run _ _ _).mono (fun r h c => ?_) hR
    obtain ⟨e0, e1, e2, _⟩ := hm c
    obtain ⟨hq, hk, hv, ho, rest⟩ := h c
    refine ⟨hq.trans ?_, hk.trans ?_, hv.trans ?_, ho.trans ?_, rest⟩
    · exact (arr10 m c _ (fun R l => (refQ_apply _ _ _ R l).trans (proj_congr R _ e0 e1 e2))).symm
    · exact (arr11 m c _ (fun R l => (refK_apply _ _ _ R l).trans (congrArg (fun a : EReal => a * keyScale) (proj_congr R _ e0 e1 e2)))).symm
    · exact (arr12 m c _ (fun R l => (refV_apply _ _ _ R l).trans (proj_congr R _ e0 e1 e2))).symm
    · exact (arr13 m c _ (fun R l => (refO_apply _ _ _ R l).trans (proj_congr R _ e0 e1 e2))).symm

end Cert.Proof.Proj

end
-- ==== Proof.OutPoint.lean ====
/- The mixer's output call, tile by tile: which tile is the first, and the buffers the tile works on. -/
module

public import proofs.«01_k».proof.Proof.Gen.Kernel3Ideal.Frame
public import proofs.«01_k».proof.Proof.Gen.Kernel3Ideal.Skeleton

@[expose] public section

set_option maxRecDepth 16384

noncomputable section

namespace Cert.Proof.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

/-- The condition under which the body clears the counts, from the grid's coordinate. -/
abbrev isFirst (i : grid0.Coords) : Prop := (Scalar.cmpi .ne (Scalar.extui (Scalar.cmpi .eq (BitVec.ofNat 32 (i 0).val) 0#32)) 0#32) = 1#1

/-- It holds at the first point and nowhere else. -/
theorem isFirst_iff (t : Fin cfg0.N) : isFirst (grid0.coords t) ↔ t.val = 0 := by
  have ht : t.val < 64 := Nat.lt_of_lt_of_eq t.isLt N_0
  have e0 : (grid0.coords t 0).val = t.val / 1 % 64 := Pipeline.Grid.coords_val t 0 (by decide) rfl
  have h : isFirst (grid0.coords t) ↔ t.val % 64 = 0 := by
    simp only [isFirst, e0]
    word_cmp
  rw [h]
  omega

/-- Window 0's buffer at a point. -/
abbrev buf0 (t : Fin cfg0.N) : Memref sig .tc .vmem S512x1024 .bf16 := win0_0.stage (cfg0.slots t 0)
theorem whole0 (t : Fin cfg0.N) : (buf0 t).IsWhole := hstage0_0 ((cfg0.slots t 0).cast nbuf0_0)
/-- Window 1's buffer at a point. -/
abbrev buf1 (t : Fin cfg0.N) : Memref sig .tc .vmem S512x1024 .bf16 := win0_1.stage (cfg0.slots t 1)
theorem whole1 (t : Fin cfg0.N) : (buf1 t).IsWhole := hstage0_1 ((cfg0.slots t 1).cast nbuf0_1)
/-- Window 2's buffer at a point. -/
abbrev buf2 (t : Fin cfg0.N) : Memref sig .tc .vmem S512x1024 .f32 := win0_2.stage (cfg0.slots t 2)
theorem whole2 (t : Fin cfg0.N) : (buf2 t).IsWhole := hstage0_2 ((cfg0.slots t 2).cast nbuf0_2)
/-- Window 3's buffer at a point. -/
abbrev buf3 (t : Fin cfg0.N) : Memref sig .tc .vmem S1x1024 .f32 := win0_3.stage (cfg0.slots t 3)
theorem whole3 (t : Fin cfg0.N) : (buf3 t).IsWhole := hstage0_3 ((cfg0.slots t 3).cast nbuf0_3)
/-- Window 4's buffer at a point. -/
abbrev buf4 (t : Fin cfg0.N) : Memref sig .tc .vmem S1024x1024 .bf16 := win0_4.stage (cfg0.slots t 4)
theorem whole4 (t : Fin cfg0.N) : (buf4 t).IsWhole := hstage0_4 ((cfg0.slots t 4).cast nbuf0_4)
/-- Window 5's buffer at a point. -/
abbrev buf5 (t : Fin cfg0.N) : Memref sig .tc .vmem S1x1024 .f32 := win0_5.stage (cfg0.slots t 5)
theorem whole5 (t : Fin cfg0.N) : (buf5 t).IsWhole := hstage0_5 ((cfg0.slots t 5).cast nbuf0_5)
/-- Window 6's buffer at a point. -/
abbrev buf6 (t : Fin cfg0.N) : Memref sig .tc .vmem S2x1024x128 .bf16 := win0_6.stage (cfg0.slots t 6)
theorem whole6 (t : Fin cfg0.N) : (buf6 t).IsWhole := hstage0_6 ((cfg0.slots t 6).cast nbuf0_6)
/-- Window 7's buffer at a point. -/
abbrev buf7 (t : Fin cfg0.N) : Memref sig .tc .vmem S1x128 .f32 := win0_7.stage (cfg0.slots t 7)
theorem whole7 (t : Fin cfg0.N) : (buf7 t).IsWhole := hstage0_7 ((cfg0.slots t 7).cast nbuf0_7)
/-- Window 8's buffer at a point. -/
abbrev buf8 (t : Fin cfg0.N) : Memref sig .tc .vmem S512x1024 .f32 := win0_8.stage (cfg0.slots t 8)
theorem whole8 (t : Fin cfg0.N) : (buf8 t).IsWhole := hstage0_8 ((cfg0.slots t 8).cast nbuf0_8)
/-- Window 9's buffer at a point. -/
abbrev buf9 (t : Fin cfg0.N) : Memref sig .tc .vmem S4096x128 .f32 := win0_9.stage (cfg0.slots t 9)
theorem whole9 (t : Fin cfg0.N) : (buf9 t).IsWhole := hstage0_9 ((cfg0.slots t 9).cast nbuf0_9)
/-- Window 10's buffer at a point. -/
abbrev buf10 (t : Fin cfg0.N) : Memref sig .tc .vmem S8x512 .f32 := win0_10.stage (cfg0.slots t 10)
theorem whole10 (t : Fin cfg0.N) : (buf10 t).IsWhole := hstage0_10 ((cfg0.slots t 10).cast nbuf0_10)
/-- Window 11's buffer at a point. -/
abbrev buf11 (t : Fin cfg0.N) : Memref sig .tc .vmem S1x128 .f32 := win0_11.stage (cfg0.slots t 11)
theorem whole11 (t : Fin cfg0.N) : (buf11 t).IsWhole := hstage0_11 ((cfg0.slots t 11).cast nbuf0_11)

end Cert.Proof.Out

end
-- ==== Proof.OutRunFirst.lean ====
/- The mixer's output call: the body's run at the first tile, and the pieces it stores. -/
module

public import proofs.«01_k».proof.Proof.OutPoint

@[expose] public section

set_option maxRecDepth 16384

noncomputable section

namespace Cert.Proof.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

set_option maxHeartbeats 4000000 in
/-- The pieces that the body stores in its four outputs at the first tile, with the
    proof that it runs, leaving its inputs as they are and each output's buffer with its pieces written. -/
noncomputable def runFirst (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S2x1024x128 .bf16) (harg7 : arg7.IsWhole) (arg8 : Memref sig .tc .vmem S1x128 .f32) (harg8 : arg8.IsWhole) (arg9 : Memref sig .tc .vmem S512x1024 .f32) (harg9 : arg9.IsWhole) (arg10 : Memref sig .tc .vmem S4096x128 .f32) (harg10 : arg10.IsWhole) (arg11 : Memref sig .tc .vmem S8x512 .f32) (harg11 : arg11.IsWhole) (arg12 : Memref sig .tc .vmem S1x128 .f32) (harg12 : arg12.IsWhole) (hc0 : isFirst i)
    (x0 : Vec F S512x1024 .bf16) (x1 : Vec F S512x1024 .bf16) (x2 : Vec F S512x1024 .f32) (x3 : Vec F S1x1024 .f32) (x4 : Vec F S1024x1024 .bf16) (x5 : Vec F S1x1024 .f32) (x6 : Vec F S2x1024x128 .bf16) (x7 : Vec F S1x128 .f32) :
    Σ' (L8 : List (View.Piece (Elt F) S512x1024 .f32)), Σ' (L9 : List (View.Piece (Elt F) S4096x128 .f32)), Σ' (L10 : List (View.Piece (Elt F) S8x512 .f32)), { L11 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11)) -∗ K ⟨⟩))
          ⊢ wp frame (wpE (defs₀ (F := F)) Variants.none c none) E (cc0_out_a i arg1 harg1 arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_out_a_eq_skeleton]; unfold cc0_out_a_skel
    simp only [k0_part9_eq_skeleton, k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    iexists _; iexact H11

end Cert.Proof.Out

end
-- ==== Proof.OutRunLater.lean ====
/- The mixer's output call: the body's run at a later tile, and the pieces it stores. -/
module

public import proofs.«01_k».proof.Proof.OutRunFirst

@[expose] public section

set_option maxRecDepth 16384

noncomputable section

namespace Cert.Proof.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

set_option maxHeartbeats 4000000 in
/-- The pieces that the body stores in its four outputs at a later tile, the counts so far in `xo`, with the
    proof that it runs, leaving its inputs as they are and each output's buffer with its pieces written. -/
noncomputable def runLater (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S2x1024x128 .bf16) (harg7 : arg7.IsWhole) (arg8 : Memref sig .tc .vmem S1x128 .f32) (harg8 : arg8.IsWhole) (arg9 : Memref sig .tc .vmem S512x1024 .f32) (harg9 : arg9.IsWhole) (arg10 : Memref sig .tc .vmem S4096x128 .f32) (harg10 : arg10.IsWhole) (arg11 : Memref sig .tc .vmem S8x512 .f32) (harg11 : arg11.IsWhole) (arg12 : Memref sig .tc .vmem S1x128 .f32) (harg12 : arg12.IsWhole) (hc0 : ¬isFirst i)
    (x0 : Vec F S512x1024 .bf16) (x1 : Vec F S512x1024 .bf16) (x2 : Vec F S512x1024 .f32) (x3 : Vec F S1x1024 .f32) (x4 : Vec F S1024x1024 .bf16) (x5 : Vec F S1x1024 .f32) (x6 : Vec F S2x1024x128 .bf16) (x7 : Vec F S1x128 .f32) (xo : Vec F S1x128 .f32) :
    Σ' (L8 : List (View.Piece (Elt F) S512x1024 .f32)), Σ' (L9 : List (View.Piece (Elt F) S4096x128 .f32)), Σ' (L10 : List (View.Piece (Elt F) S8x512 .f32)), { L11 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xo
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11)) -∗ K ⟨⟩))
          ⊢ wp frame (wpE (defs₀ (F := F)) Variants.none c none) E (cc0_out_a i arg1 harg1 arg2 harg2 arg3 harg3 arg4 harg4 arg5 harg5 arg6 harg6 arg7 harg7 arg8 harg8 arg9 harg9 arg10 harg10 arg11 harg11 arg12 harg12) K } := by
  refine ⟨?_, ?_, ?_, ?_, fun E K => ?run⟩
  case run =>
    simp only [cc0_out_a_eq_skeleton]; unfold cc0_out_a_skel
    simp only [k0_part9_eq_skeleton, k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%f11, %hf11, H11⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg12.eq_unread hf11
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]; · iexists _; iexact H8
    isplitl [H9]; · iexists _; iexact H9
    isplitl [H10]; · iexists _; iexact H10
    iexists _; iexact H11

end Cert.Proof.Out

end
-- ==== Proof.OutPieces.lean ====
/- The mixer's output call: the pieces that a tile stores in its residual block and in its normed block. -/
module

public import proofs.«01_k».proof.Proof.OutRunLater
public import Idealize.ShloMosaic.Lib.WholeRead

@[expose] public section

set_option maxRecDepth 16384

noncomputable section

namespace Cert.Proof.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

/-- The first half of a block's rows. -/
abbrev lo {e : EltTy} (X : Vec F S512x1024 e) : Vec F S256x1024 e := fun y => X ((Rect.unit (s := S512x1024) ![0, 0] S256x1024.size inb_S512x1024_S256x1024_0_0).toLoadRect.idx y)
/-- The second half of a block's rows. -/
abbrev hi {e : EltTy} (X : Vec F S512x1024 e) : Vec F S256x1024 e := fun y => X ((Rect.unit (s := S512x1024) ![256, 0] S256x1024.size inb_S512x1024_S256x1024_256_0).toLoadRect.idx y)

/-- The residual after the mixer for 256 tokens, from the heads' outputs, the output gates, the residual, the gain and the weights. -/
def resid (a o : Vec F S256x1024 .bf16) (x : Vec F S256x1024 .f32) (g : Vec F S1x1024 .f32) (w : Vec F S1024x1024 .bf16) : FVec F S256x1024 .f32 :=
  k0_pay3 a g o x w

/-- The two pieces of the residual block. -/
def resPieces (Y0 Y1 : FVec F S256x1024 .f32) : List (View.Piece (Elt F) S512x1024 .f32) :=
  [⟨Rect.unit (s := S512x1024) ![256, 0] S256x1024.size inb_S512x1024_S256x1024_256_0, Y1⟩,
   ⟨Rect.unit (s := S512x1024) ![0, 0] S256x1024.size inb_S512x1024_S256x1024_0_0, Y0⟩]

/-- The rows `k + 8 r` of the normed block. -/
abbrev lanes (k : Nat) (h : ∀ a, S256x128.size a = 0 ∨ (![k, 0] : Fin 2 → Nat) a + (![8, 1] : Fin 2 → Nat) a * (S256x128.size a - 1) < S4096x128.size a) : LoadRect S4096x128 :=
  ⟨![k, 0], S256x128.size, ![8, 1], h⟩

/-- The sixteen pieces of the normed block: for each half of the tokens, lanes `128 k …` in the rows `8 r + k`. -/
def normPieces (Y0 Y1 : FVec F S256x1024 .f32) : List (View.Piece (Elt F) S4096x128 .f32) :=
  [⟨⟨lanes 2055 inb_S4096x128_S256x128_2055_0_s_8_1, spos_8_1⟩, extractStridedSlice S256x128 ![0, 896] Y1 slices_S256x1024_o0_896_S256x128⟩,
   ⟨⟨lanes 2054 inb_S4096x128_S256x128_2054_0_s_8_1, spos_8_1⟩, extractStridedSlice S256x128 ![0, 768] Y1 slices_S256x1024_o0_768_S256x128⟩,
   ⟨⟨lanes 2053 inb_S4096x128_S256x128_2053_0_s_8_1, spos_8_1⟩, extractStridedSlice S256x128 ![0, 640] Y1 slices_S256x1024_o0_640_S256x128⟩,
   ⟨⟨lanes 2052 inb_S4096x128_S256x128_2052_0_s_8_1, spos_8_1⟩, extractStridedSlice S256x128 ![0, 512] Y1 slices_S256x1024_o0_512_S256x128⟩,
   ⟨⟨lanes 2051 inb_S4096x128_S256x128_2051_0_s_8_1, spos_8_1⟩, extractStridedSlice S256x128 ![0, 384] Y1 slices_S256x1024_o0_384_S256x128⟩,
   ⟨⟨lanes 2050 inb_S4096x128_S256x128_2050_0_s_8_1, spos_8_1⟩, extractStridedSlice S256x128 ![0, 256] Y1 slices_S256x1024_o0_256_S256x128⟩,
   ⟨⟨lanes 2049 inb_S4096x128_S256x128_2049_0_s_8_1, spos_8_1⟩, extractStridedSlice S256x128 ![0, 128] Y1 slices_S256x1024_o0_128_S256x128⟩,
   ⟨⟨lanes 2048 inb_S4096x128_S256x128_2048_0_s_8_1, spos_8_1⟩, extractStridedSlice S256x128 ![0, 0] Y1 slices_S256x1024_o0_0_S256x128⟩,
   ⟨⟨lanes 7 inb_S4096x128_S256x128_7_0_s_8_1, spos_8_1⟩, extractStridedSlice S256x128 ![0, 896] Y0 slices_S256x1024_o0_896_S256x128⟩,
   ⟨⟨lanes 6 inb_S4096x128_S256x128_6_0_s_8_1, spos_8_1⟩, extractStridedSlice S256x128 ![0, 768] Y0 slices_S256x1024_o0_768_S256x128⟩,
   ⟨⟨lanes 5 inb_S4096x128_S256x128_5_0_s_8_1, spos_8_1⟩, extractStridedSlice S256x128 ![0, 640] Y0 slices_S256x1024_o0_640_S256x128⟩,
   ⟨⟨lanes 4 inb_S4096x128_S256x128_4_0_s_8_1, spos_8_1⟩, extractStridedSlice S256x128 ![0, 512] Y0 slices_S256x1024_o0_512_S256x128⟩,
   ⟨⟨lanes 3 inb_S4096x128_S256x128_3_0_s_8_1, spos_8_1⟩, extractStridedSlice S256x128 ![0, 384] Y0 slices_S256x1024_o0_384_S256x128⟩,
   ⟨⟨lanes 2 inb_S4096x128_S256x128_2_0_s_8_1, spos_8_1⟩, extractStridedSlice S256x128 ![0, 256] Y0 slices_S256x1024_o0_256_S256x128⟩,
   ⟨⟨lanes 1 inb_S4096x128_S256x128_1_0_s_8_1, spos_8_1⟩, extractStridedSlice S256x128 ![0, 128] Y0 slices_S256x1024_o0_128_S256x128⟩,
   ⟨⟨lanes 0 inb_S4096x128_S256x128_0_0_s_8_1, spos_8_1⟩, extractStridedSlice S256x128 ![0, 0] Y0 slices_S256x1024_o0_0_S256x128⟩]

/-- A load of a whole buffer reads its contents. -/
theorem readAt_whole {s : Shape} {e : EltTy} {m : Memref sig .tc .vmem s e} (h : m.IsWhole) (X : s.Idx → Elt F e) (off : Fin s.rank → Nat) (ho : off = fun _ => 0) (inb) :
    View.readAt (Elt F) m.view (Rect.unit (s := s) off s.size inb).toLoadRect (h.unread X) = X := by
  subst ho
  funext y
  refine (h.readAt_unread X _ y).trans (congrArg X ?_)
  funext a
  apply Fin.ext
  show 0 + 1 * (y a).val = (y a).val
  omega

set_option maxHeartbeats 4000000 in
/-- The run's pieces of output 8, at the first tile. -/
theorem first8 (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S2x1024x128 .bf16) (harg7 : arg7.IsWhole) (arg8 : Memref sig .tc .vmem S1x128 .f32) (harg8 : arg8.IsWhole) (arg9 : Memref sig .tc .vmem S512x1024 .f32) (harg9 : arg9.IsWhole) (arg10 : Memref sig .tc .vmem S4096x128 .f32) (harg10 : arg10.IsWhole) (arg11 : Memref sig .tc .vmem S8x512 .f32) (harg11 : arg11.IsWhole) (arg12 : Memref sig .tc .vmem S1x128 .f32) (harg12 : arg12.IsWhole) (hc0 : isFirst i)
    (x0 : Vec F S512x1024 .bf16) (x1 : Vec F S512x1024 .bf16) (x2 : Vec F S512x1024 .f32) (x3 : Vec F S1x1024 .f32) (x4 : Vec F S1024x1024 .bf16) (x5 : Vec F S1x1024 .f32) (x6 : Vec F S2x1024x128 .bf16) (x7 : Vec F S1x128 .f32) :
    (runFirst c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7).1 = resPieces (resid (lo x0) (lo x1) (lo x2) x3 x4) (resid (hi x0) (hi x1) (hi x2) x3 x4) := by
  have h0l : View.readAt (Elt F) arg1.view (Rect.unit (s := S512x1024) ![0, 0] S256x1024.size inb_S512x1024_S256x1024_0_0).toLoadRect (harg1.unread x0) = lo x0 := funext fun y => harg1.readAt_unread x0 _ y
  have h0h : View.readAt (Elt F) arg1.view (Rect.unit (s := S512x1024) ![256, 0] S256x1024.size inb_S512x1024_S256x1024_256_0).toLoadRect (harg1.unread x0) = hi x0 := funext fun y => harg1.readAt_unread x0 _ y
  have h1l : View.readAt (Elt F) arg2.view (Rect.unit (s := S512x1024) ![0, 0] S256x1024.size inb_S512x1024_S256x1024_0_0).toLoadRect (harg2.unread x1) = lo x1 := funext fun y => harg2.readAt_unread x1 _ y
  have h1h : View.readAt (Elt F) arg2.view (Rect.unit (s := S512x1024) ![256, 0] S256x1024.size inb_S512x1024_S256x1024_256_0).toLoadRect (harg2.unread x1) = hi x1 := funext fun y => harg2.readAt_unread x1 _ y
  have h2l : View.readAt (Elt F) arg3.view (Rect.unit (s := S512x1024) ![0, 0] S256x1024.size inb_S512x1024_S256x1024_0_0).toLoadRect (harg3.unread x2) = lo x2 := funext fun y => harg3.readAt_unread x2 _ y
  have h2h : View.readAt (Elt F) arg3.view (Rect.unit (s := S512x1024) ![256, 0] S256x1024.size inb_S512x1024_S256x1024_256_0).toLoadRect (harg3.unread x2) = hi x2 := funext fun y => harg3.readAt_unread x2 _ y
  have h3 := readAt_whole harg4 x3 ![0, 0] (by decide) inb_S1x1024_S1x1024_0_0
  have h4 := readAt_whole harg5 x4 ![0, 0] (by decide) inb_S1024x1024_S1024x1024_0_0
  have h5 := readAt_whole harg6 x5 ![0, 0] (by decide) inb_S1x1024_S1x1024_0_0
  have e : (runFirst c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7).1 = resPieces (resid (View.readAt (Elt F) arg1.view (Rect.unit (s := S512x1024) ![0, 0] S256x1024.size inb_S512x1024_S256x1024_0_0).toLoadRect (harg1.unread x0)) (View.readAt (Elt F) arg2.view (Rect.unit (s := S512x1024) ![0, 0] S256x1024.size inb_S512x1024_S256x1024_0_0).toLoadRect (harg2.unread x1)) (View.readAt (Elt F) arg3.view (Rect.unit (s := S512x1024) ![0, 0] S256x1024.size inb_S512x1024_S256x1024_0_0).toLoadRect (harg3.unread x2)) (View.readAt (Elt F) arg4.view (Rect.unit (s := S1x1024) ![0, 0] S1x1024.size inb_S1x1024_S1x1024_0_0).toLoadRect (harg4.unread x3)) (View.readAt (Elt F) arg5.view (Rect.unit (s := S1024x1024) ![0, 0] S1024x1024.size inb_S1024x1024_S1024x1024_0_0).toLoadRect (harg5.unread x4))) (resid (View.readAt (Elt F) arg1.view (Rect.unit (s := S512x1024) ![256, 0] S256x1024.size inb_S512x1024_S256x1024_256_0).toLoadRect (harg1.unread x0)) (View.readAt (Elt F) arg2.view (Rect.unit (s := S512x1024) ![256, 0] S256x1024.size inb_S512x1024_S256x1024_256_0).toLoadRect (harg2.unread x1)) (View.readAt (Elt F) arg3.view (Rect.unit (s := S512x1024) ![256, 0] S256x1024.size inb_S512x1024_S256x1024_256_0).toLoadRect (harg3.unread x2)) (View.readAt (Elt F) arg4.view (Rect.unit (s := S1x1024) ![0, 0] S1x1024.size inb_S1x1024_S1x1024_0_0).toLoadRect (harg4.unread x3)) (View.readAt (Elt F) arg5.view (Rect.unit (s := S1024x1024) ![0, 0] S1024x1024.size inb_S1024x1024_S1024x1024_0_0).toLoadRect (harg5.unread x4))) := by
    unfold runFirst
    rfl
  rw [e, h0l, h0h, h1l, h1h, h2l, h2h, h3, h4]

set_option maxHeartbeats 4000000 in
/-- The run's pieces of output 9, at the first tile. -/
theorem first9 (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S2x1024x128 .bf16) (harg7 : arg7.IsWhole) (arg8 : Memref sig .tc .vmem S1x128 .f32) (harg8 : arg8.IsWhole) (arg9 : Memref sig .tc .vmem S512x1024 .f32) (harg9 : arg9.IsWhole) (arg10 : Memref sig .tc .vmem S4096x128 .f32) (harg10 : arg10.IsWhole) (arg11 : Memref sig .tc .vmem S8x512 .f32) (harg11 : arg11.IsWhole) (arg12 : Memref sig .tc .vmem S1x128 .f32) (harg12 : arg12.IsWhole) (hc0 : isFirst i)
    (x0 : Vec F S512x1024 .bf16) (x1 : Vec F S512x1024 .bf16) (x2 : Vec F S512x1024 .f32) (x3 : Vec F S1x1024 .f32) (x4 : Vec F S1024x1024 .bf16) (x5 : Vec F S1x1024 .f32) (x6 : Vec F S2x1024x128 .bf16) (x7 : Vec F S1x128 .f32) :
    (runFirst c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7).2.1 = normPieces (k0_pay8 (resid (lo x0) (lo x1) (lo x2) x3 x4) x5) (k0_pay8 (resid (hi x0) (hi x1) (hi x2) x3 x4) x5) := by
  have h0l : View.readAt (Elt F) arg1.view (Rect.unit (s := S512x1024) ![0, 0] S256x1024.size inb_S512x1024_S256x1024_0_0).toLoadRect (harg1.unread x0) = lo x0 := funext fun y => harg1.readAt_unread x0 _ y
  have h0h : View.readAt (Elt F) arg1.view (Rect.unit (s := S512x1024) ![256, 0] S256x1024.size inb_S512x1024_S256x1024_256_0).toLoadRect (harg1.unread x0) = hi x0 := funext fun y => harg1.readAt_unread x0 _ y
  have h1l : View.readAt (Elt F) arg2.view (Rect.unit (s := S512x1024) ![0, 0] S256x1024.size inb_S512x1024_S256x1024_0_0).toLoadRect (harg2.unread x1) = lo x1 := funext fun y => harg2.readAt_unread x1 _ y
  have h1h : View.readAt (Elt F) arg2.view (Rect.unit (s := S512x1024) ![256, 0] S256x1024.size inb_S512x1024_S256x1024_256_0).toLoadRect (harg2.unread x1) = hi x1 := funext fun y => harg2.readAt_unread x1 _ y
  have h2l : View.readAt (Elt F) arg3.view (Rect.unit (s := S512x1024) ![0, 0] S256x1024.size inb_S512x1024_S256x1024_0_0).toLoadRect (harg3.unread x2) = lo x2 := funext fun y => harg3.readAt_unread x2 _ y
  have h2h : View.readAt (Elt F) arg3.view (Rect.unit (s := S512x1024) ![256, 0] S256x1024.size inb_S512x1024_S256x1024_256_0).toLoadRect (harg3.unread x2) = hi x2 := funext fun y => harg3.readAt_unread x2 _ y
  have h3 := readAt_whole harg4 x3 ![0, 0] (by decide) inb_S1x1024_S1x1024_0_0
  have h4 := readAt_whole harg5 x4 ![0, 0] (by decide) inb_S1024x1024_S1024x1024_0_0
  have h5 := readAt_whole harg6 x5 ![0, 0] (by decide) inb_S1x1024_S1x1024_0_0
  have e : (runFirst c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7).2.1 = normPieces (k0_pay8 (resid (View.readAt (Elt F) arg1.view (Rect.unit (s := S512x1024) ![0, 0] S256x1024.size inb_S512x1024_S256x1024_0_0).toLoadRect (harg1.unread x0)) (View.readAt (Elt F) arg2.view (Rect.unit (s := S512x1024) ![0, 0] S256x1024.size inb_S512x1024_S256x1024_0_0).toLoadRect (harg2.unread x1)) (View.readAt (Elt F) arg3.view (Rect.unit (s := S512x1024) ![0, 0] S256x1024.size inb_S512x1024_S256x1024_0_0).toLoadRect (harg3.unread x2)) (View.readAt (Elt F) arg4.view (Rect.unit (s := S1x1024) ![0, 0] S1x1024.size inb_S1x1024_S1x1024_0_0).toLoadRect (harg4.unread x3)) (View.readAt (Elt F) arg5.view (Rect.unit (s := S1024x1024) ![0, 0] S1024x1024.size inb_S1024x1024_S1024x1024_0_0).toLoadRect (harg5.unread x4))) (View.readAt (Elt F) arg6.view (Rect.unit (s := S1x1024) ![0, 0] S1x1024.size inb_S1x1024_S1x1024_0_0).toLoadRect (harg6.unread x5))) (k0_pay8 (resid (View.readAt (Elt F) arg1.view (Rect.unit (s := S512x1024) ![256, 0] S256x1024.size inb_S512x1024_S256x1024_256_0).toLoadRect (harg1.unread x0)) (View.readAt (Elt F) arg2.view (Rect.unit (s := S512x1024) ![256, 0] S256x1024.size inb_S512x1024_S256x1024_256_0).toLoadRect (harg2.unread x1)) (View.readAt (Elt F) arg3.view (Rect.unit (s := S512x1024) ![256, 0] S256x1024.size inb_S512x1024_S256x1024_256_0).toLoadRect (harg3.unread x2)) (View.readAt (Elt F) arg4.view (Rect.unit (s := S1x1024) ![0, 0] S1x1024.size inb_S1x1024_S1x1024_0_0).toLoadRect (harg4.unread x3)) (View.readAt (Elt F) arg5.view (Rect.unit (s := S1024x1024) ![0, 0] S1024x1024.size inb_S1024x1024_S1024x1024_0_0).toLoadRect (harg5.unread x4))) (View.readAt (Elt F) arg6.view (Rect.unit (s := S1x1024) ![0, 0] S1x1024.size inb_S1x1024_S1x1024_0_0).toLoadRect (harg6.unread x5))) := by
    unfold runFirst
    rfl
  rw [e, h0l, h0h, h1l, h1h, h2l, h2h, h3, h4, h5]

set_option maxHeartbeats 4000000 in
/-- The run's pieces of output 8, at a later tile. -/
theorem later8 (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S2x1024x128 .bf16) (harg7 : arg7.IsWhole) (arg8 : Memref sig .tc .vmem S1x128 .f32) (harg8 : arg8.IsWhole) (arg9 : Memref sig .tc .vmem S512x1024 .f32) (harg9 : arg9.IsWhole) (arg10 : Memref sig .tc .vmem S4096x128 .f32) (harg10 : arg10.IsWhole) (arg11 : Memref sig .tc .vmem S8x512 .f32) (harg11 : arg11.IsWhole) (arg12 : Memref sig .tc .vmem S1x128 .f32) (harg12 : arg12.IsWhole) (hc0 : ¬isFirst i)
    (x0 : Vec F S512x1024 .bf16) (x1 : Vec F S512x1024 .bf16) (x2 : Vec F S512x1024 .f32) (x3 : Vec F S1x1024 .f32) (x4 : Vec F S1024x1024 .bf16) (x5 : Vec F S1x1024 .f32) (x6 : Vec F S2x1024x128 .bf16) (x7 : Vec F S1x128 .f32) (xo : Vec F S1x128 .f32) :
    (runLater c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xo).1 = resPieces (resid (lo x0) (lo x1) (lo x2) x3 x4) (resid (hi x0) (hi x1) (hi x2) x3 x4) := by
  have h0l : View.readAt (Elt F) arg1.view (Rect.unit (s := S512x1024) ![0, 0] S256x1024.size inb_S512x1024_S256x1024_0_0).toLoadRect (harg1.unread x0) = lo x0 := funext fun y => harg1.readAt_unread x0 _ y
  have h0h : View.readAt (Elt F) arg1.view (Rect.unit (s := S512x1024) ![256, 0] S256x1024.size inb_S512x1024_S256x1024_256_0).toLoadRect (harg1.unread x0) = hi x0 := funext fun y => harg1.readAt_unread x0 _ y
  have h1l : View.readAt (Elt F) arg2.view (Rect.unit (s := S512x1024) ![0, 0] S256x1024.size inb_S512x1024_S256x1024_0_0).toLoadRect (harg2.unread x1) = lo x1 := funext fun y => harg2.readAt_unread x1 _ y
  have h1h : View.readAt (Elt F) arg2.view (Rect.unit (s := S512x1024) ![256, 0] S256x1024.size inb_S512x1024_S256x1024_256_0).toLoadRect (harg2.unread x1) = hi x1 := funext fun y => harg2.readAt_unread x1 _ y
  have h2l : View.readAt (Elt F) arg3.view (Rect.unit (s := S512x1024) ![0, 0] S256x1024.size inb_S512x1024_S256x1024_0_0).toLoadRect (harg3.unread x2) = lo x2 := funext fun y => harg3.readAt_unread x2 _ y
  have h2h : View.readAt (Elt F) arg3.view (Rect.unit (s := S512x1024) ![256, 0] S256x1024.size inb_S512x1024_S256x1024_256_0).toLoadRect (harg3.unread x2) = hi x2 := funext fun y => harg3.readAt_unread x2 _ y
  have h3 := readAt_whole harg4 x3 ![0, 0] (by decide) inb_S1x1024_S1x1024_0_0
  have h4 := readAt_whole harg5 x4 ![0, 0] (by decide) inb_S1024x1024_S1024x1024_0_0
  have h5 := readAt_whole harg6 x5 ![0, 0] (by decide) inb_S1x1024_S1x1024_0_0
  have e : (runLater c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xo).1 = resPieces (resid (View.readAt (Elt F) arg1.view (Rect.unit (s := S512x1024) ![0, 0] S256x1024.size inb_S512x1024_S256x1024_0_0).toLoadRect (harg1.unread x0)) (View.readAt (Elt F) arg2.view (Rect.unit (s := S512x1024) ![0, 0] S256x1024.size inb_S512x1024_S256x1024_0_0).toLoadRect (harg2.unread x1)) (View.readAt (Elt F) arg3.view (Rect.unit (s := S512x1024) ![0, 0] S256x1024.size inb_S512x1024_S256x1024_0_0).toLoadRect (harg3.unread x2)) (View.readAt (Elt F) arg4.view (Rect.unit (s := S1x1024) ![0, 0] S1x1024.size inb_S1x1024_S1x1024_0_0).toLoadRect (harg4.unread x3)) (View.readAt (Elt F) arg5.view (Rect.unit (s := S1024x1024) ![0, 0] S1024x1024.size inb_S1024x1024_S1024x1024_0_0).toLoadRect (harg5.unread x4))) (resid (View.readAt (Elt F) arg1.view (Rect.unit (s := S512x1024) ![256, 0] S256x1024.size inb_S512x1024_S256x1024_256_0).toLoadRect (harg1.unread x0)) (View.readAt (Elt F) arg2.view (Rect.unit (s := S512x1024) ![256, 0] S256x1024.size inb_S512x1024_S256x1024_256_0).toLoadRect (harg2.unread x1)) (View.readAt (Elt F) arg3.view (Rect.unit (s := S512x1024) ![256, 0] S256x1024.size inb_S512x1024_S256x1024_256_0).toLoadRect (harg3.unread x2)) (View.readAt (Elt F) arg4.view (Rect.unit (s := S1x1024) ![0, 0] S1x1024.size inb_S1x1024_S1x1024_0_0).toLoadRect (harg4.unread x3)) (View.readAt (Elt F) arg5.view (Rect.unit (s := S1024x1024) ![0, 0] S1024x1024.size inb_S1024x1024_S1024x1024_0_0).toLoadRect (harg5.unread x4))) := by
    unfold runLater
    rfl
  rw [e, h0l, h0h, h1l, h1h, h2l, h2h, h3, h4]

set_option maxHeartbeats 4000000 in
/-- The run's pieces of output 9, at a later tile. -/
theorem later9 (c : Dev nD) (i : grid0.Coords) (arg1 : Memref sig .tc .vmem S512x1024 .bf16) (harg1 : arg1.IsWhole) (arg2 : Memref sig .tc .vmem S512x1024 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S1024x1024 .bf16) (harg5 : arg5.IsWhole) (arg6 : Memref sig .tc .vmem S1x1024 .f32) (harg6 : arg6.IsWhole) (arg7 : Memref sig .tc .vmem S2x1024x128 .bf16) (harg7 : arg7.IsWhole) (arg8 : Memref sig .tc .vmem S1x128 .f32) (harg8 : arg8.IsWhole) (arg9 : Memref sig .tc .vmem S512x1024 .f32) (harg9 : arg9.IsWhole) (arg10 : Memref sig .tc .vmem S4096x128 .f32) (harg10 : arg10.IsWhole) (arg11 : Memref sig .tc .vmem S8x512 .f32) (harg11 : arg11.IsWhole) (arg12 : Memref sig .tc .vmem S1x128 .f32) (harg12 : arg12.IsWhole) (hc0 : ¬isFirst i)
    (x0 : Vec F S512x1024 .bf16) (x1 : Vec F S512x1024 .bf16) (x2 : Vec F S512x1024 .f32) (x3 : Vec F S1x1024 .f32) (x4 : Vec F S1024x1024 .bf16) (x5 : Vec F S1x1024 .f32) (x6 : Vec F S2x1024x128 .bf16) (x7 : Vec F S1x128 .f32) (xo : Vec F S1x128 .f32) :
    (runLater c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xo).2.1 = normPieces (k0_pay8 (resid (lo x0) (lo x1) (lo x2) x3 x4) x5) (k0_pay8 (resid (hi x0) (hi x1) (hi x2) x3 x4) x5) := by
  have h0l : View.readAt (Elt F) arg1.view (Rect.unit (s := S512x1024) ![0, 0] S256x1024.size inb_S512x1024_S256x1024_0_0).toLoadRect (harg1.unread x0) = lo x0 := funext fun y => harg1.readAt_unread x0 _ y
  have h0h : View.readAt (Elt F) arg1.view (Rect.unit (s := S512x1024) ![256, 0] S256x1024.size inb_S512x1024_S256x1024_256_0).toLoadRect (harg1.unread x0) = hi x0 := funext fun y => harg1.readAt_unread x0 _ y
  have h1l : View.readAt (Elt F) arg2.view (Rect.unit (s := S512x1024) ![0, 0] S256x1024.size inb_S512x1024_S256x1024_0_0).toLoadRect (harg2.unread x1) = lo x1 := funext fun y => harg2.readAt_unread x1 _ y
  have h1h : View.readAt (Elt F) arg2.view (Rect.unit (s := S512x1024) ![256, 0] S256x1024.size inb_S512x1024_S256x1024_256_0).toLoadRect (harg2.unread x1) = hi x1 := funext fun y => harg2.readAt_unread x1 _ y
  have h2l : View.readAt (Elt F) arg3.view (Rect.unit (s := S512x1024) ![0, 0] S256x1024.size inb_S512x1024_S256x1024_0_0).toLoadRect (harg3.unread x2) = lo x2 := funext fun y => harg3.readAt_unread x2 _ y
  have h2h : View.readAt (Elt F) arg3.view (Rect.unit (s := S512x1024) ![256, 0] S256x1024.size inb_S512x1024_S256x1024_256_0).toLoadRect (harg3.unread x2) = hi x2 := funext fun y => harg3.readAt_unread x2 _ y
  have h3 := readAt_whole harg4 x3 ![0, 0] (by decide) inb_S1x1024_S1x1024_0_0
  have h4 := readAt_whole harg5 x4 ![0, 0] (by decide) inb_S1024x1024_S1024x1024_0_0
  have h5 := readAt_whole harg6 x5 ![0, 0] (by decide) inb_S1x1024_S1x1024_0_0
  have e : (runLater c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 xo).2.1 = normPieces (k0_pay8 (resid (View.readAt (Elt F) arg1.view (Rect.unit (s := S512x1024) ![0, 0] S256x1024.size inb_S512x1024_S256x1024_0_0).toLoadRect (harg1.unread x0)) (View.readAt (Elt F) arg2.view (Rect.unit (s := S512x1024) ![0, 0] S256x1024.size inb_S512x1024_S256x1024_0_0).toLoadRect (harg2.unread x1)) (View.readAt (Elt F) arg3.view (Rect.unit (s := S512x1024) ![0, 0] S256x1024.size inb_S512x1024_S256x1024_0_0).toLoadRect (harg3.unread x2)) (View.readAt (Elt F) arg4.view (Rect.unit (s := S1x1024) ![0, 0] S1x1024.size inb_S1x1024_S1x1024_0_0).toLoadRect (harg4.unread x3)) (View.readAt (Elt F) arg5.view (Rect.unit (s := S1024x1024) ![0, 0] S1024x1024.size inb_S1024x1024_S1024x1024_0_0).toLoadRect (harg5.unread x4))) (View.readAt (Elt F) arg6.view (Rect.unit (s := S1x1024) ![0, 0] S1x1024.size inb_S1x1024_S1x1024_0_0).toLoadRect (harg6.unread x5))) (k0_pay8 (resid (View.readAt (Elt F) arg1.view (Rect.unit (s := S512x1024) ![256, 0] S256x1024.size inb_S512x1024_S256x1024_256_0).toLoadRect (harg1.unread x0)) (View.readAt (Elt F) arg2.view (Rect.unit (s := S512x1024) ![256, 0] S256x1024.size inb_S512x1024_S256x1024_256_0).toLoadRect (harg2.unread x1)) (View.readAt (Elt F) arg3.view (Rect.unit (s := S512x1024) ![256, 0] S256x1024.size inb_S512x1024_S256x1024_256_0).toLoadRect (harg3.unread x2)) (View.readAt (Elt F) arg4.view (Rect.unit (s := S1x1024) ![0, 0] S1x1024.size inb_S1x1024_S1x1024_0_0).toLoadRect (harg4.unread x3)) (View.readAt (Elt F) arg5.view (Rect.unit (s := S1024x1024) ![0, 0] S1024x1024.size inb_S1024x1024_S1024x1024_0_0).toLoadRect (harg5.unread x4))) (View.readAt (Elt F) arg6.view (Rect.unit (s := S1x1024) ![0, 0] S1x1024.size inb_S1x1024_S1x1024_0_0).toLoadRect (harg6.unread x5))) := by
    unfold runLater
    rfl
  rw [e, h0l, h0h, h1l, h1h, h2l, h2h, h3, h4, h5]

end Cert.Proof.Out

end
-- ==== Proof.OutNorm.lean ====
/- The mixer's output call: the sixteen pieces of the normed block fill it, and what they put together. -/
module

public import proofs.«01_k».proof.Proof.OutPieces
public import Idealize.ShloMosaic.Lib.Pipeline.Value
public import Idealize.ShloMosaic.Lib.ValueIdxCore
public import Idealize.ShloMosaic.Lib.VecWindow

@[expose] public section

set_option maxRecDepth 16384

noncomputable section

namespace Cert.Proof.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

theorem lanes_idx0 (k : Nat) (h : ∀ a, S256x128.size a = 0 ∨ (![k, 0] : Fin 2 → Nat) a + (![8, 1] : Fin 2 → Nat) a * (S256x128.size a - 1) < S4096x128.size a)
    (y : S256x128.Idx) : (((lanes k h).idx y) 0).val = k + 8 * (y 0).val := rfl

theorem lanes_idx1 (k : Nat) (h : ∀ a, S256x128.size a = 0 ∨ (![k, 0] : Fin 2 → Nat) a + (![8, 1] : Fin 2 → Nat) a * (S256x128.size a - 1) < S4096x128.size a)
    (y : S256x128.Idx) : (((lanes k h).idx y) 1).val = (y 1).val := by
  show 0 + 1 * (y 1).val = _
  omega

/-- The normed block: row `8 r + k` holds lanes `128 k …` of token `r`, the first 256 tokens from `Y0`, the others from `Y1`. -/
def normBlock (Y0 Y1 : FVec F S256x1024 .f32) : S4096x128.Idx → Elt F .f32 := fun j =>
  (if (j 0).val < 2048 then Y0 else Y1) (ValueIdx.ix2 ⟨(j 0).val % 2048 / 8, by omega⟩
    ⟨(j 0).val % 8 * 128 + (j 1).val, by have : (j 1).val < 128 := (j 1).isLt; omega⟩)

/-- One piece of the first half agrees with the block. -/
theorem piece_lo (Y0 Y1 : FVec F S256x1024 .f32) (k : Nat) (hk : k < 8)
    (h : ∀ a, S256x128.size a = 0 ∨ (![k, 0] : Fin 2 → Nat) a + (![8, 1] : Fin 2 → Nat) a * (S256x128.size a - 1) < S4096x128.size a)
    (hs : S256x1024.Slices ![0, 128 * k] S256x128) (y : S256x128.Idx) :
    extractStridedSlice S256x128 ![0, 128 * k] Y0 hs y = normBlock Y0 Y1 ((lanes k h).idx y) := by
  have h0 := lanes_idx0 k h y
  have h1 := lanes_idx1 k h y
  have hy : (y 0).val < 256 := (y 0).isLt
  unfold normBlock
  rw [if_pos (by omega)]
  refine congrArg Y0 ?_
  funext a
  apply Fin.ext
  fin_cases a
  · show 0 + (y 0).val = (((lanes k h).idx y) 0).val % 2048 / 8
    omega
  · show 128 * k + (y 1).val = (((lanes k h).idx y) 0).val % 8 * 128 + (((lanes k h).idx y) 1).val
    omega

/-- One piece of the second half agrees with the block. -/
theorem piece_hi (Y0 Y1 : FVec F S256x1024 .f32) (k : Nat) (hk : k < 8)
    (h : ∀ a, S256x128.size a = 0 ∨ (![2048 + k, 0] : Fin 2 → Nat) a + (![8, 1] : Fin 2 → Nat) a * (S256x128.size a - 1) < S4096x128.size a)
    (hs : S256x1024.Slices ![0, 128 * k] S256x128) (y : S256x128.Idx) :
    extractStridedSlice S256x128 ![0, 128 * k] Y1 hs y = normBlock Y0 Y1 ((lanes (2048 + k) h).idx y) := by
  have h0 := lanes_idx0 (2048 + k) h y
  have h1 := lanes_idx1 (2048 + k) h y
  have hy : (y 0).val < 256 := (y 0).isLt
  unfold normBlock
  rw [if_neg (by omega)]
  refine congrArg Y1 ?_
  funext a
  apply Fin.ext
  fin_cases a
  · show 0 + (y 0).val = (((lanes (2048 + k) h).idx y) 0).val % 2048 / 8
    omega
  · show 128 * k + (y 1).val = (((lanes (2048 + k) h).idx y) 0).val % 8 * 128 + (((lanes (2048 + k) h).idx y) 1).val
    omega

/-- An index of the block lies in the piece that its row names. -/
theorem mem_lanes (b k : Nat) (hb : 8 ∣ b) (hk : k < 8) (hp : ∀ a, 0 < (![8, 1] : Fin 2 → Nat) a) (h : ∀ a, S256x128.size a = 0 ∨ (![b + k, 0] : Fin 2 → Nat) a + (![8, 1] : Fin 2 → Nat) a * (S256x128.size a - 1) < S4096x128.size a)
    (j : S4096x128.Idx) (hj : (j 0).val % 8 = k) (h1 : b ≤ (j 0).val) (h2 : (j 0).val < b + 2048) : j ∈ (⟨lanes (b + k) h, hp⟩ : Rect S4096x128).set := by
  obtain ⟨d, rfl⟩ := hb
  have hm := (⟨lanes (8 * d + k) h, hp⟩ : Rect S4096x128).map_emb_univ ▸ Finset.mem_map_of_mem (⟨lanes (8 * d + k) h, hp⟩ : Rect S4096x128).emb (Finset.mem_univ (ValueIdx.ix2 ⟨(j 0).val / 8 - d, by omega⟩ (j 1) : S256x128.Idx))
  have e : (lanes (8 * d + k) h).idx (ValueIdx.ix2 ⟨(j 0).val / 8 - d, by omega⟩ (j 1) : S256x128.Idx) = j := by
    funext a
    apply Fin.ext
    fin_cases a
    · have := lanes_idx0 (8 * d + k) h (ValueIdx.ix2 ⟨(j 0).val / 8 - d, by omega⟩ (j 1) : S256x128.Idx)
      refine this.trans ?_
      show 8 * d + k + 8 * ((j 0).val / 8 - d) = (j 0).val
      omega
    · exact lanes_idx1 (8 * d + k) h (ValueIdx.ix2 ⟨(j 0).val / 8 - d, by omega⟩ (j 1) : S256x128.Idx)
  rw [← e]
  exact hm

/-- Every index of the normed block is stored by a piece. -/
theorem normPieces_cover (Y0 Y1 : FVec F S256x1024 .f32) (j : S4096x128.Idx) : ∃ p ∈ normPieces Y0 Y1, j ∈ p.1.set := by
  have hj : (j 0).val < 4096 := (j 0).isLt
  have h8 : ∀ n : Nat, n % 8 = 0 ∨ n % 8 = 1 ∨ n % 8 = 2 ∨ n % 8 = 3 ∨ n % 8 = 4 ∨ n % 8 = 5 ∨ n % 8 = 6 ∨ n % 8 = 7 := fun n => by omega
  unfold normPieces
  rcases (by omega : (j 0).val < 2048 ∨ 2048 ≤ (j 0).val) with hh | hh <;> rcases h8 (j 0).val with e | e | e | e | e | e | e | e
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), mem_lanes 0 0 (by decide) (by decide) _ inb_S4096x128_S256x128_0_0_s_8_1 j e (Nat.zero_le _) (by omega)⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), mem_lanes 0 1 (by decide) (by decide) _ inb_S4096x128_S256x128_1_0_s_8_1 j e (Nat.zero_le _) (by omega)⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), mem_lanes 0 2 (by decide) (by decide) _ inb_S4096x128_S256x128_2_0_s_8_1 j e (Nat.zero_le _) (by omega)⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), mem_lanes 0 3 (by decide) (by decide) _ inb_S4096x128_S256x128_3_0_s_8_1 j e (Nat.zero_le _) (by omega)⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_lanes 0 4 (by decide) (by decide) _ inb_S4096x128_S256x128_4_0_s_8_1 j e (Nat.zero_le _) (by omega)⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_lanes 0 5 (by decide) (by decide) _ inb_S4096x128_S256x128_5_0_s_8_1 j e (Nat.zero_le _) (by omega)⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_lanes 0 6 (by decide) (by decide) _ inb_S4096x128_S256x128_6_0_s_8_1 j e (Nat.zero_le _) (by omega)⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_lanes 0 7 (by decide) (by decide) _ inb_S4096x128_S256x128_7_0_s_8_1 j e (Nat.zero_le _) (by omega)⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_lanes 2048 0 (by decide) (by decide) _ inb_S4096x128_S256x128_2048_0_s_8_1 j e hh (by omega)⟩
  · exact ⟨_, List.mem_cons_of_mem _ (List.mem_cons_of_mem _ (List.mem_cons_of_mem _ (List.mem_cons_of_mem _ (List.mem_cons_of_mem _ (List.mem_cons_of_mem _ (List.mem_cons_self)))))), mem_lanes 2048 1 (by decide) (by decide) _ inb_S4096x128_S256x128_2049_0_s_8_1 j e hh (by omega)⟩
  · exact ⟨_, List.mem_cons_of_mem _ (List.mem_cons_of_mem _ (List.mem_cons_of_mem _ (List.mem_cons_of_mem _ (List.mem_cons_of_mem _ (List.mem_cons_self))))), mem_lanes 2048 2 (by decide) (by decide) _ inb_S4096x128_S256x128_2050_0_s_8_1 j e hh (by omega)⟩
  · exact ⟨_, List.mem_cons_of_mem _ (List.mem_cons_of_mem _ (List.mem_cons_of_mem _ (List.mem_cons_of_mem _ (List.mem_cons_self)))), mem_lanes 2048 3 (by decide) (by decide) _ inb_S4096x128_S256x128_2051_0_s_8_1 j e hh (by omega)⟩
  · exact ⟨_, List.mem_cons_of_mem _ (List.mem_cons_of_mem _ (List.mem_cons_of_mem _ (List.mem_cons_self))), mem_lanes 2048 4 (by decide) (by decide) _ inb_S4096x128_S256x128_2052_0_s_8_1 j e hh (by omega)⟩
  · exact ⟨_, List.mem_cons_of_mem _ (List.mem_cons_of_mem _ (List.mem_cons_self)), mem_lanes 2048 5 (by decide) (by decide) _ inb_S4096x128_S256x128_2053_0_s_8_1 j e hh (by omega)⟩
  · exact ⟨_, List.mem_cons_of_mem _ (List.mem_cons_self), mem_lanes 2048 6 (by decide) (by decide) _ inb_S4096x128_S256x128_2054_0_s_8_1 j e hh (by omega)⟩
  · exact ⟨_, List.mem_cons_self, mem_lanes 2048 7 (by decide) (by decide) _ inb_S4096x128_S256x128_2055_0_s_8_1 j e hh (by omega)⟩

/-- Put together the pieces are the normed block. -/
theorem normPieces_canon (Y0 Y1 : FVec F S256x1024 .f32) : View.canon (normPieces Y0 Y1) = normBlock Y0 Y1 := by
  funext j
  refine View.canon_apply_of_pieces (normBlock Y0 Y1) _ ?_ j (normPieces_cover Y0 Y1 j)
  intro p hp
  unfold normPieces at hp
  rcases List.mem_cons.mp hp with rfl | hp
  · exact fun y => piece_hi Y0 Y1 7 (by decide) inb_S4096x128_S256x128_2055_0_s_8_1 slices_S256x1024_o0_896_S256x128 y
  rcases List.mem_cons.mp hp with rfl | hp
  · exact fun y => piece_hi Y0 Y1 6 (by decide) inb_S4096x128_S256x128_2054_0_s_8_1 slices_S256x1024_o0_768_S256x128 y
  rcases List.mem_cons.mp hp with rfl | hp
  · exact fun y => piece_hi Y0 Y1 5 (by decide) inb_S4096x128_S256x128_2053_0_s_8_1 slices_S256x1024_o0_640_S256x128 y
  rcases List.mem_cons.mp hp with rfl | hp
  · exact fun y => piece_hi Y0 Y1 4 (by decide) inb_S4096x128_S256x128_2052_0_s_8_1 slices_S256x1024_o0_512_S256x128 y
  rcases List.mem_cons.mp hp with rfl | hp
  · exact fun y => piece_hi Y0 Y1 3 (by decide) inb_S4096x128_S256x128_2051_0_s_8_1 slices_S256x1024_o0_384_S256x128 y
  rcases List.mem_cons.mp hp with rfl | hp
  · exact fun y => piece_hi Y0 Y1 2 (by decide) inb_S4096x128_S256x128_2050_0_s_8_1 slices_S256x1024_o0_256_S256x128 y
  rcases List.mem_cons.mp hp with rfl | hp
  · exact fun y => piece_hi Y0 Y1 1 (by decide) inb_S4096x128_S256x128_2049_0_s_8_1 slices_S256x1024_o0_128_S256x128 y
  rcases List.mem_cons.mp hp with rfl | hp
  · exact fun y => piece_hi Y0 Y1 0 (by decide) inb_S4096x128_S256x128_2048_0_s_8_1 slices_S256x1024_o0_0_S256x128 y
  rcases List.mem_cons.mp hp with rfl | hp
  · exact fun y => piece_lo Y0 Y1 7 (by decide) inb_S4096x128_S256x128_7_0_s_8_1 slices_S256x1024_o0_896_S256x128 y
  rcases List.mem_cons.mp hp with rfl | hp
  · exact fun y => piece_lo Y0 Y1 6 (by decide) inb_S4096x128_S256x128_6_0_s_8_1 slices_S256x1024_o0_768_S256x128 y
  rcases List.mem_cons.mp hp with rfl | hp
  · exact fun y => piece_lo Y0 Y1 5 (by decide) inb_S4096x128_S256x128_5_0_s_8_1 slices_S256x1024_o0_640_S256x128 y
  rcases List.mem_cons.mp hp with rfl | hp
  · exact fun y => piece_lo Y0 Y1 4 (by decide) inb_S4096x128_S256x128_4_0_s_8_1 slices_S256x1024_o0_512_S256x128 y
  rcases List.mem_cons.mp hp with rfl | hp
  · exact fun y => piece_lo Y0 Y1 3 (by decide) inb_S4096x128_S256x128_3_0_s_8_1 slices_S256x1024_o0_384_S256x128 y
  rcases List.mem_cons.mp hp with rfl | hp
  · exact fun y => piece_lo Y0 Y1 2 (by decide) inb_S4096x128_S256x128_2_0_s_8_1 slices_S256x1024_o0_256_S256x128 y
  rcases List.mem_cons.mp hp with rfl | hp
  · exact fun y => piece_lo Y0 Y1 1 (by decide) inb_S4096x128_S256x128_1_0_s_8_1 slices_S256x1024_o0_128_S256x128 y
  rcases List.mem_cons.mp hp with rfl | hp
  · exact fun y => piece_lo Y0 Y1 0 (by decide) inb_S4096x128_S256x128_0_0_s_8_1 slices_S256x1024_o0_0_S256x128 y
  cases hp

end Cert.Proof.Out

end
-- ==== Proof.OutData.lean ====
/- The mixer's output call: what each tile leaves, the body at every point, and the run of the whole call. -/
module

public import proofs.«01_k».proof.Proof.OutNorm

@[expose] public section

set_option maxRecDepth 16384

noncomputable section

namespace Cert.Proof.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces stored at the first tile. -/
def atFirst (c : Dev nD) (t : Fin cfg0.N) (h : isFirst (grid0.coords t)) :=
  runFirst c (grid0.coords t) (buf0 t) (whole0 t) (buf1 t) (whole1 t) (buf2 t) (whole2 t) (buf3 t) (whole3 t) (buf4 t) (whole4 t) (buf5 t) (whole5 t) (buf6 t) (whole6 t) (buf7 t) (whole7 t) (buf8 t) (whole8 t) (buf9 t) (whole9 t) (buf10 t) (whole10 t) (buf11 t) (whole11 t) h (iblk m c 0 t) (iblk m c 1 t) (iblk m c 2 t) (iblk m c 3 t) (iblk m c 4 t) (iblk m c 5 t) (iblk m c 6 t) (iblk m c 7 t)

/-- The pieces stored at a later tile, the counts so far in `xo`. -/
def atLater (c : Dev nD) (t : Fin cfg0.N) (h : ¬isFirst (grid0.coords t)) (xo : Vec F S1x128 .f32) :=
  runLater c (grid0.coords t) (buf0 t) (whole0 t) (buf1 t) (whole1 t) (buf2 t) (whole2 t) (buf3 t) (whole3 t) (buf4 t) (whole4 t) (buf5 t) (whole5 t) (buf6 t) (whole6 t) (buf7 t) (whole7 t) (buf8 t) (whole8 t) (buf9 t) (whole9 t) (buf10 t) (whole10 t) (buf11 t) (whole11 t) h (iblk m c 0 t) (iblk m c 1 t) (iblk m c 2 t) (iblk m c 3 t) (iblk m c 4 t) (iblk m c 5 t) (iblk m c 6 t) (iblk m c 7 t) xo

theorem later_ne (n : ℕ) (hn : n + 1 < cfg0.N) : ¬isFirst (grid0.coords ⟨n + 1, hn⟩) := fun h =>
  Nat.succ_ne_zero n ((isFirst_iff ⟨n + 1, hn⟩).mp h)

/-- The counts after point `n`. -/
def counts (c : Dev nD) : (n : ℕ) → n < cfg0.N → Vec F S1x128 .f32
  | 0, hn => View.canon (atFirst m c ⟨0, hn⟩ ((isFirst_iff ⟨0, hn⟩).mpr rfl)).2.2.2.1
  | n + 1, hn => View.canon (atLater m c ⟨n + 1, hn⟩ (later_ne n hn) (counts c n (Nat.lt_of_succ_lt hn))).2.2.2.1

/-- The routing block after point `n`. -/
def routes (c : Dev nD) : (n : ℕ) → n < cfg0.N → Vec F S8x512 .f32
  | 0, hn => View.canon (atFirst m c ⟨0, hn⟩ ((isFirst_iff ⟨0, hn⟩).mpr rfl)).2.2.1
  | n + 1, hn => View.canon (atLater m c ⟨n + 1, hn⟩ (later_ne n hn) (counts m c n (Nat.lt_of_succ_lt hn))).2.2.1

/-- The residual after the mixer for a tile's first 256 tokens, -/
def resLo (c : Dev nD) (t : Fin cfg0.N) : FVec F S256x1024 .f32 :=
  resid (lo (iblk m c 0 t)) (lo (iblk m c 1 t)) (lo (iblk m c 2 t)) (iblk m c 3 t) (iblk m c 4 t)
/-- and for its others. -/
def resHi (c : Dev nD) (t : Fin cfg0.N) : FVec F S256x1024 .f32 :=
  resid (hi (iblk m c 0 t)) (hi (iblk m c 1 t)) (hi (iblk m c 2 t)) (iblk m c 3 t) (iblk m c 4 t)

/-- The call's proof data: each input's buffer at its block, the outputs' at what the tile leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => View.canon (resPieces (resLo m c t) (resHi m c t))
    | ⟨9, _⟩ => View.canon (normPieces (k0_pay8 (resLo m c t) (iblk m c 5 t)) (k0_pay8 (resHi m c t) (iblk m c 5 t)))
    | ⟨10, _⟩ => routes m c t.val t.isLt
    | ⟨11, _⟩ => counts m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem before0 (c : Dev nD) (t : Fin cfg0.N) (d) : (dats m 0 c).before 0 t d = iblk m c 0 t := before0_0_of m (dats m 0 c) (A_eq m c 0) (after0 m c) t d
theorem after1 (c : Dev nD) (t : Fin cfg0.N) : (dats m 0 c).after 1 t = iblk m c 1 t := by dsimp only [dats]
theorem before1 (c : Dev nD) (t : Fin cfg0.N) (d) : (dats m 0 c).before 1 t d = iblk m c 1 t := before0_1_of m (dats m 0 c) (A_eq m c 1) (after1 m c) t d
theorem after2 (c : Dev nD) (t : Fin cfg0.N) : (dats m 0 c).after 2 t = iblk m c 2 t := by dsimp only [dats]
theorem before2 (c : Dev nD) (t : Fin cfg0.N) (d) : (dats m 0 c).before 2 t d = iblk m c 2 t := before0_2_of m (dats m 0 c) (A_eq m c 2) (after2 m c) t d
theorem after3 (c : Dev nD) (t : Fin cfg0.N) : (dats m 0 c).after 3 t = iblk m c 3 t := by dsimp only [dats]
theorem before3 (c : Dev nD) (t : Fin cfg0.N) (d) : (dats m 0 c).before 3 t d = iblk m c 3 t := before0_3_of m (dats m 0 c) (A_eq m c 3) (after3 m c) t d
theorem after4 (c : Dev nD) (t : Fin cfg0.N) : (dats m 0 c).after 4 t = iblk m c 4 t := by dsimp only [dats]
theorem before4 (c : Dev nD) (t : Fin cfg0.N) (d) : (dats m 0 c).before 4 t d = iblk m c 4 t := before0_4_of m (dats m 0 c) (A_eq m c 4) (after4 m c) t d
theorem after5 (c : Dev nD) (t : Fin cfg0.N) : (dats m 0 c).after 5 t = iblk m c 5 t := by dsimp only [dats]
theorem before5 (c : Dev nD) (t : Fin cfg0.N) (d) : (dats m 0 c).before 5 t d = iblk m c 5 t := before0_5_of m (dats m 0 c) (A_eq m c 5) (after5 m c) t d
theorem after6 (c : Dev nD) (t : Fin cfg0.N) : (dats m 0 c).after 6 t = iblk m c 6 t := by dsimp only [dats]
theorem before6 (c : Dev nD) (t : Fin cfg0.N) (d) : (dats m 0 c).before 6 t d = iblk m c 6 t := before0_6_of m (dats m 0 c) (A_eq m c 6) (after6 m c) t d
theorem after7 (c : Dev nD) (t : Fin cfg0.N) : (dats m 0 c).after 7 t = iblk m c 7 t := by dsimp only [dats]
theorem before7 (c : Dev nD) (t : Fin cfg0.N) (d) : (dats m 0 c).before 7 t d = iblk m c 7 t := before0_7_of m (dats m 0 c) (A_eq m c 7) (after7 m c) t d
theorem after8 (c : Dev nD) (t : Fin cfg0.N) : (dats m 0 c).after 8 t = View.canon (resPieces (resLo m c t) (resHi m c t)) := by dsimp only [dats]
theorem after9 (c : Dev nD) (t : Fin cfg0.N) : (dats m 0 c).after 9 t = View.canon (normPieces (k0_pay8 (resLo m c t) (iblk m c 5 t)) (k0_pay8 (resHi m c t) (iblk m c 5 t))) := by dsimp only [dats]
theorem after10 (c : Dev nD) (t : Fin cfg0.N) : (dats m 0 c).after 10 t = routes m c t.val t.isLt := by dsimp only [dats]
theorem after11 (c : Dev nD) (t : Fin cfg0.N) : (dats m 0 c).after 11 t = counts m c t.val t.isLt := by dsimp only [dats]

/-- At a later point the counts' buffer holds what the point before left. -/
theorem before11 (c : Dev nD) (t : Fin cfg0.N) (h0 : t.val ≠ 0) (d) :
    (dats m 0 c).before 11 t d = counts m c (t.val - 1) (Nat.lt_of_le_of_lt (Nat.sub_le _ _) t.isLt) := by
  have hN : t.val < 64 := lt_of_lt_of_eq t.isLt (show cfg0.N = 64 from N_0)
  rw [Dat.before_out_kept _ 11 rfl t (by omega) (Bool.eq_false_iff.mpr fun h => by have := (flush0_11 _).mp h; dsimp only at this; omega)
    (fun _ => rfl) (fun _ _ => rfl)]
  dsimp only [dats]

theorem pieces8_first (c : Dev nD) (t : Fin cfg0.N) (h : isFirst (grid0.coords t)) : (atFirst m c t h).1 = resPieces (resLo m c t) (resHi m c t) :=
  first8 c (grid0.coords t) (buf0 t) (whole0 t) (buf1 t) (whole1 t) (buf2 t) (whole2 t) (buf3 t) (whole3 t) (buf4 t) (whole4 t) (buf5 t) (whole5 t) (buf6 t) (whole6 t) (buf7 t) (whole7 t) (buf8 t) (whole8 t) (buf9 t) (whole9 t) (buf10 t) (whole10 t) (buf11 t) (whole11 t) h (iblk m c 0 t) (iblk m c 1 t) (iblk m c 2 t) (iblk m c 3 t) (iblk m c 4 t) (iblk m c 5 t) (iblk m c 6 t) (iblk m c 7 t)
theorem pieces9_first (c : Dev nD) (t : Fin cfg0.N) (h : isFirst (grid0.coords t)) : (atFirst m c t h).2.1 = normPieces (k0_pay8 (resLo m c t) (iblk m c 5 t)) (k0_pay8 (resHi m c t) (iblk m c 5 t)) :=
  first9 c (grid0.coords t) (buf0 t) (whole0 t) (buf1 t) (whole1 t) (buf2 t) (whole2 t) (buf3 t) (whole3 t) (buf4 t) (whole4 t) (buf5 t) (whole5 t) (buf6 t) (whole6 t) (buf7 t) (whole7 t) (buf8 t) (whole8 t) (buf9 t) (whole9 t) (buf10 t) (whole10 t) (buf11 t) (whole11 t) h (iblk m c 0 t) (iblk m c 1 t) (iblk m c 2 t) (iblk m c 3 t) (iblk m c 4 t) (iblk m c 5 t) (iblk m c 6 t) (iblk m c 7 t)
theorem cover8_first (c : Dev nD) (t : Fin cfg0.N) (h : isFirst (grid0.coords t)) (y : S512x1024.Idx) : ∃ p ∈ (atFirst m c t h).1, y ∈ p.1.set :=
  View.cover_of_tiledL (atFirst m c t h).1 S256x1024.size (by unfold atFirst; sl_kernel_rfl) y
theorem cover9_first (c : Dev nD) (t : Fin cfg0.N) (h : isFirst (grid0.coords t)) (y : S4096x128.Idx) : ∃ p ∈ (atFirst m c t h).2.1, y ∈ p.1.set := by
  rw [pieces9_first]
  exact normPieces_cover _ _ y
theorem cover10_first (c : Dev nD) (t : Fin cfg0.N) (h : isFirst (grid0.coords t)) (y : S8x512.Idx) : ∃ p ∈ (atFirst m c t h).2.2.1, y ∈ p.1.set :=
  View.cover_of_tiledL (atFirst m c t h).2.2.1 S8x256.size (by unfold atFirst; sl_kernel_rfl) y
theorem cover11_first (c : Dev nD) (t : Fin cfg0.N) (h : isFirst (grid0.coords t)) (y : S1x128.Idx) : ∃ p ∈ (atFirst m c t h).2.2.2.1, y ∈ p.1.set :=
  View.cover_of_tiledL (atFirst m c t h).2.2.2.1 S1x128.size (by unfold atFirst; sl_kernel_rfl) y

theorem pieces8_later (c : Dev nD) (t : Fin cfg0.N) (h : ¬isFirst (grid0.coords t)) (xo : Vec F S1x128 .f32) : (atLater m c t h xo).1 = resPieces (resLo m c t) (resHi m c t) :=
  later8 c (grid0.coords t) (buf0 t) (whole0 t) (buf1 t) (whole1 t) (buf2 t) (whole2 t) (buf3 t) (whole3 t) (buf4 t) (whole4 t) (buf5 t) (whole5 t) (buf6 t) (whole6 t) (buf7 t) (whole7 t) (buf8 t) (whole8 t) (buf9 t) (whole9 t) (buf10 t) (whole10 t) (buf11 t) (whole11 t) h (iblk m c 0 t) (iblk m c 1 t) (iblk m c 2 t) (iblk m c 3 t) (iblk m c 4 t) (iblk m c 5 t) (iblk m c 6 t) (iblk m c 7 t) xo
theorem pieces9_later (c : Dev nD) (t : Fin cfg0.N) (h : ¬isFirst (grid0.coords t)) (xo : Vec F S1x128 .f32) : (atLater m c t h xo).2.1 = normPieces (k0_pay8 (resLo m c t) (iblk m c 5 t)) (k0_pay8 (resHi m c t) (iblk m c 5 t)) :=
  later9 c (grid0.coords t) (buf0 t) (whole0 t) (buf1 t) (whole1 t) (buf2 t) (whole2 t) (buf3 t) (whole3 t) (buf4 t) (whole4 t) (buf5 t) (whole5 t) (buf6 t) (whole6 t) (buf7 t) (whole7 t) (buf8 t) (whole8 t) (buf9 t) (whole9 t) (buf10 t) (whole10 t) (buf11 t) (whole11 t) h (iblk m c 0 t) (iblk m c 1 t) (iblk m c 2 t) (iblk m c 3 t) (iblk m c 4 t) (iblk m c 5 t) (iblk m c 6 t) (iblk m c 7 t) xo
theorem cover8_later (c : Dev nD) (t : Fin cfg0.N) (h : ¬isFirst (grid0.coords t)) (xo : Vec F S1x128 .f32) (y : S512x1024.Idx) : ∃ p ∈ (atLater m c t h xo).1, y ∈ p.1.set :=
  View.cover_of_tiledL (atLater m c t h xo).1 S256x1024.size (by unfold atLater; sl_kernel_rfl) y
theorem cover9_later (c : Dev nD) (t : Fin cfg0.N) (h : ¬isFirst (grid0.coords t)) (xo : Vec F S1x128 .f32) (y : S4096x128.Idx) : ∃ p ∈ (atLater m c t h xo).2.1, y ∈ p.1.set := by
  rw [pieces9_later]
  exact normPieces_cover _ _ y
theorem cover10_later (c : Dev nD) (t : Fin cfg0.N) (h : ¬isFirst (grid0.coords t)) (xo : Vec F S1x128 .f32) (y : S8x512.Idx) : ∃ p ∈ (atLater m c t h xo).2.2.1, y ∈ p.1.set :=
  View.cover_of_tiledL (atLater m c t h xo).2.2.1 S8x256.size (by unfold atLater; sl_kernel_rfl) y
theorem cover11_later (c : Dev nD) (t : Fin cfg0.N) (h : ¬isFirst (grid0.coords t)) (xo : Vec F S1x128 .f32) (y : S1x128.Idx) : ∃ p ∈ (atLater m c t h xo).2.2.2.1, y ∈ p.1.set :=
  View.cover_of_tiledL (atLater m c t h xo).2.2.2.1 S1x128.size (by unfold atLater; sl_kernel_rfl) y

theorem counts_first (c : Dev nD) (t : Fin cfg0.N) (h : isFirst (grid0.coords t)) : counts m c t.val t.isLt = View.canon (atFirst m c t h).2.2.2.1 := by
  obtain ⟨n, hn⟩ := t
  cases n with
  | zero => rfl
  | succ n => exact absurd h (later_ne n hn)
theorem routes_first (c : Dev nD) (t : Fin cfg0.N) (h : isFirst (grid0.coords t)) : routes m c t.val t.isLt = View.canon (atFirst m c t h).2.2.1 := by
  obtain ⟨n, hn⟩ := t
  cases n with
  | zero => rfl
  | succ n => exact absurd h (later_ne n hn)
theorem counts_later (c : Dev nD) (t : Fin cfg0.N) (h : ¬isFirst (grid0.coords t)) :
    counts m c t.val t.isLt = View.canon (atLater m c t h (counts m c (t.val - 1) (Nat.lt_of_le_of_lt (Nat.sub_le _ _) t.isLt))).2.2.2.1 := by
  obtain ⟨n, hn⟩ := t
  cases n with
  | zero => exact absurd ((isFirst_iff ⟨0, hn⟩).mpr rfl) h
  | succ n => rfl
theorem routes_later (c : Dev nD) (t : Fin cfg0.N) (h : ¬isFirst (grid0.coords t)) :
    routes m c t.val t.isLt = View.canon (atLater m c t h (counts m c (t.val - 1) (Nat.lt_of_le_of_lt (Nat.sub_le _ _) t.isLt))).2.2.1 := by
  obtain ⟨n, hn⟩ := t
  cases n with
  | zero => exact absurd ((isFirst_iff ⟨0, hn⟩).mpr rfl) h
  | succ n => rfl

end Cert.Proof.Out

end
-- ==== Proof.OutLaunch.lean ====
/- The mixer's output call: the body at every point, and the run of the whole call. -/
module

public import Idealize.ShloMosaic.Lib.Claim
public import proofs.«01_k».proof.Proof.OutData

@[expose] public section

set_option maxRecDepth 16384

noncomputable section

namespace Cert.Proof.Out

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel3Ideal Cert.Kernel3Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d))
    ∗ (∃ d, owns (c : Thread nD τ) (buf7 t) fullShare ((dats m 0 c).before 7 t d))
    ∗ (∃ d, owns (c : Thread nD τ) (buf8 t) fullShare ((dats m 0 c).before 8 t d))
    ∗ (∃ d, owns (c : Thread nD τ) (buf9 t) fullShare ((dats m 0 c).before 9 t d))
    ∗ (∃ d, owns (c : Thread nD τ) (buf10 t) fullShare ((dats m 0 c).before 10 t d))
    ∗ (∃ d, owns (c : Thread nD τ) (buf11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ owns (c : Thread nD τ) (buf0 t) fullShare ((dats m 0 c).after 0 t)
    ∗ owns (c : Thread nD τ) (buf1 t) fullShare ((dats m 0 c).after 1 t)
    ∗ owns (c : Thread nD τ) (buf2 t) fullShare ((dats m 0 c).after 2 t)
    ∗ owns (c : Thread nD τ) (buf3 t) fullShare ((dats m 0 c).after 3 t)
    ∗ owns (c : Thread nD τ) (buf4 t) fullShare ((dats m 0 c).after 4 t)
    ∗ owns (c : Thread nD τ) (buf5 t) fullShare ((dats m 0 c).after 5 t)
    ∗ owns (c : Thread nD τ) (buf6 t) fullShare ((dats m 0 c).after 6 t)
    ∗ owns (c : Thread nD τ) (buf7 t) fullShare ((dats m 0 c).after 7 t)
    ∗ owns (c : Thread nD τ) (buf8 t) fullShare ((dats m 0 c).after 8 t)
    ∗ owns (c : Thread nD τ) (buf9 t) fullShare ((dats m 0 c).after 9 t)
    ∗ owns (c : Thread nD τ) (buf10 t) fullShare ((dats m 0 c).after 10 t)
    ∗ owns (c : Thread nD τ) (buf11 t) fullShare ((dats m 0 c).after 11 t))

set_option maxHeartbeats 4000000 in
/-- The body at any point: the first tile's run or a later tile's, each output's buffer at what its pieces put together. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11]
  by_cases h : isFirst (grid0.coords t)
  · rw [counts_first m c t h, routes_first m c t h, ← pieces9_first m c t h, ← pieces8_first m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((atFirst m c t h).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexists _; iexact H11
    iintro ⟨H0, H1, H2, H3, H4, H5, H6, H7, ⟨%e8, H8⟩, ⟨%e9, H9⟩, ⟨%e10, H10⟩, ⟨%e11, H11⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_eq_canon _ _ _ (cover8_first m c t h)
    isplitl [H9]
    · unfold owns; iexists _; isplitr
      swap; · iexact H9
      ipureintro; exact View.read_writes_eq_canon _ _ _ (cover9_first m c t h)
    isplitl [H10]
    · unfold owns; iexists _; isplitr
      swap; · iexact H10
      ipureintro; exact View.read_writes_eq_canon _ _ _ (cover10_first m c t h)
    unfold owns; iexists _; isplitr
    swap; · iexact H11
    ipureintro; exact View.read_writes_eq_canon _ _ _ (cover11_first m c t h)
  · rw [counts_later m c t h, routes_later m c t h, ← pieces9_later m c t h (counts m c (t.val - 1) (Nat.lt_of_le_of_lt (Nat.sub_le _ _) t.isLt)), ← pieces8_later m c t h (counts m c (t.val - 1) (Nat.lt_of_le_of_lt (Nat.sub_le _ _) t.isLt))]
    simp only [before11 m c t (fun e => h ((isFirst_iff t).mpr e))]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
    iapply ((atLater m c t h _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [H9]; · iexists _; iexact H9
    isplitl [H10]; · iexists _; iexact H10
    isplitl [H11]; · iexact H11
    iintro ⟨H0, H1, H2, H3, H4, H5, H6, H7, ⟨%e8, H8⟩, ⟨%e9, H9⟩, ⟨%e10, H10⟩, ⟨%e11, H11⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]
    · unfold owns; iexists _; isplitr
      swap; · iexact H8
      ipureintro; exact View.read_writes_eq_canon _ _ _ (cover8_later m c t h _)
    isplitl [H9]
    · unfold owns; iexists _; isplitr
      swap; · iexact H9
      ipureintro; exact View.read_writes_eq_canon _ _ _ (cover9_later m c t h _)
    isplitl [H10]
    · unfold owns; iexists _; isplitr
      swap; · iexact H10
      ipureintro; exact View.read_writes_eq_canon _ _ _ (cover10_later m c t h _)
    unfold owns; iexists _; isplitr
    swap; · iexact H11
    ipureintro; exact View.read_writes_eq_canon _ _ _ (cover11_later m c t h _)

/-- The body table's row at a point's buffers is the body at that point. -/
theorem body_row (t : Fin cfg0.N) :
    defs₀ (F := F) .tc cfg0.body (cfg0.bodyArgs t (cfg0.slots t)) = bodyAt0 t := by
  unfold defs₀; rw [Defs.onTc_tc]

/-- The body at every point, as the pipeline's rule asks for it. -/
theorem obligation (c : Dev nD) : BodyObligation (dats (F := F) m 0 c) (defs₀ (F := F)) Variants.none () Set.univ := fun t => by
  rw [bigSep_W0, bigSep_W0, body_row]
  exact triple_restated (body_at m c t) rfl .rfl fun _ => .rfl

set_option backward.isDefEq.respectTransparency.types false in
/-- The whole call runs: every array of the pipeline ends at what its proof data compute, and every semaphore at zero. -/
theorem run_quiet : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The run, without the semaphores. -/
theorem run_post : θ_run defs (onTc (τ := τ) (main (F := F))) (s₀ m ρ) (Pipeline.FramePost cfgs (dats m) 0 (V m)) :=
  (θ_run defs _ _).mono (fun _ h => h.1) (run_quiet m ρ)

/-- The arguments end unchanged and the semaphores at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_post m ρ)) ((θ_run defs _ _).mono (fun _ h => h.2) (run_quiet m ρ))

end Cert.Proof.Out

end
-- ==== Proof.OutSame.lean ====
/- The mixer's output call: the program over the bit-exact words and the program over the reals are the same text: their launches, host
   operations and bodies are equal, so that a run of the one is a run of the other. -/
module
public import proofs.«01_k».proof.Proof.Gen.Kernel3.Launch
public import proofs.«01_k».proof.Proof.Gen.Kernel3Ideal.Launch
public import proofs.«01_k».proof.Defs
@[expose] public section
set_option maxRecDepth 16384
namespace Cert.Proof.Out.Same
open Idealize.ShloMosaic
open Idealize.ShloMosaic.TcCoe
set_option maxHeartbeats 400000 in
/-- The registered body is the same. -/
theorem regs_same : Cert.Kernel3.defs₀ (F := Bits) = Cert.Kernel3Ideal.defs₀ (F := Bits) := by
  unfold Cert.Kernel3.defs₀ Cert.Kernel3Ideal.defs₀
  refine congrArg Defs.onTc ?_
  funext k a
  obtain rfl : k = 0 := Subsingleton.elim _ _
  obtain ⟨t, s⟩ := a
  rfl
set_option maxHeartbeats 400000 in
/-- Stretch 0 of host operations is the same. -/
theorem stretch_same_0 : Cert.Kernel3.Gen.hostOps0 (F := Bits) = Cert.Kernel3Ideal.Gen.hostOps0 (F := Bits) := rfl
/-- Stretch 1 of host operations is the same. -/
theorem stretch_same_1 : Cert.Kernel3.Gen.hostOps0_1 (F := Bits) = Cert.Kernel3Ideal.Gen.hostOps0_1 (F := Bits) := rfl
/-- Stretch 2 of host operations is the same. -/
theorem stretch_same_2 : Cert.Kernel3.Gen.hostOps0_2 (F := Bits) = Cert.Kernel3Ideal.Gen.hostOps0_2 (F := Bits) := rfl
/-- Stretch 3 of host operations is the same. -/
theorem stretch_same_3 : Cert.Kernel3.Gen.hostOps0_3 (F := Bits) = Cert.Kernel3Ideal.Gen.hostOps0_3 (F := Bits) := rfl
/-- Stretch 4 of host operations is the same. -/
theorem stretch_same_4 : Cert.Kernel3.Gen.hostOps0_4 (F := Bits) = Cert.Kernel3Ideal.Gen.hostOps0_4 (F := Bits) := rfl
set_option maxHeartbeats 2000000 in
/-- The whole program is the same. -/
theorem main_same : Cert.Kernel3.main (F := Bits) = Cert.Kernel3Ideal.main (F := Bits) := by
  funext c
  refine (Cert.Kernel3.Gen.main_chain c).trans (Eq.trans ?_ (Cert.Kernel3Ideal.Gen.main_chain c).symm)
  rw [stretch_same_0, stretch_same_1, stretch_same_2, stretch_same_3, stretch_same_4]
  rfl

set_option maxHeartbeats 2000000 in
/-- All that the program can call is the same. -/
theorem defs_same : Cert.Kernel3.defs (F := Bits) = Cert.Kernel3Ideal.defs (F := Bits) :=
  show Pipeline.defs Cert.Kernel3.pcfgs Cert.Kernel3.defs₀ = Pipeline.defs Cert.Kernel3Ideal.pcfgs Cert.Kernel3Ideal.defs₀ from
    congrArg (Pipeline.defs (Cert.Kernel3Ideal.pcfgs (F := Bits))) regs_same

end Cert.Proof.Out.Same

end
-- ==== Proof.OutFrames.lean ====
/- The frame claims of the mixer's output call and of its reference. -/
module

public import proofs.«01_k».proof.Proof.OutLaunch
public import proofs.«01_k».proof.Proof.OutSame
public import proofs.«01_k».proof.Proof.Gen.Kernel3
public import proofs.«01_k».proof.Proof.Gen.Reference3Ideal
public import proofs.«01_k».proof.Proof.Gen.Reference3Ideal.Run
public import proofs.«01_k».proof.Defs

@[expose] public section

set_option maxRecDepth 16384

namespace Cert.Proof.Out

open Idealize.ShloMosaic
open Idealize.ShloMosaic.TcCoe
open Idealize.SL.Sem

set_option maxHeartbeats 1000000 in
/-- Over the bit-exact words the program runs to its end, leaves its arguments as they were and every counter at 0. -/
theorem frame_kernel3 : Cert.quiescent_Kernel3 := by
  intro m ρ _
  rw [Same.defs_same, Same.main_same]
  exact frame_any (F := Bits) m ρ

/-- The same over the extended reals. -/
theorem frame_kernel3_ideal : Cert.quiescent_Kernel3Ideal := fun m ρ _ => frame_any (F := Ideal) m ρ

/-- The reference runs to its end from any memory, leaves its arguments as they were and every counter at 0. -/
theorem frame_reference3 : Cert.quiescent_Reference3Ideal := fun m ρ _ =>
  (θ_run Cert.Reference3Ideal.defs _ _).mono
    (fun r h => ⟨fun c => (h c).2.2, sem_eq_zero_of_no_sems (by decide) r.2⟩) (Cert.Reference3Ideal.Value.run (F := Ideal) m ρ)

end Cert.Proof.Out

end
-- ==== Proof.OutHost.lean ====
/- The mixer's output call: what the operations before it leave in the arrays that it reads. -/
module

public import proofs.«01_k».proof.Proof.Gen.Kernel3Ideal.Frame
public import Idealize.ShloMosaic.Lib.StableHlo.RunRead
public import Idealize.ShloMosaic.Lib.StableHlo.Run
public import Idealize.ShloMosaic.Lib.Tactic

@[expose] public section

set_option maxRecDepth 16384

noncomputable section

namespace Cert.Proof.Out

open Cert.Kernel3Ideal Cert.Kernel3Ideal.Gen
open Idealize.ShloMosaic
open Idealize.ShloMosaic.TcCoe

variable {F : FTy → Type} [FloatOps F]

/-- A buffer's contents when the call starts, from the contents `W` at the start. -/
abbrev atCall (W : Valuation τ sig (Elt F)) : Valuation τ sig (Elt F) :=
  StableHlo.after ([hostOps0, hostOps0_1, hostOps0_2, hostOps0_3, hostOps0_4] : List (List (HloOp τ sig (Elt F)))).flatten W

theorem atCall_v12 (W : Valuation τ sig (Elt F)) :
    atCall W (Proc.devRef .tc main_v12) = broadcastInDim S1x1024 ![1] bcast_S1024_S1x1024_1 (W (Proc.devRef .tc main_arg3)) := by
  after_reads_simp

theorem atCall_v13 (W : Valuation τ sig (Elt F)) :
    atCall W (Proc.devRef .tc main_v13) = truncf .bf16 (W (Proc.devRef .tc main_arg4)) bitsLt_bf16_f32 := by
  after_reads_simp

theorem atCall_v14 (W : Valuation τ sig (Elt F)) :
    atCall W (Proc.devRef .tc main_v14) = broadcastInDim S1x1024 ![1] bcast_S1024_S1x1024_1 (W (Proc.devRef .tc main_arg5)) := by
  after_reads_simp

variable (m : (ℓ : Loc nD τ sig) → Buf (Elt F) ℓ)

/-- The heads' gain, as one row. -/
theorem V_v12 (c : Dev nD) : V m c main_v12 = broadcastInDim S1x1024 ![1] bcast_S1024_S1x1024_1 (m ((c.tc : Thread nD τ).loc main_arg3)) :=
  (atCall_v12 (fun b => m (c, b))).trans rfl

/-- The mixer's output weights, cast. -/
theorem V_v13 (c : Dev nD) : V m c main_v13 = truncf .bf16 (m ((c.tc : Thread nD τ).loc main_arg4)) bitsLt_bf16_f32 :=
  (atCall_v13 (fun b => m (c, b))).trans rfl

/-- The norm's weights, as one row. -/
theorem V_v14 (c : Dev nD) : V m c main_v14 = broadcastInDim S1x1024 ![1] bcast_S1024_S1x1024_1 (m ((c.tc : Thread nD τ).loc main_arg5)) :=
  (atCall_v14 (fun b => m (c, b))).trans rfl

end Cert.Proof.Out

end
-- ==== Proof.OutRows.lean ====
/- The mixer's output call: the stored values read at a row and a column. -/
module

public import proofs.«01_k».proof.Proof.OutPieces
public import Idealize.ShloMosaic.Lib.Pointwise
public import Idealize.ShloMosaic.Lib.ValueIdxCore

@[expose] public section

set_option maxRecDepth 16384

noncomputable section

namespace Cert.Proof.Out

open Cert.Kernel3Ideal Cert.Kernel3Ideal.Gen
open Idealize.ShloMosaic
open Idealize.ShloMosaic.TcCoe

/-- A head output's entry, with its gain, under the logistic of the output gate's entry. -/
def gated (a g o : EReal) : EReal := a * g * Ideal.div 1 (1 + Ideal.exp (-o))

/-- A residual's entry after the mixer: the residual, and the gated token against a column of the weights. -/
def added (x : EReal) (a g o w : Fin 1024 → EReal) : EReal := x + ∑ d, gated (a d) (g d) (o d) * w d

/-- A token's entry over the root of its mean square, times the norm's weight. -/
def normed (h n : Fin 1024 → EReal) (d : Fin 1024) : EReal :=
  h d * Ideal.rsqrt (Ideal.div (∑ e, h e * h e) (Ideal.ofBits FTy.f32 0x44800000#32) + Ideal.ofBits FTy.f32 0x358637BD#32) * n d

theorem resid_apply (a o : Vec Ideal S256x1024 .bf16) (x : Vec Ideal S256x1024 .f32) (g : Vec Ideal S1x1024 .f32) (w : Vec Ideal S1024x1024 .bf16)
    (r : Fin 256) (l : Fin 1024) :
    resid a o x g w (ix2 r l) = added (x (ix2 r l)) (fun d => a (ix2 r d)) (fun d => g (ix2 0 d)) (fun d => o (ix2 r d)) (fun d => w (ix2 d l)) := by
  pointwise [resid, k0_pay3, added, gated]
  simp only [zero_sub]

theorem norm_apply (h : FVec Ideal S256x1024 .f32) (n : Vec Ideal S1x1024 .f32) (r : Fin 256) (d : Fin 1024) :
    k0_pay8 h n (ix2 r d) = normed (fun e => h (ix2 r e)) (fun e => n (ix2 0 e)) d := by
  pointwise [k0_pay8, normed]

end Cert.Proof.Out

end
-- ==== Proof.OutBlocks.lean ====
/- The mixer's output call: the blocks of its windows at a tile, read off their arrays entry by entry. -/
module

public import proofs.«01_k».proof.Proof.OutHost
public import proofs.«01_k».proof.Proof.OutRows
public import Idealize.ShloMosaic.Lib.Pipeline.ValueKit

@[expose] public section

set_option maxRecDepth 16384

noncomputable section

namespace Cert.Proof.Out

open Cert.Kernel3Ideal Cert.Kernel3Ideal.Gen
open Idealize.ShloMosaic
open Idealize.ShloMosaic.TcCoe

theorem transform0_eq : ∀ i : grid0.Coords, cc0_transform_0 i = ![(i 0).val, 0] := by decide +kernel
theorem transform1_eq : ∀ i : grid0.Coords, cc0_transform_1 i = ![(i 0).val, 0] := by decide +kernel
theorem transform2_eq : ∀ i : grid0.Coords, cc0_transform_2 i = ![(i 0).val, 0] := by decide +kernel
theorem transform3_eq : ∀ i : grid0.Coords, cc0_transform_3 i = ![0, 0] := by decide +kernel
theorem transform4_eq : ∀ i : grid0.Coords, cc0_transform_4 i = ![0, 0] := by decide +kernel
theorem transform5_eq : ∀ i : grid0.Coords, cc0_transform_5 i = ![0, 0] := by decide +kernel
theorem transform8_eq : ∀ i : grid0.Coords, cc0_transform_8 i = ![(i 0).val, 0] := by decide +kernel
theorem transform9_eq : ∀ i : grid0.Coords, cc0_transform_9 i = ![(i 0).val, 0] := by decide +kernel
theorem block_lt (i : grid0.Coords) : (i 0).val < 64 := (i 0).isLt
theorem coords_val : ∀ t : Fin grid0.N, (grid0.coords t 0).val = t.val := by decide +kernel

/-- A token of the whole array, from a grid point and a row of its block. -/
def token (i : grid0.Coords) (r : Fin 512) : Fin 32768 := ⟨(i 0).val * 512 + r.val, by have := block_lt i; omega⟩

/-- A row of the whole array of normed rows, from a grid point and a row of its block. -/
def lane (i : grid0.Coords) (r : Fin 4096) : Fin 262144 := ⟨(i 0).val * 4096 + r.val, by have := block_lt i; omega⟩

variable (m : (ℓ : Loc nD τ sig) → Buf (Elt Ideal) ℓ) (c : Dev nD) (t : Fin cfg0.N)

/-- The heads' outputs' block. -/
theorem iblk0_apply (r : Fin 512) (d : Fin 1024) :
    (iblk m c (0 : Fin 12) t : S512x1024.Idx → Elt Ideal .bf16) (ix2 r d)
      = m ((c.tc : Thread nD τ).loc main_arg0) (ix2 (token (grid0.coords t) r) d : S32768x1024.Idx) := by
  refine Eq.trans (congrArg (V m c main_arg0) (funext fun a => Fin.ext ?_)) (congrFun (V_main_arg0 m c) _)
  match a with
  | ⟨0, _⟩ =>
    show cc0_transform_0 (grid0.coords t) 0 * 512 + 1 * r.val = _
    rw [transform0_eq, Nat.one_mul]; rfl
  | ⟨1, _⟩ =>
    show cc0_transform_0 (grid0.coords t) 1 * 1024 + 1 * d.val = _
    rw [transform0_eq]; show 0 * 1024 + 1 * d.val = d.val; omega

/-- The output gates' block. -/
theorem iblk1_apply (r : Fin 512) (d : Fin 1024) :
    (iblk m c (1 : Fin 12) t : S512x1024.Idx → Elt Ideal .bf16) (ix2 r d)
      = m ((c.tc : Thread nD τ).loc main_arg1) (ix2 (token (grid0.coords t) r) d : S32768x1024.Idx) := by
  refine Eq.trans (congrArg (V m c main_arg1) (funext fun a => Fin.ext ?_)) (congrFun (V_main_arg1 m c) _)
  match a with
  | ⟨0, _⟩ =>
    show cc0_transform_1 (grid0.coords t) 0 * 512 + 1 * r.val = _
    rw [transform1_eq, Nat.one_mul]; rfl
  | ⟨1, _⟩ =>
    show cc0_transform_1 (grid0.coords t) 1 * 1024 + 1 * d.val = _
    rw [transform1_eq]; show 0 * 1024 + 1 * d.val = d.val; omega

/-- The residual's block. -/
theorem iblk2_apply (r : Fin 512) (d : Fin 1024) :
    (iblk m c (2 : Fin 12) t : S512x1024.Idx → Elt Ideal .f32) (ix2 r d)
      = m ((c.tc : Thread nD τ).loc main_arg2) (ix2 (token (grid0.coords t) r) d : S32768x1024.Idx) := by
  refine Eq.trans (congrArg (V m c main_arg2) (funext fun a => Fin.ext ?_)) (congrFun (V_main_arg2 m c) _)
  match a with
  | ⟨0, _⟩ =>
    show cc0_transform_2 (grid0.coords t) 0 * 512 + 1 * r.val = _
    rw [transform2_eq, Nat.one_mul]; rfl
  | ⟨1, _⟩ =>
    show cc0_transform_2 (grid0.coords t) 1 * 1024 + 1 * d.val = _
    rw [transform2_eq]; show 0 * 1024 + 1 * d.val = d.val; omega

/-- The heads' gain, whole. -/
theorem iblk3_apply (d : Fin 1024) :
    (iblk m c (3 : Fin 12) t : S1x1024.Idx → Elt Ideal .f32) (ix2 0 d) = m ((c.tc : Thread nD τ).loc main_arg3) (ix1 d : S1024.Idx) := by
  have e : (iblk m c (3 : Fin 12) t : S1x1024.Idx → Elt Ideal .f32) (ix2 0 d) = V m c main_v12 (ix2 0 d : S1x1024.Idx) := by
    refine congrArg (V m c main_v12) (funext fun a => Fin.ext ?_)
    match a with
    | ⟨0, _⟩ =>
      show cc0_transform_3 (grid0.coords t) 0 * 1 + 1 * 0 = _
      rw [transform3_eq]; rfl
    | ⟨1, _⟩ =>
      show cc0_transform_3 (grid0.coords t) 1 * 1024 + 1 * d.val = _
      rw [transform3_eq]; show 0 * 1024 + 1 * d.val = d.val; omega
  refine e.trans ((congrFun (V_v12 m c) _).trans ?_)
  pointwise

/-- The norm's weights, whole. -/
theorem iblk5_apply (d : Fin 1024) :
    (iblk m c (5 : Fin 12) t : S1x1024.Idx → Elt Ideal .f32) (ix2 0 d) = m ((c.tc : Thread nD τ).loc main_arg5) (ix1 d : S1024.Idx) := by
  have e : (iblk m c (5 : Fin 12) t : S1x1024.Idx → Elt Ideal .f32) (ix2 0 d) = V m c main_v14 (ix2 0 d : S1x1024.Idx) := by
    refine congrArg (V m c main_v14) (funext fun a => Fin.ext ?_)
    match a with
    | ⟨0, _⟩ =>
      show cc0_transform_5 (grid0.coords t) 0 * 1 + 1 * 0 = _
      rw [transform5_eq]; rfl
    | ⟨1, _⟩ =>
      show cc0_transform_5 (grid0.coords t) 1 * 1024 + 1 * d.val = _
      rw [transform5_eq]; show 0 * 1024 + 1 * d.val = d.val; omega
  refine e.trans ((congrFun (V_v14 m c) _).trans ?_)
  pointwise

/-- The mixer's output weights, whole. -/
theorem iblk4_apply (d l : Fin 1024) :
    (iblk m c (4 : Fin 12) t : S1024x1024.Idx → Elt Ideal .bf16) (ix2 d l) = m ((c.tc : Thread nD τ).loc main_arg4) (ix2 d l : S1024x1024.Idx) := by
  have e : (iblk m c (4 : Fin 12) t : S1024x1024.Idx → Elt Ideal .bf16) (ix2 d l) = V m c main_v13 (ix2 d l : S1024x1024.Idx) := by
    refine congrArg (V m c main_v13) (funext fun a => Fin.ext ?_)
    match a with
    | ⟨0, _⟩ =>
      show cc0_transform_4 (grid0.coords t) 0 * 1024 + 1 * d.val = _
      rw [transform4_eq]; show 0 * 1024 + 1 * d.val = d.val; omega
    | ⟨1, _⟩ =>
      show cc0_transform_4 (grid0.coords t) 1 * 1024 + 1 * l.val = _
      rw [transform4_eq]; show 0 * 1024 + 1 * l.val = l.val; omega
  refine e.trans ((congrFun (V_v13 m c) _).trans ?_)
  pointwise

/-- Every point writes its block of output 8 back. -/
theorem flush8 (t : Fin cfg0.N) : (cfg0.win (8 : Fin 12)).flush t = true := by
  have hidx : ∀ t : Fin cfg0.N, (cfg0.win (8 : Fin 12)).index t = ![t.val, 0] := fun t => by
    show cc0_transform_8 (grid0.coords t) = _
    rw [transform8_eq, coords_val]
  unfold Pipeline.Window.flush
  rw [Bool.and_eq_true]
  refine ⟨rfl, ?_⟩
  rw [Bool.or_eq_true]
  by_cases h : t.val + 1 = cfg0.grid.N
  · exact Or.inl (by simpa using h)
  · refine Or.inr (decide_eq_true ⟨lt_of_le_of_ne t.isLt h, fun e => ?_⟩)
    have e' := ((hidx _).symm.trans e).trans (hidx t)
    have := congrFun e' 0
    have : t.val + 1 = t.val := this
    omega

/-- Its place in the array. -/
theorem emb8 (t : Fin cfg0.N) (r : Fin 512) (l : Fin 1024) :
    ((cfg0.win (8 : Fin 12)).blk t).view.emb (ix2 r l : S512x1024.Idx) = (ix2 (token (grid0.coords t) r) l : S32768x1024.Idx) := by
  refine funext fun a => Fin.ext ?_
  match a with
  | ⟨0, _⟩ =>
    show cc0_transform_8 (grid0.coords t) 0 * 512 + 1 * r.val = _
    rw [transform8_eq, Nat.one_mul]; rfl
  | ⟨1, _⟩ =>
    show cc0_transform_8 (grid0.coords t) 1 * 1024 + 1 * l.val = _
    rw [transform8_eq]; show 0 * 1024 + 1 * l.val = l.val; omega

/-- Every point writes its block of output 9 back. -/
theorem flush9 (t : Fin cfg0.N) : (cfg0.win (9 : Fin 12)).flush t = true := by
  have hidx : ∀ t : Fin cfg0.N, (cfg0.win (9 : Fin 12)).index t = ![t.val, 0] := fun t => by
    show cc0_transform_9 (grid0.coords t) = _
    rw [transform9_eq, coords_val]
  unfold Pipeline.Window.flush
  rw [Bool.and_eq_true]
  refine ⟨rfl, ?_⟩
  rw [Bool.or_eq_true]
  by_cases h : t.val + 1 = cfg0.grid.N
  · exact Or.inl (by simpa using h)
  · refine Or.inr (decide_eq_true ⟨lt_of_le_of_ne t.isLt h, fun e => ?_⟩)
    have e' := ((hidx _).symm.trans e).trans (hidx t)
    have := congrFun e' 0
    have : t.val + 1 = t.val := this
    omega

/-- Its place in the array. -/
theorem emb9 (t : Fin cfg0.N) (r : Fin 4096) (l : Fin 128) :
    ((cfg0.win (9 : Fin 12)).blk t).view.emb (ix2 r l : S4096x128.Idx) = (ix2 (lane (grid0.coords t) r) l : S262144x128.Idx) := by
  refine funext fun a => Fin.ext ?_
  match a with
  | ⟨0, _⟩ =>
    show cc0_transform_9 (grid0.coords t) 0 * 4096 + 1 * r.val = _
    rw [transform9_eq, Nat.one_mul]; rfl
  | ⟨1, _⟩ =>
    show cc0_transform_9 (grid0.coords t) 1 * 128 + 1 * l.val = _
    rw [transform9_eq]; show 0 * 128 + 1 * l.val = l.val; omega

end Cert.Proof.Out

end
-- ==== Proof.OutValue.lean ====
/- The mixer's output call: over the extended reals, what its first two arrays hold. -/
module

public import proofs.«01_k».proof.Proof.OutBlocks
public import proofs.«01_k».proof.Proof.OutData

@[expose] public section

set_option maxRecDepth 16384

noncomputable section

namespace Cert.Proof.Out

open Cert.Kernel3Ideal Cert.Kernel3Ideal.Gen
open Idealize.ShloMosaic
open Idealize.ShloMosaic.TcCoe

theorem ix2_eta {n m : Nat} (y : (⟨2, ![n, m]⟩ : Shape).Idx) : y = ix2 (y 0) (y 1) := by
  funext a
  match a with
  | ⟨0, _⟩ => rfl
  | ⟨1, _⟩ => rfl

/-- The residual after the mixer, of the arguments, at a token and a column. -/
def res (a o : FVec Ideal S32768x1024 .bf16) (x : FVec Ideal S32768x1024 .f32) (g : FVec Ideal S1024 .f32) (w : FVec Ideal S1024x1024 .f32)
    (R : Fin 32768) (l : Fin 1024) : EReal :=
  added (x (ix2 R l)) (fun d => a (ix2 R d)) (fun d => g (ix1 d)) (fun d => o (ix2 R d)) (fun d => w (ix2 d l))

/-- The token whose lanes a row of the normed array holds. -/
def tokenOf (Q : Fin 262144) : Fin 32768 := ⟨Q.val / 8, by omega⟩

/-- The column of the token that a lane of such a row holds. -/
def columnOf (Q : Fin 262144) (l : Fin 128) : Fin 1024 := ⟨Q.val % 8 * 128 + l.val, by omega⟩

variable (m : (ℓ : Loc nD τ sig) → Buf (Elt Ideal) ℓ) (c : Dev nD)

/-- The same of the arguments in memory. -/
abbrev resAt (R : Fin 32768) (l : Fin 1024) : EReal :=
  res (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) R l

theorem lo_apply {e : EltTy} (X : Vec Ideal S512x1024 e) (r : Fin 256) (d : Fin 1024) :
    lo X (ix2 r d) = X (ix2 ⟨r.val, by omega⟩ d) := by
  refine congrArg X (funext fun a => Fin.ext ?_)
  match a with
  | ⟨0, _⟩ => show 0 + 1 * r.val = r.val; omega
  | ⟨1, _⟩ => show 0 + 1 * d.val = d.val; omega

theorem hi_apply {e : EltTy} (X : Vec Ideal S512x1024 e) (r : Fin 256) (d : Fin 1024) :
    hi X (ix2 r d) = X (ix2 ⟨256 + r.val, by omega⟩ d) := by
  refine congrArg X (funext fun a => Fin.ext ?_)
  match a with
  | ⟨0, _⟩ => show 256 + 1 * r.val = 256 + r.val; omega
  | ⟨1, _⟩ => show 0 + 1 * d.val = d.val; omega

theorem added_congr {x x' : EReal} {a a' g g' o o' w w' : Fin 1024 → EReal} (hx : x = x') (ha : ∀ d, a d = a' d) (hg : ∀ d, g d = g' d)
    (ho : ∀ d, o d = o' d) (hw : ∀ d, w d = w' d) : added x a g o w = added x' a' g' o' w' := by
  obtain rfl := funext ha
  obtain rfl := funext hg
  obtain rfl := funext ho
  obtain rfl := funext hw
  rw [hx]

theorem normed_congr {h h' n n' : Fin 1024 → EReal} (hh : ∀ e, h e = h' e) (hn : ∀ e, n e = n' e) (d : Fin 1024) : normed h n d = normed h' n' d := by
  obtain rfl := funext hh
  obtain rfl := funext hn
  rfl

theorem resLo_apply (t : Fin cfg0.N) (r : Fin 256) (l : Fin 1024) :
    resLo m c t (ix2 r l) = resAt m c (token (grid0.coords t) ⟨r.val, by omega⟩) l :=
  (resid_apply (lo (iblk m c 0 t)) (lo (iblk m c 1 t)) (lo (iblk m c 2 t)) (iblk m c 3 t) (iblk m c 4 t) r l).trans
    (added_congr ((lo_apply (iblk m c 2 t) r l).trans (iblk2_apply m c t _ l))
      (fun d => (lo_apply (iblk m c 0 t) r d).trans (iblk0_apply m c t _ d)) (fun d => iblk3_apply m c t d)
      (fun d => (lo_apply (iblk m c 1 t) r d).trans (iblk1_apply m c t _ d)) (fun d => iblk4_apply m c t d l))

theorem resHi_apply (t : Fin cfg0.N) (r : Fin 256) (l : Fin 1024) :
    resHi m c t (ix2 r l) = resAt m c (token (grid0.coords t) ⟨256 + r.val, by omega⟩) l :=
  (resid_apply (hi (iblk m c 0 t)) (hi (iblk m c 1 t)) (hi (iblk m c 2 t)) (iblk m c 3 t) (iblk m c 4 t) r l).trans
    (added_congr ((hi_apply (iblk m c 2 t) r l).trans (iblk2_apply m c t _ l))
      (fun d => (hi_apply (iblk m c 0 t) r d).trans (iblk0_apply m c t _ d)) (fun d => iblk3_apply m c t d)
      (fun d => (hi_apply (iblk m c 1 t) r d).trans (iblk1_apply m c t _ d)) (fun d => iblk4_apply m c t d l))

/-- The two pieces of the residual block put together. -/
theorem resBlock (t : Fin cfg0.N) (r : Fin 512) (l : Fin 1024) :
    View.canon (resPieces (resLo m c t) (resHi m c t)) (ix2 r l) = resAt m c (token (grid0.coords t) r) l := by
  refine View.canon_apply_of_pieces (S := S512x1024) (Val := Elt Ideal) (e := .f32)
    (fun j : S512x1024.Idx => resAt m c (token (grid0.coords t) (j 0)) (j 1)) _ ?_ (ix2 r l) ?_
  · intro p hp
    unfold resPieces at hp
    rcases List.mem_cons.mp hp with rfl | hp
    · intro y
      refine (congrArg (resHi m c t) (ix2_eta (n := 256) (m := 1024) y)).trans ((resHi_apply m c t (y 0) (y 1)).trans ?_)
      refine congrArg₂ (resAt m c) (congrArg (token (grid0.coords t)) (Fin.ext ?_)) (Fin.ext ?_)
      · show 256 + (y 0).val = 256 + 1 * (y 0).val
        omega
      · show (y 1).val = 0 + 1 * (y 1).val
        omega
    rcases List.mem_cons.mp hp with rfl | hp
    · intro y
      refine (congrArg (resLo m c t) (ix2_eta (n := 256) (m := 1024) y)).trans ((resLo_apply m c t (y 0) (y 1)).trans ?_)
      refine congrArg₂ (resAt m c) (congrArg (token (grid0.coords t)) (Fin.ext ?_)) (Fin.ext ?_)
      · show (y 0).val = 0 + 1 * (y 0).val
        omega
      · show (y 1).val = 0 + 1 * (y 1).val
        omega
    cases hp
  · exact View.cover_of_tiledL (resPieces (resLo m c t) (resHi m c t)) S256x1024.size (by unfold resPieces; sl_kernel_rfl) _

/-- The normed block of a point. -/
theorem normBlock_apply (t : Fin cfg0.N) (r : Fin 4096) (l : Fin 128) :
    normBlock (k0_pay8 (resLo m c t) (iblk m c 5 t)) (k0_pay8 (resHi m c t) (iblk m c 5 t)) (ix2 r l)
      = normed (fun e => resAt m c (tokenOf (lane (grid0.coords t) r)) e) (fun e => m ((c.tc : Thread nD τ).loc main_arg5) (ix1 e : S1024.Idx))
          (columnOf (lane (grid0.coords t) r) l) := by
  have hc : ∀ h : r.val % 8 * 128 + l.val < 1024, columnOf (lane (grid0.coords t) r) l = ⟨r.val % 8 * 128 + l.val, h⟩ := fun h => Fin.ext (by
    show ((grid0.coords t 0).val * 4096 + r.val) % 8 * 128 + l.val = r.val % 8 * 128 + l.val
    omega)
  have hl : r.val % 8 * 128 + l.val < 1024 := by omega
  unfold normBlock
  rw [hc hl]
  by_cases h : r.val < 2048
  · refine (congrFun (if_pos h) _).trans ((norm_apply (resLo m c t) (iblk m c 5 t) _ _).trans ?_)
    refine normed_congr (fun e => (resLo_apply m c t _ e).trans ?_) (fun e => iblk5_apply m c t e) _
    refine congrArg (fun R => resAt m c R e) (Fin.ext ?_)
    show (grid0.coords t 0).val * 512 + r.val % 2048 / 8 = ((grid0.coords t 0).val * 4096 + r.val) / 8
    omega
  · refine (congrFun (if_neg h) _).trans ((norm_apply (resHi m c t) (iblk m c 5 t) _ _).trans ?_)
    refine normed_congr (fun e => (resHi_apply m c t _ e).trans ?_) (fun e => iblk5_apply m c t e) _
    refine congrArg (fun R => resAt m c R e) (Fin.ext ?_)
    have : r.val < 4096 := r.isLt
    show (grid0.coords t 0).val * 512 + (256 + r.val % 2048 / 8) = ((grid0.coords t 0).val * 4096 + r.val) / 8
    omega

/-- The array of the residual. -/
theorem arr8 (G : S32768x1024.Idx → EReal) (hG : ∀ (R : Fin 32768) (l : Fin 1024), G (ix2 R l) = resAt m c R l) :
    (dats m 0 c).arrAt (8 : Fin 12) cfg0.N = G := by
  refine Pipeline.Dat.arrAt_eq_of_emb (dats m 0 c) (8 : Fin 12) G (fun t _ y => ?_) (fun i => ?_)
  · have e : y = (ix2 (y (0 : Fin 2)) (y (1 : Fin 2)) : S512x1024.Idx) := ix2_eta (n := 512) (m := 1024) y
    rw [e]
    generalize y (0 : Fin 2) = r
    generalize y (1 : Fin 2) = l
    revert r l
    intro (r : Fin 512) (l : Fin 1024)
    refine Eq.trans ?_ (congrArg G (emb8 t r l).symm)
    refine Eq.trans (show _ = (dats m 0 c).after 8 t (ix2 r l : S512x1024.Idx) from rfl) ?_
    refine (congrFun (after8 m c t) (ix2 r l : S512x1024.Idx)).trans (Eq.trans ?_ (hG _ l).symm)
    exact resBlock m c t r l
  · have hi : (i (0 : Fin 2)).val < 32768 := (i (0 : Fin 2)).isLt
    have hN : (i (0 : Fin 2)).val / 512 < cfg0.N := by
      show _ < 64
      omega
    refine ⟨⟨(i (0 : Fin 2)).val / 512, hN⟩, flush8 _, ?_⟩
    have e : i = ((cfg0.win (8 : Fin 12)).blk ⟨(i (0 : Fin 2)).val / 512, hN⟩).view.emb
        (ix2 ⟨(i (0 : Fin 2)).val % 512, Nat.mod_lt _ (by decide)⟩ (i (1 : Fin 2)) : S512x1024.Idx) := by
      refine (ix2_eta (n := 32768) (m := 1024) i).trans (Eq.trans ?_ (emb8 _ _ _).symm)
      refine congrArg₂ (fun p q => ix2 p q) (Fin.ext ?_) rfl
      show (i (0 : Fin 2)).val = (grid0.coords ⟨(i (0 : Fin 2)).val / 512, hN⟩ 0).val * 512 + (i (0 : Fin 2)).val % 512
      rw [coords_val]
      show (i (0 : Fin 2)).val = (i (0 : Fin 2)).val / 512 * 512 + (i (0 : Fin 2)).val % 512
      omega
    exact Eq.mpr (congrArg (fun z => z ∈ ((cfg0.win (8 : Fin 12)).blk ⟨(i (0 : Fin 2)).val / 512, hN⟩).view.set) e) (View.emb_mem_set _ _)

/-- The array of the normed tokens. -/
theorem arr9 (G : S262144x128.Idx → EReal) (hG : ∀ (R : Fin 262144) (l : Fin 128), G (ix2 R l) = normed (fun e => resAt m c (tokenOf R) e) (fun e => m ((c.tc : Thread nD τ).loc main_arg5) (ix1 e : S1024.Idx)) (columnOf R l)) :
    (dats m 0 c).arrAt (9 : Fin 12) cfg0.N = G := by
  refine Pipeline.Dat.arrAt_eq_of_emb (dats m 0 c) (9 : Fin 12) G (fun t _ y => ?_) (fun i => ?_)
  · have e : y = (ix2 (y (0 : Fin 2)) (y (1 : Fin 2)) : S4096x128.Idx) := ix2_eta (n := 4096) (m := 128) y
    rw [e]
    generalize y (0 : Fin 2) = r
    generalize y (1 : Fin 2) = l
    revert r l
    intro (r : Fin 4096) (l : Fin 128)
    refine Eq.trans ?_ (congrArg G (emb9 t r l).symm)
    refine Eq.trans (show _ = (dats m 0 c).after 9 t (ix2 r l : S4096x128.Idx) from rfl) ?_
    refine (congrFun (after9 m c t) (ix2 r l : S4096x128.Idx)).trans (Eq.trans ?_ (hG _ l).symm)
    exact (congrFun (normPieces_canon _ _) (ix2 r l : S4096x128.Idx)).trans (normBlock_apply m c t r l)
  · have hi : (i (0 : Fin 2)).val < 262144 := (i (0 : Fin 2)).isLt
    have hN : (i (0 : Fin 2)).val / 4096 < cfg0.N := by
      show _ < 64
      omega
    refine ⟨⟨(i (0 : Fin 2)).val / 4096, hN⟩, flush9 _, ?_⟩
    have e : i = ((cfg0.win (9 : Fin 12)).blk ⟨(i (0 : Fin 2)).val / 4096, hN⟩).view.emb
        (ix2 ⟨(i (0 : Fin 2)).val % 4096, Nat.mod_lt _ (by decide)⟩ (i (1 : Fin 2)) : S4096x128.Idx) := by
      refine (ix2_eta (n := 262144) (m := 128) i).trans (Eq.trans ?_ (emb9 _ _ _).symm)
      refine congrArg₂ (fun p q => ix2 p q) (Fin.ext ?_) rfl
      show (i (0 : Fin 2)).val = (grid0.coords ⟨(i (0 : Fin 2)).val / 4096, hN⟩ 0).val * 4096 + (i (0 : Fin 2)).val % 4096
      rw [coords_val]
      show (i (0 : Fin 2)).val = (i (0 : Fin 2)).val / 4096 * 4096 + (i (0 : Fin 2)).val % 4096
      omega
    exact Eq.mpr (congrArg (fun z => z ∈ ((cfg0.win (9 : Fin 12)).blk ⟨(i (0 : Fin 2)).val / 4096, hN⟩).view.set) e) (View.emb_mem_set _ _)

end Cert.Proof.Out

end
-- ==== Proof.OutRef.lean ====
/- The mixer's output call: the reference's residual and normed tokens read at a token and a column. -/
module

public import proofs.«01_k».proof.Proof.Gen.Reference3Ideal.Run
public import proofs.«01_k».proof.Proof.OutRows

@[expose] public section

set_option maxRecDepth 16384

noncomputable section

namespace Cert.Proof.Out

open Cert.Reference3Ideal Cert.Reference3Ideal.Gen
open Idealize.ShloMosaic
open Idealize.ShloMosaic.TcCoe

variable (a o : FVec Ideal S32768x1024 .bf16) (x : FVec Ideal S32768x1024 .f32) (g : FVec Ideal S1024 .f32) (w : FVec Ideal S1024x1024 .f32)
  (n : FVec Ideal S1024 .f32)

/-- The reference's residual. -/
def refRes : FVec Ideal S32768x1024 .f32 :=
  addf x (Host.dotGeneral dot_S32768x1024_S1024x1024_S32768x1024_1_0_0_1_n_n none (mulf (mulf (extf .f32 a bitsLt_bf16_f32) (broadcastInDim S32768x1024 ![0, 1] bcast_S1x1024_S32768x1024_0_1 (broadcastInDim S1x1024 ![1] bcast_S1024_S1x1024_1 g)))
    (Host.divf (broadcastInDim S32768x1024 ![] bcast_S_S32768x1024 (constant S_ .f32 0x3F800000#32)) (addf (broadcastInDim S32768x1024 ![] bcast_S_S32768x1024 (constant S_ .f32 0x3F800000#32)) (Host.exp (Host.negf (extf .f32 o bitsLt_bf16_f32)))))) w)

/-- The reference's normed tokens, of a residual. -/
def refNorm (h : FVec Ideal S32768x1024 .f32) : FVec Ideal S32768x1024 .f32 :=
  mulf (mulf h (broadcastInDim S32768x1024 ![0, 1] bcast_S32768x1_S32768x1024_0_1 (Host.rsqrt (addf (Host.divf (broadcastInDim S32768x1 ![0] bcast_S32768_S32768x1_0
    (Host.reduceAdd (mulf h h) (constant S_ .f32 0x00000000#32) reducesTo_S32768x1024_S32768_d1 h_S_)) (broadcastInDim S32768x1 ![] bcast_S_S32768x1 (constant S_ .f32 0x44800000#32)))
    (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 n))

theorem refRes_apply (R : Fin 32768) (l : Fin 1024) :
    refRes a o x g w (ix2 R l)
      = added (x (ix2 R l)) (fun d => a (ix2 R d)) (fun d => g (ix1 d)) (fun d => o (ix2 R d)) (fun d => w (ix2 d l)) := by
  pointwise [refRes, added, gated]

theorem refNorm_apply (h : FVec Ideal S32768x1024 .f32) (R : Fin 32768) (d : Fin 1024) :
    refNorm n h (ix2 R d) = normed (fun e => h (ix2 R e)) (fun e => n (ix1 e)) d := by
  pointwise [refNorm, normed]

end Cert.Proof.Out

end
-- ==== Proof.OutAlgebraic.lean ====
/- The mixer's output call: over the extended reals, program and reference end with equal results. -/
module

public import proofs.«01_k».proof.Proof.OutFrames
public import proofs.«01_k».proof.Proof.OutValue
public import proofs.«01_k».proof.Proof.OutRef

@[expose] public section

set_option maxRecDepth 16384

noncomputable section

namespace Cert.Proof.Out

open Idealize.ShloMosaic
open Idealize.ShloMosaic.TcCoe
open Idealize.SL.Sem

/-- A token's 1024 columns cast to eight rows of 128 lanes. -/
theorem rows_apply (X : FVec Ideal ⟨2, ![32768, 1024]⟩ .f32) (h : (⟨2, ![32768, 1024]⟩ : Shape).ShapeCasts ⟨2, ![262144, 128]⟩) (Q : Fin 262144) (l : Fin 128) :
    shapeCast ⟨2, ![262144, 128]⟩ X h (ix2 Q l) = X (ix2 (tokenOf Q) (columnOf Q l)) :=
  shapeCast_apply X h _ _ (by
    rw [Shape.rowMajor_val_two, Shape.rowMajor_val_two]
    show Q.val / 8 * 1024 + (Q.val % 8 * 128 + l.val) = Q.val * 128 + l.val
    omega)

/-- Equal arguments have equal residuals. -/
theorem res_congr (R : Fin 32768) (l : Fin 1024) {a a' o o' : FVec Ideal ⟨2, ![32768, 1024]⟩ .bf16} {x x' : FVec Ideal ⟨2, ![32768, 1024]⟩ .f32}
    {g g' : FVec Ideal ⟨1, ![1024]⟩ .f32} {w w' : FVec Ideal ⟨2, ![1024, 1024]⟩ .f32} (ha : a = a') (ho : o = o') (hx : x = x') (hg : g = g') (hw : w = w') :
    res a o x g w R l = res a' o' x' g' w' R l := by
  subst ha ho hx hg hw
  rfl

set_option maxHeartbeats 4000000 in
/-- Over the extended reals, program and reference end with equal residuals and equal normed tokens. -/
theorem algebraic3 : Cert.algebraic_Kernel3Ideal_Reference3Ideal := by
  intro m g m' g' _ hm
  have hK := θ_run_and (run_post (F := Ideal) m g) (frame_any (F := Ideal) m g)
  have hR := Cert.Reference3Ideal.Value.run (F := Ideal) m' g'
  refine ⟨fun c => (dats m 0 c).arrAt (8 : Fin 12) Cert.Kernel3Ideal.cfg0.N,
    fun c => (dats m 0 c).arrAt (9 : Fin 12) Cert.Kernel3Ideal.cfg0.N, ?_, ?_⟩
  · exact (θ_run _ _ _).mono (fun _ h c => ⟨(h.1 c).1 8, (h.1 c).1 9, h.2.1 c⟩) hK
  · refine (θ_run _ _ _).mono (fun r h c => ?_) hR
    obtain ⟨e0, e1, e2, e3, e4, e5, _⟩ := hm c
    obtain ⟨hh, hx, rest⟩ := h c
    have er : ∀ R l, refRes (m' ((c.tc : Thread Cert.Reference3Ideal.nD Cert.Reference3Ideal.τ).loc Cert.Reference3Ideal.main_arg0))
        (m' ((c.tc : Thread Cert.Reference3Ideal.nD Cert.Reference3Ideal.τ).loc Cert.Reference3Ideal.main_arg1))
        (m' ((c.tc : Thread Cert.Reference3Ideal.nD Cert.Reference3Ideal.τ).loc Cert.Reference3Ideal.main_arg2))
        (m' ((c.tc : Thread Cert.Reference3Ideal.nD Cert.Reference3Ideal.τ).loc Cert.Reference3Ideal.main_arg3))
        (m' ((c.tc : Thread Cert.Reference3Ideal.nD Cert.Reference3Ideal.τ).loc Cert.Reference3Ideal.main_arg4)) (ix2 R l) = resAt m c R l :=
      fun R l => (refRes_apply _ _ _ _ _ R l).trans (res_congr R l e0 e1 e2 e3 e4)
    refine ⟨hh.trans ?_, hx.trans ?_, rest⟩
    · exact (arr8 m c _ er).symm
    · refine (arr9 m c _ (fun Q l => (rows_apply _ _ Q l).trans ((refNorm_apply _ _ (tokenOf Q) (columnOf Q l)).trans ?_))).symm
      exact normed_congr (fun e => er _ e) (fun e => congrFun e5 _) _

end Cert.Proof.Out

end
-- ==== Proof.FoxPoint.lean ====
/- The attention's output call, tile by tile: which tile is the first, and the buffers the tile works on. -/
module

public import proofs.«01_k».proof.Proof.Gen.Kernel4Ideal.Frame
public import proofs.«01_k».proof.Proof.Gen.Kernel4Ideal.Skeleton

@[expose] public section

set_option maxRecDepth 16384

noncomputable section

namespace Cert.Proof.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

/-- The condition under which the body clears the counts, from the grid's coordinates. -/
abbrev isFirst (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first point and nowhere else. -/
theorem isFirst_iff : ∀ t : Fin cfg0.N, isFirst (grid0.coords t) ↔ t.val = 0 := by decide +kernel

/-- Window 0's buffer at a point. -/
abbrev buf0 (t : Fin cfg0.N) : Memref sig .tc .vmem S1x1024x512 .bf16 := win0_0.stage (cfg0.slots t 0)
theorem whole0 (t : Fin cfg0.N) : (buf0 t).IsWhole := hstage0_0 ((cfg0.slots t 0).cast nbuf0_0)
/-- Window 1's buffer at a point. -/
abbrev buf1 (t : Fin cfg0.N) : Memref sig .tc .vmem S1x1024x512 .bf16 := win0_1.stage (cfg0.slots t 1)
theorem whole1 (t : Fin cfg0.N) : (buf1 t).IsWhole := hstage0_1 ((cfg0.slots t 1).cast nbuf0_1)
/-- Window 2's buffer at a point. -/
abbrev buf2 (t : Fin cfg0.N) : Memref sig .tc .vmem S512x1024 .f32 := win0_2.stage (cfg0.slots t 2)
theorem whole2 (t : Fin cfg0.N) : (buf2 t).IsWhole := hstage0_2 ((cfg0.slots t 2).cast nbuf0_2)
/-- Window 3's buffer at a point. -/
abbrev buf3 (t : Fin cfg0.N) : Memref sig .tc .vmem S1024x1024 .bf16 := win0_3.stage (cfg0.slots t 3)
theorem whole3 (t : Fin cfg0.N) : (buf3 t).IsWhole := hstage0_3 ((cfg0.slots t 3).cast nbuf0_3)
/-- Window 4's buffer at a point. -/
abbrev buf4 (t : Fin cfg0.N) : Memref sig .tc .vmem S1x1024 .f32 := win0_4.stage (cfg0.slots t 4)
theorem whole4 (t : Fin cfg0.N) : (buf4 t).IsWhole := hstage0_4 ((cfg0.slots t 4).cast nbuf0_4)
/-- Window 5's buffer at a point. -/
abbrev buf5 (t : Fin cfg0.N) : Memref sig .tc .vmem S2x1024x128 .bf16 := win0_5.stage (cfg0.slots t 5)
theorem whole5 (t : Fin cfg0.N) : (buf5 t).IsWhole := hstage0_5 ((cfg0.slots t 5).cast nbuf0_5)
/-- Window 6's buffer at a point. -/
abbrev buf6 (t : Fin cfg0.N) : Memref sig .tc .vmem S1x128 .f32 := win0_6.stage (cfg0.slots t 6)
theorem whole6 (t : Fin cfg0.N) : (buf6 t).IsWhole := hstage0_6 ((cfg0.slots t 6).cast nbuf0_6)
/-- Window 7's buffer at a point. -/
abbrev buf7 (t : Fin cfg0.N) : Memref sig .tc .vmem S512x1024 .f32 := win0_7.stage (cfg0.slots t 7)
theorem whole7 (t : Fin cfg0.N) : (buf7 t).IsWhole := hstage0_7 ((cfg0.slots t 7).cast nbuf0_7)
/-- Window 8's buffer at a point. -/
abbrev buf8 (t : Fin cfg0.N) : Memref sig .tc .vmem S4096x128 .f32 := win0_8.stage (cfg0.slots t 8)
theorem whole8 (t : Fin cfg0.N) : (buf8 t).IsWhole := hstage0_8 ((cfg0.slots t 8).cast nbuf0_8)
/-- Window 9's buffer at a point. -/
abbrev buf9 (t : Fin cfg0.N) : Memref sig .tc .vmem S8x512 .f32 := win0_9.stage (cfg0.slots t 9)
theorem whole9 (t : Fin cfg0.N) : (buf9 t).IsWhole := hstage0_9 ((cfg0.slots t 9).cast nbuf0_9)
/-- Window 10's buffer at a point. -/
abbrev buf10 (t : Fin cfg0.N) : Memref sig .tc .vmem S1x128 .f32 := win0_10.stage (cfg0.slots t 10)
theorem whole10 (t : Fin cfg0.N) : (buf10 t).IsWhole := hstage0_10 ((cfg0.slots t 10).cast nbuf0_10)

end Cert.Proof.Fox

end
-- ==== Proof.FoxRunFirst.lean ====
/- The attention's output call: the body's run at the first tile, and the pieces it stores. -/
module

public import proofs.«01_k».proof.Proof.FoxPoint

@[expose] public section

set_option maxRecDepth 16384

noncomputable section

namespace Cert.Proof.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

set_option maxHeartbeats 4000000 in
/-- The pieces that the body stores in its four outputs at the first tile, with the
    proof that it runs, leaving its inputs as they are and each output's buffer with its pieces written. -/
noncomputable def runFirst (c : Dev nD) (i : grid0.Coords) (arg1 : Memref sig .tc .vmem S1x1024x512 .bf16) (harg1 : arg1.IsWhole) (arg2 : Memref sig .tc .vmem S1x1024x512 .bf16) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2x1024x128 .bf16) (harg6 : arg6.IsWhole) (arg7 : Memref sig .tc .vmem S1x128 .f32) (harg7 : arg7.IsWhole) (arg8 : Memref sig .tc .vmem S512x1024 .f32) (harg8 : arg8.IsWhole) (arg9 : Memref sig .tc .vmem S4096x128 .f32) (harg9 : arg9.IsWhole) (arg10 : Memref sig .tc .vmem S8x512 .f32) (harg10 : arg10.IsWhole) (arg11 : Memref sig .tc .vmem S1x128 .f32) (harg11 : arg11.IsWhole) (hc0 : isFirst i)
    (x0 : Vec F S1x1024x512 .bf16) (x1 : Vec F S1x1024x512 .bf16) (x2 : Vec F S512x1024 .f32) (x3 : Vec F S1024x1024 .bf16) (x4 : Vec F S1x1024 .f32) (x5 : Vec F S2x1024x128 .bf16) (x6 : Vec F S1x128 .f32) :
    Σ' (L7 : List (View.Piece (Elt F) S512x1024 .f32)), Σ' (L8 : List (View.Piece (Elt F) S4096x128 .f32)), Σ' (L9 : List (View.Piece (Elt F) S8x512 .f32)), { L10 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10)) -∗ K ⟨⟩))
          ⊢ wp frame (wpE (defs₀ (F := F)) Variants.none c none) E (cc0_out_b i arg1 harg1 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_out_b_eq_skeleton]; unfold cc0_out_b_skel
    simp only [k0_part9_eq_skeleton, k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    iexists _; iexact H10

end Cert.Proof.Fox

end
-- ==== Proof.FoxRunLater.lean ====
/- The attention's output call: the body's run at a later tile, and the pieces it stores. -/
module

public import proofs.«01_k».proof.Proof.FoxRunFirst

@[expose] public section

set_option maxRecDepth 16384

noncomputable section

namespace Cert.Proof.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

set_option maxHeartbeats 4000000 in
/-- The pieces that the body stores in its four outputs at a later tile, the counts so far in `xo`, with the
    proof that it runs, leaving its inputs as they are and each output's buffer with its pieces written. -/
noncomputable def runLater (c : Dev nD) (i : grid0.Coords) (arg1 : Memref sig .tc .vmem S1x1024x512 .bf16) (harg1 : arg1.IsWhole) (arg2 : Memref sig .tc .vmem S1x1024x512 .bf16) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2x1024x128 .bf16) (harg6 : arg6.IsWhole) (arg7 : Memref sig .tc .vmem S1x128 .f32) (harg7 : arg7.IsWhole) (arg8 : Memref sig .tc .vmem S512x1024 .f32) (harg8 : arg8.IsWhole) (arg9 : Memref sig .tc .vmem S4096x128 .f32) (harg9 : arg9.IsWhole) (arg10 : Memref sig .tc .vmem S8x512 .f32) (harg10 : arg10.IsWhole) (arg11 : Memref sig .tc .vmem S1x128 .f32) (harg11 : arg11.IsWhole) (hc0 : ¬isFirst i)
    (x0 : Vec F S1x1024x512 .bf16) (x1 : Vec F S1x1024x512 .bf16) (x2 : Vec F S512x1024 .f32) (x3 : Vec F S1024x1024 .bf16) (x4 : Vec F S1x1024 .f32) (x5 : Vec F S2x1024x128 .bf16) (x6 : Vec F S1x128 .f32) (xo : Vec F S1x128 .f32) :
    Σ' (L7 : List (View.Piece (Elt F) S512x1024 .f32)), Σ' (L8 : List (View.Piece (Elt F) S4096x128 .f32)), Σ' (L9 : List (View.Piece (Elt F) S8x512 .f32)), { L10 : List (View.Piece (Elt F) S1x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xo
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10)) -∗ K ⟨⟩))
          ⊢ wp frame (wpE (defs₀ (F := F)) Variants.none c none) E (cc0_out_b i arg1 harg1 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_out_b_eq_skeleton]; unfold cc0_out_b_skel
    simp only [k0_part9_eq_skeleton, k0_part1_eq_skeleton, k0_part2_eq_skeleton, k0_part3_eq_skeleton, k0_part4_eq_skeleton, k0_part5_eq_skeleton, k0_part6_eq_skeleton, k0_part7_eq_skeleton, k0_part8_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg11.eq_unread hf10
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    iexists _; iexact H10

end Cert.Proof.Fox

end
-- ==== Proof.FoxPieces.lean ====
/- The attention's output call: the pieces that a tile stores in its residual block and in its normed block. -/
module

public import proofs.«01_k».proof.Proof.FoxRunLater
public import Idealize.ShloMosaic.Lib.WholeRead

@[expose] public section

set_option maxRecDepth 16384

noncomputable section

namespace Cert.Proof.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

/-- The first half of a transposed block's tokens. -/
abbrev loT (X : Vec F S1x1024x512 .bf16) : Vec F S1x1024x256 .bf16 := fun y => X ((Rect.unit (s := S1x1024x512) ![0, 0, 0] S1x1024x256.size inb_S1x1024x512_S1x1024x256_0_0_0).toLoadRect.idx y)
/-- The second half of a transposed block's tokens. -/
abbrev hiT (X : Vec F S1x1024x512 .bf16) : Vec F S1x1024x256 .bf16 := fun y => X ((Rect.unit (s := S1x1024x512) ![0, 0, 256] S1x1024x256.size inb_S1x1024x512_S1x1024x256_0_0_256).toLoadRect.idx y)
/-- The first half of a block's rows. -/
abbrev lo {e : EltTy} (X : Vec F S512x1024 e) : Vec F S256x1024 e := fun y => X ((Rect.unit (s := S512x1024) ![0, 0] S256x1024.size inb_S512x1024_S256x1024_0_0).toLoadRect.idx y)
/-- The second half of a block's rows. -/
abbrev hi {e : EltTy} (X : Vec F S512x1024 e) : Vec F S256x1024 e := fun y => X ((Rect.unit (s := S512x1024) ![256, 0] S256x1024.size inb_S512x1024_S256x1024_256_0).toLoadRect.idx y)

/-- The residual after the attention for 256 tokens, from the heads' outputs and the gates, both transposed, the residual and the weights. -/
def resid (a o : Vec F S1x1024x256 .bf16) (x : Vec F S256x1024 .f32) (w : Vec F S1024x1024 .bf16) : FVec F S256x1024 .f32 :=
  k0_pay2 a o x w

/-- The two pieces of the residual block. -/
def resPieces (Y0 Y1 : FVec F S256x1024 .f32) : List (View.Piece (Elt F) S512x1024 .f32) :=
  [⟨Rect.unit (s := S512x1024) ![256, 0] S256x1024.size inb_S512x1024_S256x1024_256_0, Y1⟩,
   ⟨Rect.unit (s := S512x1024) ![0, 0] S256x1024.size inb_S512x1024_S256x1024_0_0, Y0⟩]

/-- The rows `k + 8 r` of the normed block. -/
abbrev lanes (k : Nat) (h : ∀ a, S256x128.size a = 0 ∨ (![k, 0] : Fin 2 → Nat) a + (![8, 1] : Fin 2 → Nat) a * (S256x128.size a - 1) < S4096x128.size a) : LoadRect S4096x128 :=
  ⟨![k, 0], S256x128.size, ![8, 1], h⟩

/-- The sixteen pieces of the normed block: for each half of the tokens, lanes `128 k …` in the rows `8 r + k`. -/
def normPieces (Y0 Y1 : FVec F S256x1024 .f32) : List (View.Piece (Elt F) S4096x128 .f32) :=
  [⟨⟨lanes 2055 inb_S4096x128_S256x128_2055_0_s_8_1, spos_8_1⟩, extractStridedSlice S256x128 ![0, 896] Y1 slices_S256x1024_o0_896_S256x128⟩,
   ⟨⟨lanes 2054 inb_S4096x128_S256x128_2054_0_s_8_1, spos_8_1⟩, extractStridedSlice S256x128 ![0, 768] Y1 slices_S256x1024_o0_768_S256x128⟩,
   ⟨⟨lanes 2053 inb_S4096x128_S256x128_2053_0_s_8_1, spos_8_1⟩, extractStridedSlice S256x128 ![0, 640] Y1 slices_S256x1024_o0_640_S256x128⟩,
   ⟨⟨lanes 2052 inb_S4096x128_S256x128_2052_0_s_8_1, spos_8_1⟩, extractStridedSlice S256x128 ![0, 512] Y1 slices_S256x1024_o0_512_S256x128⟩,
   ⟨⟨lanes 2051 inb_S4096x128_S256x128_2051_0_s_8_1, spos_8_1⟩, extractStridedSlice S256x128 ![0, 384] Y1 slices_S256x1024_o0_384_S256x128⟩,
   ⟨⟨lanes 2050 inb_S4096x128_S256x128_2050_0_s_8_1, spos_8_1⟩, extractStridedSlice S256x128 ![0, 256] Y1 slices_S256x1024_o0_256_S256x128⟩,
   ⟨⟨lanes 2049 inb_S4096x128_S256x128_2049_0_s_8_1, spos_8_1⟩, extractStridedSlice S256x128 ![0, 128] Y1 slices_S256x1024_o0_128_S256x128⟩,
   ⟨⟨lanes 2048 inb_S4096x128_S256x128_2048_0_s_8_1, spos_8_1⟩, extractStridedSlice S256x128 ![0, 0] Y1 slices_S256x1024_o0_0_S256x128⟩,
   ⟨⟨lanes 7 inb_S4096x128_S256x128_7_0_s_8_1, spos_8_1⟩, extractStridedSlice S256x128 ![0, 896] Y0 slices_S256x1024_o0_896_S256x128⟩,
   ⟨⟨lanes 6 inb_S4096x128_S256x128_6_0_s_8_1, spos_8_1⟩, extractStridedSlice S256x128 ![0, 768] Y0 slices_S256x1024_o0_768_S256x128⟩,
   ⟨⟨lanes 5 inb_S4096x128_S256x128_5_0_s_8_1, spos_8_1⟩, extractStridedSlice S256x128 ![0, 640] Y0 slices_S256x1024_o0_640_S256x128⟩,
   ⟨⟨lanes 4 inb_S4096x128_S256x128_4_0_s_8_1, spos_8_1⟩, extractStridedSlice S256x128 ![0, 512] Y0 slices_S256x1024_o0_512_S256x128⟩,
   ⟨⟨lanes 3 inb_S4096x128_S256x128_3_0_s_8_1, spos_8_1⟩, extractStridedSlice S256x128 ![0, 384] Y0 slices_S256x1024_o0_384_S256x128⟩,
   ⟨⟨lanes 2 inb_S4096x128_S256x128_2_0_s_8_1, spos_8_1⟩, extractStridedSlice S256x128 ![0, 256] Y0 slices_S256x1024_o0_256_S256x128⟩,
   ⟨⟨lanes 1 inb_S4096x128_S256x128_1_0_s_8_1, spos_8_1⟩, extractStridedSlice S256x128 ![0, 128] Y0 slices_S256x1024_o0_128_S256x128⟩,
   ⟨⟨lanes 0 inb_S4096x128_S256x128_0_0_s_8_1, spos_8_1⟩, extractStridedSlice S256x128 ![0, 0] Y0 slices_S256x1024_o0_0_S256x128⟩]

/-- A load of a whole buffer reads its contents. -/
theorem readAt_whole {s : Shape} {e : EltTy} {m : Memref sig .tc .vmem s e} (h : m.IsWhole) (X : s.Idx → Elt F e) (off : Fin s.rank → Nat) (ho : off = fun _ => 0) (inb) :
    View.readAt (Elt F) m.view (Rect.unit (s := s) off s.size inb).toLoadRect (h.unread X) = X := by
  subst ho
  funext y
  refine (h.readAt_unread X _ y).trans (congrArg X ?_)
  funext a
  apply Fin.ext
  show 0 + 1 * (y a).val = (y a).val
  omega

set_option maxHeartbeats 4000000 in
/-- The run's pieces of output 7, at the first tile. -/
theorem first7 (c : Dev nD) (i : grid0.Coords) (arg1 : Memref sig .tc .vmem S1x1024x512 .bf16) (harg1 : arg1.IsWhole) (arg2 : Memref sig .tc .vmem S1x1024x512 .bf16) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2x1024x128 .bf16) (harg6 : arg6.IsWhole) (arg7 : Memref sig .tc .vmem S1x128 .f32) (harg7 : arg7.IsWhole) (arg8 : Memref sig .tc .vmem S512x1024 .f32) (harg8 : arg8.IsWhole) (arg9 : Memref sig .tc .vmem S4096x128 .f32) (harg9 : arg9.IsWhole) (arg10 : Memref sig .tc .vmem S8x512 .f32) (harg10 : arg10.IsWhole) (arg11 : Memref sig .tc .vmem S1x128 .f32) (harg11 : arg11.IsWhole) (hc0 : isFirst i)
    (x0 : Vec F S1x1024x512 .bf16) (x1 : Vec F S1x1024x512 .bf16) (x2 : Vec F S512x1024 .f32) (x3 : Vec F S1024x1024 .bf16) (x4 : Vec F S1x1024 .f32) (x5 : Vec F S2x1024x128 .bf16) (x6 : Vec F S1x128 .f32) :
    (runFirst c i arg1 harg1 arg2 harg2 arg3 harg3 arg4 harg4 arg5 harg5 arg6 harg6 arg7 harg7 arg8 harg8 arg9 harg9 arg10 harg10 arg11 harg11 hc0 x0 x1 x2 x3 x4 x5 x6).1 = resPieces (resid (loT x0) (loT x1) (lo x2) x3) (resid (hiT x0) (hiT x1) (hi x2) x3) := by
  have h0l : View.readAt (Elt F) arg1.view (Rect.unit (s := S1x1024x512) ![0, 0, 0] S1x1024x256.size inb_S1x1024x512_S1x1024x256_0_0_0).toLoadRect (harg1.unread x0) = loT x0 := funext fun y => harg1.readAt_unread x0 _ y
  have h0h : View.readAt (Elt F) arg1.view (Rect.unit (s := S1x1024x512) ![0, 0, 256] S1x1024x256.size inb_S1x1024x512_S1x1024x256_0_0_256).toLoadRect (harg1.unread x0) = hiT x0 := funext fun y => harg1.readAt_unread x0 _ y
  have h1l : View.readAt (Elt F) arg2.view (Rect.unit (s := S1x1024x512) ![0, 0, 0] S1x1024x256.size inb_S1x1024x512_S1x1024x256_0_0_0).toLoadRect (harg2.unread x1) = loT x1 := funext fun y => harg2.readAt_unread x1 _ y
  have h1h : View.readAt (Elt F) arg2.view (Rect.unit (s := S1x1024x512) ![0, 0, 256] S1x1024x256.size inb_S1x1024x512_S1x1024x256_0_0_256).toLoadRect (harg2.unread x1) = hiT x1 := funext fun y => harg2.readAt_unread x1 _ y
  have h2l : View.readAt (Elt F) arg3.view (Rect.unit (s := S512x1024) ![0, 0] S256x1024.size inb_S512x1024_S256x1024_0_0).toLoadRect (harg3.unread x2) = lo x2 := funext fun y => harg3.readAt_unread x2 _ y
  have h2h : View.readAt (Elt F) arg3.view (Rect.unit (s := S512x1024) ![256, 0] S256x1024.size inb_S512x1024_S256x1024_256_0).toLoadRect (harg3.unread x2) = hi x2 := funext fun y => harg3.readAt_unread x2 _ y
  have h3 := readAt_whole harg4 x3 ![0, 0] (by decide) inb_S1024x1024_S1024x1024_0_0
  have h4 := readAt_whole harg5 x4 ![0, 0] (by decide) inb_S1x1024_S1x1024_0_0
  have e : (runFirst c i arg1 harg1 arg2 harg2 arg3 harg3 arg4 harg4 arg5 harg5 arg6 harg6 arg7 harg7 arg8 harg8 arg9 harg9 arg10 harg10 arg11 harg11 hc0 x0 x1 x2 x3 x4 x5 x6).1 = resPieces (resid (View.readAt (Elt F) arg1.view (Rect.unit (s := S1x1024x512) ![0, 0, 0] S1x1024x256.size inb_S1x1024x512_S1x1024x256_0_0_0).toLoadRect (harg1.unread x0)) (View.readAt (Elt F) arg2.view (Rect.unit (s := S1x1024x512) ![0, 0, 0] S1x1024x256.size inb_S1x1024x512_S1x1024x256_0_0_0).toLoadRect (harg2.unread x1)) (View.readAt (Elt F) arg3.view (Rect.unit (s := S512x1024) ![0, 0] S256x1024.size inb_S512x1024_S256x1024_0_0).toLoadRect (harg3.unread x2)) (View.readAt (Elt F) arg4.view (Rect.unit (s := S1024x1024) ![0, 0] S1024x1024.size inb_S1024x1024_S1024x1024_0_0).toLoadRect (harg4.unread x3))) (resid (View.readAt (Elt F) arg1.view (Rect.unit (s := S1x1024x512) ![0, 0, 256] S1x1024x256.size inb_S1x1024x512_S1x1024x256_0_0_256).toLoadRect (harg1.unread x0)) (View.readAt (Elt F) arg2.view (Rect.unit (s := S1x1024x512) ![0, 0, 256] S1x1024x256.size inb_S1x1024x512_S1x1024x256_0_0_256).toLoadRect (harg2.unread x1)) (View.readAt (Elt F) arg3.view (Rect.unit (s := S512x1024) ![256, 0] S256x1024.size inb_S512x1024_S256x1024_256_0).toLoadRect (harg3.unread x2)) (View.readAt (Elt F) arg4.view (Rect.unit (s := S1024x1024) ![0, 0] S1024x1024.size inb_S1024x1024_S1024x1024_0_0).toLoadRect (harg4.unread x3))) := by
    unfold runFirst
    rfl
  rw [e, h0l, h0h, h1l, h1h, h2l, h2h, h3]

set_option maxHeartbeats 4000000 in
/-- The run's pieces of output 8, at the first tile. -/
theorem first8 (c : Dev nD) (i : grid0.Coords) (arg1 : Memref sig .tc .vmem S1x1024x512 .bf16) (harg1 : arg1.IsWhole) (arg2 : Memref sig .tc .vmem S1x1024x512 .bf16) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2x1024x128 .bf16) (harg6 : arg6.IsWhole) (arg7 : Memref sig .tc .vmem S1x128 .f32) (harg7 : arg7.IsWhole) (arg8 : Memref sig .tc .vmem S512x1024 .f32) (harg8 : arg8.IsWhole) (arg9 : Memref sig .tc .vmem S4096x128 .f32) (harg9 : arg9.IsWhole) (arg10 : Memref sig .tc .vmem S8x512 .f32) (harg10 : arg10.IsWhole) (arg11 : Memref sig .tc .vmem S1x128 .f32) (harg11 : arg11.IsWhole) (hc0 : isFirst i)
    (x0 : Vec F S1x1024x512 .bf16) (x1 : Vec F S1x1024x512 .bf16) (x2 : Vec F S512x1024 .f32) (x3 : Vec F S1024x1024 .bf16) (x4 : Vec F S1x1024 .f32) (x5 : Vec F S2x1024x128 .bf16) (x6 : Vec F S1x128 .f32) :
    (runFirst c i arg1 harg1 arg2 harg2 arg3 harg3 arg4 harg4 arg5 harg5 arg6 harg6 arg7 harg7 arg8 harg8 arg9 harg9 arg10 harg10 arg11 harg11 hc0 x0 x1 x2 x3 x4 x5 x6).2.1 = normPieces (k0_pay5 (resid (loT x0) (loT x1) (lo x2) x3) x4) (k0_pay5 (resid (hiT x0) (hiT x1) (hi x2) x3) x4) := by
  have h0l : View.readAt (Elt F) arg1.view (Rect.unit (s := S1x1024x512) ![0, 0, 0] S1x1024x256.size inb_S1x1024x512_S1x1024x256_0_0_0).toLoadRect (harg1.unread x0) = loT x0 := funext fun y => harg1.readAt_unread x0 _ y
  have h0h : View.readAt (Elt F) arg1.view (Rect.unit (s := S1x1024x512) ![0, 0, 256] S1x1024x256.size inb_S1x1024x512_S1x1024x256_0_0_256).toLoadRect (harg1.unread x0) = hiT x0 := funext fun y => harg1.readAt_unread x0 _ y
  have h1l : View.readAt (Elt F) arg2.view (Rect.unit (s := S1x1024x512) ![0, 0, 0] S1x1024x256.size inb_S1x1024x512_S1x1024x256_0_0_0).toLoadRect (harg2.unread x1) = loT x1 := funext fun y => harg2.readAt_unread x1 _ y
  have h1h : View.readAt (Elt F) arg2.view (Rect.unit (s := S1x1024x512) ![0, 0, 256] S1x1024x256.size inb_S1x1024x512_S1x1024x256_0_0_256).toLoadRect (harg2.unread x1) = hiT x1 := funext fun y => harg2.readAt_unread x1 _ y
  have h2l : View.readAt (Elt F) arg3.view (Rect.unit (s := S512x1024) ![0, 0] S256x1024.size inb_S512x1024_S256x1024_0_0).toLoadRect (harg3.unread x2) = lo x2 := funext fun y => harg3.readAt_unread x2 _ y
  have h2h : View.readAt (Elt F) arg3.view (Rect.unit (s := S512x1024) ![256, 0] S256x1024.size inb_S512x1024_S256x1024_256_0).toLoadRect (harg3.unread x2) = hi x2 := funext fun y => harg3.readAt_unread x2 _ y
  have h3 := readAt_whole harg4 x3 ![0, 0] (by decide) inb_S1024x1024_S1024x1024_0_0
  have h4 := readAt_whole harg5 x4 ![0, 0] (by decide) inb_S1x1024_S1x1024_0_0
  have e : (runFirst c i arg1 harg1 arg2 harg2 arg3 harg3 arg4 harg4 arg5 harg5 arg6 harg6 arg7 harg7 arg8 harg8 arg9 harg9 arg10 harg10 arg11 harg11 hc0 x0 x1 x2 x3 x4 x5 x6).2.1 = normPieces (k0_pay5 (resid (View.readAt (Elt F) arg1.view (Rect.unit (s := S1x1024x512) ![0, 0, 0] S1x1024x256.size inb_S1x1024x512_S1x1024x256_0_0_0).toLoadRect (harg1.unread x0)) (View.readAt (Elt F) arg2.view (Rect.unit (s := S1x1024x512) ![0, 0, 0] S1x1024x256.size inb_S1x1024x512_S1x1024x256_0_0_0).toLoadRect (harg2.unread x1)) (View.readAt (Elt F) arg3.view (Rect.unit (s := S512x1024) ![0, 0] S256x1024.size inb_S512x1024_S256x1024_0_0).toLoadRect (harg3.unread x2)) (View.readAt (Elt F) arg4.view (Rect.unit (s := S1024x1024) ![0, 0] S1024x1024.size inb_S1024x1024_S1024x1024_0_0).toLoadRect (harg4.unread x3))) (View.readAt (Elt F) arg5.view (Rect.unit (s := S1x1024) ![0, 0] S1x1024.size inb_S1x1024_S1x1024_0_0).toLoadRect (harg5.unread x4))) (k0_pay5 (resid (View.readAt (Elt F) arg1.view (Rect.unit (s := S1x1024x512) ![0, 0, 256] S1x1024x256.size inb_S1x1024x512_S1x1024x256_0_0_256).toLoadRect (harg1.unread x0)) (View.readAt (Elt F) arg2.view (Rect.unit (s := S1x1024x512) ![0, 0, 256] S1x1024x256.size inb_S1x1024x512_S1x1024x256_0_0_256).toLoadRect (harg2.unread x1)) (View.readAt (Elt F) arg3.view (Rect.unit (s := S512x1024) ![256, 0] S256x1024.size inb_S512x1024_S256x1024_256_0).toLoadRect (harg3.unread x2)) (View.readAt (Elt F) arg4.view (Rect.unit (s := S1024x1024) ![0, 0] S1024x1024.size inb_S1024x1024_S1024x1024_0_0).toLoadRect (harg4.unread x3))) (View.readAt (Elt F) arg5.view (Rect.unit (s := S1x1024) ![0, 0] S1x1024.size inb_S1x1024_S1x1024_0_0).toLoadRect (harg5.unread x4))) := by
    unfold runFirst
    rfl
  rw [e, h0l, h0h, h1l, h1h, h2l, h2h, h3, h4]

set_option maxHeartbeats 4000000 in
/-- The run's pieces of output 7, at a later tile. -/
theorem later7 (c : Dev nD) (i : grid0.Coords) (arg1 : Memref sig .tc .vmem S1x1024x512 .bf16) (harg1 : arg1.IsWhole) (arg2 : Memref sig .tc .vmem S1x1024x512 .bf16) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2x1024x128 .bf16) (harg6 : arg6.IsWhole) (arg7 : Memref sig .tc .vmem S1x128 .f32) (harg7 : arg7.IsWhole) (arg8 : Memref sig .tc .vmem S512x1024 .f32) (harg8 : arg8.IsWhole) (arg9 : Memref sig .tc .vmem S4096x128 .f32) (harg9 : arg9.IsWhole) (arg10 : Memref sig .tc .vmem S8x512 .f32) (harg10 : arg10.IsWhole) (arg11 : Memref sig .tc .vmem S1x128 .f32) (harg11 : arg11.IsWhole) (hc0 : ¬isFirst i)
    (x0 : Vec F S1x1024x512 .bf16) (x1 : Vec F S1x1024x512 .bf16) (x2 : Vec F S512x1024 .f32) (x3 : Vec F S1024x1024 .bf16) (x4 : Vec F S1x1024 .f32) (x5 : Vec F S2x1024x128 .bf16) (x6 : Vec F S1x128 .f32) (xo : Vec F S1x128 .f32) :
    (runLater c i arg1 harg1 arg2 harg2 arg3 harg3 arg4 harg4 arg5 harg5 arg6 harg6 arg7 harg7 arg8 harg8 arg9 harg9 arg10 harg10 arg11 harg11 hc0 x0 x1 x2 x3 x4 x5 x6 xo).1 = resPieces (resid (loT x0) (loT x1) (lo x2) x3) (resid (hiT x0) (hiT x1) (hi x2) x3) := by
  have h0l : View.readAt (Elt F) arg1.view (Rect.unit (s := S1x1024x512) ![0, 0, 0] S1x1024x256.size inb_S1x1024x512_S1x1024x256_0_0_0).toLoadRect (harg1.unread x0) = loT x0 := funext fun y => harg1.readAt_unread x0 _ y
  have h0h : View.readAt (Elt F) arg1.view (Rect.unit (s := S1x1024x512) ![0, 0, 256] S1x1024x256.size inb_S1x1024x512_S1x1024x256_0_0_256).toLoadRect (harg1.unread x0) = hiT x0 := funext fun y => harg1.readAt_unread x0 _ y
  have h1l : View.readAt (Elt F) arg2.view (Rect.unit (s := S1x1024x512) ![0, 0, 0] S1x1024x256.size inb_S1x1024x512_S1x1024x256_0_0_0).toLoadRect (harg2.unread x1) = loT x1 := funext fun y => harg2.readAt_unread x1 _ y
  have h1h : View.readAt (Elt F) arg2.view (Rect.unit (s := S1x1024x512) ![0, 0, 256] S1x1024x256.size inb_S1x1024x512_S1x1024x256_0_0_256).toLoadRect (harg2.unread x1) = hiT x1 := funext fun y => harg2.readAt_unread x1 _ y
  have h2l : View.readAt (Elt F) arg3.view (Rect.unit (s := S512x1024) ![0, 0] S256x1024.size inb_S512x1024_S256x1024_0_0).toLoadRect (harg3.unread x2) = lo x2 := funext fun y => harg3.readAt_unread x2 _ y
  have h2h : View.readAt (Elt F) arg3.view (Rect.unit (s := S512x1024) ![256, 0] S256x1024.size inb_S512x1024_S256x1024_256_0).toLoadRect (harg3.unread x2) = hi x2 := funext fun y => harg3.readAt_unread x2 _ y
  have h3 := readAt_whole harg4 x3 ![0, 0] (by decide) inb_S1024x1024_S1024x1024_0_0
  have h4 := readAt_whole harg5 x4 ![0, 0] (by decide) inb_S1x1024_S1x1024_0_0
  have e : (runLater c i arg1 harg1 arg2 harg2 arg3 harg3 arg4 harg4 arg5 harg5 arg6 harg6 arg7 harg7 arg8 harg8 arg9 harg9 arg10 harg10 arg11 harg11 hc0 x0 x1 x2 x3 x4 x5 x6 xo).1 = resPieces (resid (View.readAt (Elt F) arg1.view (Rect.unit (s := S1x1024x512) ![0, 0, 0] S1x1024x256.size inb_S1x1024x512_S1x1024x256_0_0_0).toLoadRect (harg1.unread x0)) (View.readAt (Elt F) arg2.view (Rect.unit (s := S1x1024x512) ![0, 0, 0] S1x1024x256.size inb_S1x1024x512_S1x1024x256_0_0_0).toLoadRect (harg2.unread x1)) (View.readAt (Elt F) arg3.view (Rect.unit (s := S512x1024) ![0, 0] S256x1024.size inb_S512x1024_S256x1024_0_0).toLoadRect (harg3.unread x2)) (View.readAt (Elt F) arg4.view (Rect.unit (s := S1024x1024) ![0, 0] S1024x1024.size inb_S1024x1024_S1024x1024_0_0).toLoadRect (harg4.unread x3))) (resid (View.readAt (Elt F) arg1.view (Rect.unit (s := S1x1024x512) ![0, 0, 256] S1x1024x256.size inb_S1x1024x512_S1x1024x256_0_0_256).toLoadRect (harg1.unread x0)) (View.readAt (Elt F) arg2.view (Rect.unit (s := S1x1024x512) ![0, 0, 256] S1x1024x256.size inb_S1x1024x512_S1x1024x256_0_0_256).toLoadRect (harg2.unread x1)) (View.readAt (Elt F) arg3.view (Rect.unit (s := S512x1024) ![256, 0] S256x1024.size inb_S512x1024_S256x1024_256_0).toLoadRect (harg3.unread x2)) (View.readAt (Elt F) arg4.view (Rect.unit (s := S1024x1024) ![0, 0] S1024x1024.size inb_S1024x1024_S1024x1024_0_0).toLoadRect (harg4.unread x3))) := by
    unfold runLater
    rfl
  rw [e, h0l, h0h, h1l, h1h, h2l, h2h, h3]

set_option maxHeartbeats 4000000 in
/-- The run's pieces of output 8, at a later tile. -/
theorem later8 (c : Dev nD) (i : grid0.Coords) (arg1 : Memref sig .tc .vmem S1x1024x512 .bf16) (harg1 : arg1.IsWhole) (arg2 : Memref sig .tc .vmem S1x1024x512 .bf16) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S2x1024x128 .bf16) (harg6 : arg6.IsWhole) (arg7 : Memref sig .tc .vmem S1x128 .f32) (harg7 : arg7.IsWhole) (arg8 : Memref sig .tc .vmem S512x1024 .f32) (harg8 : arg8.IsWhole) (arg9 : Memref sig .tc .vmem S4096x128 .f32) (harg9 : arg9.IsWhole) (arg10 : Memref sig .tc .vmem S8x512 .f32) (harg10 : arg10.IsWhole) (arg11 : Memref sig .tc .vmem S1x128 .f32) (harg11 : arg11.IsWhole) (hc0 : ¬isFirst i)
    (x0 : Vec F S1x1024x512 .bf16) (x1 : Vec F S1x1024x512 .bf16) (x2 : Vec F S512x1024 .f32) (x3 : Vec F S1024x1024 .bf16) (x4 : Vec F S1x1024 .f32) (x5 : Vec F S2x1024x128 .bf16) (x6 : Vec F S1x128 .f32) (xo : Vec F S1x128 .f32) :
    (runLater c i arg1 harg1 arg2 harg2 arg3 harg3 arg4 harg4 arg5 harg5 arg6 harg6 arg7 harg7 arg8 harg8 arg9 harg9 arg10 harg10 arg11 harg11 hc0 x0 x1 x2 x3 x4 x5 x6 xo).2.1 = normPieces (k0_pay5 (resid (loT x0) (loT x1) (lo x2) x3) x4) (k0_pay5 (resid (hiT x0) (hiT x1) (hi x2) x3) x4) := by
  have h0l : View.readAt (Elt F) arg1.view (Rect.unit (s := S1x1024x512) ![0, 0, 0] S1x1024x256.size inb_S1x1024x512_S1x1024x256_0_0_0).toLoadRect (harg1.unread x0) = loT x0 := funext fun y => harg1.readAt_unread x0 _ y
  have h0h : View.readAt (Elt F) arg1.view (Rect.unit (s := S1x1024x512) ![0, 0, 256] S1x1024x256.size inb_S1x1024x512_S1x1024x256_0_0_256).toLoadRect (harg1.unread x0) = hiT x0 := funext fun y => harg1.readAt_unread x0 _ y
  have h1l : View.readAt (Elt F) arg2.view (Rect.unit (s := S1x1024x512) ![0, 0, 0] S1x1024x256.size inb_S1x1024x512_S1x1024x256_0_0_0).toLoadRect (harg2.unread x1) = loT x1 := funext fun y => harg2.readAt_unread x1 _ y
  have h1h : View.readAt (Elt F) arg2.view (Rect.unit (s := S1x1024x512) ![0, 0, 256] S1x1024x256.size inb_S1x1024x512_S1x1024x256_0_0_256).toLoadRect (harg2.unread x1) = hiT x1 := funext fun y => harg2.readAt_unread x1 _ y
  have h2l : View.readAt (Elt F) arg3.view (Rect.unit (s := S512x1024) ![0, 0] S256x1024.size inb_S512x1024_S256x1024_0_0).toLoadRect (harg3.unread x2) = lo x2 := funext fun y => harg3.readAt_unread x2 _ y
  have h2h : View.readAt (Elt F) arg3.view (Rect.unit (s := S512x1024) ![256, 0] S256x1024.size inb_S512x1024_S256x1024_256_0).toLoadRect (harg3.unread x2) = hi x2 := funext fun y => harg3.readAt_unread x2 _ y
  have h3 := readAt_whole harg4 x3 ![0, 0] (by decide) inb_S1024x1024_S1024x1024_0_0
  have h4 := readAt_whole harg5 x4 ![0, 0] (by decide) inb_S1x1024_S1x1024_0_0
  have e : (runLater c i arg1 harg1 arg2 harg2 arg3 harg3 arg4 harg4 arg5 harg5 arg6 harg6 arg7 harg7 arg8 harg8 arg9 harg9 arg10 harg10 arg11 harg11 hc0 x0 x1 x2 x3 x4 x5 x6 xo).2.1 = normPieces (k0_pay5 (resid (View.readAt (Elt F) arg1.view (Rect.unit (s := S1x1024x512) ![0, 0, 0] S1x1024x256.size inb_S1x1024x512_S1x1024x256_0_0_0).toLoadRect (harg1.unread x0)) (View.readAt (Elt F) arg2.view (Rect.unit (s := S1x1024x512) ![0, 0, 0] S1x1024x256.size inb_S1x1024x512_S1x1024x256_0_0_0).toLoadRect (harg2.unread x1)) (View.readAt (Elt F) arg3.view (Rect.unit (s := S512x1024) ![0, 0] S256x1024.size inb_S512x1024_S256x1024_0_0).toLoadRect (harg3.unread x2)) (View.readAt (Elt F) arg4.view (Rect.unit (s := S1024x1024) ![0, 0] S1024x1024.size inb_S1024x1024_S1024x1024_0_0).toLoadRect (harg4.unread x3))) (View.readAt (Elt F) arg5.view (Rect.unit (s := S1x1024) ![0, 0] S1x1024.size inb_S1x1024_S1x1024_0_0).toLoadRect (harg5.unread x4))) (k0_pay5 (resid (View.readAt (Elt F) arg1.view (Rect.unit (s := S1x1024x512) ![0, 0, 256] S1x1024x256.size inb_S1x1024x512_S1x1024x256_0_0_256).toLoadRect (harg1.unread x0)) (View.readAt (Elt F) arg2.view (Rect.unit (s := S1x1024x512) ![0, 0, 256] S1x1024x256.size inb_S1x1024x512_S1x1024x256_0_0_256).toLoadRect (harg2.unread x1)) (View.readAt (Elt F) arg3.view (Rect.unit (s := S512x1024) ![256, 0] S256x1024.size inb_S512x1024_S256x1024_256_0).toLoadRect (harg3.unread x2)) (View.readAt (Elt F) arg4.view (Rect.unit (s := S1024x1024) ![0, 0] S1024x1024.size inb_S1024x1024_S1024x1024_0_0).toLoadRect (harg4.unread x3))) (View.readAt (Elt F) arg5.view (Rect.unit (s := S1x1024) ![0, 0] S1x1024.size inb_S1x1024_S1x1024_0_0).toLoadRect (harg5.unread x4))) := by
    unfold runLater
    rfl
  rw [e, h0l, h0h, h1l, h1h, h2l, h2h, h3, h4]

end Cert.Proof.Fox

end
-- ==== Proof.FoxNorm.lean ====
/- The attention's output call: the sixteen pieces of the normed block fill it, and what they put together. -/
module

public import proofs.«01_k».proof.Proof.FoxPieces
public import Idealize.ShloMosaic.Lib.Pipeline.Value
public import Idealize.ShloMosaic.Lib.ValueIdxCore
public import Idealize.ShloMosaic.Lib.VecWindow

@[expose] public section

set_option maxRecDepth 16384

noncomputable section

namespace Cert.Proof.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

theorem lanes_idx0 (k : Nat) (h : ∀ a, S256x128.size a = 0 ∨ (![k, 0] : Fin 2 → Nat) a + (![8, 1] : Fin 2 → Nat) a * (S256x128.size a - 1) < S4096x128.size a)
    (y : S256x128.Idx) : (((lanes k h).idx y) 0).val = k + 8 * (y 0).val := rfl

theorem lanes_idx1 (k : Nat) (h : ∀ a, S256x128.size a = 0 ∨ (![k, 0] : Fin 2 → Nat) a + (![8, 1] : Fin 2 → Nat) a * (S256x128.size a - 1) < S4096x128.size a)
    (y : S256x128.Idx) : (((lanes k h).idx y) 1).val = (y 1).val := by
  show 0 + 1 * (y 1).val = _
  omega

/-- The normed block: row `8 r + k` holds lanes `128 k …` of token `r`, the first 256 tokens from `Y0`, the others from `Y1`. -/
def normBlock (Y0 Y1 : FVec F S256x1024 .f32) : S4096x128.Idx → Elt F .f32 := fun j =>
  (if (j 0).val < 2048 then Y0 else Y1) (ValueIdx.ix2 ⟨(j 0).val % 2048 / 8, by omega⟩
    ⟨(j 0).val % 8 * 128 + (j 1).val, by have : (j 1).val < 128 := (j 1).isLt; omega⟩)

/-- One piece of the first half agrees with the block. -/
theorem piece_lo (Y0 Y1 : FVec F S256x1024 .f32) (k : Nat) (hk : k < 8)
    (h : ∀ a, S256x128.size a = 0 ∨ (![k, 0] : Fin 2 → Nat) a + (![8, 1] : Fin 2 → Nat) a * (S256x128.size a - 1) < S4096x128.size a)
    (hs : S256x1024.Slices ![0, 128 * k] S256x128) (y : S256x128.Idx) :
    extractStridedSlice S256x128 ![0, 128 * k] Y0 hs y = normBlock Y0 Y1 ((lanes k h).idx y) := by
  have h0 := lanes_idx0 k h y
  have h1 := lanes_idx1 k h y
  have hy : (y 0).val < 256 := (y 0).isLt
  unfold normBlock
  rw [if_pos (by omega)]
  refine congrArg Y0 ?_
  funext a
  apply Fin.ext
  fin_cases a
  · show 0 + (y 0).val = (((lanes k h).idx y) 0).val % 2048 / 8
    omega
  · show 128 * k + (y 1).val = (((lanes k h).idx y) 0).val % 8 * 128 + (((lanes k h).idx y) 1).val
    omega

/-- One piece of the second half agrees with the block. -/
theorem piece_hi (Y0 Y1 : FVec F S256x1024 .f32) (k : Nat) (hk : k < 8)
    (h : ∀ a, S256x128.size a = 0 ∨ (![2048 + k, 0] : Fin 2 → Nat) a + (![8, 1] : Fin 2 → Nat) a * (S256x128.size a - 1) < S4096x128.size a)
    (hs : S256x1024.Slices ![0, 128 * k] S256x128) (y : S256x128.Idx) :
    extractStridedSlice S256x128 ![0, 128 * k] Y1 hs y = normBlock Y0 Y1 ((lanes (2048 + k) h).idx y) := by
  have h0 := lanes_idx0 (2048 + k) h y
  have h1 := lanes_idx1 (2048 + k) h y
  have hy : (y 0).val < 256 := (y 0).isLt
  unfold normBlock
  rw [if_neg (by omega)]
  refine congrArg Y1 ?_
  funext a
  apply Fin.ext
  fin_cases a
  · show 0 + (y 0).val = (((lanes (2048 + k) h).idx y) 0).val % 2048 / 8
    omega
  · show 128 * k + (y 1).val = (((lanes (2048 + k) h).idx y) 0).val % 8 * 128 + (((lanes (2048 + k) h).idx y) 1).val
    omega

/-- An index of the block lies in the piece that its row names. -/
theorem mem_lanes (b k : Nat) (hb : 8 ∣ b) (hk : k < 8) (hp : ∀ a, 0 < (![8, 1] : Fin 2 → Nat) a) (h : ∀ a, S256x128.size a = 0 ∨ (![b + k, 0] : Fin 2 → Nat) a + (![8, 1] : Fin 2 → Nat) a * (S256x128.size a - 1) < S4096x128.size a)
    (j : S4096x128.Idx) (hj : (j 0).val % 8 = k) (h1 : b ≤ (j 0).val) (h2 : (j 0).val < b + 2048) : j ∈ (⟨lanes (b + k) h, hp⟩ : Rect S4096x128).set := by
  obtain ⟨d, rfl⟩ := hb
  have hm := (⟨lanes (8 * d + k) h, hp⟩ : Rect S4096x128).map_emb_univ ▸ Finset.mem_map_of_mem (⟨lanes (8 * d + k) h, hp⟩ : Rect S4096x128).emb (Finset.mem_univ (ValueIdx.ix2 ⟨(j 0).val / 8 - d, by omega⟩ (j 1) : S256x128.Idx))
  have e : (lanes (8 * d + k) h).idx (ValueIdx.ix2 ⟨(j 0).val / 8 - d, by omega⟩ (j 1) : S256x128.Idx) = j := by
    funext a
    apply Fin.ext
    fin_cases a
    · have := lanes_idx0 (8 * d + k) h (ValueIdx.ix2 ⟨(j 0).val / 8 - d, by omega⟩ (j 1) : S256x128.Idx)
      refine this.trans ?_
      show 8 * d + k + 8 * ((j 0).val / 8 - d) = (j 0).val
      omega
    · exact lanes_idx1 (8 * d + k) h (ValueIdx.ix2 ⟨(j 0).val / 8 - d, by omega⟩ (j 1) : S256x128.Idx)
  rw [← e]
  exact hm

/-- Every index of the normed block is stored by a piece. -/
theorem normPieces_cover (Y0 Y1 : FVec F S256x1024 .f32) (j : S4096x128.Idx) : ∃ p ∈ normPieces Y0 Y1, j ∈ p.1.set := by
  have hj : (j 0).val < 4096 := (j 0).isLt
  have h8 : ∀ n : Nat, n % 8 = 0 ∨ n % 8 = 1 ∨ n % 8 = 2 ∨ n % 8 = 3 ∨ n % 8 = 4 ∨ n % 8 = 5 ∨ n % 8 = 6 ∨ n % 8 = 7 := fun n => by omega
  unfold normPieces
  rcases (by omega : (j 0).val < 2048 ∨ 2048 ≤ (j 0).val) with hh | hh <;> rcases h8 (j 0).val with e | e | e | e | e | e | e | e
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), mem_lanes 0 0 (by decide) (by decide) _ inb_S4096x128_S256x128_0_0_s_8_1 j e (Nat.zero_le _) (by omega)⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), mem_lanes 0 1 (by decide) (by decide) _ inb_S4096x128_S256x128_1_0_s_8_1 j e (Nat.zero_le _) (by omega)⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), mem_lanes 0 2 (by decide) (by decide) _ inb_S4096x128_S256x128_2_0_s_8_1 j e (Nat.zero_le _) (by omega)⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), mem_lanes 0 3 (by decide) (by decide) _ inb_S4096x128_S256x128_3_0_s_8_1 j e (Nat.zero_le _) (by omega)⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem_lanes 0 4 (by decide) (by decide) _ inb_S4096x128_S256x128_4_0_s_8_1 j e (Nat.zero_le _) (by omega)⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem_lanes 0 5 (by decide) (by decide) _ inb_S4096x128_S256x128_5_0_s_8_1 j e (Nat.zero_le _) (by omega)⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem_lanes 0 6 (by decide) (by decide) _ inb_S4096x128_S256x128_6_0_s_8_1 j e (Nat.zero_le _) (by omega)⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem_lanes 0 7 (by decide) (by decide) _ inb_S4096x128_S256x128_7_0_s_8_1 j e (Nat.zero_le _) (by omega)⟩
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem_lanes 2048 0 (by decide) (by decide) _ inb_S4096x128_S256x128_2048_0_s_8_1 j e hh (by omega)⟩
  · exact ⟨_, List.mem_cons_of_mem _ (List.mem_cons_of_mem _ (List.mem_cons_of_mem _ (List.mem_cons_of_mem _ (List.mem_cons_of_mem _ (List.mem_cons_of_mem _ (List.mem_cons_self)))))), mem_lanes 2048 1 (by decide) (by decide) _ inb_S4096x128_S256x128_2049_0_s_8_1 j e hh (by omega)⟩
  · exact ⟨_, List.mem_cons_of_mem _ (List.mem_cons_of_mem _ (List.mem_cons_of_mem _ (List.mem_cons_of_mem _ (List.mem_cons_of_mem _ (List.mem_cons_self))))), mem_lanes 2048 2 (by decide) (by decide) _ inb_S4096x128_S256x128_2050_0_s_8_1 j e hh (by omega)⟩
  · exact ⟨_, List.mem_cons_of_mem _ (List.mem_cons_of_mem _ (List.mem_cons_of_mem _ (List.mem_cons_of_mem _ (List.mem_cons_self)))), mem_lanes 2048 3 (by decide) (by decide) _ inb_S4096x128_S256x128_2051_0_s_8_1 j e hh (by omega)⟩
  · exact ⟨_, List.mem_cons_of_mem _ (List.mem_cons_of_mem _ (List.mem_cons_of_mem _ (List.mem_cons_self))), mem_lanes 2048 4 (by decide) (by decide) _ inb_S4096x128_S256x128_2052_0_s_8_1 j e hh (by omega)⟩
  · exact ⟨_, List.mem_cons_of_mem _ (List.mem_cons_of_mem _ (List.mem_cons_self)), mem_lanes 2048 5 (by decide) (by decide) _ inb_S4096x128_S256x128_2053_0_s_8_1 j e hh (by omega)⟩
  · exact ⟨_, List.mem_cons_of_mem _ (List.mem_cons_self), mem_lanes 2048 6 (by decide) (by decide) _ inb_S4096x128_S256x128_2054_0_s_8_1 j e hh (by omega)⟩
  · exact ⟨_, List.mem_cons_self, mem_lanes 2048 7 (by decide) (by decide) _ inb_S4096x128_S256x128_2055_0_s_8_1 j e hh (by omega)⟩

/-- Put together the pieces are the normed block. -/
theorem normPieces_canon (Y0 Y1 : FVec F S256x1024 .f32) : View.canon (normPieces Y0 Y1) = normBlock Y0 Y1 := by
  funext j
  refine View.canon_apply_of_pieces (normBlock Y0 Y1) _ ?_ j (normPieces_cover Y0 Y1 j)
  intro p hp
  unfold normPieces at hp
  rcases List.mem_cons.mp hp with rfl | hp
  · exact fun y => piece_hi Y0 Y1 7 (by decide) inb_S4096x128_S256x128_2055_0_s_8_1 slices_S256x1024_o0_896_S256x128 y
  rcases List.mem_cons.mp hp with rfl | hp
  · exact fun y => piece_hi Y0 Y1 6 (by decide) inb_S4096x128_S256x128_2054_0_s_8_1 slices_S256x1024_o0_768_S256x128 y
  rcases List.mem_cons.mp hp with rfl | hp
  · exact fun y => piece_hi Y0 Y1 5 (by decide) inb_S4096x128_S256x128_2053_0_s_8_1 slices_S256x1024_o0_640_S256x128 y
  rcases List.mem_cons.mp hp with rfl | hp
  · exact fun y => piece_hi Y0 Y1 4 (by decide) inb_S4096x128_S256x128_2052_0_s_8_1 slices_S256x1024_o0_512_S256x128 y
  rcases List.mem_cons.mp hp with rfl | hp
  · exact fun y => piece_hi Y0 Y1 3 (by decide) inb_S4096x128_S256x128_2051_0_s_8_1 slices_S256x1024_o0_384_S256x128 y
  rcases List.mem_cons.mp hp with rfl | hp
  · exact fun y => piece_hi Y0 Y1 2 (by decide) inb_S4096x128_S256x128_2050_0_s_8_1 slices_S256x1024_o0_256_S256x128 y
  rcases List.mem_cons.mp hp with rfl | hp
  · exact fun y => piece_hi Y0 Y1 1 (by decide) inb_S4096x128_S256x128_2049_0_s_8_1 slices_S256x1024_o0_128_S256x128 y
  rcases List.mem_cons.mp hp with rfl | hp
  · exact fun y => piece_hi Y0 Y1 0 (by decide) inb_S4096x128_S256x128_2048_0_s_8_1 slices_S256x1024_o0_0_S256x128 y
  rcases List.mem_cons.mp hp with rfl | hp
  · exact fun y => piece_lo Y0 Y1 7 (by decide) inb_S4096x128_S256x128_7_0_s_8_1 slices_S256x1024_o0_896_S256x128 y
  rcases List.mem_cons.mp hp with rfl | hp
  · exact fun y => piece_lo Y0 Y1 6 (by decide) inb_S4096x128_S256x128_6_0_s_8_1 slices_S256x1024_o0_768_S256x128 y
  rcases List.mem_cons.mp hp with rfl | hp
  · exact fun y => piece_lo Y0 Y1 5 (by decide) inb_S4096x128_S256x128_5_0_s_8_1 slices_S256x1024_o0_640_S256x128 y
  rcases List.mem_cons.mp hp with rfl | hp
  · exact fun y => piece_lo Y0 Y1 4 (by decide) inb_S4096x128_S256x128_4_0_s_8_1 slices_S256x1024_o0_512_S256x128 y
  rcases List.mem_cons.mp hp with rfl | hp
  · exact fun y => piece_lo Y0 Y1 3 (by decide) inb_S4096x128_S256x128_3_0_s_8_1 slices_S256x1024_o0_384_S256x128 y
  rcases List.mem_cons.mp hp with rfl | hp
  · exact fun y => piece_lo Y0 Y1 2 (by decide) inb_S4096x128_S256x128_2_0_s_8_1 slices_S256x1024_o0_256_S256x128 y
  rcases List.mem_cons.mp hp with rfl | hp
  · exact fun y => piece_lo Y0 Y1 1 (by decide) inb_S4096x128_S256x128_1_0_s_8_1 slices_S256x1024_o0_128_S256x128 y
  rcases List.mem_cons.mp hp with rfl | hp
  · exact fun y => piece_lo Y0 Y1 0 (by decide) inb_S4096x128_S256x128_0_0_s_8_1 slices_S256x1024_o0_0_S256x128 y
  cases hp

end Cert.Proof.Fox

end
-- ==== Proof.FoxData.lean ====
/- The attention's output call: what each tile leaves, the body at every point, and the run of the whole call. -/
module

public import proofs.«01_k».proof.Proof.FoxNorm

@[expose] public section

set_option maxRecDepth 16384

noncomputable section

namespace Cert.Proof.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The pieces stored at the first tile. -/
def atFirst (c : Dev nD) (t : Fin cfg0.N) (h : isFirst (grid0.coords t)) :=
  runFirst c (grid0.coords t) (buf0 t) (whole0 t) (buf1 t) (whole1 t) (buf2 t) (whole2 t) (buf3 t) (whole3 t) (buf4 t) (whole4 t) (buf5 t) (whole5 t) (buf6 t) (whole6 t) (buf7 t) (whole7 t) (buf8 t) (whole8 t) (buf9 t) (whole9 t) (buf10 t) (whole10 t) h (iblk m c 0 t) (iblk m c 1 t) (iblk m c 2 t) (iblk m c 3 t) (iblk m c 4 t) (iblk m c 5 t) (iblk m c 6 t)

/-- The pieces stored at a later tile, the counts so far in `xo`. -/
def atLater (c : Dev nD) (t : Fin cfg0.N) (h : ¬isFirst (grid0.coords t)) (xo : Vec F S1x128 .f32) :=
  runLater c (grid0.coords t) (buf0 t) (whole0 t) (buf1 t) (whole1 t) (buf2 t) (whole2 t) (buf3 t) (whole3 t) (buf4 t) (whole4 t) (buf5 t) (whole5 t) (buf6 t) (whole6 t) (buf7 t) (whole7 t) (buf8 t) (whole8 t) (buf9 t) (whole9 t) (buf10 t) (whole10 t) h (iblk m c 0 t) (iblk m c 1 t) (iblk m c 2 t) (iblk m c 3 t) (iblk m c 4 t) (iblk m c 5 t) (iblk m c 6 t) xo

theorem later_ne (n : ℕ) (hn : n + 1 < cfg0.N) : ¬isFirst (grid0.coords ⟨n + 1, hn⟩) := fun h =>
  Nat.succ_ne_zero n ((isFirst_iff ⟨n + 1, hn⟩).mp h)

/-- The counts after point `n`. -/
def counts (c : Dev nD) : (n : ℕ) → n < cfg0.N → Vec F S1x128 .f32
  | 0, hn => View.canon (atFirst m c ⟨0, hn⟩ ((isFirst_iff ⟨0, hn⟩).mpr rfl)).2.2.2.1
  | n + 1, hn => View.canon (atLater m c ⟨n + 1, hn⟩ (later_ne n hn) (counts c n (Nat.lt_of_succ_lt hn))).2.2.2.1

/-- The routing block after point `n`. -/
def routes (c : Dev nD) : (n : ℕ) → n < cfg0.N → Vec F S8x512 .f32
  | 0, hn => View.canon (atFirst m c ⟨0, hn⟩ ((isFirst_iff ⟨0, hn⟩).mpr rfl)).2.2.1
  | n + 1, hn => View.canon (atLater m c ⟨n + 1, hn⟩ (later_ne n hn) (counts m c n (Nat.lt_of_succ_lt hn))).2.2.1

/-- The residual after the attention for a tile's first 256 tokens, -/
def resLo (c : Dev nD) (t : Fin cfg0.N) : FVec F S256x1024 .f32 :=
  resid (loT (iblk m c 0 t)) (loT (iblk m c 1 t)) (lo (iblk m c 2 t)) (iblk m c 3 t)
/-- and for its others. -/
def resHi (c : Dev nD) (t : Fin cfg0.N) : FVec F S256x1024 .f32 :=
  resid (hiT (iblk m c 0 t)) (hiT (iblk m c 1 t)) (hi (iblk m c 2 t)) (iblk m c 3 t)

/-- The call's proof data: each input's buffer at its block, the outputs' at what the tile leaves. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => View.canon (resPieces (resLo m c t) (resHi m c t))
    | ⟨8, _⟩ => View.canon (normPieces (k0_pay5 (resLo m c t) (iblk m c 4 t)) (k0_pay5 (resHi m c t) (iblk m c 4 t)))
    | ⟨9, _⟩ => routes m c t.val t.isLt
    | ⟨10, _⟩ => counts m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem before0 (c : Dev nD) (t : Fin cfg0.N) (d) : (dats m 0 c).before 0 t d = iblk m c 0 t := before0_0_of m (dats m 0 c) (A_eq m c 0) (after0 m c) t d
theorem after1 (c : Dev nD) (t : Fin cfg0.N) : (dats m 0 c).after 1 t = iblk m c 1 t := by dsimp only [dats]
theorem before1 (c : Dev nD) (t : Fin cfg0.N) (d) : (dats m 0 c).before 1 t d = iblk m c 1 t := before0_1_of m (dats m 0 c) (A_eq m c 1) (after1 m c) t d
theorem after2 (c : Dev nD) (t : Fin cfg0.N) : (dats m 0 c).after 2 t = iblk m c 2 t := by dsimp only [dats]
theorem before2 (c : Dev nD) (t : Fin cfg0.N) (d) : (dats m 0 c).before 2 t d = iblk m c 2 t := before0_2_of m (dats m 0 c) (A_eq m c 2) (after2 m c) t d
theorem after3 (c : Dev nD) (t : Fin cfg0.N) : (dats m 0 c).after 3 t = iblk m c 3 t := by dsimp only [dats]
theorem before3 (c : Dev nD) (t : Fin cfg0.N) (d) : (dats m 0 c).before 3 t d = iblk m c 3 t := before0_3_of m (dats m 0 c) (A_eq m c 3) (after3 m c) t d
theorem after4 (c : Dev nD) (t : Fin cfg0.N) : (dats m 0 c).after 4 t = iblk m c 4 t := by dsimp only [dats]
theorem before4 (c : Dev nD) (t : Fin cfg0.N) (d) : (dats m 0 c).before 4 t d = iblk m c 4 t := before0_4_of m (dats m 0 c) (A_eq m c 4) (after4 m c) t d
theorem after5 (c : Dev nD) (t : Fin cfg0.N) : (dats m 0 c).after 5 t = iblk m c 5 t := by dsimp only [dats]
theorem before5 (c : Dev nD) (t : Fin cfg0.N) (d) : (dats m 0 c).before 5 t d = iblk m c 5 t := before0_5_of m (dats m 0 c) (A_eq m c 5) (after5 m c) t d
theorem after6 (c : Dev nD) (t : Fin cfg0.N) : (dats m 0 c).after 6 t = iblk m c 6 t := by dsimp only [dats]
theorem before6 (c : Dev nD) (t : Fin cfg0.N) (d) : (dats m 0 c).before 6 t d = iblk m c 6 t := before0_6_of m (dats m 0 c) (A_eq m c 6) (after6 m c) t d
theorem after7 (c : Dev nD) (t : Fin cfg0.N) : (dats m 0 c).after 7 t = View.canon (resPieces (resLo m c t) (resHi m c t)) := by dsimp only [dats]
theorem after8 (c : Dev nD) (t : Fin cfg0.N) : (dats m 0 c).after 8 t = View.canon (normPieces (k0_pay5 (resLo m c t) (iblk m c 4 t)) (k0_pay5 (resHi m c t) (iblk m c 4 t))) := by dsimp only [dats]
theorem after9 (c : Dev nD) (t : Fin cfg0.N) : (dats m 0 c).after 9 t = routes m c t.val t.isLt := by dsimp only [dats]
theorem after10 (c : Dev nD) (t : Fin cfg0.N) : (dats m 0 c).after 10 t = counts m c t.val t.isLt := by dsimp only [dats]

/-- At a later point the counts' buffer holds what the point before left. -/
theorem before10 (c : Dev nD) (t : Fin cfg0.N) (h0 : t.val ≠ 0) (d) :
    (dats m 0 c).before 10 t d = counts m c (t.val - 1) (Nat.lt_of_le_of_lt (Nat.sub_le _ _) t.isLt) := by
  have hN : t.val < 64 := lt_of_lt_of_eq t.isLt (show cfg0.N = 64 from N_0)
  rw [Dat.before_out_kept _ 10 rfl t (by omega) (Bool.eq_false_iff.mpr fun h => by have := (flush0_10 _).mp h; dsimp only at this; omega)
    (fun _ => rfl) (fun _ _ => rfl)]
  dsimp only [dats]

theorem pieces7_first (c : Dev nD) (t : Fin cfg0.N) (h : isFirst (grid0.coords t)) : (atFirst m c t h).1 = resPieces (resLo m c t) (resHi m c t) :=
  first7 c (grid0.coords t) (buf0 t) (whole0 t) (buf1 t) (whole1 t) (buf2 t) (whole2 t) (buf3 t) (whole3 t) (buf4 t) (whole4 t) (buf5 t) (whole5 t) (buf6 t) (whole6 t) (buf7 t) (whole7 t) (buf8 t) (whole8 t) (buf9 t) (whole9 t) (buf10 t) (whole10 t) h (iblk m c 0 t) (iblk m c 1 t) (iblk m c 2 t) (iblk m c 3 t) (iblk m c 4 t) (iblk m c 5 t) (iblk m c 6 t)
theorem pieces8_first (c : Dev nD) (t : Fin cfg0.N) (h : isFirst (grid0.coords t)) : (atFirst m c t h).2.1 = normPieces (k0_pay5 (resLo m c t) (iblk m c 4 t)) (k0_pay5 (resHi m c t) (iblk m c 4 t)) :=
  first8 c (grid0.coords t) (buf0 t) (whole0 t) (buf1 t) (whole1 t) (buf2 t) (whole2 t) (buf3 t) (whole3 t) (buf4 t) (whole4 t) (buf5 t) (whole5 t) (buf6 t) (whole6 t) (buf7 t) (whole7 t) (buf8 t) (whole8 t) (buf9 t) (whole9 t) (buf10 t) (whole10 t) h (iblk m c 0 t) (iblk m c 1 t) (iblk m c 2 t) (iblk m c 3 t) (iblk m c 4 t) (iblk m c 5 t) (iblk m c 6 t)
theorem cover7_first (c : Dev nD) (t : Fin cfg0.N) (h : isFirst (grid0.coords t)) (y : S512x1024.Idx) : ∃ p ∈ (atFirst m c t h).1, y ∈ p.1.set :=
  View.cover_of_tiledL (atFirst m c t h).1 S256x1024.size (by unfold atFirst; sl_kernel_rfl) y
theorem cover8_first (c : Dev nD) (t : Fin cfg0.N) (h : isFirst (grid0.coords t)) (y : S4096x128.Idx) : ∃ p ∈ (atFirst m c t h).2.1, y ∈ p.1.set := by
  rw [pieces8_first]
  exact normPieces_cover _ _ y
theorem cover9_first (c : Dev nD) (t : Fin cfg0.N) (h : isFirst (grid0.coords t)) (y : S8x512.Idx) : ∃ p ∈ (atFirst m c t h).2.2.1, y ∈ p.1.set :=
  View.cover_of_tiledL (atFirst m c t h).2.2.1 S8x256.size (by unfold atFirst; sl_kernel_rfl) y
theorem cover10_first (c : Dev nD) (t : Fin cfg0.N) (h : isFirst (grid0.coords t)) (y : S1x128.Idx) : ∃ p ∈ (atFirst m c t h).2.2.2.1, y ∈ p.1.set :=
  View.cover_of_tiledL (atFirst m c t h).2.2.2.1 S1x128.size (by unfold atFirst; sl_kernel_rfl) y

theorem pieces7_later (c : Dev nD) (t : Fin cfg0.N) (h : ¬isFirst (grid0.coords t)) (xo : Vec F S1x128 .f32) : (atLater m c t h xo).1 = resPieces (resLo m c t) (resHi m c t) :=
  later7 c (grid0.coords t) (buf0 t) (whole0 t) (buf1 t) (whole1 t) (buf2 t) (whole2 t) (buf3 t) (whole3 t) (buf4 t) (whole4 t) (buf5 t) (whole5 t) (buf6 t) (whole6 t) (buf7 t) (whole7 t) (buf8 t) (whole8 t) (buf9 t) (whole9 t) (buf10 t) (whole10 t) h (iblk m c 0 t) (iblk m c 1 t) (iblk m c 2 t) (iblk m c 3 t) (iblk m c 4 t) (iblk m c 5 t) (iblk m c 6 t) xo
theorem pieces8_later (c : Dev nD) (t : Fin cfg0.N) (h : ¬isFirst (grid0.coords t)) (xo : Vec F S1x128 .f32) : (atLater m c t h xo).2.1 = normPieces (k0_pay5 (resLo m c t) (iblk m c 4 t)) (k0_pay5 (resHi m c t) (iblk m c 4 t)) :=
  later8 c (grid0.coords t) (buf0 t) (whole0 t) (buf1 t) (whole1 t) (buf2 t) (whole2 t) (buf3 t) (whole3 t) (buf4 t) (whole4 t) (buf5 t) (whole5 t) (buf6 t) (whole6 t) (buf7 t) (whole7 t) (buf8 t) (whole8 t) (buf9 t) (whole9 t) (buf10 t) (whole10 t) h (iblk m c 0 t) (iblk m c 1 t) (iblk m c 2 t) (iblk m c 3 t) (iblk m c 4 t) (iblk m c 5 t) (iblk m c 6 t) xo
theorem cover7_later (c : Dev nD) (t : Fin cfg0.N) (h : ¬isFirst (grid0.coords t)) (xo : Vec F S1x128 .f32) (y : S512x1024.Idx) : ∃ p ∈ (atLater m c t h xo).1, y ∈ p.1.set :=
  View.cover_of_tiledL (atLater m c t h xo).1 S256x1024.size (by unfold atLater; sl_kernel_rfl) y
theorem cover8_later (c : Dev nD) (t : Fin cfg0.N) (h : ¬isFirst (grid0.coords t)) (xo : Vec F S1x128 .f32) (y : S4096x128.Idx) : ∃ p ∈ (atLater m c t h xo).2.1, y ∈ p.1.set := by
  rw [pieces8_later]
  exact normPieces_cover _ _ y
theorem cover9_later (c : Dev nD) (t : Fin cfg0.N) (h : ¬isFirst (grid0.coords t)) (xo : Vec F S1x128 .f32) (y : S8x512.Idx) : ∃ p ∈ (atLater m c t h xo).2.2.1, y ∈ p.1.set :=
  View.cover_of_tiledL (atLater m c t h xo).2.2.1 S8x256.size (by unfold atLater; sl_kernel_rfl) y
theorem cover10_later (c : Dev nD) (t : Fin cfg0.N) (h : ¬isFirst (grid0.coords t)) (xo : Vec F S1x128 .f32) (y : S1x128.Idx) : ∃ p ∈ (atLater m c t h xo).2.2.2.1, y ∈ p.1.set :=
  View.cover_of_tiledL (atLater m c t h xo).2.2.2.1 S1x128.size (by unfold atLater; sl_kernel_rfl) y

theorem counts_first (c : Dev nD) (t : Fin cfg0.N) (h : isFirst (grid0.coords t)) : counts m c t.val t.isLt = View.canon (atFirst m c t h).2.2.2.1 := by
  obtain ⟨n, hn⟩ := t
  cases n with
  | zero => rfl
  | succ n => exact absurd h (later_ne n hn)
theorem routes_first (c : Dev nD) (t : Fin cfg0.N) (h : isFirst (grid0.coords t)) : routes m c t.val t.isLt = View.canon (atFirst m c t h).2.2.1 := by
  obtain ⟨n, hn⟩ := t
  cases n with
  | zero => rfl
  | succ n => exact absurd h (later_ne n hn)
theorem counts_later (c : Dev nD) (t : Fin cfg0.N) (h : ¬isFirst (grid0.coords t)) :
    counts m c t.val t.isLt = View.canon (atLater m c t h (counts m c (t.val - 1) (Nat.lt_of_le_of_lt (Nat.sub_le _ _) t.isLt))).2.2.2.1 := by
  obtain ⟨n, hn⟩ := t
  cases n with
  | zero => exact absurd ((isFirst_iff ⟨0, hn⟩).mpr rfl) h
  | succ n => rfl
theorem routes_later (c : Dev nD) (t : Fin cfg0.N) (h : ¬isFirst (grid0.coords t)) :
    routes m c t.val t.isLt = View.canon (atLater m c t h (counts m c (t.val - 1) (Nat.lt_of_le_of_lt (Nat.sub_le _ _) t.isLt))).2.2.1 := by
  obtain ⟨n, hn⟩ := t
  cases n with
  | zero => exact absurd ((isFirst_iff ⟨0, hn⟩).mpr rfl) h
  | succ n => rfl

end Cert.Proof.Fox

end
-- ==== Proof.FoxLaunch.lean ====
/- The attention's output call: the body at every point, and the run of the whole call. -/
module

public import proofs.«01_k».proof.Proof.FoxData
public import Idealize.ShloMosaic.Lib.Claim

@[expose] public section

set_option maxRecDepth 16384

noncomputable section

namespace Cert.Proof.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at a point, window by window, -/
def bodyPre (c : Dev nD) (t : Fin cfg0.N) : sProp 𝕄 :=
  iprop((dats m 0 c).Φ t.castSucc ∗ (dats m 0 c).owesAt () t.castSucc
    ∗ (∃ d, owns (c : Thread nD τ) (buf0 t) fullShare ((dats m 0 c).before 0 t d))
    ∗ (∃ d, owns (c : Thread nD τ) (buf1 t) fullShare ((dats m 0 c).before 1 t d))
    ∗ (∃ d, owns (c : Thread nD τ) (buf2 t) fullShare ((dats m 0 c).before 2 t d))
    ∗ (∃ d, owns (c : Thread nD τ) (buf3 t) fullShare ((dats m 0 c).before 3 t d))
    ∗ (∃ d, owns (c : Thread nD τ) (buf4 t) fullShare ((dats m 0 c).before 4 t d))
    ∗ (∃ d, owns (c : Thread nD τ) (buf5 t) fullShare ((dats m 0 c).before 5 t d))
    ∗ (∃ d, owns (c : Thread nD τ) (buf6 t) fullShare ((dats m 0 c).before 6 t d))
    ∗ (∃ d, owns (c : Thread nD τ) (buf7 t) fullShare ((dats m 0 c).before 7 t d))
    ∗ (∃ d, owns (c : Thread nD τ) (buf8 t) fullShare ((dats m 0 c).before 8 t d))
    ∗ (∃ d, owns (c : Thread nD τ) (buf9 t) fullShare ((dats m 0 c).before 9 t d))
    ∗ (∃ d, owns (c : Thread nD τ) (buf10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ owns (c : Thread nD τ) (buf0 t) fullShare ((dats m 0 c).after 0 t)
    ∗ owns (c : Thread nD τ) (buf1 t) fullShare ((dats m 0 c).after 1 t)
    ∗ owns (c : Thread nD τ) (buf2 t) fullShare ((dats m 0 c).after 2 t)
    ∗ owns (c : Thread nD τ) (buf3 t) fullShare ((dats m 0 c).after 3 t)
    ∗ owns (c : Thread nD τ) (buf4 t) fullShare ((dats m 0 c).after 4 t)
    ∗ owns (c : Thread nD τ) (buf5 t) fullShare ((dats m 0 c).after 5 t)
    ∗ owns (c : Thread nD τ) (buf6 t) fullShare ((dats m 0 c).after 6 t)
    ∗ owns (c : Thread nD τ) (buf7 t) fullShare ((dats m 0 c).after 7 t)
    ∗ owns (c : Thread nD τ) (buf8 t) fullShare ((dats m 0 c).after 8 t)
    ∗ owns (c : Thread nD τ) (buf9 t) fullShare ((dats m 0 c).after 9 t)
    ∗ owns (c : Thread nD τ) (buf10 t) fullShare ((dats m 0 c).after 10 t))

set_option maxHeartbeats 4000000 in
/-- The body at any point: the first tile's run or a later tile's, each output's buffer at what its pieces put together. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10]
  by_cases h : isFirst (grid0.coords t)
  · rw [counts_first m c t h, routes_first m c t h, ← pieces8_first m c t h, ← pieces7_first m c t h]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((atFirst m c t h).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    iintro ⟨H0, H1, H2, H3, H4, H5, H6, ⟨%e7, H7⟩, ⟨%e8, H8⟩, ⟨%e9, H9⟩, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_eq_canon _ _ _ (cover7_first m c t h)
    isplitl [H8]
    · unfold owns; iexists _; isplitr
      swap; · iexact H8
      ipureintro; exact View.read_writes_eq_canon _ _ _ (cover8_first m c t h)
    isplitl [H9]
    · unfold owns; iexists _; isplitr
      swap; · iexact H9
      ipureintro; exact View.read_writes_eq_canon _ _ _ (cover9_first m c t h)
    unfold owns; iexists _; isplitr
    swap; · iexact H10
    ipureintro; exact View.read_writes_eq_canon _ _ _ (cover10_first m c t h)
  · rw [counts_later m c t h, routes_later m c t h, ← pieces8_later m c t h (counts m c (t.val - 1) (Nat.lt_of_le_of_lt (Nat.sub_le _ _) t.isLt)), ← pieces7_later m c t h (counts m c (t.val - 1) (Nat.lt_of_le_of_lt (Nat.sub_le _ _) t.isLt))]
    simp only [before10 m c t (fun e => h ((isFirst_iff t).mpr e))]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((atLater m c t h _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexact H10
    iintro ⟨H0, H1, H2, H3, H4, H5, H6, ⟨%e7, H7⟩, ⟨%e8, H8⟩, ⟨%e9, H9⟩, ⟨%e10, H10⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · unfold owns; iexists _; isplitr
      swap; · iexact H7
      ipureintro; exact View.read_writes_eq_canon _ _ _ (cover7_later m c t h _)
    isplitl [H8]
    · unfold owns; iexists _; isplitr
      swap; · iexact H8
      ipureintro; exact View.read_writes_eq_canon _ _ _ (cover8_later m c t h _)
    isplitl [H9]
    · unfold owns; iexists _; isplitr
      swap; · iexact H9
      ipureintro; exact View.read_writes_eq_canon _ _ _ (cover9_later m c t h _)
    unfold owns; iexists _; isplitr
    swap; · iexact H10
    ipureintro; exact View.read_writes_eq_canon _ _ _ (cover10_later m c t h _)

/-- The body table's row at a point's buffers is the body at that point. -/
theorem body_row (t : Fin cfg0.N) :
    defs₀ (F := F) .tc cfg0.body (cfg0.bodyArgs t (cfg0.slots t)) = bodyAt0 t := by
  unfold defs₀; rw [Defs.onTc_tc]

/-- The body at every point, as the pipeline's rule asks for it. -/
theorem obligation (c : Dev nD) : BodyObligation (dats (F := F) m 0 c) (defs₀ (F := F)) Variants.none () Set.univ := fun t => by
  rw [bigSep_W0, bigSep_W0, body_row]
  exact triple_restated (body_at m c t) rfl .rfl fun _ => .rfl

set_option backward.isDefEq.respectTransparency.types false in
/-- The whole call runs: every array of the pipeline ends at what its proof data compute, and every semaphore at zero. -/
theorem run_quiet : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The run, without the semaphores. -/
theorem run_post : θ_run defs (onTc (τ := τ) (main (F := F))) (s₀ m ρ) (Pipeline.FramePost cfgs (dats m) 0 (V m)) :=
  (θ_run defs _ _).mono (fun _ h => h.1) (run_quiet m ρ)

/-- The arguments end unchanged and the semaphores at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_post m ρ)) ((θ_run defs _ _).mono (fun _ h => h.2) (run_quiet m ρ))

end Cert.Proof.Fox

end
-- ==== Proof.FoxSame.lean ====
/- The attention's output call: the program over the bit-exact words and the program over the reals are the same text: their launches, host
   operations and bodies are equal, so that a run of the one is a run of the other. -/
module
public import proofs.«01_k».proof.Proof.Gen.Kernel4.Launch
public import proofs.«01_k».proof.Proof.Gen.Kernel4Ideal.Launch
public import proofs.«01_k».proof.Defs
@[expose] public section
set_option maxRecDepth 16384
namespace Cert.Proof.Fox.Same
open Idealize.ShloMosaic
open Idealize.ShloMosaic.TcCoe
set_option maxHeartbeats 400000 in
/-- The registered body is the same. -/
theorem regs_same : Cert.Kernel4.defs₀ (F := Bits) = Cert.Kernel4Ideal.defs₀ (F := Bits) := by
  unfold Cert.Kernel4.defs₀ Cert.Kernel4Ideal.defs₀
  refine congrArg Defs.onTc ?_
  funext k a
  obtain rfl : k = 0 := Subsingleton.elim _ _
  obtain ⟨t, s⟩ := a
  rfl
set_option maxHeartbeats 400000 in
/-- Stretch 0 of host operations is the same. -/
theorem stretch_same_0 : Cert.Kernel4.Gen.hostOps0 (F := Bits) = Cert.Kernel4Ideal.Gen.hostOps0 (F := Bits) := rfl
/-- Stretch 1 of host operations is the same. -/
theorem stretch_same_1 : Cert.Kernel4.Gen.hostOps0_1 (F := Bits) = Cert.Kernel4Ideal.Gen.hostOps0_1 (F := Bits) := rfl
/-- Stretch 2 of host operations is the same. -/
theorem stretch_same_2 : Cert.Kernel4.Gen.hostOps0_2 (F := Bits) = Cert.Kernel4Ideal.Gen.hostOps0_2 (F := Bits) := rfl
/-- Stretch 3 of host operations is the same. -/
theorem stretch_same_3 : Cert.Kernel4.Gen.hostOps0_3 (F := Bits) = Cert.Kernel4Ideal.Gen.hostOps0_3 (F := Bits) := rfl
/-- Stretch 4 of host operations is the same. -/
theorem stretch_same_4 : Cert.Kernel4.Gen.hostOps0_4 (F := Bits) = Cert.Kernel4Ideal.Gen.hostOps0_4 (F := Bits) := rfl
set_option maxHeartbeats 2000000 in
/-- The whole program is the same. -/
theorem main_same : Cert.Kernel4.main (F := Bits) = Cert.Kernel4Ideal.main (F := Bits) := by
  funext c
  refine (Cert.Kernel4.Gen.main_chain c).trans (Eq.trans ?_ (Cert.Kernel4Ideal.Gen.main_chain c).symm)
  rw [stretch_same_0, stretch_same_1, stretch_same_2, stretch_same_3, stretch_same_4]
  rfl

set_option maxHeartbeats 2000000 in
/-- All that the program can call is the same. -/
theorem defs_same : Cert.Kernel4.defs (F := Bits) = Cert.Kernel4Ideal.defs (F := Bits) :=
  show Pipeline.defs Cert.Kernel4.pcfgs Cert.Kernel4.defs₀ = Pipeline.defs Cert.Kernel4Ideal.pcfgs Cert.Kernel4Ideal.defs₀ from
    congrArg (Pipeline.defs (Cert.Kernel4Ideal.pcfgs (F := Bits))) regs_same

end Cert.Proof.Fox.Same

end
-- ==== Proof.FoxFrames.lean ====
/- The frame claims of the attention's output call and of its reference. -/
module

public import proofs.«01_k».proof.Proof.FoxLaunch
public import proofs.«01_k».proof.Proof.FoxSame
public import proofs.«01_k».proof.Proof.Gen.Kernel4
public import proofs.«01_k».proof.Proof.Gen.Reference4Ideal
public import proofs.«01_k».proof.Proof.Gen.Reference4Ideal.Run
public import proofs.«01_k».proof.Defs

@[expose] public section

set_option maxRecDepth 16384

namespace Cert.Proof.Fox

open Idealize.ShloMosaic
open Idealize.ShloMosaic.TcCoe
open Idealize.SL.Sem

set_option maxHeartbeats 1000000 in
/-- Over the bit-exact words the program runs to its end, leaves its arguments as they were and every counter at 0. -/
theorem frame_kernel4 : Cert.quiescent_Kernel4 := by
  intro m ρ _
  rw [Same.defs_same, Same.main_same]
  exact frame_any (F := Bits) m ρ

/-- The same over the extended reals. -/
theorem frame_kernel4_ideal : Cert.quiescent_Kernel4Ideal := fun m ρ _ => frame_any (F := Ideal) m ρ

/-- The reference runs to its end from any memory, leaves its arguments as they were and every counter at 0. -/
theorem frame_reference4 : Cert.quiescent_Reference4Ideal := fun m ρ _ =>
  (θ_run Cert.Reference4Ideal.defs _ _).mono
    (fun r h => ⟨fun c => (h c).2.2, sem_eq_zero_of_no_sems (by decide) r.2⟩) (Cert.Reference4Ideal.Value.run (F := Ideal) m ρ)

end Cert.Proof.Fox

end
-- ==== Proof.FoxHost.lean ====
/- The attention's output call: what the operations before it leave in the arrays that it reads. -/
module

public import proofs.«01_k».proof.Proof.Gen.Kernel4Ideal.Frame
public import Idealize.ShloMosaic.Lib.StableHlo.RunRead
public import Idealize.ShloMosaic.Lib.StableHlo.Run
public import Idealize.ShloMosaic.Lib.Tactic

@[expose] public section

set_option maxRecDepth 16384

noncomputable section

namespace Cert.Proof.Fox

open Cert.Kernel4Ideal Cert.Kernel4Ideal.Gen
open Idealize.ShloMosaic
open Idealize.ShloMosaic.TcCoe

variable {F : FTy → Type} [FloatOps F]

/-- A buffer's contents when the call starts, from the contents `W` at the start. -/
abbrev atCall (W : Valuation τ sig (Elt F)) : Valuation τ sig (Elt F) :=
  StableHlo.after ([hostOps0, hostOps0_1, hostOps0_2, hostOps0_3, hostOps0_4] : List (List (HloOp τ sig (Elt F)))).flatten W

theorem atCall_v12 (W : Valuation τ sig (Elt F)) :
    atCall W (Proc.devRef .tc main_v12) = truncf .bf16 (W (Proc.devRef .tc main_arg3)) bitsLt_bf16_f32 := by
  after_reads_simp

theorem atCall_v13 (W : Valuation τ sig (Elt F)) :
    atCall W (Proc.devRef .tc main_v13) = broadcastInDim S1x1024 ![1] bcast_S1024_S1x1024_1 (W (Proc.devRef .tc main_arg4)) := by
  after_reads_simp

variable (m : (ℓ : Loc nD τ sig) → Buf (Elt F) ℓ)

/-- The attention's output weights, cast. -/
theorem V_v12 (c : Dev nD) : V m c main_v12 = truncf .bf16 (m ((c.tc : Thread nD τ).loc main_arg3)) bitsLt_bf16_f32 :=
  (atCall_v12 (fun b => m (c, b))).trans rfl

/-- The norm's weights, as one row. -/
theorem V_v13 (c : Dev nD) : V m c main_v13 = broadcastInDim S1x1024 ![1] bcast_S1024_S1x1024_1 (m ((c.tc : Thread nD τ).loc main_arg4)) :=
  (atCall_v13 (fun b => m (c, b))).trans rfl

end Cert.Proof.Fox

end
-- ==== Proof.FoxRows.lean ====
/- The attention's output call: the stored values read at a row and a column. -/
module

public import proofs.«01_k».proof.Proof.FoxPieces
public import Idealize.ShloMosaic.Lib.Pointwise
public import Idealize.ShloMosaic.Lib.ValueIdxCore

@[expose] public section

set_option maxRecDepth 16384

noncomputable section

namespace Cert.Proof.Fox

open Cert.Kernel4Ideal Cert.Kernel4Ideal.Gen
open Idealize.ShloMosaic
open Idealize.ShloMosaic.TcCoe

/-- A residual's entry after the attention: the residual, and the token's heads' outputs, each times its gate, against a column of the weights. -/
def added (x : EReal) (a o w : Fin 1024 → EReal) : EReal := x + ∑ d, a d * o d * w d

/-- A token's entry over the root of its mean square, times the norm's weight. -/
def normed (h n : Fin 1024 → EReal) (d : Fin 1024) : EReal :=
  h d * Ideal.rsqrt (Ideal.div (∑ e, h e * h e) (Ideal.ofBits FTy.f32 0x44800000#32) + Ideal.ofBits FTy.f32 0x358637BD#32) * n d

theorem resid_apply (a o : Vec Ideal S1x1024x256 .bf16) (x : Vec Ideal S256x1024 .f32) (w : Vec Ideal S1024x1024 .bf16)
    (r : Fin 256) (l : Fin 1024) :
    resid a o x w (ix2 r l) = added (x (ix2 r l)) (fun d => a (ix3 0 d r)) (fun d => o (ix3 0 d r)) (fun d => w (ix2 d l)) := by
  pointwise [resid, k0_pay2, added]

theorem norm_apply (h : FVec Ideal S256x1024 .f32) (n : Vec Ideal S1x1024 .f32) (r : Fin 256) (d : Fin 1024) :
    k0_pay5 h n (ix2 r d) = normed (fun e => h (ix2 r e)) (fun e => n (ix2 0 e)) d := by
  pointwise [k0_pay5, normed]

end Cert.Proof.Fox

end
-- ==== Proof.FoxBlocks.lean ====
/- The attention's output call: the blocks of its windows at a tile, read off their arrays entry by entry. -/
module

public import proofs.«01_k».proof.Proof.FoxHost
public import proofs.«01_k».proof.Proof.FoxRows
public import Idealize.ShloMosaic.Lib.Pipeline.ValueKit

@[expose] public section

set_option maxRecDepth 16384

noncomputable section

namespace Cert.Proof.Fox

open Cert.Kernel4Ideal Cert.Kernel4Ideal.Gen
open Idealize.ShloMosaic
open Idealize.ShloMosaic.TcCoe

theorem transform0_eq : ∀ i : grid0.Coords, cc0_transform_0 i = ![(i 0).val, 0, (i 1).val] := by decide +kernel
theorem transform1_eq : ∀ i : grid0.Coords, cc0_transform_1 i = ![(i 0).val, 0, (i 1).val] := by decide +kernel
theorem transform2_eq : ∀ i : grid0.Coords, cc0_transform_2 i = ![(i 0).val * 32 + (i 1).val, 0] := by decide +kernel
theorem transform3_eq : ∀ i : grid0.Coords, cc0_transform_3 i = ![0, 0] := by decide +kernel
theorem transform4_eq : ∀ i : grid0.Coords, cc0_transform_4 i = ![0, 0] := by decide +kernel
theorem transform7_eq : ∀ i : grid0.Coords, cc0_transform_7 i = ![(i 0).val * 32 + (i 1).val, 0] := by decide +kernel
theorem transform8_eq : ∀ i : grid0.Coords, cc0_transform_8 i = ![(i 0).val * 32 + (i 1).val, 0] := by decide +kernel
theorem batch_lt (i : grid0.Coords) : (i 0).val < 2 := (i 0).isLt
theorem place_lt (i : grid0.Coords) : (i 1).val < 32 := (i 1).isLt
theorem coords_val : ∀ t : Fin grid0.N, (grid0.coords t 0).val * 32 + (grid0.coords t 1).val = t.val := by decide +kernel

/-- A token of the whole array, from a grid point and a row of its block. -/
def token (i : grid0.Coords) (r : Fin 512) : Fin 32768 := ⟨((i 0).val * 32 + (i 1).val) * 512 + r.val, by have := batch_lt i; have := place_lt i; omega⟩

/-- A row of the whole array of normed rows, from a grid point and a row of its block. -/
def lane (i : grid0.Coords) (r : Fin 4096) : Fin 262144 := ⟨((i 0).val * 32 + (i 1).val) * 4096 + r.val, by have := batch_lt i; have := place_lt i; omega⟩

/-- A token's batch, -/
def batch (R : Fin 32768) : Fin 2 := ⟨R.val / 16384, by omega⟩

/-- and its place in the batch. -/
def place (R : Fin 32768) : Fin 16384 := ⟨R.val % 16384, by omega⟩

variable (m : (ℓ : Loc nD τ sig) → Buf (Elt Ideal) ℓ) (c : Dev nD) (t : Fin cfg0.N)

/-- The block of the heads' outputs. -/
theorem iblk0_apply (d : Fin 1024) (r : Fin 512) :
    (iblk m c (0 : Fin 11) t : S1x1024x512.Idx → Elt Ideal .bf16) (ix3 0 d r)
      = m ((c.tc : Thread nD τ).loc main_arg0) (ix3 (batch (token (grid0.coords t) r)) d (place (token (grid0.coords t) r)) : S2x1024x16384.Idx) := by
  have hb := batch_lt (grid0.coords t)
  have hp := place_lt (grid0.coords t)
  refine Eq.trans (congrArg (V m c main_arg0) (funext fun a => Fin.ext ?_)) (congrFun (V_main_arg0 m c) _)
  match a with
  | ⟨0, _⟩ =>
    show cc0_transform_0 (grid0.coords t) 0 * 1 + 1 * 0 = _
    rw [transform0_eq]
    show (grid0.coords t 0).val * 1 + 1 * 0 = (((grid0.coords t 0).val * 32 + (grid0.coords t 1).val) * 512 + r.val) / 16384
    omega
  | ⟨1, _⟩ =>
    show cc0_transform_0 (grid0.coords t) 1 * 1024 + 1 * d.val = _
    rw [transform0_eq]; show 0 * 1024 + 1 * d.val = d.val; omega
  | ⟨2, _⟩ =>
    show cc0_transform_0 (grid0.coords t) 2 * 512 + 1 * r.val = _
    rw [transform0_eq]
    show (grid0.coords t 1).val * 512 + 1 * r.val = (((grid0.coords t 0).val * 32 + (grid0.coords t 1).val) * 512 + r.val) % 16384
    omega

/-- The block of the gates. -/
theorem iblk1_apply (d : Fin 1024) (r : Fin 512) :
    (iblk m c (1 : Fin 11) t : S1x1024x512.Idx → Elt Ideal .bf16) (ix3 0 d r)
      = m ((c.tc : Thread nD τ).loc main_arg1) (ix3 (batch (token (grid0.coords t) r)) d (place (token (grid0.coords t) r)) : S2x1024x16384.Idx) := by
  have hb := batch_lt (grid0.coords t)
  have hp := place_lt (grid0.coords t)
  refine Eq.trans (congrArg (V m c main_arg1) (funext fun a => Fin.ext ?_)) (congrFun (V_main_arg1 m c) _)
  match a with
  | ⟨0, _⟩ =>
    show cc0_transform_1 (grid0.coords t) 0 * 1 + 1 * 0 = _
    rw [transform1_eq]
    show (grid0.coords t 0).val * 1 + 1 * 0 = (((grid0.coords t 0).val * 32 + (grid0.coords t 1).val) * 512 + r.val) / 16384
    omega
  | ⟨1, _⟩ =>
    show cc0_transform_1 (grid0.coords t) 1 * 1024 + 1 * d.val = _
    rw [transform1_eq]; show 0 * 1024 + 1 * d.val = d.val; omega
  | ⟨2, _⟩ =>
    show cc0_transform_1 (grid0.coords t) 2 * 512 + 1 * r.val = _
    rw [transform1_eq]
    show (grid0.coords t 1).val * 512 + 1 * r.val = (((grid0.coords t 0).val * 32 + (grid0.coords t 1).val) * 512 + r.val) % 16384
    omega

/-- The residual's block. -/
theorem iblk2_apply (r : Fin 512) (d : Fin 1024) :
    (iblk m c (2 : Fin 11) t : S512x1024.Idx → Elt Ideal .f32) (ix2 r d)
      = m ((c.tc : Thread nD τ).loc main_arg2) (ix2 (token (grid0.coords t) r) d : S32768x1024.Idx) := by
  refine Eq.trans (congrArg (V m c main_arg2) (funext fun a => Fin.ext ?_)) (congrFun (V_main_arg2 m c) _)
  match a with
  | ⟨0, _⟩ =>
    show cc0_transform_2 (grid0.coords t) 0 * 512 + 1 * r.val = _
    rw [transform2_eq, Nat.one_mul]; rfl
  | ⟨1, _⟩ =>
    show cc0_transform_2 (grid0.coords t) 1 * 1024 + 1 * d.val = _
    rw [transform2_eq]; show 0 * 1024 + 1 * d.val = d.val; omega

/-- The norm's weights, whole. -/
theorem iblk4_apply (d : Fin 1024) :
    (iblk m c (4 : Fin 11) t : S1x1024.Idx → Elt Ideal .f32) (ix2 0 d) = m ((c.tc : Thread nD τ).loc main_arg4) (ix1 d : S1024.Idx) := by
  have e : (iblk m c (4 : Fin 11) t : S1x1024.Idx → Elt Ideal .f32) (ix2 0 d) = V m c main_v13 (ix2 0 d : S1x1024.Idx) := by
    refine congrArg (V m c main_v13) (funext fun a => Fin.ext ?_)
    match a with
    | ⟨0, _⟩ =>
      show cc0_transform_4 (grid0.coords t) 0 * 1 + 1 * 0 = _
      rw [transform4_eq]; rfl
    | ⟨1, _⟩ =>
      show cc0_transform_4 (grid0.coords t) 1 * 1024 + 1 * d.val = _
      rw [transform4_eq]; show 0 * 1024 + 1 * d.val = d.val; omega
  refine e.trans ((congrFun (V_v13 m c) _).trans ?_)
  pointwise

/-- The attention's output weights, whole. -/
theorem iblk3_apply (d l : Fin 1024) :
    (iblk m c (3 : Fin 11) t : S1024x1024.Idx → Elt Ideal .bf16) (ix2 d l) = m ((c.tc : Thread nD τ).loc main_arg3) (ix2 d l : S1024x1024.Idx) := by
  have e : (iblk m c (3 : Fin 11) t : S1024x1024.Idx → Elt Ideal .bf16) (ix2 d l) = V m c main_v12 (ix2 d l : S1024x1024.Idx) := by
    refine congrArg (V m c main_v12) (funext fun a => Fin.ext ?_)
    match a with
    | ⟨0, _⟩ =>
      show cc0_transform_3 (grid0.coords t) 0 * 1024 + 1 * d.val = _
      rw [transform3_eq]; show 0 * 1024 + 1 * d.val = d.val; omega
    | ⟨1, _⟩ =>
      show cc0_transform_3 (grid0.coords t) 1 * 1024 + 1 * l.val = _
      rw [transform3_eq]; show 0 * 1024 + 1 * l.val = l.val; omega
  refine e.trans ((congrFun (V_v12 m c) _).trans ?_)
  pointwise

/-- Every point writes its block of output 7 back. -/
theorem flush7 (t : Fin cfg0.N) : (cfg0.win (7 : Fin 11)).flush t = true := by
  have hidx : ∀ t : Fin cfg0.N, (cfg0.win (7 : Fin 11)).index t = ![t.val, 0] := fun t => by
    show cc0_transform_7 (grid0.coords t) = _
    rw [transform7_eq, coords_val]
  unfold Pipeline.Window.flush
  rw [Bool.and_eq_true]
  refine ⟨rfl, ?_⟩
  rw [Bool.or_eq_true]
  by_cases h : t.val + 1 = cfg0.grid.N
  · exact Or.inl (by simpa using h)
  · refine Or.inr (decide_eq_true ⟨lt_of_le_of_ne t.isLt h, fun e => ?_⟩)
    have e' := ((hidx _).symm.trans e).trans (hidx t)
    have := congrFun e' 0
    have : t.val + 1 = t.val := this
    omega

/-- Its place in the array. -/
theorem emb7 (t : Fin cfg0.N) (r : Fin 512) (l : Fin 1024) :
    ((cfg0.win (7 : Fin 11)).blk t).view.emb (ix2 r l : S512x1024.Idx) = (ix2 (token (grid0.coords t) r) l : S32768x1024.Idx) := by
  refine funext fun a => Fin.ext ?_
  match a with
  | ⟨0, _⟩ =>
    show cc0_transform_7 (grid0.coords t) 0 * 512 + 1 * r.val = _
    rw [transform7_eq, Nat.one_mul]; rfl
  | ⟨1, _⟩ =>
    show cc0_transform_7 (grid0.coords t) 1 * 1024 + 1 * l.val = _
    rw [transform7_eq]; show 0 * 1024 + 1 * l.val = l.val; omega

/-- Every point writes its block of output 8 back. -/
theorem flush8 (t : Fin cfg0.N) : (cfg0.win (8 : Fin 11)).flush t = true := by
  have hidx : ∀ t : Fin cfg0.N, (cfg0.win (8 : Fin 11)).index t = ![t.val, 0] := fun t => by
    show cc0_transform_8 (grid0.coords t) = _
    rw [transform8_eq, coords_val]
  unfold Pipeline.Window.flush
  rw [Bool.and_eq_true]
  refine ⟨rfl, ?_⟩
  rw [Bool.or_eq_true]
  by_cases h : t.val + 1 = cfg0.grid.N
  · exact Or.inl (by simpa using h)
  · refine Or.inr (decide_eq_true ⟨lt_of_le_of_ne t.isLt h, fun e => ?_⟩)
    have e' := ((hidx _).symm.trans e).trans (hidx t)
    have := congrFun e' 0
    have : t.val + 1 = t.val := this
    omega

/-- Its place in the array. -/
theorem emb8 (t : Fin cfg0.N) (r : Fin 4096) (l : Fin 128) :
    ((cfg0.win (8 : Fin 11)).blk t).view.emb (ix2 r l : S4096x128.Idx) = (ix2 (lane (grid0.coords t) r) l : S262144x128.Idx) := by
  refine funext fun a => Fin.ext ?_
  match a with
  | ⟨0, _⟩ =>
    show cc0_transform_8 (grid0.coords t) 0 * 4096 + 1 * r.val = _
    rw [transform8_eq, Nat.one_mul]; rfl
  | ⟨1, _⟩ =>
    show cc0_transform_8 (grid0.coords t) 1 * 128 + 1 * l.val = _
    rw [transform8_eq]; show 0 * 128 + 1 * l.val = l.val; omega

end Cert.Proof.Fox

end
-- ==== Proof.FoxValue.lean ====
/- The attention's output call: over the extended reals, what its first two arrays hold. -/
module

public import proofs.«01_k».proof.Proof.FoxBlocks
public import proofs.«01_k».proof.Proof.FoxData

@[expose] public section

set_option maxRecDepth 16384

noncomputable section

namespace Cert.Proof.Fox

open Cert.Kernel4Ideal Cert.Kernel4Ideal.Gen
open Idealize.ShloMosaic
open Idealize.ShloMosaic.TcCoe

theorem ix2_eta {n m : Nat} (y : (⟨2, ![n, m]⟩ : Shape).Idx) : y = ix2 (y 0) (y 1) := by
  funext a
  match a with
  | ⟨0, _⟩ => rfl
  | ⟨1, _⟩ => rfl

/-- The residual after the attention, of the arguments, at a token and a column. -/
def res (a o : FVec Ideal S2x1024x16384 .bf16) (x : FVec Ideal S32768x1024 .f32) (w : FVec Ideal S1024x1024 .f32)
    (R : Fin 32768) (l : Fin 1024) : EReal :=
  added (x (ix2 R l)) (fun d => a (ix3 (batch R) d (place R))) (fun d => o (ix3 (batch R) d (place R))) (fun d => w (ix2 d l))

/-- The token whose lanes a row of the normed array holds. -/
def tokenOf (Q : Fin 262144) : Fin 32768 := ⟨Q.val / 8, by omega⟩

/-- The column of the token that a lane of such a row holds. -/
def columnOf (Q : Fin 262144) (l : Fin 128) : Fin 1024 := ⟨Q.val % 8 * 128 + l.val, by omega⟩

variable (m : (ℓ : Loc nD τ sig) → Buf (Elt Ideal) ℓ) (c : Dev nD)

/-- The same of the arguments in memory. -/
abbrev resAt (R : Fin 32768) (l : Fin 1024) : EReal :=
  res (m ((c.tc : Thread nD τ).loc main_arg0)) (m ((c.tc : Thread nD τ).loc main_arg1)) (m ((c.tc : Thread nD τ).loc main_arg2))
    (m ((c.tc : Thread nD τ).loc main_arg3)) R l

theorem loT_apply (X : Vec Ideal S1x1024x512 .bf16) (d : Fin 1024) (r : Fin 256) :
    loT X (ix3 0 d r) = X (ix3 0 d ⟨r.val, by omega⟩) := by
  refine congrArg X (funext fun a => Fin.ext ?_)
  match a with
  | ⟨0, _⟩ => rfl
  | ⟨1, _⟩ => show 0 + 1 * d.val = d.val; omega
  | ⟨2, _⟩ => show 0 + 1 * r.val = r.val; omega

theorem hiT_apply (X : Vec Ideal S1x1024x512 .bf16) (d : Fin 1024) (r : Fin 256) :
    hiT X (ix3 0 d r) = X (ix3 0 d ⟨256 + r.val, by omega⟩) := by
  refine congrArg X (funext fun a => Fin.ext ?_)
  match a with
  | ⟨0, _⟩ => rfl
  | ⟨1, _⟩ => show 0 + 1 * d.val = d.val; omega
  | ⟨2, _⟩ => show 256 + 1 * r.val = 256 + r.val; omega

theorem lo_apply {e : EltTy} (X : Vec Ideal S512x1024 e) (r : Fin 256) (d : Fin 1024) :
    lo X (ix2 r d) = X (ix2 ⟨r.val, by omega⟩ d) := by
  refine congrArg X (funext fun a => Fin.ext ?_)
  match a with
  | ⟨0, _⟩ => show 0 + 1 * r.val = r.val; omega
  | ⟨1, _⟩ => show 0 + 1 * d.val = d.val; omega

theorem hi_apply {e : EltTy} (X : Vec Ideal S512x1024 e) (r : Fin 256) (d : Fin 1024) :
    hi X (ix2 r d) = X (ix2 ⟨256 + r.val, by omega⟩ d) := by
  refine congrArg X (funext fun a => Fin.ext ?_)
  match a with
  | ⟨0, _⟩ => show 256 + 1 * r.val = 256 + r.val; omega
  | ⟨1, _⟩ => show 0 + 1 * d.val = d.val; omega

theorem added_congr {x x' : EReal} {a a' o o' w w' : Fin 1024 → EReal} (hx : x = x') (ha : ∀ d, a d = a' d)
    (ho : ∀ d, o d = o' d) (hw : ∀ d, w d = w' d) : added x a o w = added x' a' o' w' := by
  obtain rfl := funext ha
  obtain rfl := funext ho
  obtain rfl := funext hw
  rw [hx]

theorem normed_congr {h h' n n' : Fin 1024 → EReal} (hh : ∀ e, h e = h' e) (hn : ∀ e, n e = n' e) (d : Fin 1024) : normed h n d = normed h' n' d := by
  obtain rfl := funext hh
  obtain rfl := funext hn
  rfl

theorem resLo_apply (t : Fin cfg0.N) (r : Fin 256) (l : Fin 1024) :
    resLo m c t (ix2 r l) = resAt m c (token (grid0.coords t) ⟨r.val, by omega⟩) l :=
  (resid_apply (loT (iblk m c 0 t)) (loT (iblk m c 1 t)) (lo (iblk m c 2 t)) (iblk m c 3 t) r l).trans
    (added_congr ((lo_apply (iblk m c 2 t) r l).trans (iblk2_apply m c t _ l))
      (fun d => (loT_apply (iblk m c 0 t) d r).trans (iblk0_apply m c t d _))
      (fun d => (loT_apply (iblk m c 1 t) d r).trans (iblk1_apply m c t d _)) (fun d => iblk3_apply m c t d l))

theorem resHi_apply (t : Fin cfg0.N) (r : Fin 256) (l : Fin 1024) :
    resHi m c t (ix2 r l) = resAt m c (token (grid0.coords t) ⟨256 + r.val, by omega⟩) l :=
  (resid_apply (hiT (iblk m c 0 t)) (hiT (iblk m c 1 t)) (hi (iblk m c 2 t)) (iblk m c 3 t) r l).trans
    (added_congr ((hi_apply (iblk m c 2 t) r l).trans (iblk2_apply m c t _ l))
      (fun d => (hiT_apply (iblk m c 0 t) d r).trans (iblk0_apply m c t d _))
      (fun d => (hiT_apply (iblk m c 1 t) d r).trans (iblk1_apply m c t d _)) (fun d => iblk3_apply m c t d l))

/-- The two pieces of the residual block put together. -/
theorem resBlock (t : Fin cfg0.N) (r : Fin 512) (l : Fin 1024) :
    View.canon (resPieces (resLo m c t) (resHi m c t)) (ix2 r l) = resAt m c (token (grid0.coords t) r) l := by
  refine View.canon_apply_of_pieces (S := S512x1024) (Val := Elt Ideal) (e := .f32)
    (fun j : S512x1024.Idx => resAt m c (token (grid0.coords t) (j 0)) (j 1)) _ ?_ (ix2 r l) ?_
  · intro p hp
    unfold resPieces at hp
    rcases List.mem_cons.mp hp with rfl | hp
    · intro y
      refine (congrArg (resHi m c t) (ix2_eta (n := 256) (m := 1024) y)).trans ((resHi_apply m c t (y 0) (y 1)).trans ?_)
      refine congrArg₂ (resAt m c) (congrArg (token (grid0.coords t)) (Fin.ext ?_)) (Fin.ext ?_)
      · show 256 + (y 0).val = 256 + 1 * (y 0).val
        omega
      · show (y 1).val = 0 + 1 * (y 1).val
        omega
    rcases List.mem_cons.mp hp with rfl | hp
    · intro y
      refine (congrArg (resLo m c t) (ix2_eta (n := 256) (m := 1024) y)).trans ((resLo_apply m c t (y 0) (y 1)).trans ?_)
      refine congrArg₂ (resAt m c) (congrArg (token (grid0.coords t)) (Fin.ext ?_)) (Fin.ext ?_)
      · show (y 0).val = 0 + 1 * (y 0).val
        omega
      · show (y 1).val = 0 + 1 * (y 1).val
        omega
    cases hp
  · exact View.cover_of_tiledL (resPieces (resLo m c t) (resHi m c t)) S256x1024.size (by unfold resPieces; sl_kernel_rfl) _

/-- The normed block of a point. -/
theorem normBlock_apply (t : Fin cfg0.N) (r : Fin 4096) (l : Fin 128) :
    normBlock (k0_pay5 (resLo m c t) (iblk m c 4 t)) (k0_pay5 (resHi m c t) (iblk m c 4 t)) (ix2 r l)
      = normed (fun e => resAt m c (tokenOf (lane (grid0.coords t) r)) e) (fun e => m ((c.tc : Thread nD τ).loc main_arg4) (ix1 e : S1024.Idx))
          (columnOf (lane (grid0.coords t) r) l) := by
  have hc : ∀ h : r.val % 8 * 128 + l.val < 1024, columnOf (lane (grid0.coords t) r) l = ⟨r.val % 8 * 128 + l.val, h⟩ := fun h => Fin.ext (by
    show (((grid0.coords t 0).val * 32 + (grid0.coords t 1).val) * 4096 + r.val) % 8 * 128 + l.val = r.val % 8 * 128 + l.val
    omega)
  have hl : r.val % 8 * 128 + l.val < 1024 := by omega
  unfold normBlock
  rw [hc hl]
  by_cases h : r.val < 2048
  · refine (congrFun (if_pos h) _).trans ((norm_apply (resLo m c t) (iblk m c 4 t) _ _).trans ?_)
    refine normed_congr (fun e => (resLo_apply m c t _ e).trans ?_) (fun e => iblk4_apply m c t e) _
    refine congrArg (fun R => resAt m c R e) (Fin.ext ?_)
    show ((grid0.coords t 0).val * 32 + (grid0.coords t 1).val) * 512 + r.val % 2048 / 8 = (((grid0.coords t 0).val * 32 + (grid0.coords t 1).val) * 4096 + r.val) / 8
    omega
  · refine (congrFun (if_neg h) _).trans ((norm_apply (resHi m c t) (iblk m c 4 t) _ _).trans ?_)
    refine normed_congr (fun e => (resHi_apply m c t _ e).trans ?_) (fun e => iblk4_apply m c t e) _
    refine congrArg (fun R => resAt m c R e) (Fin.ext ?_)
    have : r.val < 4096 := r.isLt
    show ((grid0.coords t 0).val * 32 + (grid0.coords t 1).val) * 512 + (256 + r.val % 2048 / 8) = (((grid0.coords t 0).val * 32 + (grid0.coords t 1).val) * 4096 + r.val) / 8
    omega

/-- The array of the residual. -/
theorem arr7 (G : S32768x1024.Idx → EReal) (hG : ∀ (R : Fin 32768) (l : Fin 1024), G (ix2 R l) = resAt m c R l) :
    (dats m 0 c).arrAt (7 : Fin 11) cfg0.N = G := by
  refine Pipeline.Dat.arrAt_eq_of_emb (dats m 0 c) (7 : Fin 11) G (fun t _ y => ?_) (fun i => ?_)
  · have e : y = (ix2 (y (0 : Fin 2)) (y (1 : Fin 2)) : S512x1024.Idx) := ix2_eta (n := 512) (m := 1024) y
    rw [e]
    generalize y (0 : Fin 2) = r
    generalize y (1 : Fin 2) = l
    revert r l
    intro (r : Fin 512) (l : Fin 1024)
    refine Eq.trans ?_ (congrArg G (emb7 t r l).symm)
    refine Eq.trans (show _ = (dats m 0 c).after 7 t (ix2 r l : S512x1024.Idx) from rfl) ?_
    refine (congrFun (after7 m c t) (ix2 r l : S512x1024.Idx)).trans (Eq.trans ?_ (hG _ l).symm)
    exact resBlock m c t r l
  · have hi : (i (0 : Fin 2)).val < 32768 := (i (0 : Fin 2)).isLt
    have hN : (i (0 : Fin 2)).val / 512 < cfg0.N := by
      show _ < 64
      omega
    refine ⟨⟨(i (0 : Fin 2)).val / 512, hN⟩, flush7 _, ?_⟩
    have e : i = ((cfg0.win (7 : Fin 11)).blk ⟨(i (0 : Fin 2)).val / 512, hN⟩).view.emb
        (ix2 ⟨(i (0 : Fin 2)).val % 512, Nat.mod_lt _ (by decide)⟩ (i (1 : Fin 2)) : S512x1024.Idx) := by
      refine (ix2_eta (n := 32768) (m := 1024) i).trans (Eq.trans ?_ (emb7 _ _ _).symm)
      refine congrArg₂ (fun p q => ix2 p q) (Fin.ext ?_) rfl
      show (i (0 : Fin 2)).val = ((grid0.coords ⟨(i (0 : Fin 2)).val / 512, hN⟩ 0).val * 32 + (grid0.coords ⟨(i (0 : Fin 2)).val / 512, hN⟩ 1).val) * 512 + (i (0 : Fin 2)).val % 512
      rw [coords_val]
      show (i (0 : Fin 2)).val = (i (0 : Fin 2)).val / 512 * 512 + (i (0 : Fin 2)).val % 512
      omega
    exact Eq.mpr (congrArg (fun z => z ∈ ((cfg0.win (7 : Fin 11)).blk ⟨(i (0 : Fin 2)).val / 512, hN⟩).view.set) e) (View.emb_mem_set _ _)

/-- The array of the normed tokens. -/
theorem arr8 (G : S262144x128.Idx → EReal) (hG : ∀ (R : Fin 262144) (l : Fin 128), G (ix2 R l) = normed (fun e => resAt m c (tokenOf R) e) (fun e => m ((c.tc : Thread nD τ).loc main_arg4) (ix1 e : S1024.Idx)) (columnOf R l)) :
    (dats m 0 c).arrAt (8 : Fin 11) cfg0.N = G := by
  refine Pipeline.Dat.arrAt_eq_of_emb (dats m 0 c) (8 : Fin 11) G (fun t _ y => ?_) (fun i => ?_)
  · have e : y = (ix2 (y (0 : Fin 2)) (y (1 : Fin 2)) : S4096x128.Idx) := ix2_eta (n := 4096) (m := 128) y
    rw [e]
    generalize y (0 : Fin 2) = r
    generalize y (1 : Fin 2) = l
    revert r l
    intro (r : Fin 4096) (l : Fin 128)
    refine Eq.trans ?_ (congrArg G (emb8 t r l).symm)
    refine Eq.trans (show _ = (dats m 0 c).after 8 t (ix2 r l : S4096x128.Idx) from rfl) ?_
    refine (congrFun (after8 m c t) (ix2 r l : S4096x128.Idx)).trans (Eq.trans ?_ (hG _ l).symm)
    exact (congrFun (normPieces_canon _ _) (ix2 r l : S4096x128.Idx)).trans (normBlock_apply m c t r l)
  · have hi : (i (0 : Fin 2)).val < 262144 := (i (0 : Fin 2)).isLt
    have hN : (i (0 : Fin 2)).val / 4096 < cfg0.N := by
      show _ < 64
      omega
    refine ⟨⟨(i (0 : Fin 2)).val / 4096, hN⟩, flush8 _, ?_⟩
    have e : i = ((cfg0.win (8 : Fin 11)).blk ⟨(i (0 : Fin 2)).val / 4096, hN⟩).view.emb
        (ix2 ⟨(i (0 : Fin 2)).val % 4096, Nat.mod_lt _ (by decide)⟩ (i (1 : Fin 2)) : S4096x128.Idx) := by
      refine (ix2_eta (n := 262144) (m := 128) i).trans (Eq.trans ?_ (emb8 _ _ _).symm)
      refine congrArg₂ (fun p q => ix2 p q) (Fin.ext ?_) rfl
      show (i (0 : Fin 2)).val = ((grid0.coords ⟨(i (0 : Fin 2)).val / 4096, hN⟩ 0).val * 32 + (grid0.coords ⟨(i (0 : Fin 2)).val / 4096, hN⟩ 1).val) * 4096 + (i (0 : Fin 2)).val % 4096
      rw [coords_val]
      show (i (0 : Fin 2)).val = (i (0 : Fin 2)).val / 4096 * 4096 + (i (0 : Fin 2)).val % 4096
      omega
    exact Eq.mpr (congrArg (fun z => z ∈ ((cfg0.win (8 : Fin 11)).blk ⟨(i (0 : Fin 2)).val / 4096, hN⟩).view.set) e) (View.emb_mem_set _ _)

end Cert.Proof.Fox

end
-- ==== Proof.FoxRef.lean ====
/- The attention's output call: the reference's residual and normed tokens read at a token and a column. -/
module

public import proofs.«01_k».proof.Proof.Gen.Reference4Ideal.Run
public import proofs.«01_k».proof.Proof.FoxRows

@[expose] public section

set_option maxRecDepth 16384

noncomputable section

namespace Cert.Proof.Fox

open Cert.Reference4Ideal Cert.Reference4Ideal.Gen
open Idealize.ShloMosaic
open Idealize.ShloMosaic.TcCoe

variable (a o : FVec Ideal S2x1024x16384 .bf16) (x : FVec Ideal S32768x1024 .f32) (w : FVec Ideal S1024x1024 .f32) (n : FVec Ideal S1024 .f32)

/-- The reference's gated tokens, one batch after the other. -/
def refGated : FVec Ideal S32768x1024 .f32 :=
  shapeCast _ (transpose S2x16384x1024 [0, 2, 1] (mulf (extf .f32 a bitsLt_bf16_f32) (extf .f32 o bitsLt_bf16_f32)) transposes_S2x1024x16384_S2x16384x1024_0_2_1) shapeCasts_S2x16384x1024_S32768x1024

/-- The reference's residual. -/
def refRes : FVec Ideal S32768x1024 .f32 :=
  addf x (Host.dotGeneral dot_S32768x1024_S1024x1024_S32768x1024_1_0_0_1_n_n none (refGated a o) w)

/-- The reference's normed tokens, of a residual. -/
def refNorm (h : FVec Ideal S32768x1024 .f32) : FVec Ideal S32768x1024 .f32 :=
  mulf (mulf h (broadcastInDim S32768x1024 ![0, 1] bcast_S32768x1_S32768x1024_0_1 (Host.rsqrt (addf (Host.divf (broadcastInDim S32768x1 ![0] bcast_S32768_S32768x1_0
    (Host.reduceAdd (mulf h h) (constant S_ .f32 0x00000000#32) reducesTo_S32768x1024_S32768_d1 h_S_)) (broadcastInDim S32768x1 ![] bcast_S_S32768x1 (constant S_ .f32 0x44800000#32)))
    (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 n))

theorem refGated_apply (R : Fin 32768) (d : Fin 1024) :
    refGated a o (ix2 R d) = a (ix3 ⟨R.val / 16384, by omega⟩ d ⟨R.val % 16384, by omega⟩) * o (ix3 ⟨R.val / 16384, by omega⟩ d ⟨R.val % 16384, by omega⟩) := by
  refine (shapeCast_apply _ shapeCasts_S2x16384x1024_S32768x1024 _ (ix3 ⟨R.val / 16384, by omega⟩ ⟨R.val % 16384, by omega⟩ d : S2x16384x1024.Idx) ?_).trans ?_
  · rw [Shape.rowMajor_val_two, Shape.rowMajor_val_three]
    show (R.val / 16384 * 16384 + R.val % 16384) * 1024 + d.val = R.val * 1024 + d.val
    omega
  · pointwise

theorem refRes_apply (R : Fin 32768) (l : Fin 1024) :
    refRes a o x w (ix2 R l)
      = added (x (ix2 R l)) (fun d => a (ix3 ⟨R.val / 16384, by omega⟩ d ⟨R.val % 16384, by omega⟩))
          (fun d => o (ix3 ⟨R.val / 16384, by omega⟩ d ⟨R.val % 16384, by omega⟩)) (fun d => w (ix2 d l)) := by
  pointwise [refRes, added, refGated_apply]

theorem refNorm_apply (h : FVec Ideal S32768x1024 .f32) (R : Fin 32768) (d : Fin 1024) :
    refNorm n h (ix2 R d) = normed (fun e => h (ix2 R e)) (fun e => n (ix1 e)) d := by
  pointwise [refNorm, normed]

end Cert.Proof.Fox

end
-- ==== Proof.FoxAlgebraic.lean ====
/- The attention's output call: over the extended reals, program and reference end with equal results. -/
module

public import proofs.«01_k».proof.Proof.FoxFrames
public import proofs.«01_k».proof.Proof.FoxValue
public import proofs.«01_k».proof.Proof.FoxRef

@[expose] public section

set_option maxRecDepth 16384

noncomputable section

namespace Cert.Proof.Fox

open Idealize.ShloMosaic
open Idealize.ShloMosaic.TcCoe
open Idealize.SL.Sem

/-- A token's 1024 columns cast to eight rows of 128 lanes. -/
theorem rows_apply (X : FVec Ideal ⟨2, ![32768, 1024]⟩ .f32) (h : (⟨2, ![32768, 1024]⟩ : Shape).ShapeCasts ⟨2, ![262144, 128]⟩) (Q : Fin 262144) (l : Fin 128) :
    shapeCast ⟨2, ![262144, 128]⟩ X h (ix2 Q l) = X (ix2 (tokenOf Q) (columnOf Q l)) :=
  shapeCast_apply X h _ _ (by
    rw [Shape.rowMajor_val_two, Shape.rowMajor_val_two]
    show Q.val / 8 * 1024 + (Q.val % 8 * 128 + l.val) = Q.val * 128 + l.val
    omega)

/-- Equal arguments have equal residuals. -/
theorem res_congr (R : Fin 32768) (l : Fin 1024) {a a' o o' : FVec Ideal ⟨3, ![2, 1024, 16384]⟩ .bf16} {x x' : FVec Ideal ⟨2, ![32768, 1024]⟩ .f32}
    {w w' : FVec Ideal ⟨2, ![1024, 1024]⟩ .f32} (ha : a = a') (ho : o = o') (hx : x = x') (hw : w = w') :
    res a o x w R l = res a' o' x' w' R l := by
  subst ha ho hx hw
  rfl

set_option maxHeartbeats 4000000 in
/-- Over the extended reals, program and reference end with equal residuals and equal normed tokens. -/
theorem algebraic4 : Cert.algebraic_Kernel4Ideal_Reference4Ideal := by
  intro m g m' g' _ hm
  have hK := θ_run_and (run_post (F := Ideal) m g) (frame_any (F := Ideal) m g)
  have hR := Cert.Reference4Ideal.Value.run (F := Ideal) m' g'
  refine ⟨fun c => (dats m 0 c).arrAt (7 : Fin 11) Cert.Kernel4Ideal.cfg0.N,
    fun c => (dats m 0 c).arrAt (8 : Fin 11) Cert.Kernel4Ideal.cfg0.N, ?_, ?_⟩
  · exact (θ_run _ _ _).mono (fun _ h c => ⟨(h.1 c).1 7, (h.1 c).1 8, h.2.1 c⟩) hK
  · refine (θ_run _ _ _).mono (fun r h c => ?_) hR
    obtain ⟨e0, e1, e2, e3, e4, _⟩ := hm c
    obtain ⟨hh, hx, rest⟩ := h c
    have er : ∀ R l, refRes (m' ((c.tc : Thread Cert.Reference4Ideal.nD Cert.Reference4Ideal.τ).loc Cert.Reference4Ideal.main_arg0))
        (m' ((c.tc : Thread Cert.Reference4Ideal.nD Cert.Reference4Ideal.τ).loc Cert.Reference4Ideal.main_arg1))
        (m' ((c.tc : Thread Cert.Reference4Ideal.nD Cert.Reference4Ideal.τ).loc Cert.Reference4Ideal.main_arg2))
        (m' ((c.tc : Thread Cert.Reference4Ideal.nD Cert.Reference4Ideal.τ).loc Cert.Reference4Ideal.main_arg3)) (ix2 R l) = resAt m c R l :=
      fun R l => (refRes_apply _ _ _ _ R l).trans (res_congr R l e0 e1 e2 e3)
    refine ⟨hh.trans ?_, hx.trans ?_, rest⟩
    · exact (arr7 m c _ er).symm
    · refine (arr8 m c _ (fun Q l => (rows_apply _ _ Q l).trans ((refNorm_apply _ _ (tokenOf Q) (columnOf Q l)).trans ?_))).symm
      exact normed_congr (fun e => er _ e) (fun e => congrFun e4 _) _

end Cert.Proof.Fox

end
-- ==== Proof.lean ====
/- The proof of the claim: the program's frames over the bit-exact words and over the reals, the reference's frames,
   and the equality of the two results over the reals; the same of the mLSTM mixer's projections and of its output call, and of
   the forgetting attention's output call. -/
module

public import proofs.«01_k».proof.Defs
public import proofs.«01_k».proof.Proof.Frames
public import proofs.«01_k».proof.Proof.FrameKernel
public import proofs.«01_k».proof.Proof.FrameReference
public import proofs.«01_k».proof.Proof.Algebraic
public import proofs.«01_k».proof.Proof.ProjAlgebraic
public import proofs.«01_k».proof.Proof.OutAlgebraic
public import proofs.«01_k».proof.Proof.FoxAlgebraic

@[expose] public section

noncomputable section

namespace Cert.Proof

open Idealize.ShloMosaic Idealize.SL.Sem

/-- Every claim of the certificate. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Pre_bins_in_range.Gen.facts, Cert.Pre_router_finite.Gen.facts, frame_kernel, frame_ideal, frame_ideal_finite,
    frame_reference, frame_reference_finite, Proj.frame_kernel2, Proj.frame_kernel2_ideal, Proj.frame_reference2,
    Out.frame_kernel3, Out.frame_kernel3_ideal, Out.frame_reference3,
    Fox.frame_kernel4, Fox.frame_kernel4_ideal, Fox.frame_reference4, trivial, algebraic, trivial, Proj.algebraic2, trivial, Out.algebraic3,
    trivial, Fox.algebraic4⟩

end Cert.Proof

end
